-- ==== Defs.lean ====
def Pre_Kernel [hPre_slabs_in_pool : Cert.Pre_slabs_in_pool.Facts] (m : (ℓ : Loc Cert.Kernel.nD Cert.Kernel.τ Cert.Kernel.sig) → Buf (Elt Bits) ℓ) : Prop :=
  ∀ c : Dev Cert.Kernel.nD,
    (Cert.Pre_slabs_in_pool.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).1 = (fun _ => 1#1)
    ∧ (Cert.Pre_slabs_in_pool.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).2.1 = (fun _ => 1#1)
    ∧ (Cert.Pre_slabs_in_pool.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).2.2.1 = (fun _ => 1#1)
    ∧ (Cert.Pre_slabs_in_pool.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).2.2.2 = (fun _ => 1#1)

def Pre_KernelIdeal [hPre_slabs_in_pool : Cert.Pre_slabs_in_pool.Facts] (m : (ℓ : Loc Cert.KernelIdeal.nD Cert.KernelIdeal.τ Cert.KernelIdeal.sig) → Buf (Elt Ideal) ℓ) : Prop :=
  ∀ c : Dev Cert.KernelIdeal.nD,
    (Cert.Pre_slabs_in_pool.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_slabs_in_pool.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_slabs_in_pool.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_slabs_in_pool.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2 = (fun _ => 1#1)

def Pre_KernelIdeal_ranks_fit [hPre_ranks_fit : Cert.Pre_ranks_fit.Facts] (m : (ℓ : Loc Cert.KernelIdeal.nD Cert.KernelIdeal.τ Cert.KernelIdeal.sig) → Buf (Elt Ideal) ℓ) : Prop :=
  ∀ c : Dev Cert.KernelIdeal.nD,
    (Cert.Pre_ranks_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_ranks_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_ranks_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_ranks_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_ranks_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ranks_fit [hPre_ranks_fit : Cert.Pre_ranks_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ranks_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_ranks_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_ranks_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_ranks_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_ranks_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2 = (fun _ => 1#1)

def quiescent_Kernel [hKernel : Cert.Kernel.Facts] [hPre_slabs_in_pool : Cert.Pre_slabs_in_pool.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_slabs_in_pool : Cert.Pre_slabs_in_pool.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_ranks_fit [hKernelIdeal : Cert.KernelIdeal.Facts] [hPre_ranks_fit : Cert.Pre_ranks_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ranks_fit m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_ranks_fit [hReferenceIdeal : Cert.ReferenceIdeal.Facts] [hPre_ranks_fit : Cert.Pre_ranks_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ranks_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_ranks_fit [hKernelIdeal : Cert.KernelIdeal.Facts] [hReferenceIdeal : Cert.ReferenceIdeal.Facts] [hPre_ranks_fit : Cert.Pre_ranks_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ranks_fit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v216) = v0 c
          ∧ r.2.mem ((c.tc : Thread Cert.ReferenceIdeal.nD Cert.ReferenceIdeal.τ).loc Cert.ReferenceIdeal.main_v213) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_slabs_in_pool : Cert.Pre_slabs_in_pool.Facts) (hPre_ranks_fit : Cert.Pre_ranks_fit.Facts),
    quiescent_Kernel (hKernel := hKernel) (hPre_slabs_in_pool := hPre_slabs_in_pool)
    ∧ quiescent_KernelIdeal (hKernelIdeal := hKernelIdeal) (hPre_slabs_in_pool := hPre_slabs_in_pool)
    ∧ quiescent_KernelIdeal_pre_ranks_fit (hKernelIdeal := hKernelIdeal) (hPre_ranks_fit := hPre_ranks_fit)
    ∧ quiescent_ReferenceIdeal (hReferenceIdeal := hReferenceIdeal)
    ∧ quiescent_ReferenceIdeal_pre_ranks_fit (hReferenceIdeal := hReferenceIdeal) (hPre_ranks_fit := hPre_ranks_fit)
    ∧ preserves_Kernel_KernelIdeal
    ∧ algebraic_KernelIdeal_ReferenceIdeal_pre_ranks_fit (hKernelIdeal := hKernelIdeal) (hReferenceIdeal := hReferenceIdeal) (hPre_ranks_fit := hPre_ranks_fit)
-- ==== Pre_ranks_fit.lean ====
abbrev S2x128x2560 : Shape := ⟨3, ![2, 128, 2560]⟩
abbrev S2560x1280 : Shape := ⟨2, ![2560, 1280]⟩
abbrev S20x10240 : Shape := ⟨2, ![20, 10240]⟩
abbrev S400x2560 : Shape := ⟨2, ![400, 2560]⟩
abbrev S400x10240 : Shape := ⟨2, ![400, 10240]⟩
abbrev S9 : Shape := ⟨1, ![9]⟩
abbrev S6 : Shape := ⟨1, ![6]⟩
abbrev S5 : Shape := ⟨1, ![5]⟩
abbrev S_ : Shape := ⟨0, ![]⟩
abbrev S5x1 : Shape := ⟨2, ![5, 1]⟩

class Facts : Prop where
  bcast_S_S5 : S_.BroadcastsInDim S5 (![] : Fin 0 → Fin S5.rank)
  bcast_S5_S5x1_0 : S5.BroadcastsInDim S5x1 (![0] : Fin 1 → Fin S5x1.rank)
  gather_S9_S5x1_S5_n_0_n_n_0_1_1_wf : GatherDims.WF S9 S5x1 S5 [] [0] [] [0] [] 1 ![1]

variable [Facts]

def gather_S9_S5x1_S5_n_0_n_n_0_1_1 : GatherDims S9 S5x1 S5 where
  offsetDims := []
  collapsedSliceDims := [0]
  operandBatchingDims := []
  startIndicesBatchingDims := []
  startIndexMap := [0]
  indexVectorDim := 1
  sliceSizes := ![1]
  wf := gather_S9_S5x1_S5_n_0_n_n_0_1_1_wf
def fn_part1 {F : FTy → Type} [FloatOps F] (main_v6 : IVec S5 32) (main_v13 : IVec S5 32) (main_v15 : IVec S5 1) (main_v17 : IVec S5 1) : IVec S5 1 × IVec S5 1 × IVec S5 1 × IVec S5 1 × IVec S5 1 :=
  let main_c_5 : IVec S_ 32 := constantI S_ 32 0#32
  let main_v18 : IVec S5 32 := broadcastInDim S5 ![] bcast_S_S5 main_c_5
  let main_v19 : IVec S5 1 := cmpi .sge main_v6 main_v18
  let main_c_6 : IVec S_ 32 := constantI S_ 32 368#32
  let main_v20 : IVec S5 32 := broadcastInDim S5 ![] bcast_S_S5 main_c_6
  let main_v21 : IVec S5 1 := cmpi .slt main_v6 main_v20
  let main_c_7 : IVec S_ 32 := constantI S_ 32 32#32
  let main_v22 : IVec S5 32 := broadcastInDim S5 ![] bcast_S_S5 main_c_7
  let main_v23 : IVec S5 1 := cmpi .sle main_v13 main_v22
  (main_v15, main_v17, main_v19, main_v21, main_v23)

def fn {F : FTy → Type} [FloatOps F] (main_arg0 : FVec F S2x128x2560 .bf16) (main_arg1 : IVec S2560x1280 32) (main_arg2 : FVec F S20x10240 .bf16) (main_arg3 : FVec F S400x2560 .bf16) (main_arg4 : FVec F S400x10240 .bf16) (main_arg5 : IVec S9 32) (main_arg6 : IVec S9 32) (main_arg7 : FVec F S9 .f32) (main_arg8 : IVec S6 32) (main_arg9 : IVec S5 32) : IVec S5 1 × IVec S5 1 × IVec S5 1 × IVec S5 1 × IVec S5 1 :=
  let main_c : IVec S_ 32 := constantI S_ 32 0#32
  let main_v0 : IVec S5 32 := broadcastInDim S5 ![] bcast_S_S5 main_c
  let main_v1 : IVec S5 1 := cmpi .slt main_arg9 main_v0
  let main_c_0 : IVec S_ 32 := constantI S_ 32 9#32
  let main_v2 : IVec S5 32 := broadcastInDim S5 ![] bcast_S_S5 main_c_0
  let main_v3 : IVec S5 32 := addi main_arg9 main_v2
  let main_v4 : IVec S5 32 := select main_v1 main_v3 main_arg9
  let main_v5 : IVec S5x1 32 := broadcastInDim S5x1 ![0] bcast_S5_S5x1_0 main_v4
  let main_v6 : IVec S5 32 := (fun x i => Host.gather gather_S9_S5x1_S5_n_0_n_n_0_1_1 x i) main_arg5 main_v5
  let main_c_1 : IVec S_ 32 := constantI S_ 32 0#32
  let main_v7 : IVec S5 32 := broadcastInDim S5 ![] bcast_S_S5 main_c_1
  let main_v8 : IVec S5 1 := cmpi .slt main_arg9 main_v7
  let main_c_2 : IVec S_ 32 := constantI S_ 32 9#32
  let main_v9 : IVec S5 32 := broadcastInDim S5 ![] bcast_S_S5 main_c_2
  let main_v10 : IVec S5 32 := addi main_arg9 main_v9
  let main_v11 : IVec S5 32 := select main_v8 main_v10 main_arg9
  let main_v12 : IVec S5x1 32 := broadcastInDim S5x1 ![0] bcast_S5_S5x1_0 main_v11
  let main_v13 : IVec S5 32 := (fun x i => Host.gather gather_S9_S5x1_S5_n_0_n_n_0_1_1 x i) main_arg6 main_v12
  let main_c_3 : IVec S_ 32 := constantI S_ 32 0#32
  let main_v14 : IVec S5 32 := broadcastInDim S5 ![] bcast_S_S5 main_c_3
  let main_v15 : IVec S5 1 := cmpi .sge main_arg9 main_v14
  let main_c_4 : IVec S_ 32 := constantI S_ 32 9#32
  let main_v16 : IVec S5 32 := broadcastInDim S5 ![] bcast_S_S5 main_c_4
  let main_v17 : IVec S5 1 := cmpi .slt main_arg9 main_v16
  fn_part1 (F := F) main_v6 main_v13 main_v15 main_v17
-- ==== Pre_slabs_in_pool.lean ====
abbrev S2x128x2560 : Shape := ⟨3, ![2, 128, 2560]⟩
abbrev S2560x1280 : Shape := ⟨2, ![2560, 1280]⟩
abbrev S20x10240 : Shape := ⟨2, ![20, 10240]⟩
abbrev S400x2560 : Shape := ⟨2, ![400, 2560]⟩
abbrev S400x10240 : Shape := ⟨2, ![400, 10240]⟩
abbrev S9 : Shape := ⟨1, ![9]⟩
abbrev S6 : Shape := ⟨1, ![6]⟩
abbrev S5 : Shape := ⟨1, ![5]⟩
abbrev S_ : Shape := ⟨0, ![]⟩
abbrev S5x1 : Shape := ⟨2, ![5, 1]⟩

class Facts : Prop where
  bcast_S_S5 : S_.BroadcastsInDim S5 (![] : Fin 0 → Fin S5.rank)
  bcast_S5_S5x1_0 : S5.BroadcastsInDim S5x1 (![0] : Fin 1 → Fin S5x1.rank)
  gather_S9_S5x1_S5_n_0_n_n_0_1_1_wf : GatherDims.WF S9 S5x1 S5 [] [0] [] [0] [] 1 ![1]

variable [Facts]

def gather_S9_S5x1_S5_n_0_n_n_0_1_1 : GatherDims S9 S5x1 S5 where
  offsetDims := []
  collapsedSliceDims := [0]
  operandBatchingDims := []
  startIndicesBatchingDims := []
  startIndexMap := [0]
  indexVectorDim := 1
  sliceSizes := ![1]
  wf := gather_S9_S5x1_S5_n_0_n_n_0_1_1_wf
def fn {F : FTy → Type} [FloatOps F] (main_arg0 : FVec F S2x128x2560 .bf16) (main_arg1 : IVec S2560x1280 32) (main_arg2 : FVec F S20x10240 .bf16) (main_arg3 : FVec F S400x2560 .bf16) (main_arg4 : FVec F S400x10240 .bf16) (main_arg5 : IVec S9 32) (main_arg6 : IVec S9 32) (main_arg7 : FVec F S9 .f32) (main_arg8 : IVec S6 32) (main_arg9 : IVec S5 32) : IVec S5 1 × IVec S5 1 × IVec S5 1 × IVec S5 1 :=
  let main_c : IVec S_ 32 := constantI S_ 32 0#32
  let main_v0 : IVec S5 32 := broadcastInDim S5 ![] bcast_S_S5 main_c
  let main_v1 : IVec S5 1 := cmpi .slt main_arg9 main_v0
  let main_c_0 : IVec S_ 32 := constantI S_ 32 9#32
  let main_v2 : IVec S5 32 := broadcastInDim S5 ![] bcast_S_S5 main_c_0
  let main_v3 : IVec S5 32 := addi main_arg9 main_v2
  let main_v4 : IVec S5 32 := select main_v1 main_v3 main_arg9
  let main_v5 : IVec S5x1 32 := broadcastInDim S5x1 ![0] bcast_S5_S5x1_0 main_v4
  let main_v6 : IVec S5 32 := (fun x i => Host.gather gather_S9_S5x1_S5_n_0_n_n_0_1_1 x i) main_arg5 main_v5
  let main_c_1 : IVec S_ 32 := constantI S_ 32 0#32
  let main_v7 : IVec S5 32 := broadcastInDim S5 ![] bcast_S_S5 main_c_1
  let main_v8 : IVec S5 1 := cmpi .sge main_arg9 main_v7
  let main_c_2 : IVec S_ 32 := constantI S_ 32 9#32
  let main_v9 : IVec S5 32 := broadcastInDim S5 ![] bcast_S_S5 main_c_2
  let main_v10 : IVec S5 1 := cmpi .slt main_arg9 main_v9
  let main_c_3 : IVec S_ 32 := constantI S_ 32 0#32
  let main_v11 : IVec S5 32 := broadcastInDim S5 ![] bcast_S_S5 main_c_3
  let main_v12 : IVec S5 1 := cmpi .sge main_v6 main_v11
  let main_c_4 : IVec S_ 32 := constantI S_ 32 368#32
  let main_v13 : IVec S5 32 := broadcastInDim S5 ![] bcast_S_S5 main_c_4
  let main_v14 : IVec S5 1 := cmpi .slt main_v6 main_v13
  (main_v8, main_v10, main_v12, main_v14)
-- ==== Kernel.lean ====
abbrev S2x128x2560 : Shape := ⟨3, ![2, 128, 2560]⟩
abbrev S2560x1280 : Shape := ⟨2, ![2560, 1280]⟩
abbrev S20x10240 : Shape := ⟨2, ![20, 10240]⟩
abbrev S400x2560 : Shape := ⟨2, ![400, 2560]⟩
abbrev S400x10240 : Shape := ⟨2, ![400, 10240]⟩
abbrev S9 : Shape := ⟨1, ![9]⟩
abbrev S6 : Shape := ⟨1, ![6]⟩
abbrev S5 : Shape := ⟨1, ![5]⟩
abbrev S_ : Shape := ⟨0, ![]⟩
abbrev S5x1 : Shape := ⟨2, ![5, 1]⟩
abbrev S256x2560 : Shape := ⟨2, ![256, 2560]⟩
abbrev S256x10240 : Shape := ⟨2, ![256, 10240]⟩
abbrev S256x32 : Shape := ⟨2, ![256, 32]⟩
abbrev S2560x128 : Shape := ⟨2, ![2560, 128]⟩
abbrev S20x1024 : Shape := ⟨2, ![20, 1024]⟩
abbrev S48x2560 : Shape := ⟨2, ![48, 2560]⟩
abbrev S1 : Shape := ⟨1, ![1]⟩
abbrev S48x1024 : Shape := ⟨2, ![48, 1024]⟩
abbrev S256x1024 : Shape := ⟨2, ![256, 1024]⟩
abbrev S256x240 : Shape := ⟨2, ![256, 240]⟩
abbrev S8x240x128 : Shape := ⟨3, ![8, 240, 128]⟩
abbrev S240x2560 : Shape := ⟨2, ![240, 2560]⟩
abbrev S240x32 : Shape := ⟨2, ![240, 32]⟩
abbrev S48x128 : Shape := ⟨2, ![48, 128]⟩
abbrev S48x128x1 : Shape := ⟨3, ![48, 128, 1]⟩
abbrev S1x48x128 : Shape := ⟨3, ![1, 48, 128]⟩
abbrev S4x1024 : Shape := ⟨2, ![4, 1024]⟩
abbrev S24x1024 : Shape := ⟨2, ![24, 1024]⟩
abbrev S24x128 : Shape := ⟨2, ![24, 128]⟩
abbrev S24x128x1 : Shape := ⟨3, ![24, 128, 1]⟩
abbrev S1280x128 : Shape := ⟨2, ![1280, 128]⟩
abbrev S1x128 : Shape := ⟨2, ![1, 128]⟩
abbrev S128x128 : Shape := ⟨2, ![128, 128]⟩
abbrev S2560x256 : Shape := ⟨2, ![2560, 256]⟩
abbrev S1x240x128 : Shape := ⟨3, ![1, 240, 128]⟩
abbrev S240x128 : Shape := ⟨2, ![240, 128]⟩
abbrev S240x256 : Shape := ⟨2, ![240, 256]⟩
abbrev S256x256 : Shape := ⟨2, ![256, 256]⟩
abbrev S256x128 : Shape := ⟨2, ![256, 128]⟩
abbrev S256x128x1 : Shape := ⟨3, ![256, 128, 1]⟩

abbrev nBuf : Space → Nat
  | .hbm => 18
  | .vmem => 25
  | .smem => 5
  | _ => 0

abbrev bufTy : (tb : Table) → Fin (tcTables nBuf tb) → BufTy
  | .hbm, ⟨0, _⟩ => ⟨S2x128x2560, .bf16⟩
  | .hbm, ⟨1, _⟩ => ⟨S2560x1280, .i32⟩
  | .hbm, ⟨2, _⟩ => ⟨S20x10240, .bf16⟩
  | .hbm, ⟨3, _⟩ => ⟨S400x2560, .bf16⟩
  | .hbm, ⟨4, _⟩ => ⟨S400x10240, .bf16⟩
  | .hbm, ⟨5, _⟩ => ⟨S9, .i32⟩
  | .hbm, ⟨6, _⟩ => ⟨S9, .f32⟩
  | .hbm, ⟨7, _⟩ => ⟨S_, .i32⟩
  | .hbm, ⟨8, _⟩ => ⟨S5, .i32⟩
  | .hbm, ⟨9, _⟩ => ⟨S5, .i1⟩
  | .hbm, ⟨10, _⟩ => ⟨S_, .i32⟩
  | .hbm, ⟨11, _⟩ => ⟨S5, .i32⟩
  | .hbm, ⟨12, _⟩ => ⟨S5, .i32⟩
  | .hbm, ⟨13, _⟩ => ⟨S5, .i32⟩
  | .hbm, ⟨14, _⟩ => ⟨S5x1, .i32⟩
  | .hbm, ⟨15, _⟩ => ⟨S256x2560, .bf16⟩
  | .hbm, ⟨16, _⟩ => ⟨S256x10240, .bf16⟩
  | .hbm, ⟨17, _⟩ => ⟨S256x32, .bf16⟩
  | .local _ .vmem, ⟨0, _⟩ => ⟨S256x2560, .bf16⟩
  | .local _ .vmem, ⟨1, _⟩ => ⟨S2560x128, .i32⟩
  | .local _ .vmem, ⟨2, _⟩ => ⟨S2560x128, .i32⟩
  | .local _ .vmem, ⟨3, _⟩ => ⟨S20x1024, .bf16⟩
  | .local _ .vmem, ⟨4, _⟩ => ⟨S20x1024, .bf16⟩
  | .local _ .vmem, ⟨5, _⟩ => ⟨S48x2560, .bf16⟩
  | .local _ .vmem, ⟨6, _⟩ => ⟨S48x2560, .bf16⟩
  | .local _ .vmem, ⟨7, _⟩ => ⟨S48x2560, .bf16⟩
  | .local _ .vmem, ⟨8, _⟩ => ⟨S48x2560, .bf16⟩
  | .local _ .vmem, ⟨9, _⟩ => ⟨S48x2560, .bf16⟩
  | .local _ .vmem, ⟨10, _⟩ => ⟨S48x1024, .bf16⟩
  | .local _ .vmem, ⟨11, _⟩ => ⟨S48x1024, .bf16⟩
  | .local _ .vmem, ⟨12, _⟩ => ⟨S48x1024, .bf16⟩
  | .local _ .vmem, ⟨13, _⟩ => ⟨S48x1024, .bf16⟩
  | .local _ .vmem, ⟨14, _⟩ => ⟨S48x1024, .bf16⟩
  | .local _ .vmem, ⟨15, _⟩ => ⟨S48x1024, .bf16⟩
  | .local _ .vmem, ⟨16, _⟩ => ⟨S48x1024, .bf16⟩
  | .local _ .vmem, ⟨17, _⟩ => ⟨S48x1024, .bf16⟩
  | .local _ .vmem, ⟨18, _⟩ => ⟨S48x1024, .bf16⟩
  | .local _ .vmem, ⟨19, _⟩ => ⟨S48x1024, .bf16⟩
  | .local _ .vmem, ⟨20, _⟩ => ⟨S256x1024, .bf16⟩
  | .local _ .vmem, ⟨21, _⟩ => ⟨S256x1024, .bf16⟩
  | .local _ .vmem, ⟨22, _⟩ => ⟨S256x32, .bf16⟩
  | .local _ .vmem, ⟨23, _⟩ => ⟨S256x240, .bf16⟩
  | .local _ .vmem, ⟨24, _⟩ => ⟨S8x240x128, .bf16⟩
  | .local _ .smem, ⟨0, _⟩ => ⟨S5, .i32⟩
  | .local _ .smem, ⟨1, _⟩ => ⟨S9, .i32⟩
  | .local _ .smem, ⟨2, _⟩ => ⟨S6, .i32⟩
  | .local _ .smem, ⟨3, _⟩ => ⟨S5, .i32⟩
  | .local _ .smem, ⟨4, _⟩ => ⟨S9, .f32⟩
  | _, _ => ⟨S2x128x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨4, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg7 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v6 : Ref sig .tc := ⟨.smem, 0, rfl⟩
abbrev main_arg6 : Ref sig .tc := ⟨.smem, 1, rfl⟩
abbrev main_arg8 : Ref sig .tc := ⟨.smem, 2, rfl⟩
abbrev main_arg9 : Ref sig .tc := ⟨.smem, 3, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_scratch0 : Ref sig .tc := ⟨.vmem, 23, rfl⟩
abbrev cc0_scratch1 : Ref sig .tc := ⟨.vmem, 24, rfl⟩
abbrev cc0_stg0_0 : Ref sig .tc := ⟨.smem, 4, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23

abbrev nD : Nat := 1
abbrev τ : Topo := Topo.v7x

variable {F : FTy → Type} [FloatOps F]

abbrev grid0 : Pipeline.Grid := ⟨1, ![10], ![false]⟩

abbrev pre0 : Pipeline.Prefetch sig := ⟨4, ![main_v6.idx, main_arg6.idx, main_arg8.idx, main_arg9.idx], fun | 0 => main_v6.names | 1 => main_arg6.names | 2 => main_arg8.names | 3 => main_arg9.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_mult1 (pf : pre0.Contents (Elt F)) : BitVec 32 :=
  let v0 : BitVec 32 := pf.atD 0 ![0]
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c16_i32 : BitVec 32 := 16#32
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let v1 : BitVec 32 := Scalar.divsi v0 c16_i32
  let c1_i32 : BitVec 32 := 1#32
  let v16 : BitVec 32 := Scalar.subi v1 c1_i32
  let v17 : BitVec 32 := Scalar.select v15 v16 v1
  let c16_i32_4 : BitVec 32 := 16#32
  let v18 : BitVec 32 := Scalar.muli v17 c16_i32_4
  v18

def k0_mult2 (pf : pre0.Contents (Elt F)) : BitVec 32 :=
  let v0 : BitVec 32 := pf.atD 0 ![1]
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c16_i32 : BitVec 32 := 16#32
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let v1 : BitVec 32 := Scalar.divsi v0 c16_i32
  let c1_i32 : BitVec 32 := 1#32
  let v16 : BitVec 32 := Scalar.subi v1 c1_i32
  let v17 : BitVec 32 := Scalar.select v15 v16 v1
  let c16_i32_4 : BitVec 32 := 16#32
  let v18 : BitVec 32 := Scalar.muli v17 c16_i32_4
  v18

def k0_mult3 (pf : pre0.Contents (Elt F)) : BitVec 32 :=
  let v0 : BitVec 32 := pf.atD 0 ![2]
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c16_i32 : BitVec 32 := 16#32
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let v1 : BitVec 32 := Scalar.divsi v0 c16_i32
  let c1_i32 : BitVec 32 := 1#32
  let v16 : BitVec 32 := Scalar.subi v1 c1_i32
  let v17 : BitVec 32 := Scalar.select v15 v16 v1
  let c16_i32_4 : BitVec 32 := 16#32
  let v18 : BitVec 32 := Scalar.muli v17 c16_i32_4
  v18

def k0_mult4 (pf : pre0.Contents (Elt F)) : BitVec 32 :=
  let v0 : BitVec 32 := pf.atD 0 ![3]
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c16_i32 : BitVec 32 := 16#32
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let v1 : BitVec 32 := Scalar.divsi v0 c16_i32
  let c1_i32 : BitVec 32 := 1#32
  let v16 : BitVec 32 := Scalar.subi v1 c1_i32
  let v17 : BitVec 32 := Scalar.select v15 v16 v1
  let c16_i32_4 : BitVec 32 := 16#32
  let v18 : BitVec 32 := Scalar.muli v17 c16_i32_4
  v18

def k0_mult5 (pf : pre0.Contents (Elt F)) : BitVec 32 :=
  let v0 : BitVec 32 := pf.atD 0 ![4]
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c16_i32 : BitVec 32 := 16#32
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let v1 : BitVec 32 := Scalar.divsi v0 c16_i32
  let c1_i32 : BitVec 32 := 1#32
  let v16 : BitVec 32 := Scalar.subi v1 c1_i32
  let v17 : BitVec 32 := Scalar.select v15 v16 v1
  let c16_i32_4 : BitVec 32 := 16#32
  let v18 : BitVec 32 := Scalar.muli v17 c16_i32_4
  v18

def k0_mult6 (pf : pre0.Contents (Elt F)) : BitVec 32 :=
  let v0 : BitVec 32 := pf.atD 0 ![0]
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c16_i32 : BitVec 32 := 16#32
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let v1 : BitVec 32 := Scalar.divsi v0 c16_i32
  let c1_i32 : BitVec 32 := 1#32
  let v16 : BitVec 32 := Scalar.subi v1 c1_i32
  let v17 : BitVec 32 := Scalar.select v15 v16 v1
  let c16_i32_4 : BitVec 32 := 16#32
  let v18 : BitVec 32 := Scalar.muli v17 c16_i32_4
  v18

def k0_mult7 (i : grid0.Coords) : BitVec 32 :=
  let arg0 : BitVec 32 := BitVec.ofNat 32 (i 0).val
  let c1024_i32 : BitVec 32 := 1024#32
  let v20 : BitVec 32 := Scalar.muli arg0 c1024_i32
  v20
def k0_mult8 (pf : pre0.Contents (Elt F)) : BitVec 32 :=
  let v0 : BitVec 32 := pf.atD 0 ![1]
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c16_i32 : BitVec 32 := 16#32
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let v1 : BitVec 32 := Scalar.divsi v0 c16_i32
  let c1_i32 : BitVec 32 := 1#32
  let v16 : BitVec 32 := Scalar.subi v1 c1_i32
  let v17 : BitVec 32 := Scalar.select v15 v16 v1
  let c16_i32_4 : BitVec 32 := 16#32
  let v18 : BitVec 32 := Scalar.muli v17 c16_i32_4
  v18

def k0_mult9 (i : grid0.Coords) : BitVec 32 :=
  let arg0 : BitVec 32 := BitVec.ofNat 32 (i 0).val
  let c1024_i32 : BitVec 32 := 1024#32
  let v20 : BitVec 32 := Scalar.muli arg0 c1024_i32
  v20
def k0_mult10 (pf : pre0.Contents (Elt F)) : BitVec 32 :=
  let v0 : BitVec 32 := pf.atD 0 ![2]
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c16_i32 : BitVec 32 := 16#32
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let v1 : BitVec 32 := Scalar.divsi v0 c16_i32
  let c1_i32 : BitVec 32 := 1#32
  let v16 : BitVec 32 := Scalar.subi v1 c1_i32
  let v17 : BitVec 32 := Scalar.select v15 v16 v1
  let c16_i32_4 : BitVec 32 := 16#32
  let v18 : BitVec 32 := Scalar.muli v17 c16_i32_4
  v18

def k0_mult11 (i : grid0.Coords) : BitVec 32 :=
  let arg0 : BitVec 32 := BitVec.ofNat 32 (i 0).val
  let c1024_i32 : BitVec 32 := 1024#32
  let v20 : BitVec 32 := Scalar.muli arg0 c1024_i32
  v20
def k0_mult12 (pf : pre0.Contents (Elt F)) : BitVec 32 :=
  let v0 : BitVec 32 := pf.atD 0 ![3]
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c16_i32 : BitVec 32 := 16#32
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let v1 : BitVec 32 := Scalar.divsi v0 c16_i32
  let c1_i32 : BitVec 32 := 1#32
  let v16 : BitVec 32 := Scalar.subi v1 c1_i32
  let v17 : BitVec 32 := Scalar.select v15 v16 v1
  let c16_i32_4 : BitVec 32 := 16#32
  let v18 : BitVec 32 := Scalar.muli v17 c16_i32_4
  v18

def k0_mult13 (i : grid0.Coords) : BitVec 32 :=
  let arg0 : BitVec 32 := BitVec.ofNat 32 (i 0).val
  let c1024_i32 : BitVec 32 := 1024#32
  let v20 : BitVec 32 := Scalar.muli arg0 c1024_i32
  v20
def k0_mult14 (pf : pre0.Contents (Elt F)) : BitVec 32 :=
  let v0 : BitVec 32 := pf.atD 0 ![4]
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c16_i32 : BitVec 32 := 16#32
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let v1 : BitVec 32 := Scalar.divsi v0 c16_i32
  let c1_i32 : BitVec 32 := 1#32
  let v16 : BitVec 32 := Scalar.subi v1 c1_i32
  let v17 : BitVec 32 := Scalar.select v15 v16 v1
  let c16_i32_4 : BitVec 32 := 16#32
  let v18 : BitVec 32 := Scalar.muli v17 c16_i32_4
  v18

def k0_mult15 (i : grid0.Coords) : BitVec 32 :=
  let arg0 : BitVec 32 := BitVec.ofNat 32 (i 0).val
  let c1024_i32 : BitVec 32 := 1024#32
  let v20 : BitVec 32 := Scalar.muli arg0 c1024_i32
  v20
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (v5114 : BitVec 32) : Fin 1 → Nat :=
  let v5137 : Index := Scalar.indexCast v5114
  ![v5137.toNat]

def k0_chk1 (i : grid0.Coords) (v5114 : BitVec 32) : Prop :=
  (∀ (k0_h1 : k0_cond1 i = 1#1), ∀ a, (k0_off1 v5114) a + S1.size a ≤ S9.size a)
theorem k0_off1_inb : ∀ (i : grid0.Coords) (v5114 : BitVec 32) (k0_hw1 : k0_chk1 i v5114), ∀ (k0_h1 : k0_cond1 i = 1#1), ∀ a, (k0_off1 v5114) a + S1.size a ≤ S9.size a := fun i v5114 k0_hw1 k0_h1 => k0_hw1 k0_h1

def k0_off2 (v5153 : BitVec 32) : Fin 1 → Nat :=
  let v5176 : Index := Scalar.indexCast v5153
  ![v5176.toNat]

def k0_chk2 (i : grid0.Coords) (v5153 : BitVec 32) : Prop :=
  (∀ (k0_h1 : k0_cond1 i = 1#1), ∀ a, (k0_off2 v5153) a + S1.size a ≤ S9.size a)
theorem k0_off2_inb : ∀ (i : grid0.Coords) (v5153 : BitVec 32) (k0_hw2 : k0_chk2 i v5153), ∀ (k0_h1 : k0_cond1 i = 1#1), ∀ a, (k0_off2 v5153) a + S1.size a ≤ S9.size a := fun i v5153 k0_hw2 k0_h1 => k0_hw2 k0_h1

def k0_off3 (v5192 : BitVec 32) : Fin 1 → Nat :=
  let v5215 : Index := Scalar.indexCast v5192
  ![v5215.toNat]

def k0_chk3 (i : grid0.Coords) (v5192 : BitVec 32) : Prop :=
  (∀ (k0_h1 : k0_cond1 i = 1#1), ∀ a, (k0_off3 v5192) a + S1.size a ≤ S9.size a)
theorem k0_off3_inb : ∀ (i : grid0.Coords) (v5192 : BitVec 32) (k0_hw3 : k0_chk3 i v5192), ∀ (k0_h1 : k0_cond1 i = 1#1), ∀ a, (k0_off3 v5192) a + S1.size a ≤ S9.size a := fun i v5192 k0_hw3 k0_h1 => k0_hw3 k0_h1

def k0_off4 (v5231 : BitVec 32) : Fin 1 → Nat :=
  let v5254 : Index := Scalar.indexCast v5231
  ![v5254.toNat]

def k0_chk4 (i : grid0.Coords) (v5231 : BitVec 32) : Prop :=
  (∀ (k0_h1 : k0_cond1 i = 1#1), ∀ a, (k0_off4 v5231) a + S1.size a ≤ S9.size a)
theorem k0_off4_inb : ∀ (i : grid0.Coords) (v5231 : BitVec 32) (k0_hw4 : k0_chk4 i v5231), ∀ (k0_h1 : k0_cond1 i = 1#1), ∀ a, (k0_off4 v5231) a + S1.size a ≤ S9.size a := fun i v5231 k0_hw4 k0_h1 => k0_hw4 k0_h1

def k0_off5 (v5270 : BitVec 32) : Fin 1 → Nat :=
  let v5293 : Index := Scalar.indexCast v5270
  ![v5293.toNat]

def k0_chk5 (i : grid0.Coords) (v5270 : BitVec 32) : Prop :=
  (∀ (k0_h1 : k0_cond1 i = 1#1), ∀ a, (k0_off5 v5270) a + S1.size a ≤ S9.size a)
theorem k0_off5_inb : ∀ (i : grid0.Coords) (v5270 : BitVec 32) (k0_hw5 : k0_chk5 i v5270), ∀ (k0_h1 : k0_cond1 i = 1#1), ∀ a, (k0_off5 v5270) a + S1.size a ≤ S9.size a := fun i v5270 k0_hw5 k0_h1 => k0_hw5 k0_h1

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (inb_S5_S1_0 : ∀ a, (![0] : Fin 1 → Nat) a + S1.size a ≤ S5.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S5) ![0] S1.size inb_S5_S1_0) numel1_S1
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32_4 : BitVec 32 := 16#32
  let v18 : BitVec 32 := Scalar.muli v17 c16_i32_4
  let v19 : BitVec 32 := v18
  let c0_i32_5 : BitVec 32 := 0#32
  let c0_i32_6 : BitVec 32 := 0#32
  ![v19.toNat, c0_i32_5.toNat]

def cc0_transform_5 (inb_S5_S1_1 : ∀ a, (![1] : Fin 1 → Nat) a + S1.size a ≤ S5.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S5) ![1] S1.size inb_S5_S1_1) numel1_S1
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32_4 : BitVec 32 := 16#32
  let v18 : BitVec 32 := Scalar.muli v17 c16_i32_4
  let v19 : BitVec 32 := v18
  let c0_i32_5 : BitVec 32 := 0#32
  let c0_i32_6 : BitVec 32 := 0#32
  ![v19.toNat, c0_i32_5.toNat]

def cc0_transform_6 (inb_S5_S1_2 : ∀ a, (![2] : Fin 1 → Nat) a + S1.size a ≤ S5.size a) (numel1_S1 : S1.numel = 1) (pf : pre0.Contents (Elt F)) (i : grid0.Coords) : Fin 2 → Nat :=
  let arg0 : BitVec 32 := BitVec.ofNat 32 (i 0).val
  let c2 : Index := 2#32
  let v0 : BitVec 32 := pf.at 0 (Rect.unit (s := S5) ![2] S1.size inb_S5_S1_2) numel1_S1
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32_4 : BitVec 32 := 16#32
  let v18 : BitVec 32 := Scalar.muli v17 c16_i32_4
  let v19 : BitVec 32 := v18
  let c0_i32_5 : BitVec 32 := 0#32
  let c0_i32_6 : BitVec 32 := 0#32
  ![v19.toNat, c0_i32_5.toNat]

def cc0_transform_7 (inb_S5_S1_3 : ∀ a, (![3] : Fin 1 → Nat) a + S1.size a ≤ S5.size a) (numel1_S1 : S1.numel = 1) (pf : pre0.Contents (Elt F)) (i : grid0.Coords) : Fin 2 → Nat :=
  let arg0 : BitVec 32 := BitVec.ofNat 32 (i 0).val
  let c3 : Index := 3#32
  let v0 : BitVec 32 := pf.at 0 (Rect.unit (s := S5) ![3] S1.size inb_S5_S1_3) numel1_S1
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32_4 : BitVec 32 := 16#32
  let v18 : BitVec 32 := Scalar.muli v17 c16_i32_4
  let v19 : BitVec 32 := v18
  let c0_i32_5 : BitVec 32 := 0#32
  let c0_i32_6 : BitVec 32 := 0#32
  ![v19.toNat, c0_i32_5.toNat]

def cc0_transform_8 (inb_S5_S1_4 : ∀ a, (![4] : Fin 1 → Nat) a + S1.size a ≤ S5.size a) (numel1_S1 : S1.numel = 1) (pf : pre0.Contents (Elt F)) (i : grid0.Coords) : Fin 2 → Nat :=
  let arg0 : BitVec 32 := BitVec.ofNat 32 (i 0).val
  let c4 : Index := 4#32
  let v0 : BitVec 32 := pf.at 0 (Rect.unit (s := S5) ![4] S1.size inb_S5_S1_4) numel1_S1
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32_4 : BitVec 32 := 16#32
  let v18 : BitVec 32 := Scalar.muli v17 c16_i32_4
  let v19 : BitVec 32 := v18
  let c0_i32_5 : BitVec 32 := 0#32
  let c0_i32_6 : BitVec 32 := 0#32
  ![v19.toNat, c0_i32_5.toNat]

def cc0_transform_9 (inb_S5_S1_0 : ∀ a, (![0] : Fin 1 → Nat) a + S1.size a ≤ S5.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S5) ![0] S1.size inb_S5_S1_0) numel1_S1
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32_4 : BitVec 32 := 16#32
  let v18 : BitVec 32 := Scalar.muli v17 c16_i32_4
  let v19 : BitVec 32 := v18
  let c1024_i32 : BitVec 32 := 1024#32
  let v20 : BitVec 32 := Scalar.muli arg0 c1024_i32
  let v21 : BitVec 32 := v20
  let c0_i32_5 : BitVec 32 := 0#32
  ![v19.toNat, v21.toNat]

def cc0_transform_10 (inb_S5_S1_1 : ∀ a, (![1] : Fin 1 → Nat) a + S1.size a ≤ S5.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S5) ![1] S1.size inb_S5_S1_1) numel1_S1
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32_4 : BitVec 32 := 16#32
  let v18 : BitVec 32 := Scalar.muli v17 c16_i32_4
  let v19 : BitVec 32 := v18
  let c1024_i32 : BitVec 32 := 1024#32
  let v20 : BitVec 32 := Scalar.muli arg0 c1024_i32
  let v21 : BitVec 32 := v20
  let c0_i32_5 : BitVec 32 := 0#32
  ![v19.toNat, v21.toNat]

def cc0_transform_11 (inb_S5_S1_2 : ∀ a, (![2] : Fin 1 → Nat) a + S1.size a ≤ S5.size a) (numel1_S1 : S1.numel = 1) (pf : pre0.Contents (Elt F)) (i : grid0.Coords) : Fin 2 → Nat :=
  let arg0 : BitVec 32 := BitVec.ofNat 32 (i 0).val
  let c2 : Index := 2#32
  let v0 : BitVec 32 := pf.at 0 (Rect.unit (s := S5) ![2] S1.size inb_S5_S1_2) numel1_S1
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32_4 : BitVec 32 := 16#32
  let v18 : BitVec 32 := Scalar.muli v17 c16_i32_4
  let v19 : BitVec 32 := v18
  let c1024_i32 : BitVec 32 := 1024#32
  let v20 : BitVec 32 := Scalar.muli arg0 c1024_i32
  let v21 : BitVec 32 := v20
  let c0_i32_5 : BitVec 32 := 0#32
  ![v19.toNat, v21.toNat]

def cc0_transform_12 (inb_S5_S1_3 : ∀ a, (![3] : Fin 1 → Nat) a + S1.size a ≤ S5.size a) (numel1_S1 : S1.numel = 1) (pf : pre0.Contents (Elt F)) (i : grid0.Coords) : Fin 2 → Nat :=
  let arg0 : BitVec 32 := BitVec.ofNat 32 (i 0).val
  let c3 : Index := 3#32
  let v0 : BitVec 32 := pf.at 0 (Rect.unit (s := S5) ![3] S1.size inb_S5_S1_3) numel1_S1
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32_4 : BitVec 32 := 16#32
  let v18 : BitVec 32 := Scalar.muli v17 c16_i32_4
  let v19 : BitVec 32 := v18
  let c1024_i32 : BitVec 32 := 1024#32
  let v20 : BitVec 32 := Scalar.muli arg0 c1024_i32
  let v21 : BitVec 32 := v20
  let c0_i32_5 : BitVec 32 := 0#32
  ![v19.toNat, v21.toNat]

def cc0_transform_13 (inb_S5_S1_4 : ∀ a, (![4] : Fin 1 → Nat) a + S1.size a ≤ S5.size a) (numel1_S1 : S1.numel = 1) (pf : pre0.Contents (Elt F)) (i : grid0.Coords) : Fin 2 → Nat :=
  let arg0 : BitVec 32 := BitVec.ofNat 32 (i 0).val
  let c4 : Index := 4#32
  let v0 : BitVec 32 := pf.at 0 (Rect.unit (s := S5) ![4] S1.size inb_S5_S1_4) numel1_S1
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32_4 : BitVec 32 := 16#32
  let v18 : BitVec 32 := Scalar.muli v17 c16_i32_4
  let v19 : BitVec 32 := v18
  let c1024_i32 : BitVec 32 := 1024#32
  let v20 : BitVec 32 := Scalar.muli arg0 c1024_i32
  let v21 : BitVec 32 := v20
  let c0_i32_5 : BitVec 32 := 0#32
  ![v19.toNat, v21.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S9 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2560x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S20x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S48x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S48x2560 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S48x2560 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S48x2560 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S48x2560 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S48x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S48x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S48x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S48x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S48x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S256x32 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ReferenceIdeal.lean ====
abbrev S2x128x2560 : Shape := ⟨3, ![2, 128, 2560]⟩
abbrev S2560x1280 : Shape := ⟨2, ![2560, 1280]⟩
abbrev S20x10240 : Shape := ⟨2, ![20, 10240]⟩
abbrev S400x2560 : Shape := ⟨2, ![400, 2560]⟩
abbrev S400x10240 : Shape := ⟨2, ![400, 10240]⟩
abbrev S9 : Shape := ⟨1, ![9]⟩
abbrev S6 : Shape := ⟨1, ![6]⟩
abbrev S5 : Shape := ⟨1, ![5]⟩
abbrev S256x2560 : Shape := ⟨2, ![256, 2560]⟩
abbrev S_ : Shape := ⟨0, ![]⟩
abbrev S20x1280 : Shape := ⟨2, ![20, 1280]⟩
abbrev S20x128x1280 : Shape := ⟨3, ![20, 128, 1280]⟩
abbrev S256x1280 : Shape := ⟨2, ![256, 1280]⟩
abbrev S256x1280x1 : Shape := ⟨3, ![256, 1280, 1]⟩
abbrev S256x1280x8 : Shape := ⟨3, ![256, 1280, 8]⟩
abbrev S256x10240 : Shape := ⟨2, ![256, 10240]⟩
abbrev S256 : Shape := ⟨1, ![256]⟩
abbrev S256x1 : Shape := ⟨2, ![256, 1]⟩
abbrev S1x5 : Shape := ⟨2, ![1, 5]⟩
abbrev S256x5 : Shape := ⟨2, ![256, 5]⟩
abbrev S5x1 : Shape := ⟨2, ![5, 1]⟩
abbrev S32 : Shape := ⟨1, ![32]⟩
abbrev S1x32 : Shape := ⟨2, ![1, 32]⟩
abbrev S5x32 : Shape := ⟨2, ![5, 32]⟩
abbrev S5x32x1 : Shape := ⟨3, ![5, 32, 1]⟩
abbrev S5x32x2560 : Shape := ⟨3, ![5, 32, 2560]⟩
abbrev S5x32x10240 : Shape := ⟨3, ![5, 32, 10240]⟩
abbrev S256x5x32 : Shape := ⟨3, ![256, 5, 32]⟩
abbrev S256x5x1 : Shape := ⟨3, ![256, 5, 1]⟩
abbrev S1x5x32 : Shape := ⟨3, ![1, 5, 32]⟩
abbrev S1x5x1 : Shape := ⟨3, ![1, 5, 1]⟩
abbrev S256x32 : Shape := ⟨2, ![256, 32]⟩

abbrev nBuf : Space → Nat
  | .hbm => 272
  | .vmem => 0
  | .smem => 0
  | _ => 0

abbrev hbmTy0_0 (i : Nat) : BufTy := match i % 128 with
  | 0 => ⟨S2x128x2560, .bf16⟩
  | 1 => ⟨S2560x1280, .i32⟩
  | 2 => ⟨S20x10240, .bf16⟩
  | 3 => ⟨S400x2560, .bf16⟩
  | 4 => ⟨S400x10240, .bf16⟩
  | 5 => ⟨S9, .i32⟩
  | 6 => ⟨S9, .i32⟩
  | 7 => ⟨S9, .f32⟩
  | 8 => ⟨S6, .i32⟩
  | 9 => ⟨S5, .i32⟩
  | 10 => ⟨S256x2560, .bf16⟩
  | 11 => ⟨S_, .i32⟩
  | 12 => ⟨S2560x1280, .i32⟩
  | 13 => ⟨S2560x1280, .i32⟩
  | 14 => ⟨S_, .i32⟩
  | 15 => ⟨S2560x1280, .i32⟩
  | 16 => ⟨S2560x1280, .i32⟩
  | 17 => ⟨S_, .i32⟩
  | 18 => ⟨S2560x1280, .i32⟩
  | 19 => ⟨S2560x1280, .i1⟩
  | 20 => ⟨S2560x1280, .i32⟩
  | 21 => ⟨S_, .i32⟩
  | 22 => ⟨S2560x1280, .i32⟩
  | 23 => ⟨S2560x1280, .i32⟩
  | 24 => ⟨S2560x1280, .i32⟩
  | 25 => ⟨S20x1280, .bf16⟩
  | 26 => ⟨S20x128x1280, .bf16⟩
  | 27 => ⟨S2560x1280, .bf16⟩
  | 28 => ⟨S2560x1280, .bf16⟩
  | 29 => ⟨S2560x1280, .bf16⟩
  | 30 => ⟨S256x1280, .f32⟩
  | 31 => ⟨S_, .i32⟩
  | 32 => ⟨S2560x1280, .i32⟩
  | 33 => ⟨S2560x1280, .i32⟩
  | 34 => ⟨S_, .i32⟩
  | 35 => ⟨S2560x1280, .i32⟩
  | 36 => ⟨S2560x1280, .i32⟩
  | 37 => ⟨S_, .i32⟩
  | 38 => ⟨S2560x1280, .i32⟩
  | 39 => ⟨S2560x1280, .i1⟩
  | 40 => ⟨S2560x1280, .i32⟩
  | 41 => ⟨S_, .i32⟩
  | 42 => ⟨S2560x1280, .i32⟩
  | 43 => ⟨S2560x1280, .i32⟩
  | 44 => ⟨S2560x1280, .i32⟩
  | 45 => ⟨S20x1280, .bf16⟩
  | 46 => ⟨S20x128x1280, .bf16⟩
  | 47 => ⟨S2560x1280, .bf16⟩
  | 48 => ⟨S2560x1280, .bf16⟩
  | 49 => ⟨S2560x1280, .bf16⟩
  | 50 => ⟨S256x1280, .f32⟩
  | 51 => ⟨S_, .i32⟩
  | 52 => ⟨S2560x1280, .i32⟩
  | 53 => ⟨S2560x1280, .i32⟩
  | 54 => ⟨S_, .i32⟩
  | 55 => ⟨S2560x1280, .i32⟩
  | 56 => ⟨S2560x1280, .i32⟩
  | 57 => ⟨S_, .i32⟩
  | 58 => ⟨S2560x1280, .i32⟩
  | 59 => ⟨S2560x1280, .i1⟩
  | 60 => ⟨S2560x1280, .i32⟩
  | 61 => ⟨S_, .i32⟩
  | 62 => ⟨S2560x1280, .i32⟩
  | 63 => ⟨S2560x1280, .i32⟩
  | 64 => ⟨S2560x1280, .i32⟩
  | 65 => ⟨S20x1280, .bf16⟩
  | 66 => ⟨S20x128x1280, .bf16⟩
  | 67 => ⟨S2560x1280, .bf16⟩
  | 68 => ⟨S2560x1280, .bf16⟩
  | 69 => ⟨S2560x1280, .bf16⟩
  | 70 => ⟨S256x1280, .f32⟩
  | 71 => ⟨S_, .i32⟩
  | 72 => ⟨S2560x1280, .i32⟩
  | 73 => ⟨S2560x1280, .i32⟩
  | 74 => ⟨S_, .i32⟩
  | 75 => ⟨S2560x1280, .i32⟩
  | 76 => ⟨S2560x1280, .i32⟩
  | 77 => ⟨S_, .i32⟩
  | 78 => ⟨S2560x1280, .i32⟩
  | 79 => ⟨S2560x1280, .i1⟩
  | 80 => ⟨S2560x1280, .i32⟩
  | 81 => ⟨S_, .i32⟩
  | 82 => ⟨S2560x1280, .i32⟩
  | 83 => ⟨S2560x1280, .i32⟩
  | 84 => ⟨S2560x1280, .i32⟩
  | 85 => ⟨S20x1280, .bf16⟩
  | 86 => ⟨S20x128x1280, .bf16⟩
  | 87 => ⟨S2560x1280, .bf16⟩
  | 88 => ⟨S2560x1280, .bf16⟩
  | 89 => ⟨S2560x1280, .bf16⟩
  | 90 => ⟨S256x1280, .f32⟩
  | 91 => ⟨S_, .i32⟩
  | 92 => ⟨S2560x1280, .i32⟩
  | 93 => ⟨S2560x1280, .i32⟩
  | 94 => ⟨S_, .i32⟩
  | 95 => ⟨S2560x1280, .i32⟩
  | 96 => ⟨S2560x1280, .i32⟩
  | 97 => ⟨S_, .i32⟩
  | 98 => ⟨S2560x1280, .i32⟩
  | 99 => ⟨S2560x1280, .i1⟩
  | 100 => ⟨S2560x1280, .i32⟩
  | 101 => ⟨S_, .i32⟩
  | 102 => ⟨S2560x1280, .i32⟩
  | 103 => ⟨S2560x1280, .i32⟩
  | 104 => ⟨S2560x1280, .i32⟩
  | 105 => ⟨S20x1280, .bf16⟩
  | 106 => ⟨S20x128x1280, .bf16⟩
  | 107 => ⟨S2560x1280, .bf16⟩
  | 108 => ⟨S2560x1280, .bf16⟩
  | 109 => ⟨S2560x1280, .bf16⟩
  | 110 => ⟨S256x1280, .f32⟩
  | 111 => ⟨S_, .i32⟩
  | 112 => ⟨S2560x1280, .i32⟩
  | 113 => ⟨S2560x1280, .i32⟩
  | 114 => ⟨S_, .i32⟩
  | 115 => ⟨S2560x1280, .i32⟩
  | 116 => ⟨S2560x1280, .i32⟩
  | 117 => ⟨S_, .i32⟩
  | 118 => ⟨S2560x1280, .i32⟩
  | 119 => ⟨S2560x1280, .i1⟩
  | 120 => ⟨S2560x1280, .i32⟩
  | 121 => ⟨S_, .i32⟩
  | 122 => ⟨S2560x1280, .i32⟩
  | 123 => ⟨S2560x1280, .i32⟩
  | 124 => ⟨S2560x1280, .i32⟩
  | 125 => ⟨S20x1280, .bf16⟩
  | 126 => ⟨S20x128x1280, .bf16⟩
  | 127 => ⟨S2560x1280, .bf16⟩
  | _ => ⟨S2x128x2560, .bf16⟩

abbrev hbmTy0_1 (i : Nat) : BufTy := match i % 128 with
  | 0 => ⟨S2560x1280, .bf16⟩
  | 1 => ⟨S2560x1280, .bf16⟩
  | 2 => ⟨S256x1280, .f32⟩
  | 3 => ⟨S_, .i32⟩
  | 4 => ⟨S2560x1280, .i32⟩
  | 5 => ⟨S2560x1280, .i32⟩
  | 6 => ⟨S_, .i32⟩
  | 7 => ⟨S2560x1280, .i32⟩
  | 8 => ⟨S2560x1280, .i32⟩
  | 9 => ⟨S_, .i32⟩
  | 10 => ⟨S2560x1280, .i32⟩
  | 11 => ⟨S2560x1280, .i1⟩
  | 12 => ⟨S2560x1280, .i32⟩
  | 13 => ⟨S_, .i32⟩
  | 14 => ⟨S2560x1280, .i32⟩
  | 15 => ⟨S2560x1280, .i32⟩
  | 16 => ⟨S2560x1280, .i32⟩
  | 17 => ⟨S20x1280, .bf16⟩
  | 18 => ⟨S20x128x1280, .bf16⟩
  | 19 => ⟨S2560x1280, .bf16⟩
  | 20 => ⟨S2560x1280, .bf16⟩
  | 21 => ⟨S2560x1280, .bf16⟩
  | 22 => ⟨S256x1280, .f32⟩
  | 23 => ⟨S_, .i32⟩
  | 24 => ⟨S2560x1280, .i32⟩
  | 25 => ⟨S2560x1280, .i32⟩
  | 26 => ⟨S_, .i32⟩
  | 27 => ⟨S2560x1280, .i32⟩
  | 28 => ⟨S2560x1280, .i32⟩
  | 29 => ⟨S_, .i32⟩
  | 30 => ⟨S2560x1280, .i32⟩
  | 31 => ⟨S2560x1280, .i1⟩
  | 32 => ⟨S2560x1280, .i32⟩
  | 33 => ⟨S_, .i32⟩
  | 34 => ⟨S2560x1280, .i32⟩
  | 35 => ⟨S2560x1280, .i32⟩
  | 36 => ⟨S2560x1280, .i32⟩
  | 37 => ⟨S20x1280, .bf16⟩
  | 38 => ⟨S20x128x1280, .bf16⟩
  | 39 => ⟨S2560x1280, .bf16⟩
  | 40 => ⟨S2560x1280, .bf16⟩
  | 41 => ⟨S2560x1280, .bf16⟩
  | 42 => ⟨S256x1280, .f32⟩
  | 43 => ⟨S256x1280x1, .f32⟩
  | 44 => ⟨S256x1280x1, .f32⟩
  | 45 => ⟨S256x1280x1, .f32⟩
  | 46 => ⟨S256x1280x1, .f32⟩
  | 47 => ⟨S256x1280x1, .f32⟩
  | 48 => ⟨S256x1280x1, .f32⟩
  | 49 => ⟨S256x1280x1, .f32⟩
  | 50 => ⟨S256x1280x1, .f32⟩
  | 51 => ⟨S256x1280x8, .f32⟩
  | 52 => ⟨S256x10240, .f32⟩
  | 53 => ⟨S256, .i32⟩
  | 54 => ⟨S256x1, .i32⟩
  | 55 => ⟨S5, .i32⟩
  | 56 => ⟨S1x5, .i32⟩
  | 57 => ⟨S256x5, .i32⟩
  | 58 => ⟨S256x5, .i32⟩
  | 59 => ⟨S256x5, .i1⟩
  | 60 => ⟨S5, .i32⟩
  | 61 => ⟨S1x5, .i32⟩
  | 62 => ⟨S256x5, .i32⟩
  | 63 => ⟨S256x5, .i32⟩
  | 64 => ⟨S256x5, .i1⟩
  | 65 => ⟨S256x5, .i1⟩
  | 66 => ⟨S_, .i32⟩
  | 67 => ⟨S5, .i32⟩
  | 68 => ⟨S5, .i1⟩
  | 69 => ⟨S_, .i32⟩
  | 70 => ⟨S5, .i32⟩
  | 71 => ⟨S5, .i32⟩
  | 72 => ⟨S5, .i32⟩
  | 73 => ⟨S5x1, .i32⟩
  | 74 => ⟨S5, .i32⟩
  | 75 => ⟨S5x1, .i32⟩
  | 76 => ⟨S32, .i32⟩
  | 77 => ⟨S1x32, .i32⟩
  | 78 => ⟨S5x32, .i32⟩
  | 79 => ⟨S5x32, .i32⟩
  | 80 => ⟨S5x32, .i32⟩
  | 81 => ⟨S_, .i32⟩
  | 82 => ⟨S5, .i32⟩
  | 83 => ⟨S5, .i1⟩
  | 84 => ⟨S_, .i32⟩
  | 85 => ⟨S5, .i32⟩
  | 86 => ⟨S5, .i32⟩
  | 87 => ⟨S5, .i32⟩
  | 88 => ⟨S5x1, .i32⟩
  | 89 => ⟨S5, .i32⟩
  | 90 => ⟨S_, .i32⟩
  | 91 => ⟨S5, .i32⟩
  | 92 => ⟨S5, .i1⟩
  | 93 => ⟨S_, .i32⟩
  | 94 => ⟨S5, .i32⟩
  | 95 => ⟨S5, .i32⟩
  | 96 => ⟨S5, .i32⟩
  | 97 => ⟨S5x1, .i32⟩
  | 98 => ⟨S5, .f32⟩
  | 99 => ⟨S_, .i32⟩
  | 100 => ⟨S5x32, .i32⟩
  | 101 => ⟨S5x32, .i1⟩
  | 102 => ⟨S_, .i32⟩
  | 103 => ⟨S5x32, .i32⟩
  | 104 => ⟨S5x32, .i32⟩
  | 105 => ⟨S5x32, .i32⟩
  | 106 => ⟨S5x32x1, .i32⟩
  | 107 => ⟨S5x32x2560, .bf16⟩
  | 108 => ⟨S_, .i32⟩
  | 109 => ⟨S5x32, .i32⟩
  | 110 => ⟨S5x32, .i1⟩
  | 111 => ⟨S_, .i32⟩
  | 112 => ⟨S5x32, .i32⟩
  | 113 => ⟨S5x32, .i32⟩
  | 114 => ⟨S5x32, .i32⟩
  | 115 => ⟨S5x32x1, .i32⟩
  | 116 => ⟨S5x32x10240, .bf16⟩
  | 117 => ⟨S256x5x32, .f32⟩
  | 118 => ⟨S256x5x1, .i1⟩
  | 119 => ⟨S32, .i32⟩
  | 120 => ⟨S5x1, .i32⟩
  | 121 => ⟨S1x32, .i32⟩
  | 122 => ⟨S5x32, .i32⟩
  | 123 => ⟨S5x32, .i32⟩
  | 124 => ⟨S5x32, .i1⟩
  | 125 => ⟨S1x5x32, .i1⟩
  | 126 => ⟨S256x5x32, .i1⟩
  | 127 => ⟨S256x5x32, .i1⟩
  | _ => ⟨S2x128x2560, .bf16⟩

abbrev hbmTy0_2 (i : Nat) : BufTy := match i % 128 with
  | 0 => ⟨S256x5x32, .i1⟩
  | 1 => ⟨S5x1, .f32⟩
  | 2 => ⟨S1x5x1, .f32⟩
  | 3 => ⟨S256x5x32, .f32⟩
  | 4 => ⟨S256x5x32, .f32⟩
  | 5 => ⟨S256x5x32, .bf16⟩
  | 6 => ⟨S_, .bf16⟩
  | 7 => ⟨S256x5x32, .bf16⟩
  | 8 => ⟨S256x5x32, .bf16⟩
  | 9 => ⟨S256x5x32, .f32⟩
  | 10 => ⟨S_, .f32⟩
  | 11 => ⟨S256x32, .f32⟩
  | 12 => ⟨S256x32, .bf16⟩
  | 13 => ⟨S256x10240, .f32⟩
  | 14 => ⟨S256x10240, .f32⟩
  | 15 => ⟨S256x10240, .bf16⟩
  | _ => ⟨S2x128x2560, .bf16⟩

abbrev hbmTy (i : Nat) : BufTy := match i / 128 with
  | 0 => hbmTy0_0 i
  | 1 => hbmTy0_1 i
  | 2 => hbmTy0_2 i
  | _ => ⟨S2x128x2560, .bf16⟩

abbrev bufTy : (tb : Table) → Fin (tcTables nBuf tb) → BufTy
  | .hbm, ⟨i, _⟩ => hbmTy i
  | _, _ => ⟨S2x128x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_c_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_c_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_c_8 : Ref sig .tc := ⟨.hbm, 54, rfl⟩
abbrev main_v35 : Ref sig .tc := ⟨.hbm, 55, rfl⟩
abbrev main_v36 : Ref sig .tc := ⟨.hbm, 56, rfl⟩
abbrev main_c_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_10 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_11 : Ref sig .tc := ⟨.hbm, 71, rfl⟩
abbrev main_v49 : Ref sig .tc := ⟨.hbm, 72, rfl⟩
abbrev main_v50 : Ref sig .tc := ⟨.hbm, 73, rfl⟩
abbrev main_c_12 : Ref sig .tc := ⟨.hbm, 74, rfl⟩
abbrev main_v51 : Ref sig .tc := ⟨.hbm, 75, rfl⟩
abbrev main_v52 : Ref sig .tc := ⟨.hbm, 76, rfl⟩
abbrev main_c_13 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_14 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c_15 : Ref sig .tc := ⟨.hbm, 91, rfl⟩
abbrev main_v65 : Ref sig .tc := ⟨.hbm, 92, rfl⟩
abbrev main_v66 : Ref sig .tc := ⟨.hbm, 93, rfl⟩
abbrev main_c_16 : Ref sig .tc := ⟨.hbm, 94, rfl⟩
abbrev main_v67 : Ref sig .tc := ⟨.hbm, 95, rfl⟩
abbrev main_v68 : Ref sig .tc := ⟨.hbm, 96, rfl⟩
abbrev main_c_17 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_c_18 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_c_19 : Ref sig .tc := ⟨.hbm, 111, rfl⟩
abbrev main_v81 : Ref sig .tc := ⟨.hbm, 112, rfl⟩
abbrev main_v82 : Ref sig .tc := ⟨.hbm, 113, rfl⟩
abbrev main_c_20 : Ref sig .tc := ⟨.hbm, 114, rfl⟩
abbrev main_v83 : Ref sig .tc := ⟨.hbm, 115, rfl⟩
abbrev main_v84 : Ref sig .tc := ⟨.hbm, 116, rfl⟩
abbrev main_c_21 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_c_22 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_c_23 : Ref sig .tc := ⟨.hbm, 131, rfl⟩
abbrev main_v97 : Ref sig .tc := ⟨.hbm, 132, rfl⟩
abbrev main_v98 : Ref sig .tc := ⟨.hbm, 133, rfl⟩
abbrev main_c_24 : Ref sig .tc := ⟨.hbm, 134, rfl⟩
abbrev main_v99 : Ref sig .tc := ⟨.hbm, 135, rfl⟩
abbrev main_v100 : Ref sig .tc := ⟨.hbm, 136, rfl⟩
abbrev main_c_25 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_c_26 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_c_27 : Ref sig .tc := ⟨.hbm, 151, rfl⟩
abbrev main_v113 : Ref sig .tc := ⟨.hbm, 152, rfl⟩
abbrev main_v114 : Ref sig .tc := ⟨.hbm, 153, rfl⟩
abbrev main_c_28 : Ref sig .tc := ⟨.hbm, 154, rfl⟩
abbrev main_v115 : Ref sig .tc := ⟨.hbm, 155, rfl⟩
abbrev main_v116 : Ref sig .tc := ⟨.hbm, 156, rfl⟩
abbrev main_c_29 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_c_30 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_c_31 : Ref sig .tc := ⟨.hbm, 194, rfl⟩
abbrev main_v152 : Ref sig .tc := ⟨.hbm, 195, rfl⟩
abbrev main_v153 : Ref sig .tc := ⟨.hbm, 196, rfl⟩
abbrev main_c_32 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_c_33 : Ref sig .tc := ⟨.hbm, 209, rfl⟩
abbrev main_v165 : Ref sig .tc := ⟨.hbm, 210, rfl⟩
abbrev main_v166 : Ref sig .tc := ⟨.hbm, 211, rfl⟩
abbrev main_c_34 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_c_35 : Ref sig .tc := ⟨.hbm, 218, rfl⟩
abbrev main_v172 : Ref sig .tc := ⟨.hbm, 219, rfl⟩
abbrev main_v173 : Ref sig .tc := ⟨.hbm, 220, rfl⟩
abbrev main_c_36 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_c_37 : Ref sig .tc := ⟨.hbm, 227, rfl⟩
abbrev main_v179 : Ref sig .tc := ⟨.hbm, 228, rfl⟩
abbrev main_v180 : Ref sig .tc := ⟨.hbm, 229, rfl⟩
abbrev main_c_38 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_c_39 : Ref sig .tc := ⟨.hbm, 236, rfl⟩
abbrev main_v186 : Ref sig .tc := ⟨.hbm, 237, rfl⟩
abbrev main_v187 : Ref sig .tc := ⟨.hbm, 238, rfl⟩
abbrev main_c_40 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_v198 : Ref sig .tc := ⟨.hbm, 250, rfl⟩
abbrev main_v199 : Ref sig .tc := ⟨.hbm, 251, rfl⟩
abbrev main_v200 : Ref sig .tc := ⟨.hbm, 252, rfl⟩
abbrev main_v201 : Ref sig .tc := ⟨.hbm, 253, rfl⟩
abbrev main_v202 : Ref sig .tc := ⟨.hbm, 254, rfl⟩
abbrev main_v203 : Ref sig .tc := ⟨.hbm, 255, rfl⟩
abbrev main_v204 : Ref sig .tc := ⟨.hbm, 256, rfl⟩
abbrev main_v205 : Ref sig .tc := ⟨.hbm, 257, rfl⟩
abbrev main_v206 : Ref sig .tc := ⟨.hbm, 258, rfl⟩
abbrev main_v207 : Ref sig .tc := ⟨.hbm, 259, rfl⟩
abbrev main_v208 : Ref sig .tc := ⟨.hbm, 260, rfl⟩
abbrev main_v209 : Ref sig .tc := ⟨.hbm, 261, rfl⟩
abbrev main_cst : Ref sig .tc := ⟨.hbm, 262, rfl⟩
abbrev main_call0_v0 : Ref sig .tc := ⟨.hbm, 263, rfl⟩
abbrev main_v210 : Ref sig .tc := ⟨.hbm, 264, rfl⟩
abbrev main_v211 : Ref sig .tc := ⟨.hbm, 265, rfl⟩
abbrev main_cst_41 : Ref sig .tc := ⟨.hbm, 266, rfl⟩
abbrev main_v212 : Ref sig .tc := ⟨.hbm, 267, rfl⟩
abbrev main_v213 : Ref sig .tc := ⟨.hbm, 268, rfl⟩
abbrev main_v214 : Ref sig .tc := ⟨.hbm, 269, rfl⟩
abbrev main_v215 : Ref sig .tc := ⟨.hbm, 270, rfl⟩
abbrev main_v216 : Ref sig .tc := ⟨.hbm, 271, rfl⟩

abbrev nD : Nat := 1
abbrev τ : Topo := Topo.v7x

variable {F : FTy → Type} [FloatOps F]
-- ==== Proof.IdealPoints.lean ====
/- The grid points and the windows' blocks at the reals: where each window stands at each point. -/
module

public import proofs.«01_k».proof.Proof.Gen.KernelIdeal
public import Idealize.ShloMosaic.Lib.Pipeline.Kit

@[expose] public section

noncomputable section

namespace Cert.KernelIdeal.Body

open Idealize.ShloMosaic Idealize.ShloMosaic.TcCoe
open Cert.KernelIdeal.Gen
open Idealize.SL Idealize.SL.Sem

variable {F : FTy → Type} [FloatOps F]
/-! ## custom_call 0 -/

/-! A call with PREFETCHED TABLES: its memrefs and body are stated over the pipeline at ANY admissible contents `a`
    of the tables (they are instantiated at the contents it reads off the launch memory). A window whose
    index map reads no table has the same schedule at every `a`: stated over the grid, the window's direction and
    that map alone (`Window.fetchOf` / `flushOf`), proved from the map and the fact about the
    axes it reads (`hreadsK_W`) or decided, and restated over the pinned window, which unfolds to them. A window whose
    map reads a table gets none here. -/

/-- Window 0 (operand 4 (%arg7)) is fetched at the first point only, at any contents of the tables (its index map reads none). -/
theorem fetch0_0 (a : (pcfg0 (F := F)).Adm) : ∀ t : Fin (cfg0 a).N, ((cfg0 a).win 0).fetch t = true ↔ t.val % 10 = 0 :=
  (fun t => Pipeline.Window.fetchOf_const cc0_transform_0 (fun _ _ => rfl) (n := 10) (by decide) t : ∀ t : Fin grid0.N, Pipeline.Window.fetchOf grid0 false cc0_transform_0 t = true ↔ t.val % 10 = 0)
/-- Window 1 (operand 5 (%7)) is fetched at the first point only, at any contents of the tables (its index map reads none). -/
theorem fetch0_1 (a : (pcfg0 (F := F)).Adm) : ∀ t : Fin (cfg0 a).N, ((cfg0 a).win 1).fetch t = true ↔ t.val % 10 = 0 :=
  (fun t => Pipeline.Window.fetchOf_const cc0_transform_1 (fun _ _ => rfl) (n := 10) (by decide) t : ∀ t : Fin grid0.N, Pipeline.Window.fetchOf grid0 false cc0_transform_1 t = true ↔ t.val % 10 = 0)
/-- Window 2 (operand 6 (%arg1)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 0 (by decide) (by decide) (Pipeline.Window.sep_of_coord cc0_transform_2 0 1 (fun _ => rfl) (by decide)) (P := 1) (by decide) t).mpr (Nat.mod_one _) : ∀ t : Fin grid0.N, Pipeline.Window.fetchOf grid0 false cc0_transform_2 t = true)
/-- Window 3 (operand 7 (%arg2)) is fetched at every point, at any contents of the tables (its index map reads none). -/
theorem fetch0_3 (a : (pcfg0 (F := F)).Adm) : ∀ t : Fin (cfg0 a).N, ((cfg0 a).win 3).fetch t = true :=
  (fun t => (Pipeline.Window.fetchOf_reads cc0_transform_3 reads0_3 hreads0_3 0 (by decide) (by decide) (Pipeline.Window.sep_of_coord cc0_transform_3 0 1 (fun _ => rfl) (by decide)) (P := 1) (by decide) t).mpr (Nat.mod_one _) : ∀ t : Fin grid0.N, Pipeline.Window.fetchOf grid0 false cc0_transform_3 t = true)
-- window 4: no schedule fact — its index map reads a prefetched table, so where it is fetched or written back depends on the tables' contents
-- window 5: no schedule fact — its index map reads a prefetched table, so where it is fetched or written back depends on the tables' contents
-- window 6: no schedule fact — its index map reads a prefetched table, so where it is fetched or written back depends on the tables' contents
-- window 7: no schedule fact — its index map reads a prefetched table, so where it is fetched or written back depends on the tables' contents
-- window 8: no schedule fact — its index map reads a prefetched table, so where it is fetched or written back depends on the tables' contents
-- window 9: no schedule fact — its index map reads a prefetched table, so where it is fetched or written back depends on the tables' contents
-- window 10: no schedule fact — its index map reads a prefetched table, so where it is fetched or written back depends on the tables' contents
-- window 11: no schedule fact — its index map reads a prefetched table, so where it is fetched or written back depends on the tables' contents
-- window 12: no schedule fact — its index map reads a prefetched table, so where it is fetched or written back depends on the tables' contents
-- window 13: no schedule fact — its index map reads a prefetched table, so where it is fetched or written back depends on the tables' contents
/-- Window 14 (result 0 (%8#0)) is written back at every point, at any contents of the tables (its index map reads none). -/
theorem flush0_14 (a : (pcfg0 (F := F)).Adm) : ∀ t : Fin (cfg0 a).N, ((cfg0 a).win 14).flush t = true :=
  (fun t => (Pipeline.Window.flushOf_reads cc0_transform_14 reads0_14 hreads0_14 0 (by decide) (by decide) (Pipeline.Window.sep_of_coord cc0_transform_14 0 1 (fun _ => rfl) (by decide)) (P := 1) (m := 0) (by decide) rfl t).mpr (Nat.mod_one _) : ∀ t : Fin grid0.N, Pipeline.Window.flushOf grid0 true cc0_transform_14 t = true)
/-- Window 15 (result 1 (%8#1)) is written back at the last point only, at any contents of the tables (its index map reads none). -/
theorem flush0_15 (a : (pcfg0 (F := F)).Adm) : ∀ t : Fin (cfg0 a).N, ((cfg0 a).win 15).flush t = true ↔ t.val % 10 = 9 :=
  (fun t => Pipeline.Window.flushOf_const cc0_transform_15 (fun _ _ => rfl) (n := 10) (by decide) rfl t : ∀ t : Fin grid0.N, Pipeline.Window.flushOf grid0 true cc0_transform_15 t = true ↔ t.val % 10 = 9)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)
abbrev st0_12 (a : (pcfg0 (F := F)).Adm) (t : Fin (cfg0 a).N) := ((cfg0 a).win 12).stage ((cfg0 a).slots t 12)
abbrev st0_13 (a : (pcfg0 (F := F)).Adm) (t : Fin (cfg0 a).N) := ((cfg0 a).win 13).stage ((cfg0 a).slots t 13)
abbrev st0_14 (a : (pcfg0 (F := F)).Adm) (t : Fin (cfg0 a).N) := ((cfg0 a).win 14).stage ((cfg0 a).slots t 14)
abbrev st0_15 (a : (pcfg0 (F := F)).Adm) (t : Fin (cfg0 a).N) := ((cfg0 a).win 15).stage ((cfg0 a).slots t 15)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_slora_int4 (grid0.coords t) (Memref.whole main_v6) (Memref.isWhole_whole _) (Memref.whole main_arg6) (Memref.isWhole_whole _) (Memref.whole main_arg8) (Memref.isWhole_whole _) (Memref.whole main_arg9) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (spec0_14.stage ((cfg0 a).slots t 14)) (hstage0_14 (((cfg0 a).slots t 14).cast nbuf0_14)) (spec0_15.stage ((cfg0 a).slots t 15)) (hstage0_15 (((cfg0 a).slots t 15).cast nbuf0_15)) (Memref.whole cc0_scratch0) (Memref.isWhole_whole _) (Memref.whole cc0_scratch1) (Memref.isWhole_whole _)

end Cert.KernelIdeal.Body

end
-- ==== Proof.IdealRuns.lean ====
/- The shared part of the kernel's run at the reals: what the body's cases are stated over (the tables, the staging and scratch memrefs, the windows' blocks, the branch condition in closed form). -/
module

public import proofs.«01_k».proof.Proof.Gen.KernelIdeal.Launch
public import proofs.«01_k».proof.Proof.Gen.KernelIdeal.Skeleton
public import proofs.«01_k».proof.Proof.IdealPoints
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Body

open Idealize.ShloMosaic Idealize.ShloMosaic.TcCoe Idealize.ShloMosaic.Tactic
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 4) : V m c (pre0.ref j) = tbl m j := by
  obtain rfl : c = 0 := Subsingleton.elim _ _; rfl
/-- The pipeline's side condition of the tables' contents: every window whose index map reads a table has its block
    inside the array at every point (the printed `ok0`; `True` when no map reads a table). The frame holds under it. -/
abbrev Ok : Prop := ok0 (F := F) (tbl m)
/-- The tables' contents as admissible contents, and the pipeline at them: what the launch theorem runs
    (`θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S5 .i32 := Memref.whole main_v6
abbrev htbM0_0 : tbM0_0.IsWhole := Memref.isWhole_whole _
abbrev tbM0_1 : Memref sig .tc .smem S9 .i32 := Memref.whole main_arg6
abbrev htbM0_1 : tbM0_1.IsWhole := Memref.isWhole_whole _
abbrev tbM0_2 : Memref sig .tc .smem S6 .i32 := Memref.whole main_arg8
abbrev htbM0_2 : tbM0_2.IsWhole := Memref.isWhole_whole _
abbrev tbM0_3 : Memref sig .tc .smem S5 .i32 := Memref.whole main_arg9
abbrev htbM0_3 : tbM0_3.IsWhole := Memref.isWhole_whole _

/-- A table memref's buffer on core `c`: its contents type, and it held at half the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (`ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for any proof
    data whose array is `V`'s (`hA`) and whose body leaves the block in place (`hafter`); where it is
    not fetched the index has not moved (`Dat.before_in_eq_fetched`). -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is `V`'s (`hA`) and whose body leaves the block in place (`hafter`); where it is
    not fetched the index has not moved (`Dat.before_in_eq_fetched`). -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is `V`'s (`hA`) and whose body leaves the block in place (`hafter`); where it is
    not fetched the index has not moved (`Dat.before_in_eq_fetched`). -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data whose array is `V`'s (`hA`) and whose body leaves the block in place (`hafter`); where it is
    not fetched the index has not moved (`Dat.before_in_eq_fetched`). -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof
    data whose array is `V`'s (`hA`) and whose body leaves the block in place (`hafter`); where it is
    not fetched the index has not moved (`Dat.before_in_eq_fetched`). -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof
    data whose array is `V`'s (`hA`) and whose body leaves the block in place (`hafter`); where it is
    not fetched the index has not moved (`Dat.before_in_eq_fetched`). -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for any proof
    data whose array is `V`'s (`hA`) and whose body leaves the block in place (`hafter`); where it is
    not fetched the index has not moved (`Dat.before_in_eq_fetched`). -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for any proof
    data whose array is `V`'s (`hA`) and whose body leaves the block in place (`hafter`); where it is
    not fetched the index has not moved (`Dat.before_in_eq_fetched`). -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for any proof
    data whose array is `V`'s (`hA`) and whose body leaves the block in place (`hafter`); where it is
    not fetched the index has not moved (`Dat.before_in_eq_fetched`). -/
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for any proof
    data whose array is `V`'s (`hA`) and whose body leaves the block in place (`hafter`); where it is
    not fetched the index has not moved (`Dat.before_in_eq_fetched`). -/
theorem before0_9_of (hO : Ok m) {c : Dev nD} (dat : Dat τ (Elt F) Unit ℕ (UR sig nD τ) ℕ (cfgM m hO) c) (hA : dat.A 9 = V m c (Pipeline.arrRef spec0 9))
    (hafter : ∀ t, dat.after 9 t = iblk m hO c 9 t) (t : Fin (cfgM m hO).N) (d) : dat.before 9 t d = iblk m hO c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for any proof
    data whose array is `V`'s (`hA`) and whose body leaves the block in place (`hafter`); where it is
    not fetched the index has not moved (`Dat.before_in_eq_fetched`). -/
theorem before0_10_of (hO : Ok m) {c : Dev nD} (dat : Dat τ (Elt F) Unit ℕ (UR sig nD τ) ℕ (cfgM m hO) c) (hA : dat.A 10 = V m c (Pipeline.arrRef spec0 10))
    (hafter : ∀ t, dat.after 10 t = iblk m hO c 10 t) (t : Fin (cfgM m hO).N) (d) : dat.before 10 t d = iblk m hO c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for any proof
    data whose array is `V`'s (`hA`) and whose body leaves the block in place (`hafter`); where it is
    not fetched the index has not moved (`Dat.before_in_eq_fetched`). -/
theorem before0_11_of (hO : Ok m) {c : Dev nD} (dat : Dat τ (Elt F) Unit ℕ (UR sig nD τ) ℕ (cfgM m hO) c) (hA : dat.A 11 = V m c (Pipeline.arrRef spec0 11))
    (hafter : ∀ t, dat.after 11 t = iblk m hO c 11 t) (t : Fin (cfgM m hO).N) (d) : dat.before 11 t d = iblk m hO c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for any proof
    data whose array is `V`'s (`hA`) and whose body leaves the block in place (`hafter`); where it is
    not fetched the index has not moved (`Dat.before_in_eq_fetched`). -/
theorem before0_12_of (hO : Ok m) {c : Dev nD} (dat : Dat τ (Elt F) Unit ℕ (UR sig nD τ) ℕ (cfgM m hO) c) (hA : dat.A 12 = V m c (Pipeline.arrRef spec0 12))
    (hafter : ∀ t, dat.after 12 t = iblk m hO c 12 t) (t : Fin (cfgM m hO).N) (d) : dat.before 12 t d = iblk m hO c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for any proof
    data whose array is `V`'s (`hA`) and whose body leaves the block in place (`hafter`); where it is
    not fetched the index has not moved (`Dat.before_in_eq_fetched`). -/
theorem before0_13_of (hO : Ok m) {c : Dev nD} (dat : Dat τ (Elt F) Unit ℕ (UR sig nD τ) ℕ (cfgM m hO) c) (hA : dat.A 13 = V m c (Pipeline.arrRef spec0 13))
    (hafter : ∀ t, dat.after 13 t = iblk m hO c 13 t) (t : Fin (cfgM m hO).N) (d) : dat.before 13 t d = iblk m hO c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    `FramePost` read at the argument arrays — a staged input by the library's
    `Dat.arrAt_in`, an array no window stages by the post's second clause, each then by `V_…` — is the frame
    claim's post (`Cert.frame_KernelIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (by decide : main_arg0 ∈ Pipeline.restRefs sig spec0)).trans (V_main_arg0 m c),
      ((h c).1 2).trans (((dats 0 c).arrAt_in 2 rfl _).trans ((hA c 2).trans (V_main_arg1 m c))),
      ((h c).1 3).trans (((dats 0 c).arrAt_in 3 rfl _).trans ((hA c 3).trans (V_main_arg2 m c))),
      ((h c).1 8).trans (((dats 0 c).arrAt_in 8 rfl _).trans ((hA c 8).trans (V_main_arg3 m c))),
      ((h c).1 13).trans (((dats 0 c).arrAt_in 13 rfl _).trans ((hA c 13).trans (V_main_arg4 m c))),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).1 0).trans (((dats 0 c).arrAt_in 0 rfl _).trans ((hA c 0).trans (V_main_arg7 m c))),
      ((h c).2 main_arg8 (by decide : main_arg8 ∈ Pipeline.restRefs sig spec0)).trans (V_main_arg8 m c),
      ((h c).2 main_arg9 (by decide : main_arg9 ∈ Pipeline.restRefs sig spec0)).trans (V_main_arg9 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin grid0.N, cond0_0 (grid0.coords t) ↔ t.val % 10 = 0 :=
  (fun t => by
    have ht : t.val < 10 := Nat.lt_of_lt_of_eq t.isLt N_0
    have e0 : (grid0.coords t 0).val = t.val / 1 % 10 := Pipeline.Grid.coords_val t 0 (by decide) rfl
    simp only [cond0_0, k0_cond1, e0]
    word_cmp
   : ∀ t : Fin grid0.N, cond0_0 (grid0.coords t) ↔ t.val % 10 = 0)

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 3 (grid0.coords t) = false)
/-- Window 4 is never idle (an input). -/
theorem liveAt0_4 (hO : Ok m) : ∀ t : Fin (cfgM m hO).N, (cfgM m hO).idle 4 (grid0.coords t) = false :=
  (fun _ => rfl : ∀ t : Fin grid0.N, idle0 4 (grid0.coords t) = false)
/-- Window 5 is never idle (an input). -/
theorem liveAt0_5 (hO : Ok m) : ∀ t : Fin (cfgM m hO).N, (cfgM m hO).idle 5 (grid0.coords t) = false :=
  (fun _ => rfl : ∀ t : Fin grid0.N, idle0 5 (grid0.coords t) = false)
/-- Window 6 is never idle (an input). -/
theorem liveAt0_6 (hO : Ok m) : ∀ t : Fin (cfgM m hO).N, (cfgM m hO).idle 6 (grid0.coords t) = false :=
  (fun _ => rfl : ∀ t : Fin grid0.N, idle0 6 (grid0.coords t) = false)
/-- Window 7 is never idle (an input). -/
theorem liveAt0_7 (hO : Ok m) : ∀ t : Fin (cfgM m hO).N, (cfgM m hO).idle 7 (grid0.coords t) = false :=
  (fun _ => rfl : ∀ t : Fin grid0.N, idle0 7 (grid0.coords t) = false)
/-- Window 8 is never idle (an input). -/
theorem liveAt0_8 (hO : Ok m) : ∀ t : Fin (cfgM m hO).N, (cfgM m hO).idle 8 (grid0.coords t) = false :=
  (fun _ => rfl : ∀ t : Fin grid0.N, idle0 8 (grid0.coords t) = false)
/-- Window 9 is never idle (an input). -/
theorem liveAt0_9 (hO : Ok m) : ∀ t : Fin (cfgM m hO).N, (cfgM m hO).idle 9 (grid0.coords t) = false :=
  (fun _ => rfl : ∀ t : Fin grid0.N, idle0 9 (grid0.coords t) = false)
/-- Window 10 is never idle (an input). -/
theorem liveAt0_10 (hO : Ok m) : ∀ t : Fin (cfgM m hO).N, (cfgM m hO).idle 10 (grid0.coords t) = false :=
  (fun _ => rfl : ∀ t : Fin grid0.N, idle0 10 (grid0.coords t) = false)
/-- Window 11 is never idle (an input). -/
theorem liveAt0_11 (hO : Ok m) : ∀ t : Fin (cfgM m hO).N, (cfgM m hO).idle 11 (grid0.coords t) = false :=
  (fun _ => rfl : ∀ t : Fin grid0.N, idle0 11 (grid0.coords t) = false)
/-- Window 12 is never idle (an input). -/
theorem liveAt0_12 (hO : Ok m) : ∀ t : Fin (cfgM m hO).N, (cfgM m hO).idle 12 (grid0.coords t) = false :=
  (fun _ => rfl : ∀ t : Fin grid0.N, idle0 12 (grid0.coords t) = false)
/-- Window 13 is never idle (an input). -/
theorem liveAt0_13 (hO : Ok m) : ∀ t : Fin (cfgM m hO).N, (cfgM m hO).idle 13 (grid0.coords t) = false :=
  (fun _ => rfl : ∀ t : Fin grid0.N, idle0 13 (grid0.coords t) = false)
/-- Window 14 is never idle (an output stored at every point, under no condition). -/
theorem liveAt0_14 (hO : Ok m) : ∀ t : Fin (cfgM m hO).N, (cfgM m hO).idle 14 (grid0.coords t) = false :=
  (fun _ => rfl : ∀ t : Fin grid0.N, idle0 14 (grid0.coords t) = false)
/-- At the points of case A the printed configuration (`Cfg.idle`) calls output 15 live: the case stores into it. -/
theorem liveAt0_15_A (hO : Ok m) : ∀ t : Fin (cfgM m hO).N, cond0_0 (grid0.coords t) → (cfgM m hO).idle 15 (grid0.coords t) = false :=
  (by decide +kernel : ∀ t : Fin grid0.N, cond0_0 (grid0.coords t) → idle0 15 (grid0.coords t) = false)
/-- At the points of case B the printed configuration (`Cfg.idle`) calls output 15 idle: the case stores nothing into it. -/
theorem idleAt0_15_B (hO : Ok m) : ∀ t : Fin (cfgM m hO).N, ¬cond0_0 (grid0.coords t) → (cfgM m hO).idle 15 (grid0.coords t) = true :=
  (by decide +kernel : ∀ t : Fin grid0.N, ¬cond0_0 (grid0.coords t) → idle0 15 (grid0.coords t) = true)
/-- The pipeline writes output 15's block back after the last point only. -/
theorem noFlush0_15 (hO : Ok m) : ∀ t : Fin (cfgM m hO).N, t.val < 9 → ((cfgM m hO).win 15).flush t = false :=
  (by decide +kernel : ∀ t : Fin grid0.N, t.val < 9 → Pipeline.Window.flushOf grid0 true cc0_transform_15 t = false)

/-! ## The kernel body on any staging memrefs: a subtype the run finds -/

/-- One staging buffer of output window 14, through which its contents are stated (`View.read_writes_of_cover`: the
    choice does not matter). -/
abbrev VO0_14 : View sig .tc .vmem S256x1024 .bf16 := (Memref.whole cc0_stg14_0 : Memref sig .tc .vmem S256x1024 .bf16).view
/-- One staging buffer of output window 15, through which its contents are stated (`View.read_writes_of_cover`: the
    choice does not matter). -/
abbrev VO0_15 : View sig .tc .vmem S256x32 .bf16 := (Memref.whole cc0_stg15_0 : Memref sig .tc .vmem S256x32 .bf16).view
/-- Each window's current staging memref at point `t`, spelled as the pipeline passes it (`bodyAt0`), and its wholeness. -/
abbrev ms0_0 (hO : Ok m) (t : Fin (cfgM m hO).N) : Memref sig .tc .smem S9 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S256x2560 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S2560x128 .i32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S20x1024 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S48x2560 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S48x2560 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S48x2560 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S48x2560 .bf16 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S48x2560 .bf16 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S48x1024 .bf16 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S48x1024 .bf16 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S48x1024 .bf16 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S48x1024 .bf16 := spec0_12.stage ((cfgM m hO).slots t 12)
abbrev hs0_12 (hO : Ok m) (t : Fin (cfgM m hO).N) : (ms0_12 m hO t).IsWhole := hstage0_12 (((cfgM m hO).slots t 12).cast nbuf0_12)
abbrev ms0_13 (hO : Ok m) (t : Fin (cfgM m hO).N) : Memref sig .tc .vmem S48x1024 .bf16 := spec0_13.stage ((cfgM m hO).slots t 13)
abbrev hs0_13 (hO : Ok m) (t : Fin (cfgM m hO).N) : (ms0_13 m hO t).IsWhole := hstage0_13 (((cfgM m hO).slots t 13).cast nbuf0_13)
abbrev ms0_14 (hO : Ok m) (t : Fin (cfgM m hO).N) : Memref sig .tc .vmem S256x1024 .bf16 := spec0_14.stage ((cfgM m hO).slots t 14)
abbrev hs0_14 (hO : Ok m) (t : Fin (cfgM m hO).N) : (ms0_14 m hO t).IsWhole := hstage0_14 (((cfgM m hO).slots t 14).cast nbuf0_14)
abbrev ms0_15 (hO : Ok m) (t : Fin (cfgM m hO).N) : Memref sig .tc .vmem S256x32 .bf16 := spec0_15.stage ((cfgM m hO).slots t 15)
abbrev hs0_15 (hO : Ok m) (t : Fin (cfgM m hO).N) : (ms0_15 m hO t).IsWhole := hstage0_15 (((cfgM m hO).slots t 15).cast nbuf0_15)

/-! ## The side conditions the body assumes, as the frame's hypothesis -/

/-- The side conditions the body assumes of words it loads from its prefetched tables and input SMEM windows, or
    inside a counted loop of the loop's carried counter at every trip (the
    printed `TpuEff.assume (kK_chkN …)`: facts computed from the words that no program decides for every word), at
    every point, over the tables' words (`tbl m`, under `hO`) and the argument blocks' there — spelled as each case's
    run reads them (`View.readAt` through the memref at its held contents), each under the conditions of the
    branches it sits inside. The frame holds under it. -/
def Hyps (m : (ℓ : Loc nD τ sig) → Buf (Elt F) ℓ) (hO : Ok m) : Prop :=
  ∀ (c : Dev nD) (t : Fin (cfgM m hO).N),
    (cond0_0 (grid0.coords t) → k0_chk1 (grid0.coords t) (tbM0_3.view.readAt (Elt F) (Rect.unit (s := S5) ![0] S1.size inb_S5_S1_0).toLoadRect (tbl m 3) (Shape.Idx.first (numel1_S1.symm ▸ Nat.one_pos))))
    ∧ (cond0_0 (grid0.coords t) → k0_chk2 (grid0.coords t) (tbM0_3.view.readAt (Elt F) (Rect.unit (s := S5) ![1] S1.size inb_S5_S1_1).toLoadRect (tbl m 3) (Shape.Idx.first (numel1_S1.symm ▸ Nat.one_pos))))
    ∧ (cond0_0 (grid0.coords t) → k0_chk3 (grid0.coords t) (tbM0_3.view.readAt (Elt F) (Rect.unit (s := S5) ![2] S1.size inb_S5_S1_2).toLoadRect (tbl m 3) (Shape.Idx.first (numel1_S1.symm ▸ Nat.one_pos))))
    ∧ (cond0_0 (grid0.coords t) → k0_chk4 (grid0.coords t) (tbM0_3.view.readAt (Elt F) (Rect.unit (s := S5) ![3] S1.size inb_S5_S1_3).toLoadRect (tbl m 3) (Shape.Idx.first (numel1_S1.symm ▸ Nat.one_pos))))
    ∧ (cond0_0 (grid0.coords t) → k0_chk5 (grid0.coords t) (tbM0_3.view.readAt (Elt F) (Rect.unit (s := S5) ![4] S1.size inb_S5_S1_4).toLoadRect (tbl m 3) (Shape.Idx.first (numel1_S1.symm ▸ Nat.one_pos))))

/-! Each conjunct of `Hyps` by name: its statement (`Hyps.pN`), a lemma citing it (`Hyps.cN`: what a run, or a
    statement over it, takes for that side condition), and `Hyps` built from one proof per conjunct (`Hyps.of`). -/

/-- Conjunct 0 of `Hyps` at point `t`: the side condition `k0_chk1` the body assumes as `k0_hw1`, under the conditions of the branches it sits inside. -/
abbrev Hyps.p0 (m : (ℓ : Loc nD τ sig) → Buf (Elt F) ℓ) (hO : Ok m) (c : Dev nD) (t : Fin (cfgM m hO).N) : Prop :=
  (cond0_0 (grid0.coords t) → k0_chk1 (grid0.coords t) (tbM0_3.view.readAt (Elt F) (Rect.unit (s := S5) ![0] S1.size inb_S5_S1_0).toLoadRect (tbl m 3) (Shape.Idx.first (numel1_S1.symm ▸ Nat.one_pos))))
variable {m} in
theorem Hyps.c0 {hO : Ok m} (hH : Hyps m hO) (c : Dev nD) (t : Fin (cfgM m hO).N) :
    (cond0_0 (grid0.coords t) → k0_chk1 (grid0.coords t) (tbM0_3.view.readAt (Elt F) (Rect.unit (s := S5) ![0] S1.size inb_S5_S1_0).toLoadRect (tbl m 3) (Shape.Idx.first (numel1_S1.symm ▸ Nat.one_pos)))) := (hH c t).1
/-- Conjunct 1 of `Hyps` at point `t`: the side condition `k0_chk2` the body assumes as `k0_hw2`, under the conditions of the branches it sits inside. -/
abbrev Hyps.p1 (m : (ℓ : Loc nD τ sig) → Buf (Elt F) ℓ) (hO : Ok m) (c : Dev nD) (t : Fin (cfgM m hO).N) : Prop :=
  (cond0_0 (grid0.coords t) → k0_chk2 (grid0.coords t) (tbM0_3.view.readAt (Elt F) (Rect.unit (s := S5) ![1] S1.size inb_S5_S1_1).toLoadRect (tbl m 3) (Shape.Idx.first (numel1_S1.symm ▸ Nat.one_pos))))
variable {m} in
theorem Hyps.c1 {hO : Ok m} (hH : Hyps m hO) (c : Dev nD) (t : Fin (cfgM m hO).N) :
    (cond0_0 (grid0.coords t) → k0_chk2 (grid0.coords t) (tbM0_3.view.readAt (Elt F) (Rect.unit (s := S5) ![1] S1.size inb_S5_S1_1).toLoadRect (tbl m 3) (Shape.Idx.first (numel1_S1.symm ▸ Nat.one_pos)))) := (hH c t).2.1
/-- Conjunct 2 of `Hyps` at point `t`: the side condition `k0_chk3` the body assumes as `k0_hw3`, under the conditions of the branches it sits inside. -/
abbrev Hyps.p2 (m : (ℓ : Loc nD τ sig) → Buf (Elt F) ℓ) (hO : Ok m) (c : Dev nD) (t : Fin (cfgM m hO).N) : Prop :=
  (cond0_0 (grid0.coords t) → k0_chk3 (grid0.coords t) (tbM0_3.view.readAt (Elt F) (Rect.unit (s := S5) ![2] S1.size inb_S5_S1_2).toLoadRect (tbl m 3) (Shape.Idx.first (numel1_S1.symm ▸ Nat.one_pos))))
variable {m} in
theorem Hyps.c2 {hO : Ok m} (hH : Hyps m hO) (c : Dev nD) (t : Fin (cfgM m hO).N) :
    (cond0_0 (grid0.coords t) → k0_chk3 (grid0.coords t) (tbM0_3.view.readAt (Elt F) (Rect.unit (s := S5) ![2] S1.size inb_S5_S1_2).toLoadRect (tbl m 3) (Shape.Idx.first (numel1_S1.symm ▸ Nat.one_pos)))) := (hH c t).2.2.1
/-- Conjunct 3 of `Hyps` at point `t`: the side condition `k0_chk4` the body assumes as `k0_hw4`, under the conditions of the branches it sits inside. -/
abbrev Hyps.p3 (m : (ℓ : Loc nD τ sig) → Buf (Elt F) ℓ) (hO : Ok m) (c : Dev nD) (t : Fin (cfgM m hO).N) : Prop :=
  (cond0_0 (grid0.coords t) → k0_chk4 (grid0.coords t) (tbM0_3.view.readAt (Elt F) (Rect.unit (s := S5) ![3] S1.size inb_S5_S1_3).toLoadRect (tbl m 3) (Shape.Idx.first (numel1_S1.symm ▸ Nat.one_pos))))
variable {m} in
theorem Hyps.c3 {hO : Ok m} (hH : Hyps m hO) (c : Dev nD) (t : Fin (cfgM m hO).N) :
    (cond0_0 (grid0.coords t) → k0_chk4 (grid0.coords t) (tbM0_3.view.readAt (Elt F) (Rect.unit (s := S5) ![3] S1.size inb_S5_S1_3).toLoadRect (tbl m 3) (Shape.Idx.first (numel1_S1.symm ▸ Nat.one_pos)))) := (hH c t).2.2.2.1
/-- Conjunct 4 of `Hyps` at point `t`: the side condition `k0_chk5` the body assumes as `k0_hw5`, under the conditions of the branches it sits inside. -/
abbrev Hyps.p4 (m : (ℓ : Loc nD τ sig) → Buf (Elt F) ℓ) (hO : Ok m) (c : Dev nD) (t : Fin (cfgM m hO).N) : Prop :=
  (cond0_0 (grid0.coords t) → k0_chk5 (grid0.coords t) (tbM0_3.view.readAt (Elt F) (Rect.unit (s := S5) ![4] S1.size inb_S5_S1_4).toLoadRect (tbl m 3) (Shape.Idx.first (numel1_S1.symm ▸ Nat.one_pos))))
variable {m} in
theorem Hyps.c4 {hO : Ok m} (hH : Hyps m hO) (c : Dev nD) (t : Fin (cfgM m hO).N) :
    (cond0_0 (grid0.coords t) → k0_chk5 (grid0.coords t) (tbM0_3.view.readAt (Elt F) (Rect.unit (s := S5) ![4] S1.size inb_S5_S1_4).toLoadRect (tbl m 3) (Shape.Idx.first (numel1_S1.symm ▸ Nat.one_pos)))) := (hH c t).2.2.2.2
variable {m} in
theorem Hyps.of {hO : Ok m}
    (p0 : ∀ (c : Dev nD) (t : Fin (cfgM m hO).N), Hyps.p0 m hO c t)
    (p1 : ∀ (c : Dev nD) (t : Fin (cfgM m hO).N), Hyps.p1 m hO c t)
    (p2 : ∀ (c : Dev nD) (t : Fin (cfgM m hO).N), Hyps.p2 m hO c t)
    (p3 : ∀ (c : Dev nD) (t : Fin (cfgM m hO).N), Hyps.p3 m hO c t)
    (p4 : ∀ (c : Dev nD) (t : Fin (cfgM m hO).N), Hyps.p4 m hO c t) :
    Hyps m hO := fun c t =>
  And.intro (p0 c t) (And.intro (p1 c t) (And.intro (p2 c t) (And.intro (p3 c t) (p4 c t))))

/-- The scratch operands: whole scoped buffers of the kernel's own, passed beside the windows. -/
abbrev scM0_0 : Memref sig .tc .vmem S256x240 .bf16 := Memref.whole cc0_scratch0
abbrev scM0_1 : Memref sig .tc .vmem S8x240x128 .bf16 := Memref.whole cc0_scratch1
/-- The scratch `arg21` the kernel carries between points, as a view: what it holds is stated through it. -/
abbrev VS0_0 : View sig .tc .vmem S256x240 .bf16 := scM0_0.view

/-- The frame kit's invariant with the scratch operands as memrefs owned at some contents (`scopedRest0_eq`,
    `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Body

end
-- ==== Proof.IdealRunA.lean ====
/- The kernel's body at the reals at the first grid point (the branch taken), run whole: what it leaves in each buffer. -/
module

public import proofs.«01_k».proof.Proof.IdealRuns

@[expose] public section

-- membership in a rectangle of production extents (`View.cover_of_tiled`): the elaborator's structural look
-- recurses once per coordinate of the long axes
set_option maxRecDepth 16384

noncomputable section

namespace Cert.KernelIdeal.Body

open Idealize.ShloMosaic Idealize.ShloMosaic.TcCoe Idealize.ShloMosaic.Tactic
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2196000 in
/-- What the body's stores leave in each output's staging memref, as pieces (last first) in case A (`scf.if` 0 taken: points 0), with the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`*_eq_skeleton`), which `sl_exec` runs  — each `scf.if` decided by the case's hypotheses `hc·`; the pieces are
    the witness that run finds (assigned when `iexact` hands the buffer to the continuation). -/
noncomputable def kernelRun0_A (c : Dev nD) (i : grid0.Coords) (arg5 : Memref sig .tc .smem S9 .f32) (harg5 : arg5.IsWhole) (arg6 : Memref sig .tc .vmem S256x2560 .bf16) (harg6 : arg6.IsWhole) (arg7 : Memref sig .tc .vmem S2560x128 .i32) (harg7 : arg7.IsWhole) (arg8 : Memref sig .tc .vmem S20x1024 .bf16) (harg8 : arg8.IsWhole) (arg9 : Memref sig .tc .vmem S48x2560 .bf16) (harg9 : arg9.IsWhole) (arg10 : Memref sig .tc .vmem S48x2560 .bf16) (harg10 : arg10.IsWhole) (arg11 : Memref sig .tc .vmem S48x2560 .bf16) (harg11 : arg11.IsWhole) (arg12 : Memref sig .tc .vmem S48x2560 .bf16) (harg12 : arg12.IsWhole) (arg13 : Memref sig .tc .vmem S48x2560 .bf16) (harg13 : arg13.IsWhole) (arg14 : Memref sig .tc .vmem S48x1024 .bf16) (harg14 : arg14.IsWhole) (arg15 : Memref sig .tc .vmem S48x1024 .bf16) (harg15 : arg15.IsWhole) (arg16 : Memref sig .tc .vmem S48x1024 .bf16) (harg16 : arg16.IsWhole) (arg17 : Memref sig .tc .vmem S48x1024 .bf16) (harg17 : arg17.IsWhole) (arg18 : Memref sig .tc .vmem S48x1024 .bf16) (harg18 : arg18.IsWhole) (arg19 : Memref sig .tc .vmem S256x1024 .bf16) (harg19 : arg19.IsWhole) (arg20 : Memref sig .tc .vmem S256x32 .bf16) (harg20 : arg20.IsWhole) (arg21 : Memref sig .tc .vmem S256x240 .bf16) (harg21 : arg21.IsWhole) (arg22 : Memref sig .tc .vmem S8x240x128 .bf16) (harg22 : arg22.IsWhole) (hc0 : cond0_0 i)
    (x0 : Vec F S9 .f32) (x1 : Vec F S256x2560 .bf16) (x2 : Vec F S2560x128 .i32) (x3 : Vec F S20x1024 .bf16) (x4 : Vec F S48x2560 .bf16) (x5 : Vec F S48x2560 .bf16) (x6 : Vec F S48x2560 .bf16) (x7 : Vec F S48x2560 .bf16) (x8 : Vec F S48x2560 .bf16) (x9 : Vec F S48x1024 .bf16) (x10 : Vec F S48x1024 .bf16) (x11 : Vec F S48x1024 .bf16) (x12 : Vec F S48x1024 .bf16) (x13 : Vec F S48x1024 .bf16) (xt0 : TbBuf0 (F := F) c tbM0_0) (xt1 : TbBuf0 (F := F) c tbM0_1) (xt2 : TbBuf0 (F := F) c tbM0_2) (xt3 : TbBuf0 (F := F) c tbM0_3) (k0_hw1 : k0_chk1 i (tbM0_3.view.readAt (Elt F) (Rect.unit (s := S5) ![0] S1.size inb_S5_S1_0).toLoadRect xt3 (Shape.Idx.first (numel1_S1.symm ▸ Nat.one_pos)))) (k0_hw2 : k0_chk2 i (tbM0_3.view.readAt (Elt F) (Rect.unit (s := S5) ![1] S1.size inb_S5_S1_1).toLoadRect xt3 (Shape.Idx.first (numel1_S1.symm ▸ Nat.one_pos)))) (k0_hw3 : k0_chk3 i (tbM0_3.view.readAt (Elt F) (Rect.unit (s := S5) ![2] S1.size inb_S5_S1_2).toLoadRect xt3 (Shape.Idx.first (numel1_S1.symm ▸ Nat.one_pos)))) (k0_hw4 : k0_chk4 i (tbM0_3.view.readAt (Elt F) (Rect.unit (s := S5) ![3] S1.size inb_S5_S1_3).toLoadRect xt3 (Shape.Idx.first (numel1_S1.symm ▸ Nat.one_pos)))) (k0_hw5 : k0_chk5 i (tbM0_3.view.readAt (Elt F) (Rect.unit (s := S5) ![4] S1.size inb_S5_S1_4).toLoadRect xt3 (Shape.Idx.first (numel1_S1.symm ▸ Nat.one_pos)))) :
    Σ' (L14 : List (View.Piece (Elt F) S256x1024 .bf16)), Σ' (L15 : List (View.Piece (Elt F) S256x32 .bf16)), Σ' (LS0 : List (View.Piece (Elt F) S256x240 .bf16)), { LT1 : List (View.Piece (Elt F) S8x240x128 .bf16) //
      ∀ (E : Set ℕ) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare x8 ∗ owns (c : Thread nD τ) arg14 fullShare x9 ∗ owns (c : Thread nD τ) arg15 fullShare x10 ∗ owns (c : Thread nD τ) arg16 fullShare x11 ∗ owns (c : Thread nD τ) arg17 fullShare x12 ∗ owns (c : Thread nD τ) arg18 fullShare x13 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ tbPt0 c tbM0_0 xt0 ∗ tbPt0 c tbM0_1 xt1 ∗ tbPt0 c tbM0_2 xt2 ∗ tbPt0 c tbM0_3 xt3
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare x8 ∗ owns (c : Thread nD τ) arg14 fullShare x9 ∗ owns (c : Thread nD τ) arg15 fullShare x10 ∗ owns (c : Thread nD τ) arg16 fullShare x11 ∗ owns (c : Thread nD τ) arg17 fullShare x12 ∗ owns (c : Thread nD τ) arg18 fullShare x13 ∗ (∃ f, arg19.view.loc (c : Thread nD τ) ↦[arg19.view.set]{fullShare} arg19.view.writes (Elt F) f L14) ∗ (∃ f, arg20.view.loc (c : Thread nD τ) ↦[arg20.view.set]{fullShare} arg20.view.writes (Elt F) f L15) ∗ (∃ f, arg21.view.loc (c : Thread nD τ) ↦[arg21.view.set]{fullShare} arg21.view.writes (Elt F) f LS0) ∗ (∃ f, arg22.view.loc (c : Thread nD τ) ↦[arg22.view.set]{fullShare} arg22.view.writes (Elt F) f LT1) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_slora_int4 i tbM0_0 htbM0_0 tbM0_1 htbM0_1 tbM0_2 htbM0_2 tbM0_3 htbM0_3 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, fun E K => ?run⟩
  case run =>
    simp only [cc0_slora_int4_eq_skeleton]; unfold cc0_slora_int4_skel
    simp only [k0_part118_eq_skeleton, k0_part6_eq_skeleton, k0_part1_eq_skeleton, k0_part2_eq_skeleton, k0_part3_eq_skeleton, k0_part4_eq_skeleton, k0_part5_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part119_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%ds0, %fs0, -, HS0⟩, ⟨%ds1, %fs1, -, HS1⟩, HT0, HT1, HT2, HT3, Hk⟩
    obtain rfl := harg5.eq_unread hf0; obtain rfl := harg6.eq_unread hf1; obtain rfl := harg7.eq_unread hf2; obtain rfl := harg8.eq_unread hf3; obtain rfl := harg9.eq_unread hf4; obtain rfl := harg10.eq_unread hf5; obtain rfl := harg11.eq_unread hf6; obtain rfl := harg12.eq_unread hf7; obtain rfl := harg13.eq_unread hf8; obtain rfl := harg14.eq_unread hf9; obtain rfl := harg15.eq_unread hf10; obtain rfl := harg16.eq_unread hf11; obtain rfl := harg17.eq_unread hf12; obtain rfl := harg18.eq_unread hf13
    sl_exec (disch := first | sl_exact hc0 | sl_exact k0_hw1 | sl_exact k0_hw2 | sl_exact k0_hw3 | sl_exact k0_hw4 | sl_exact k0_hw5)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    isplitl [H7]
    · iexists _; isplitr; · ipureintro; exact harg12.read_unread _
      iexact H7
    isplitl [H8]
    · iexists _; isplitr; · ipureintro; exact harg13.read_unread _
      iexact H8
    isplitl [H9]
    · iexists _; isplitr; · ipureintro; exact harg14.read_unread _
      iexact H9
    isplitl [H10]
    · iexists _; isplitr; · ipureintro; exact harg15.read_unread _
      iexact H10
    isplitl [H11]
    · iexists _; isplitr; · ipureintro; exact harg16.read_unread _
      iexact H11
    isplitl [H12]
    · iexists _; isplitr; · ipureintro; exact harg17.read_unread _
      iexact H12
    isplitl [H13]
    · iexists _; isplitr; · ipureintro; exact harg18.read_unread _
      iexact H13
    isplitl [H14]; · iexists _; iexact H14
    isplitl [H15]; · iexists _; iexact H15
    isplitl [HS0]; · iexists _; iexact HS0
    isplitl [HS1]; · iexists _; iexact HS1
    isplitl [HT0]; · iexact HT0
    isplitl [HT1]; · iexact HT1
    isplitl [HT2]; · iexact HT2
    iexact HT3

end Cert.KernelIdeal.Body

end
-- ==== Proof.IdealRunB.lean ====
/- The kernel's body at the reals at a later grid point (the branch not taken), run whole: what it leaves in each buffer. -/
module

public import proofs.«01_k».proof.Proof.IdealRunA

@[expose] public section

-- membership in a rectangle of production extents (`View.cover_of_tiled`): the elaborator's structural look
-- recurses once per coordinate of the long axes
set_option maxRecDepth 16384

noncomputable section

namespace Cert.KernelIdeal.Body

open Idealize.ShloMosaic Idealize.ShloMosaic.TcCoe Idealize.ShloMosaic.Tactic
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1780000 in
/-- What the body's stores leave in each output's staging memref, as pieces (last first) in case B (`scf.if` 0 not taken: points 1, 2, … 9: 9 of 10), with the
    proof that on whole staging memrefs — the inputs' at their contents, the outputs it leaves idle (15: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`*_eq_skeleton`), which `sl_exec` runs  — each `scf.if` decided by the case's hypotheses `hc·`; the pieces are
    the witness that run finds (assigned when `iexact` hands the buffer to the continuation). -/
noncomputable def kernelRun0_B (c : Dev nD) (i : grid0.Coords) (arg5 : Memref sig .tc .smem S9 .f32) (harg5 : arg5.IsWhole) (arg6 : Memref sig .tc .vmem S256x2560 .bf16) (harg6 : arg6.IsWhole) (arg7 : Memref sig .tc .vmem S2560x128 .i32) (harg7 : arg7.IsWhole) (arg8 : Memref sig .tc .vmem S20x1024 .bf16) (harg8 : arg8.IsWhole) (arg9 : Memref sig .tc .vmem S48x2560 .bf16) (harg9 : arg9.IsWhole) (arg10 : Memref sig .tc .vmem S48x2560 .bf16) (harg10 : arg10.IsWhole) (arg11 : Memref sig .tc .vmem S48x2560 .bf16) (harg11 : arg11.IsWhole) (arg12 : Memref sig .tc .vmem S48x2560 .bf16) (harg12 : arg12.IsWhole) (arg13 : Memref sig .tc .vmem S48x2560 .bf16) (harg13 : arg13.IsWhole) (arg14 : Memref sig .tc .vmem S48x1024 .bf16) (harg14 : arg14.IsWhole) (arg15 : Memref sig .tc .vmem S48x1024 .bf16) (harg15 : arg15.IsWhole) (arg16 : Memref sig .tc .vmem S48x1024 .bf16) (harg16 : arg16.IsWhole) (arg17 : Memref sig .tc .vmem S48x1024 .bf16) (harg17 : arg17.IsWhole) (arg18 : Memref sig .tc .vmem S48x1024 .bf16) (harg18 : arg18.IsWhole) (arg19 : Memref sig .tc .vmem S256x1024 .bf16) (harg19 : arg19.IsWhole) (arg20 : Memref sig .tc .vmem S256x32 .bf16) (harg20 : arg20.IsWhole) (arg21 : Memref sig .tc .vmem S256x240 .bf16) (harg21 : arg21.IsWhole) (arg22 : Memref sig .tc .vmem S8x240x128 .bf16) (harg22 : arg22.IsWhole) (hc0 : ¬cond0_0 i)
    (x0 : Vec F S9 .f32) (x1 : Vec F S256x2560 .bf16) (x2 : Vec F S2560x128 .i32) (x3 : Vec F S20x1024 .bf16) (x4 : Vec F S48x2560 .bf16) (x5 : Vec F S48x2560 .bf16) (x6 : Vec F S48x2560 .bf16) (x7 : Vec F S48x2560 .bf16) (x8 : Vec F S48x2560 .bf16) (x9 : Vec F S48x1024 .bf16) (x10 : Vec F S48x1024 .bf16) (x11 : Vec F S48x1024 .bf16) (x12 : Vec F S48x1024 .bf16) (x13 : Vec F S48x1024 .bf16) (xt0 : TbBuf0 (F := F) c tbM0_0) (xt1 : TbBuf0 (F := F) c tbM0_1) (xt2 : TbBuf0 (F := F) c tbM0_2) (xt3 : TbBuf0 (F := F) c tbM0_3) (xs0 : Vec F S256x240 .bf16) :
    Σ' (L14 : List (View.Piece (Elt F) S256x1024 .bf16)), Σ' (L15 : List (View.Piece (Elt F) S256x32 .bf16)), Σ' (LS0 : List (View.Piece (Elt F) S256x240 .bf16)), { LT1 : List (View.Piece (Elt F) S8x240x128 .bf16) //
      ∀ (xi15 : Vec F S256x32 .bf16) (E : Set ℕ) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare x8 ∗ owns (c : Thread nD τ) arg14 fullShare x9 ∗ owns (c : Thread nD τ) arg15 fullShare x10 ∗ owns (c : Thread nD τ) arg16 fullShare x11 ∗ owns (c : Thread nD τ) arg17 fullShare x12 ∗ owns (c : Thread nD τ) arg18 fullShare x13 ∗ (∃ d, owns (c : Thread nD τ) arg19 fullShare d) ∗ owns (c : Thread nD τ) arg20 fullShare xi15 ∗ owns (c : Thread nD τ) arg21 fullShare xs0 ∗ (∃ d, owns (c : Thread nD τ) arg22 fullShare d) ∗ tbPt0 c tbM0_0 xt0 ∗ tbPt0 c tbM0_1 xt1 ∗ tbPt0 c tbM0_2 xt2 ∗ tbPt0 c tbM0_3 xt3
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare x8 ∗ owns (c : Thread nD τ) arg14 fullShare x9 ∗ owns (c : Thread nD τ) arg15 fullShare x10 ∗ owns (c : Thread nD τ) arg16 fullShare x11 ∗ owns (c : Thread nD τ) arg17 fullShare x12 ∗ owns (c : Thread nD τ) arg18 fullShare x13 ∗ (∃ f, arg19.view.loc (c : Thread nD τ) ↦[arg19.view.set]{fullShare} arg19.view.writes (Elt F) f L14) ∗ owns (c : Thread nD τ) arg20 fullShare xi15 ∗ owns (c : Thread nD τ) arg21 fullShare xs0 ∗ (∃ f, arg22.view.loc (c : Thread nD τ) ↦[arg22.view.set]{fullShare} arg22.view.writes (Elt F) f LT1) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_slora_int4 i tbM0_0 htbM0_0 tbM0_1 htbM0_1 tbM0_2 htbM0_2 tbM0_3 htbM0_3 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, [], [], ?_, fun xi15 E K => ?run⟩
  case run =>
    simp only [cc0_slora_int4_eq_skeleton]; unfold cc0_slora_int4_skel
    simp only [k0_part118_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part119_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, ⟨%fs0, %hfs0, HS0⟩, ⟨%ds1, %fs1, -, HS1⟩, HT0, HT1, HT2, HT3, Hk⟩
    obtain rfl := harg5.eq_unread hf0; obtain rfl := harg6.eq_unread hf1; obtain rfl := harg7.eq_unread hf2; obtain rfl := harg8.eq_unread hf3; obtain rfl := harg9.eq_unread hf4; obtain rfl := harg10.eq_unread hf5; obtain rfl := harg11.eq_unread hf6; obtain rfl := harg12.eq_unread hf7; obtain rfl := harg13.eq_unread hf8; obtain rfl := harg14.eq_unread hf9; obtain rfl := harg15.eq_unread hf10; obtain rfl := harg16.eq_unread hf11; obtain rfl := harg17.eq_unread hf12; obtain rfl := harg18.eq_unread hf13; obtain rfl := harg20.eq_unread hf15; obtain rfl := harg21.eq_unread hfs0
    sl_exec (disch := first | sl_exact hc0)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    isplitl [H7]
    · iexists _; isplitr; · ipureintro; exact harg12.read_unread _
      iexact H7
    isplitl [H8]
    · iexists _; isplitr; · ipureintro; exact harg13.read_unread _
      iexact H8
    isplitl [H9]
    · iexists _; isplitr; · ipureintro; exact harg14.read_unread _
      iexact H9
    isplitl [H10]
    · iexists _; isplitr; · ipureintro; exact harg15.read_unread _
      iexact H10
    isplitl [H11]
    · iexists _; isplitr; · ipureintro; exact harg16.read_unread _
      iexact H11
    isplitl [H12]
    · iexists _; isplitr; · ipureintro; exact harg17.read_unread _
      iexact H12
    isplitl [H13]
    · iexists _; isplitr; · ipureintro; exact harg18.read_unread _
      iexact H13
    isplitl [H14]; · iexists _; iexact H14
    isplitl [H15]
    · iexists _; isplitr; · ipureintro; exact harg20.read_unread _
      iexact H15
    isplitl [HS0]
    · iexists _; isplitr; · ipureintro; exact harg21.read_unread _
      iexact HS0
    isplitl [HS1]; · iexists _; iexact HS1
    isplitl [HT0]; · iexact HT0
    isplitl [HT1]; · iexact HT1
    isplitl [HT2]; · iexact HT2
    iexact HT3

end Cert.KernelIdeal.Body

end
-- ==== Proof.IdealFrame.lean ====
/- The kernel's run at the reals: the proof data of the pipeline, the body's obligation, the whole run, and the frame claim. -/
module

public import proofs.«01_k».proof.Proof.IdealRunB
public import Idealize.ShloMosaic.Lib.Claim
public import Idealize.ShloMosaic.Lib.Pipeline.TableIdle

@[expose] public section

-- membership in a rectangle of production extents (`View.cover_of_tiled`): the elaborator's structural look
-- recurses once per coordinate of the long axes
set_option maxRecDepth 16384

noncomputable section

namespace Cert.KernelIdeal.Body

open Idealize.ShloMosaic Idealize.ShloMosaic.TcCoe Idealize.ShloMosaic.Tactic
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 14 tile its block (8 stores of `S256x128`, checked by `Piece.tiledL`), so they cover it. -/
theorem cover0_A_14 (c : Dev nD) (i : grid0.Coords) (arg5 : Memref sig .tc .smem S9 .f32) (harg5 : arg5.IsWhole) (arg6 : Memref sig .tc .vmem S256x2560 .bf16) (harg6 : arg6.IsWhole) (arg7 : Memref sig .tc .vmem S2560x128 .i32) (harg7 : arg7.IsWhole) (arg8 : Memref sig .tc .vmem S20x1024 .bf16) (harg8 : arg8.IsWhole) (arg9 : Memref sig .tc .vmem S48x2560 .bf16) (harg9 : arg9.IsWhole) (arg10 : Memref sig .tc .vmem S48x2560 .bf16) (harg10 : arg10.IsWhole) (arg11 : Memref sig .tc .vmem S48x2560 .bf16) (harg11 : arg11.IsWhole) (arg12 : Memref sig .tc .vmem S48x2560 .bf16) (harg12 : arg12.IsWhole) (arg13 : Memref sig .tc .vmem S48x2560 .bf16) (harg13 : arg13.IsWhole) (arg14 : Memref sig .tc .vmem S48x1024 .bf16) (harg14 : arg14.IsWhole) (arg15 : Memref sig .tc .vmem S48x1024 .bf16) (harg15 : arg15.IsWhole) (arg16 : Memref sig .tc .vmem S48x1024 .bf16) (harg16 : arg16.IsWhole) (arg17 : Memref sig .tc .vmem S48x1024 .bf16) (harg17 : arg17.IsWhole) (arg18 : Memref sig .tc .vmem S48x1024 .bf16) (harg18 : arg18.IsWhole) (arg19 : Memref sig .tc .vmem S256x1024 .bf16) (harg19 : arg19.IsWhole) (arg20 : Memref sig .tc .vmem S256x32 .bf16) (harg20 : arg20.IsWhole) (arg21 : Memref sig .tc .vmem S256x240 .bf16) (harg21 : arg21.IsWhole) (arg22 : Memref sig .tc .vmem S8x240x128 .bf16) (harg22 : arg22.IsWhole) (hc0 : cond0_0 i)
    (x0 : Vec F S9 .f32) (x1 : Vec F S256x2560 .bf16) (x2 : Vec F S2560x128 .i32) (x3 : Vec F S20x1024 .bf16) (x4 : Vec F S48x2560 .bf16) (x5 : Vec F S48x2560 .bf16) (x6 : Vec F S48x2560 .bf16) (x7 : Vec F S48x2560 .bf16) (x8 : Vec F S48x2560 .bf16) (x9 : Vec F S48x1024 .bf16) (x10 : Vec F S48x1024 .bf16) (x11 : Vec F S48x1024 .bf16) (x12 : Vec F S48x1024 .bf16) (x13 : Vec F S48x1024 .bf16) (xt0 : TbBuf0 (F := F) c tbM0_0) (xt1 : TbBuf0 (F := F) c tbM0_1) (xt2 : TbBuf0 (F := F) c tbM0_2) (xt3 : TbBuf0 (F := F) c tbM0_3) (k0_hw1 : k0_chk1 i (tbM0_3.view.readAt (Elt F) (Rect.unit (s := S5) ![0] S1.size inb_S5_S1_0).toLoadRect xt3 (Shape.Idx.first (numel1_S1.symm ▸ Nat.one_pos)))) (k0_hw2 : k0_chk2 i (tbM0_3.view.readAt (Elt F) (Rect.unit (s := S5) ![1] S1.size inb_S5_S1_1).toLoadRect xt3 (Shape.Idx.first (numel1_S1.symm ▸ Nat.one_pos)))) (k0_hw3 : k0_chk3 i (tbM0_3.view.readAt (Elt F) (Rect.unit (s := S5) ![2] S1.size inb_S5_S1_2).toLoadRect xt3 (Shape.Idx.first (numel1_S1.symm ▸ Nat.one_pos)))) (k0_hw4 : k0_chk4 i (tbM0_3.view.readAt (Elt F) (Rect.unit (s := S5) ![3] S1.size inb_S5_S1_3).toLoadRect xt3 (Shape.Idx.first (numel1_S1.symm ▸ Nat.one_pos)))) (k0_hw5 : k0_chk5 i (tbM0_3.view.readAt (Elt F) (Rect.unit (s := S5) ![4] S1.size inb_S5_S1_4).toLoadRect xt3 (Shape.Idx.first (numel1_S1.symm ▸ Nat.one_pos)))) (y : S256x1024.Idx) :
    ∃ pc ∈ (kernelRun0_A c i arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xt0 xt1 xt2 xt3 k0_hw1 k0_hw2 k0_hw3 k0_hw4 k0_hw5).1, y ∈ pc.1.set :=
  View.cover_of_tiledL (kernelRun0_A c i arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xt0 xt1 xt2 xt3 k0_hw1 k0_hw2 k0_hw3 k0_hw4 k0_hw5).1 S256x128.size (by sl_kernel_rfl) y

/-- What case A leaves in output 14's staging buffer: its pieces read back over junk. -/
def out0_A_14 (c : Dev nD) (i : grid0.Coords) (arg5 : Memref sig .tc .smem S9 .f32) (harg5 : arg5.IsWhole) (arg6 : Memref sig .tc .vmem S256x2560 .bf16) (harg6 : arg6.IsWhole) (arg7 : Memref sig .tc .vmem S2560x128 .i32) (harg7 : arg7.IsWhole) (arg8 : Memref sig .tc .vmem S20x1024 .bf16) (harg8 : arg8.IsWhole) (arg9 : Memref sig .tc .vmem S48x2560 .bf16) (harg9 : arg9.IsWhole) (arg10 : Memref sig .tc .vmem S48x2560 .bf16) (harg10 : arg10.IsWhole) (arg11 : Memref sig .tc .vmem S48x2560 .bf16) (harg11 : arg11.IsWhole) (arg12 : Memref sig .tc .vmem S48x2560 .bf16) (harg12 : arg12.IsWhole) (arg13 : Memref sig .tc .vmem S48x2560 .bf16) (harg13 : arg13.IsWhole) (arg14 : Memref sig .tc .vmem S48x1024 .bf16) (harg14 : arg14.IsWhole) (arg15 : Memref sig .tc .vmem S48x1024 .bf16) (harg15 : arg15.IsWhole) (arg16 : Memref sig .tc .vmem S48x1024 .bf16) (harg16 : arg16.IsWhole) (arg17 : Memref sig .tc .vmem S48x1024 .bf16) (harg17 : arg17.IsWhole) (arg18 : Memref sig .tc .vmem S48x1024 .bf16) (harg18 : arg18.IsWhole) (arg19 : Memref sig .tc .vmem S256x1024 .bf16) (harg19 : arg19.IsWhole) (arg20 : Memref sig .tc .vmem S256x32 .bf16) (harg20 : arg20.IsWhole) (arg21 : Memref sig .tc .vmem S256x240 .bf16) (harg21 : arg21.IsWhole) (arg22 : Memref sig .tc .vmem S8x240x128 .bf16) (harg22 : arg22.IsWhole) (hc0 : cond0_0 i)
    (x0 : Vec F S9 .f32) (x1 : Vec F S256x2560 .bf16) (x2 : Vec F S2560x128 .i32) (x3 : Vec F S20x1024 .bf16) (x4 : Vec F S48x2560 .bf16) (x5 : Vec F S48x2560 .bf16) (x6 : Vec F S48x2560 .bf16) (x7 : Vec F S48x2560 .bf16) (x8 : Vec F S48x2560 .bf16) (x9 : Vec F S48x1024 .bf16) (x10 : Vec F S48x1024 .bf16) (x11 : Vec F S48x1024 .bf16) (x12 : Vec F S48x1024 .bf16) (x13 : Vec F S48x1024 .bf16) (xt0 : TbBuf0 (F := F) c tbM0_0) (xt1 : TbBuf0 (F := F) c tbM0_1) (xt2 : TbBuf0 (F := F) c tbM0_2) (xt3 : TbBuf0 (F := F) c tbM0_3) (k0_hw1 : k0_chk1 i (tbM0_3.view.readAt (Elt F) (Rect.unit (s := S5) ![0] S1.size inb_S5_S1_0).toLoadRect xt3 (Shape.Idx.first (numel1_S1.symm ▸ Nat.one_pos)))) (k0_hw2 : k0_chk2 i (tbM0_3.view.readAt (Elt F) (Rect.unit (s := S5) ![1] S1.size inb_S5_S1_1).toLoadRect xt3 (Shape.Idx.first (numel1_S1.symm ▸ Nat.one_pos)))) (k0_hw3 : k0_chk3 i (tbM0_3.view.readAt (Elt F) (Rect.unit (s := S5) ![2] S1.size inb_S5_S1_2).toLoadRect xt3 (Shape.Idx.first (numel1_S1.symm ▸ Nat.one_pos)))) (k0_hw4 : k0_chk4 i (tbM0_3.view.readAt (Elt F) (Rect.unit (s := S5) ![3] S1.size inb_S5_S1_3).toLoadRect xt3 (Shape.Idx.first (numel1_S1.symm ▸ Nat.one_pos)))) (k0_hw5 : k0_chk5 i (tbM0_3.view.readAt (Elt F) (Rect.unit (s := S5) ![4] S1.size inb_S5_S1_4).toLoadRect xt3 (Shape.Idx.first (numel1_S1.symm ▸ Nat.one_pos)))) : Vec F S256x1024 .bf16 :=
  VO0_14.read (Elt F) (VO0_14.writes (Elt F) VO0_14.junk (kernelRun0_A c i arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xt0 xt1 xt2 xt3 k0_hw1 k0_hw2 k0_hw3 k0_hw4 k0_hw5).1)

/-- Case A's pieces for output 15 tile its block (1 store of `S256x32`, checked by `Piece.tiledL`), so they cover it. -/
theorem cover0_A_15 (c : Dev nD) (i : grid0.Coords) (arg5 : Memref sig .tc .smem S9 .f32) (harg5 : arg5.IsWhole) (arg6 : Memref sig .tc .vmem S256x2560 .bf16) (harg6 : arg6.IsWhole) (arg7 : Memref sig .tc .vmem S2560x128 .i32) (harg7 : arg7.IsWhole) (arg8 : Memref sig .tc .vmem S20x1024 .bf16) (harg8 : arg8.IsWhole) (arg9 : Memref sig .tc .vmem S48x2560 .bf16) (harg9 : arg9.IsWhole) (arg10 : Memref sig .tc .vmem S48x2560 .bf16) (harg10 : arg10.IsWhole) (arg11 : Memref sig .tc .vmem S48x2560 .bf16) (harg11 : arg11.IsWhole) (arg12 : Memref sig .tc .vmem S48x2560 .bf16) (harg12 : arg12.IsWhole) (arg13 : Memref sig .tc .vmem S48x2560 .bf16) (harg13 : arg13.IsWhole) (arg14 : Memref sig .tc .vmem S48x1024 .bf16) (harg14 : arg14.IsWhole) (arg15 : Memref sig .tc .vmem S48x1024 .bf16) (harg15 : arg15.IsWhole) (arg16 : Memref sig .tc .vmem S48x1024 .bf16) (harg16 : arg16.IsWhole) (arg17 : Memref sig .tc .vmem S48x1024 .bf16) (harg17 : arg17.IsWhole) (arg18 : Memref sig .tc .vmem S48x1024 .bf16) (harg18 : arg18.IsWhole) (arg19 : Memref sig .tc .vmem S256x1024 .bf16) (harg19 : arg19.IsWhole) (arg20 : Memref sig .tc .vmem S256x32 .bf16) (harg20 : arg20.IsWhole) (arg21 : Memref sig .tc .vmem S256x240 .bf16) (harg21 : arg21.IsWhole) (arg22 : Memref sig .tc .vmem S8x240x128 .bf16) (harg22 : arg22.IsWhole) (hc0 : cond0_0 i)
    (x0 : Vec F S9 .f32) (x1 : Vec F S256x2560 .bf16) (x2 : Vec F S2560x128 .i32) (x3 : Vec F S20x1024 .bf16) (x4 : Vec F S48x2560 .bf16) (x5 : Vec F S48x2560 .bf16) (x6 : Vec F S48x2560 .bf16) (x7 : Vec F S48x2560 .bf16) (x8 : Vec F S48x2560 .bf16) (x9 : Vec F S48x1024 .bf16) (x10 : Vec F S48x1024 .bf16) (x11 : Vec F S48x1024 .bf16) (x12 : Vec F S48x1024 .bf16) (x13 : Vec F S48x1024 .bf16) (xt0 : TbBuf0 (F := F) c tbM0_0) (xt1 : TbBuf0 (F := F) c tbM0_1) (xt2 : TbBuf0 (F := F) c tbM0_2) (xt3 : TbBuf0 (F := F) c tbM0_3) (k0_hw1 : k0_chk1 i (tbM0_3.view.readAt (Elt F) (Rect.unit (s := S5) ![0] S1.size inb_S5_S1_0).toLoadRect xt3 (Shape.Idx.first (numel1_S1.symm ▸ Nat.one_pos)))) (k0_hw2 : k0_chk2 i (tbM0_3.view.readAt (Elt F) (Rect.unit (s := S5) ![1] S1.size inb_S5_S1_1).toLoadRect xt3 (Shape.Idx.first (numel1_S1.symm ▸ Nat.one_pos)))) (k0_hw3 : k0_chk3 i (tbM0_3.view.readAt (Elt F) (Rect.unit (s := S5) ![2] S1.size inb_S5_S1_2).toLoadRect xt3 (Shape.Idx.first (numel1_S1.symm ▸ Nat.one_pos)))) (k0_hw4 : k0_chk4 i (tbM0_3.view.readAt (Elt F) (Rect.unit (s := S5) ![3] S1.size inb_S5_S1_3).toLoadRect xt3 (Shape.Idx.first (numel1_S1.symm ▸ Nat.one_pos)))) (k0_hw5 : k0_chk5 i (tbM0_3.view.readAt (Elt F) (Rect.unit (s := S5) ![4] S1.size inb_S5_S1_4).toLoadRect xt3 (Shape.Idx.first (numel1_S1.symm ▸ Nat.one_pos)))) (y : S256x32.Idx) :
    ∃ pc ∈ (kernelRun0_A c i arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xt0 xt1 xt2 xt3 k0_hw1 k0_hw2 k0_hw3 k0_hw4 k0_hw5).2.1, y ∈ pc.1.set :=
  View.cover_of_tiledL (kernelRun0_A c i arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xt0 xt1 xt2 xt3 k0_hw1 k0_hw2 k0_hw3 k0_hw4 k0_hw5).2.1 S256x32.size (by sl_kernel_rfl) y

/-- What case A leaves in output 15's staging buffer: its pieces read back over junk. -/
def out0_A_15 (c : Dev nD) (i : grid0.Coords) (arg5 : Memref sig .tc .smem S9 .f32) (harg5 : arg5.IsWhole) (arg6 : Memref sig .tc .vmem S256x2560 .bf16) (harg6 : arg6.IsWhole) (arg7 : Memref sig .tc .vmem S2560x128 .i32) (harg7 : arg7.IsWhole) (arg8 : Memref sig .tc .vmem S20x1024 .bf16) (harg8 : arg8.IsWhole) (arg9 : Memref sig .tc .vmem S48x2560 .bf16) (harg9 : arg9.IsWhole) (arg10 : Memref sig .tc .vmem S48x2560 .bf16) (harg10 : arg10.IsWhole) (arg11 : Memref sig .tc .vmem S48x2560 .bf16) (harg11 : arg11.IsWhole) (arg12 : Memref sig .tc .vmem S48x2560 .bf16) (harg12 : arg12.IsWhole) (arg13 : Memref sig .tc .vmem S48x2560 .bf16) (harg13 : arg13.IsWhole) (arg14 : Memref sig .tc .vmem S48x1024 .bf16) (harg14 : arg14.IsWhole) (arg15 : Memref sig .tc .vmem S48x1024 .bf16) (harg15 : arg15.IsWhole) (arg16 : Memref sig .tc .vmem S48x1024 .bf16) (harg16 : arg16.IsWhole) (arg17 : Memref sig .tc .vmem S48x1024 .bf16) (harg17 : arg17.IsWhole) (arg18 : Memref sig .tc .vmem S48x1024 .bf16) (harg18 : arg18.IsWhole) (arg19 : Memref sig .tc .vmem S256x1024 .bf16) (harg19 : arg19.IsWhole) (arg20 : Memref sig .tc .vmem S256x32 .bf16) (harg20 : arg20.IsWhole) (arg21 : Memref sig .tc .vmem S256x240 .bf16) (harg21 : arg21.IsWhole) (arg22 : Memref sig .tc .vmem S8x240x128 .bf16) (harg22 : arg22.IsWhole) (hc0 : cond0_0 i)
    (x0 : Vec F S9 .f32) (x1 : Vec F S256x2560 .bf16) (x2 : Vec F S2560x128 .i32) (x3 : Vec F S20x1024 .bf16) (x4 : Vec F S48x2560 .bf16) (x5 : Vec F S48x2560 .bf16) (x6 : Vec F S48x2560 .bf16) (x7 : Vec F S48x2560 .bf16) (x8 : Vec F S48x2560 .bf16) (x9 : Vec F S48x1024 .bf16) (x10 : Vec F S48x1024 .bf16) (x11 : Vec F S48x1024 .bf16) (x12 : Vec F S48x1024 .bf16) (x13 : Vec F S48x1024 .bf16) (xt0 : TbBuf0 (F := F) c tbM0_0) (xt1 : TbBuf0 (F := F) c tbM0_1) (xt2 : TbBuf0 (F := F) c tbM0_2) (xt3 : TbBuf0 (F := F) c tbM0_3) (k0_hw1 : k0_chk1 i (tbM0_3.view.readAt (Elt F) (Rect.unit (s := S5) ![0] S1.size inb_S5_S1_0).toLoadRect xt3 (Shape.Idx.first (numel1_S1.symm ▸ Nat.one_pos)))) (k0_hw2 : k0_chk2 i (tbM0_3.view.readAt (Elt F) (Rect.unit (s := S5) ![1] S1.size inb_S5_S1_1).toLoadRect xt3 (Shape.Idx.first (numel1_S1.symm ▸ Nat.one_pos)))) (k0_hw3 : k0_chk3 i (tbM0_3.view.readAt (Elt F) (Rect.unit (s := S5) ![2] S1.size inb_S5_S1_2).toLoadRect xt3 (Shape.Idx.first (numel1_S1.symm ▸ Nat.one_pos)))) (k0_hw4 : k0_chk4 i (tbM0_3.view.readAt (Elt F) (Rect.unit (s := S5) ![3] S1.size inb_S5_S1_3).toLoadRect xt3 (Shape.Idx.first (numel1_S1.symm ▸ Nat.one_pos)))) (k0_hw5 : k0_chk5 i (tbM0_3.view.readAt (Elt F) (Rect.unit (s := S5) ![4] S1.size inb_S5_S1_4).toLoadRect xt3 (Shape.Idx.first (numel1_S1.symm ▸ Nat.one_pos)))) : Vec F S256x32 .bf16 :=
  VO0_15.read (Elt F) (VO0_15.writes (Elt F) VO0_15.junk (kernelRun0_A c i arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xt0 xt1 xt2 xt3 k0_hw1 k0_hw2 k0_hw3 k0_hw4 k0_hw5).2.1)

/-- Case A's pieces for scratch `arg21`, which the kernel carries between points, cover it: 1 piece of `S256x240` tiling it (`Piece.tiledL`). -/
theorem scover0_A_0 (c : Dev nD) (i : grid0.Coords) (arg5 : Memref sig .tc .smem S9 .f32) (harg5 : arg5.IsWhole) (arg6 : Memref sig .tc .vmem S256x2560 .bf16) (harg6 : arg6.IsWhole) (arg7 : Memref sig .tc .vmem S2560x128 .i32) (harg7 : arg7.IsWhole) (arg8 : Memref sig .tc .vmem S20x1024 .bf16) (harg8 : arg8.IsWhole) (arg9 : Memref sig .tc .vmem S48x2560 .bf16) (harg9 : arg9.IsWhole) (arg10 : Memref sig .tc .vmem S48x2560 .bf16) (harg10 : arg10.IsWhole) (arg11 : Memref sig .tc .vmem S48x2560 .bf16) (harg11 : arg11.IsWhole) (arg12 : Memref sig .tc .vmem S48x2560 .bf16) (harg12 : arg12.IsWhole) (arg13 : Memref sig .tc .vmem S48x2560 .bf16) (harg13 : arg13.IsWhole) (arg14 : Memref sig .tc .vmem S48x1024 .bf16) (harg14 : arg14.IsWhole) (arg15 : Memref sig .tc .vmem S48x1024 .bf16) (harg15 : arg15.IsWhole) (arg16 : Memref sig .tc .vmem S48x1024 .bf16) (harg16 : arg16.IsWhole) (arg17 : Memref sig .tc .vmem S48x1024 .bf16) (harg17 : arg17.IsWhole) (arg18 : Memref sig .tc .vmem S48x1024 .bf16) (harg18 : arg18.IsWhole) (arg19 : Memref sig .tc .vmem S256x1024 .bf16) (harg19 : arg19.IsWhole) (arg20 : Memref sig .tc .vmem S256x32 .bf16) (harg20 : arg20.IsWhole) (arg21 : Memref sig .tc .vmem S256x240 .bf16) (harg21 : arg21.IsWhole) (arg22 : Memref sig .tc .vmem S8x240x128 .bf16) (harg22 : arg22.IsWhole) (hc0 : cond0_0 i)
    (x0 : Vec F S9 .f32) (x1 : Vec F S256x2560 .bf16) (x2 : Vec F S2560x128 .i32) (x3 : Vec F S20x1024 .bf16) (x4 : Vec F S48x2560 .bf16) (x5 : Vec F S48x2560 .bf16) (x6 : Vec F S48x2560 .bf16) (x7 : Vec F S48x2560 .bf16) (x8 : Vec F S48x2560 .bf16) (x9 : Vec F S48x1024 .bf16) (x10 : Vec F S48x1024 .bf16) (x11 : Vec F S48x1024 .bf16) (x12 : Vec F S48x1024 .bf16) (x13 : Vec F S48x1024 .bf16) (xt0 : TbBuf0 (F := F) c tbM0_0) (xt1 : TbBuf0 (F := F) c tbM0_1) (xt2 : TbBuf0 (F := F) c tbM0_2) (xt3 : TbBuf0 (F := F) c tbM0_3) (k0_hw1 : k0_chk1 i (tbM0_3.view.readAt (Elt F) (Rect.unit (s := S5) ![0] S1.size inb_S5_S1_0).toLoadRect xt3 (Shape.Idx.first (numel1_S1.symm ▸ Nat.one_pos)))) (k0_hw2 : k0_chk2 i (tbM0_3.view.readAt (Elt F) (Rect.unit (s := S5) ![1] S1.size inb_S5_S1_1).toLoadRect xt3 (Shape.Idx.first (numel1_S1.symm ▸ Nat.one_pos)))) (k0_hw3 : k0_chk3 i (tbM0_3.view.readAt (Elt F) (Rect.unit (s := S5) ![2] S1.size inb_S5_S1_2).toLoadRect xt3 (Shape.Idx.first (numel1_S1.symm ▸ Nat.one_pos)))) (k0_hw4 : k0_chk4 i (tbM0_3.view.readAt (Elt F) (Rect.unit (s := S5) ![3] S1.size inb_S5_S1_3).toLoadRect xt3 (Shape.Idx.first (numel1_S1.symm ▸ Nat.one_pos)))) (k0_hw5 : k0_chk5 i (tbM0_3.view.readAt (Elt F) (Rect.unit (s := S5) ![4] S1.size inb_S5_S1_4).toLoadRect xt3 (Shape.Idx.first (numel1_S1.symm ▸ Nat.one_pos)))) (y : S256x240.Idx) :
    ∃ pc ∈ (kernelRun0_A c i arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xt0 xt1 xt2 xt3 k0_hw1 k0_hw2 k0_hw3 k0_hw4 k0_hw5).2.2.1, y ∈ pc.1.set :=
  View.cover_of_tiledL (kernelRun0_A c i arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xt0 xt1 xt2 xt3 k0_hw1 k0_hw2 k0_hw3 k0_hw4 k0_hw5).2.2.1 S256x240.size (by sl_kernel_rfl) y

/-- What case A leaves in scratch `arg21`: its pieces read back over junk. -/
def sout0_A_0 (c : Dev nD) (i : grid0.Coords) (arg5 : Memref sig .tc .smem S9 .f32) (harg5 : arg5.IsWhole) (arg6 : Memref sig .tc .vmem S256x2560 .bf16) (harg6 : arg6.IsWhole) (arg7 : Memref sig .tc .vmem S2560x128 .i32) (harg7 : arg7.IsWhole) (arg8 : Memref sig .tc .vmem S20x1024 .bf16) (harg8 : arg8.IsWhole) (arg9 : Memref sig .tc .vmem S48x2560 .bf16) (harg9 : arg9.IsWhole) (arg10 : Memref sig .tc .vmem S48x2560 .bf16) (harg10 : arg10.IsWhole) (arg11 : Memref sig .tc .vmem S48x2560 .bf16) (harg11 : arg11.IsWhole) (arg12 : Memref sig .tc .vmem S48x2560 .bf16) (harg12 : arg12.IsWhole) (arg13 : Memref sig .tc .vmem S48x2560 .bf16) (harg13 : arg13.IsWhole) (arg14 : Memref sig .tc .vmem S48x1024 .bf16) (harg14 : arg14.IsWhole) (arg15 : Memref sig .tc .vmem S48x1024 .bf16) (harg15 : arg15.IsWhole) (arg16 : Memref sig .tc .vmem S48x1024 .bf16) (harg16 : arg16.IsWhole) (arg17 : Memref sig .tc .vmem S48x1024 .bf16) (harg17 : arg17.IsWhole) (arg18 : Memref sig .tc .vmem S48x1024 .bf16) (harg18 : arg18.IsWhole) (arg19 : Memref sig .tc .vmem S256x1024 .bf16) (harg19 : arg19.IsWhole) (arg20 : Memref sig .tc .vmem S256x32 .bf16) (harg20 : arg20.IsWhole) (arg21 : Memref sig .tc .vmem S256x240 .bf16) (harg21 : arg21.IsWhole) (arg22 : Memref sig .tc .vmem S8x240x128 .bf16) (harg22 : arg22.IsWhole) (hc0 : cond0_0 i)
    (x0 : Vec F S9 .f32) (x1 : Vec F S256x2560 .bf16) (x2 : Vec F S2560x128 .i32) (x3 : Vec F S20x1024 .bf16) (x4 : Vec F S48x2560 .bf16) (x5 : Vec F S48x2560 .bf16) (x6 : Vec F S48x2560 .bf16) (x7 : Vec F S48x2560 .bf16) (x8 : Vec F S48x2560 .bf16) (x9 : Vec F S48x1024 .bf16) (x10 : Vec F S48x1024 .bf16) (x11 : Vec F S48x1024 .bf16) (x12 : Vec F S48x1024 .bf16) (x13 : Vec F S48x1024 .bf16) (xt0 : TbBuf0 (F := F) c tbM0_0) (xt1 : TbBuf0 (F := F) c tbM0_1) (xt2 : TbBuf0 (F := F) c tbM0_2) (xt3 : TbBuf0 (F := F) c tbM0_3) (k0_hw1 : k0_chk1 i (tbM0_3.view.readAt (Elt F) (Rect.unit (s := S5) ![0] S1.size inb_S5_S1_0).toLoadRect xt3 (Shape.Idx.first (numel1_S1.symm ▸ Nat.one_pos)))) (k0_hw2 : k0_chk2 i (tbM0_3.view.readAt (Elt F) (Rect.unit (s := S5) ![1] S1.size inb_S5_S1_1).toLoadRect xt3 (Shape.Idx.first (numel1_S1.symm ▸ Nat.one_pos)))) (k0_hw3 : k0_chk3 i (tbM0_3.view.readAt (Elt F) (Rect.unit (s := S5) ![2] S1.size inb_S5_S1_2).toLoadRect xt3 (Shape.Idx.first (numel1_S1.symm ▸ Nat.one_pos)))) (k0_hw4 : k0_chk4 i (tbM0_3.view.readAt (Elt F) (Rect.unit (s := S5) ![3] S1.size inb_S5_S1_3).toLoadRect xt3 (Shape.Idx.first (numel1_S1.symm ▸ Nat.one_pos)))) (k0_hw5 : k0_chk5 i (tbM0_3.view.readAt (Elt F) (Rect.unit (s := S5) ![4] S1.size inb_S5_S1_4).toLoadRect xt3 (Shape.Idx.first (numel1_S1.symm ▸ Nat.one_pos)))) : Vec F S256x240 .bf16 :=
  VS0_0.read (Elt F) (VS0_0.writes (Elt F) VS0_0.junk (kernelRun0_A c i arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xt0 xt1 xt2 xt3 k0_hw1 k0_hw2 k0_hw3 k0_hw4 k0_hw5).2.2.1)

/-- Case B's pieces for output 14 tile its block (8 stores of `S256x128`, checked by `Piece.tiledL`), so they cover it. -/
theorem cover0_B_14 (c : Dev nD) (i : grid0.Coords) (arg5 : Memref sig .tc .smem S9 .f32) (harg5 : arg5.IsWhole) (arg6 : Memref sig .tc .vmem S256x2560 .bf16) (harg6 : arg6.IsWhole) (arg7 : Memref sig .tc .vmem S2560x128 .i32) (harg7 : arg7.IsWhole) (arg8 : Memref sig .tc .vmem S20x1024 .bf16) (harg8 : arg8.IsWhole) (arg9 : Memref sig .tc .vmem S48x2560 .bf16) (harg9 : arg9.IsWhole) (arg10 : Memref sig .tc .vmem S48x2560 .bf16) (harg10 : arg10.IsWhole) (arg11 : Memref sig .tc .vmem S48x2560 .bf16) (harg11 : arg11.IsWhole) (arg12 : Memref sig .tc .vmem S48x2560 .bf16) (harg12 : arg12.IsWhole) (arg13 : Memref sig .tc .vmem S48x2560 .bf16) (harg13 : arg13.IsWhole) (arg14 : Memref sig .tc .vmem S48x1024 .bf16) (harg14 : arg14.IsWhole) (arg15 : Memref sig .tc .vmem S48x1024 .bf16) (harg15 : arg15.IsWhole) (arg16 : Memref sig .tc .vmem S48x1024 .bf16) (harg16 : arg16.IsWhole) (arg17 : Memref sig .tc .vmem S48x1024 .bf16) (harg17 : arg17.IsWhole) (arg18 : Memref sig .tc .vmem S48x1024 .bf16) (harg18 : arg18.IsWhole) (arg19 : Memref sig .tc .vmem S256x1024 .bf16) (harg19 : arg19.IsWhole) (arg20 : Memref sig .tc .vmem S256x32 .bf16) (harg20 : arg20.IsWhole) (arg21 : Memref sig .tc .vmem S256x240 .bf16) (harg21 : arg21.IsWhole) (arg22 : Memref sig .tc .vmem S8x240x128 .bf16) (harg22 : arg22.IsWhole) (hc0 : ¬cond0_0 i)
    (x0 : Vec F S9 .f32) (x1 : Vec F S256x2560 .bf16) (x2 : Vec F S2560x128 .i32) (x3 : Vec F S20x1024 .bf16) (x4 : Vec F S48x2560 .bf16) (x5 : Vec F S48x2560 .bf16) (x6 : Vec F S48x2560 .bf16) (x7 : Vec F S48x2560 .bf16) (x8 : Vec F S48x2560 .bf16) (x9 : Vec F S48x1024 .bf16) (x10 : Vec F S48x1024 .bf16) (x11 : Vec F S48x1024 .bf16) (x12 : Vec F S48x1024 .bf16) (x13 : Vec F S48x1024 .bf16) (xt0 : TbBuf0 (F := F) c tbM0_0) (xt1 : TbBuf0 (F := F) c tbM0_1) (xt2 : TbBuf0 (F := F) c tbM0_2) (xt3 : TbBuf0 (F := F) c tbM0_3) (xs0 : Vec F S256x240 .bf16) (y : S256x1024.Idx) :
    ∃ pc ∈ (kernelRun0_B c i arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xt0 xt1 xt2 xt3 xs0).1, y ∈ pc.1.set :=
  View.cover_of_tiledL (kernelRun0_B c i arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xt0 xt1 xt2 xt3 xs0).1 S256x128.size (by sl_kernel_rfl) y

/-- What case B leaves in output 14's staging buffer: its pieces read back over junk. -/
def out0_B_14 (c : Dev nD) (i : grid0.Coords) (arg5 : Memref sig .tc .smem S9 .f32) (harg5 : arg5.IsWhole) (arg6 : Memref sig .tc .vmem S256x2560 .bf16) (harg6 : arg6.IsWhole) (arg7 : Memref sig .tc .vmem S2560x128 .i32) (harg7 : arg7.IsWhole) (arg8 : Memref sig .tc .vmem S20x1024 .bf16) (harg8 : arg8.IsWhole) (arg9 : Memref sig .tc .vmem S48x2560 .bf16) (harg9 : arg9.IsWhole) (arg10 : Memref sig .tc .vmem S48x2560 .bf16) (harg10 : arg10.IsWhole) (arg11 : Memref sig .tc .vmem S48x2560 .bf16) (harg11 : arg11.IsWhole) (arg12 : Memref sig .tc .vmem S48x2560 .bf16) (harg12 : arg12.IsWhole) (arg13 : Memref sig .tc .vmem S48x2560 .bf16) (harg13 : arg13.IsWhole) (arg14 : Memref sig .tc .vmem S48x1024 .bf16) (harg14 : arg14.IsWhole) (arg15 : Memref sig .tc .vmem S48x1024 .bf16) (harg15 : arg15.IsWhole) (arg16 : Memref sig .tc .vmem S48x1024 .bf16) (harg16 : arg16.IsWhole) (arg17 : Memref sig .tc .vmem S48x1024 .bf16) (harg17 : arg17.IsWhole) (arg18 : Memref sig .tc .vmem S48x1024 .bf16) (harg18 : arg18.IsWhole) (arg19 : Memref sig .tc .vmem S256x1024 .bf16) (harg19 : arg19.IsWhole) (arg20 : Memref sig .tc .vmem S256x32 .bf16) (harg20 : arg20.IsWhole) (arg21 : Memref sig .tc .vmem S256x240 .bf16) (harg21 : arg21.IsWhole) (arg22 : Memref sig .tc .vmem S8x240x128 .bf16) (harg22 : arg22.IsWhole) (hc0 : ¬cond0_0 i)
    (x0 : Vec F S9 .f32) (x1 : Vec F S256x2560 .bf16) (x2 : Vec F S2560x128 .i32) (x3 : Vec F S20x1024 .bf16) (x4 : Vec F S48x2560 .bf16) (x5 : Vec F S48x2560 .bf16) (x6 : Vec F S48x2560 .bf16) (x7 : Vec F S48x2560 .bf16) (x8 : Vec F S48x2560 .bf16) (x9 : Vec F S48x1024 .bf16) (x10 : Vec F S48x1024 .bf16) (x11 : Vec F S48x1024 .bf16) (x12 : Vec F S48x1024 .bf16) (x13 : Vec F S48x1024 .bf16) (xt0 : TbBuf0 (F := F) c tbM0_0) (xt1 : TbBuf0 (F := F) c tbM0_1) (xt2 : TbBuf0 (F := F) c tbM0_2) (xt3 : TbBuf0 (F := F) c tbM0_3) (xs0 : Vec F S256x240 .bf16) : Vec F S256x1024 .bf16 :=
  VO0_14.read (Elt F) (VO0_14.writes (Elt F) VO0_14.junk (kernelRun0_B c i arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xt0 xt1 xt2 xt3 xs0).1)

/-- Case B stores nothing into output 15: its buffer holds what the point before left. -/
def out0_B_15 (c : Dev nD) (i : grid0.Coords) (arg5 : Memref sig .tc .smem S9 .f32) (harg5 : arg5.IsWhole) (arg6 : Memref sig .tc .vmem S256x2560 .bf16) (harg6 : arg6.IsWhole) (arg7 : Memref sig .tc .vmem S2560x128 .i32) (harg7 : arg7.IsWhole) (arg8 : Memref sig .tc .vmem S20x1024 .bf16) (harg8 : arg8.IsWhole) (arg9 : Memref sig .tc .vmem S48x2560 .bf16) (harg9 : arg9.IsWhole) (arg10 : Memref sig .tc .vmem S48x2560 .bf16) (harg10 : arg10.IsWhole) (arg11 : Memref sig .tc .vmem S48x2560 .bf16) (harg11 : arg11.IsWhole) (arg12 : Memref sig .tc .vmem S48x2560 .bf16) (harg12 : arg12.IsWhole) (arg13 : Memref sig .tc .vmem S48x2560 .bf16) (harg13 : arg13.IsWhole) (arg14 : Memref sig .tc .vmem S48x1024 .bf16) (harg14 : arg14.IsWhole) (arg15 : Memref sig .tc .vmem S48x1024 .bf16) (harg15 : arg15.IsWhole) (arg16 : Memref sig .tc .vmem S48x1024 .bf16) (harg16 : arg16.IsWhole) (arg17 : Memref sig .tc .vmem S48x1024 .bf16) (harg17 : arg17.IsWhole) (arg18 : Memref sig .tc .vmem S48x1024 .bf16) (harg18 : arg18.IsWhole) (arg19 : Memref sig .tc .vmem S256x1024 .bf16) (harg19 : arg19.IsWhole) (arg20 : Memref sig .tc .vmem S256x32 .bf16) (harg20 : arg20.IsWhole) (arg21 : Memref sig .tc .vmem S256x240 .bf16) (harg21 : arg21.IsWhole) (arg22 : Memref sig .tc .vmem S8x240x128 .bf16) (harg22 : arg22.IsWhole) (hc0 : ¬cond0_0 i)
    (x0 : Vec F S9 .f32) (x1 : Vec F S256x2560 .bf16) (x2 : Vec F S2560x128 .i32) (x3 : Vec F S20x1024 .bf16) (x4 : Vec F S48x2560 .bf16) (x5 : Vec F S48x2560 .bf16) (x6 : Vec F S48x2560 .bf16) (x7 : Vec F S48x2560 .bf16) (x8 : Vec F S48x2560 .bf16) (x9 : Vec F S48x1024 .bf16) (x10 : Vec F S48x1024 .bf16) (x11 : Vec F S48x1024 .bf16) (x12 : Vec F S48x1024 .bf16) (x13 : Vec F S48x1024 .bf16) (xt0 : TbBuf0 (F := F) c tbM0_0) (xt1 : TbBuf0 (F := F) c tbM0_1) (xt2 : TbBuf0 (F := F) c tbM0_2) (xt3 : TbBuf0 (F := F) c tbM0_3) (xs0 : Vec F S256x240 .bf16) (xo15 : Vec F S256x32 .bf16) : Vec F S256x32 .bf16 := xo15

/-- Case B stores nothing into scratch `arg21`: it holds what the point before left. -/
def sout0_B_0 (c : Dev nD) (i : grid0.Coords) (arg5 : Memref sig .tc .smem S9 .f32) (harg5 : arg5.IsWhole) (arg6 : Memref sig .tc .vmem S256x2560 .bf16) (harg6 : arg6.IsWhole) (arg7 : Memref sig .tc .vmem S2560x128 .i32) (harg7 : arg7.IsWhole) (arg8 : Memref sig .tc .vmem S20x1024 .bf16) (harg8 : arg8.IsWhole) (arg9 : Memref sig .tc .vmem S48x2560 .bf16) (harg9 : arg9.IsWhole) (arg10 : Memref sig .tc .vmem S48x2560 .bf16) (harg10 : arg10.IsWhole) (arg11 : Memref sig .tc .vmem S48x2560 .bf16) (harg11 : arg11.IsWhole) (arg12 : Memref sig .tc .vmem S48x2560 .bf16) (harg12 : arg12.IsWhole) (arg13 : Memref sig .tc .vmem S48x2560 .bf16) (harg13 : arg13.IsWhole) (arg14 : Memref sig .tc .vmem S48x1024 .bf16) (harg14 : arg14.IsWhole) (arg15 : Memref sig .tc .vmem S48x1024 .bf16) (harg15 : arg15.IsWhole) (arg16 : Memref sig .tc .vmem S48x1024 .bf16) (harg16 : arg16.IsWhole) (arg17 : Memref sig .tc .vmem S48x1024 .bf16) (harg17 : arg17.IsWhole) (arg18 : Memref sig .tc .vmem S48x1024 .bf16) (harg18 : arg18.IsWhole) (arg19 : Memref sig .tc .vmem S256x1024 .bf16) (harg19 : arg19.IsWhole) (arg20 : Memref sig .tc .vmem S256x32 .bf16) (harg20 : arg20.IsWhole) (arg21 : Memref sig .tc .vmem S256x240 .bf16) (harg21 : arg21.IsWhole) (arg22 : Memref sig .tc .vmem S8x240x128 .bf16) (harg22 : arg22.IsWhole) (hc0 : ¬cond0_0 i)
    (x0 : Vec F S9 .f32) (x1 : Vec F S256x2560 .bf16) (x2 : Vec F S2560x128 .i32) (x3 : Vec F S20x1024 .bf16) (x4 : Vec F S48x2560 .bf16) (x5 : Vec F S48x2560 .bf16) (x6 : Vec F S48x2560 .bf16) (x7 : Vec F S48x2560 .bf16) (x8 : Vec F S48x2560 .bf16) (x9 : Vec F S48x1024 .bf16) (x10 : Vec F S48x1024 .bf16) (x11 : Vec F S48x1024 .bf16) (x12 : Vec F S48x1024 .bf16) (x13 : Vec F S48x1024 .bf16) (xt0 : TbBuf0 (F := F) c tbM0_0) (xt1 : TbBuf0 (F := F) c tbM0_1) (xt2 : TbBuf0 (F := F) c tbM0_2) (xt3 : TbBuf0 (F := F) c tbM0_3) (xs0 : Vec F S256x240 .bf16) : Vec F S256x240 .bf16 := xs0

/-! ## What the outputs hold after each point -/

/-- What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (hO : Ok m) (hH : Hyps m hO) (c : Dev nD) : (n : ℕ) → n < (cfgM m hO).N → Vec F S256x1024 .bf16 × Vec F S256x32 .bf16 × Vec F S256x240 .bf16
  | 0, hn => (out0_A_14 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) (ms0_9 m hO ⟨0, hn⟩) (hs0_9 m hO ⟨0, hn⟩) (ms0_10 m hO ⟨0, hn⟩) (hs0_10 m hO ⟨0, hn⟩) (ms0_11 m hO ⟨0, hn⟩) (hs0_11 m hO ⟨0, hn⟩) (ms0_12 m hO ⟨0, hn⟩) (hs0_12 m hO ⟨0, hn⟩) (ms0_13 m hO ⟨0, hn⟩) (hs0_13 m hO ⟨0, hn⟩) (ms0_14 m hO ⟨0, hn⟩) (hs0_14 m hO ⟨0, hn⟩) (ms0_15 m hO ⟨0, hn⟩) (hs0_15 m hO ⟨0, hn⟩) scM0_0 (Memref.isWhole_whole _) scM0_1 (Memref.isWhole_whole _) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (iblk m hO c 7 ⟨0, hn⟩) (iblk m hO c 8 ⟨0, hn⟩) (iblk m hO c 9 ⟨0, hn⟩) (iblk m hO c 10 ⟨0, hn⟩) (iblk m hO c 11 ⟨0, hn⟩) (iblk m hO c 12 ⟨0, hn⟩) (iblk m hO c 13 ⟨0, hn⟩) (tbl m 0) (tbl m 1) (tbl m 2) (tbl m 3) ((Hyps.c0 hH c ⟨0, hn⟩) ((hcond0_0 ⟨0, hn⟩).mpr (Nat.zero_mod _))) ((Hyps.c1 hH c ⟨0, hn⟩) ((hcond0_0 ⟨0, hn⟩).mpr (Nat.zero_mod _))) ((Hyps.c2 hH c ⟨0, hn⟩) ((hcond0_0 ⟨0, hn⟩).mpr (Nat.zero_mod _))) ((Hyps.c3 hH c ⟨0, hn⟩) ((hcond0_0 ⟨0, hn⟩).mpr (Nat.zero_mod _))) ((Hyps.c4 hH c ⟨0, hn⟩) ((hcond0_0 ⟨0, hn⟩).mpr (Nat.zero_mod _))), out0_A_15 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) (ms0_9 m hO ⟨0, hn⟩) (hs0_9 m hO ⟨0, hn⟩) (ms0_10 m hO ⟨0, hn⟩) (hs0_10 m hO ⟨0, hn⟩) (ms0_11 m hO ⟨0, hn⟩) (hs0_11 m hO ⟨0, hn⟩) (ms0_12 m hO ⟨0, hn⟩) (hs0_12 m hO ⟨0, hn⟩) (ms0_13 m hO ⟨0, hn⟩) (hs0_13 m hO ⟨0, hn⟩) (ms0_14 m hO ⟨0, hn⟩) (hs0_14 m hO ⟨0, hn⟩) (ms0_15 m hO ⟨0, hn⟩) (hs0_15 m hO ⟨0, hn⟩) scM0_0 (Memref.isWhole_whole _) scM0_1 (Memref.isWhole_whole _) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (iblk m hO c 7 ⟨0, hn⟩) (iblk m hO c 8 ⟨0, hn⟩) (iblk m hO c 9 ⟨0, hn⟩) (iblk m hO c 10 ⟨0, hn⟩) (iblk m hO c 11 ⟨0, hn⟩) (iblk m hO c 12 ⟨0, hn⟩) (iblk m hO c 13 ⟨0, hn⟩) (tbl m 0) (tbl m 1) (tbl m 2) (tbl m 3) ((Hyps.c0 hH c ⟨0, hn⟩) ((hcond0_0 ⟨0, hn⟩).mpr (Nat.zero_mod _))) ((Hyps.c1 hH c ⟨0, hn⟩) ((hcond0_0 ⟨0, hn⟩).mpr (Nat.zero_mod _))) ((Hyps.c2 hH c ⟨0, hn⟩) ((hcond0_0 ⟨0, hn⟩).mpr (Nat.zero_mod _))) ((Hyps.c3 hH c ⟨0, hn⟩) ((hcond0_0 ⟨0, hn⟩).mpr (Nat.zero_mod _))) ((Hyps.c4 hH c ⟨0, hn⟩) ((hcond0_0 ⟨0, hn⟩).mpr (Nat.zero_mod _))), sout0_A_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) (ms0_9 m hO ⟨0, hn⟩) (hs0_9 m hO ⟨0, hn⟩) (ms0_10 m hO ⟨0, hn⟩) (hs0_10 m hO ⟨0, hn⟩) (ms0_11 m hO ⟨0, hn⟩) (hs0_11 m hO ⟨0, hn⟩) (ms0_12 m hO ⟨0, hn⟩) (hs0_12 m hO ⟨0, hn⟩) (ms0_13 m hO ⟨0, hn⟩) (hs0_13 m hO ⟨0, hn⟩) (ms0_14 m hO ⟨0, hn⟩) (hs0_14 m hO ⟨0, hn⟩) (ms0_15 m hO ⟨0, hn⟩) (hs0_15 m hO ⟨0, hn⟩) scM0_0 (Memref.isWhole_whole _) scM0_1 (Memref.isWhole_whole _) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (iblk m hO c 7 ⟨0, hn⟩) (iblk m hO c 8 ⟨0, hn⟩) (iblk m hO c 9 ⟨0, hn⟩) (iblk m hO c 10 ⟨0, hn⟩) (iblk m hO c 11 ⟨0, hn⟩) (iblk m hO c 12 ⟨0, hn⟩) (iblk m hO c 13 ⟨0, hn⟩) (tbl m 0) (tbl m 1) (tbl m 2) (tbl m 3) ((Hyps.c0 hH c ⟨0, hn⟩) ((hcond0_0 ⟨0, hn⟩).mpr (Nat.zero_mod _))) ((Hyps.c1 hH c ⟨0, hn⟩) ((hcond0_0 ⟨0, hn⟩).mpr (Nat.zero_mod _))) ((Hyps.c2 hH c ⟨0, hn⟩) ((hcond0_0 ⟨0, hn⟩).mpr (Nat.zero_mod _))) ((Hyps.c3 hH c ⟨0, hn⟩) ((hcond0_0 ⟨0, hn⟩).mpr (Nat.zero_mod _))) ((Hyps.c4 hH c ⟨0, hn⟩) ((hcond0_0 ⟨0, hn⟩).mpr (Nat.zero_mod _))))
  | n + 1, hn =>
    if h0 : (n + 1) % 10 = 0 then
      (out0_A_14 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (ms0_10 m hO ⟨n + 1, hn⟩) (hs0_10 m hO ⟨n + 1, hn⟩) (ms0_11 m hO ⟨n + 1, hn⟩) (hs0_11 m hO ⟨n + 1, hn⟩) (ms0_12 m hO ⟨n + 1, hn⟩) (hs0_12 m hO ⟨n + 1, hn⟩) (ms0_13 m hO ⟨n + 1, hn⟩) (hs0_13 m hO ⟨n + 1, hn⟩) (ms0_14 m hO ⟨n + 1, hn⟩) (hs0_14 m hO ⟨n + 1, hn⟩) (ms0_15 m hO ⟨n + 1, hn⟩) (hs0_15 m hO ⟨n + 1, hn⟩) scM0_0 (Memref.isWhole_whole _) scM0_1 (Memref.isWhole_whole _) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (iblk m hO c 8 ⟨n + 1, hn⟩) (iblk m hO c 9 ⟨n + 1, hn⟩) (iblk m hO c 10 ⟨n + 1, hn⟩) (iblk m hO c 11 ⟨n + 1, hn⟩) (iblk m hO c 12 ⟨n + 1, hn⟩) (iblk m hO c 13 ⟨n + 1, hn⟩) (tbl m 0) (tbl m 1) (tbl m 2) (tbl m 3) ((Hyps.c0 hH c ⟨n + 1, hn⟩) ((hcond0_0 ⟨n + 1, hn⟩).mpr h0)) ((Hyps.c1 hH c ⟨n + 1, hn⟩) ((hcond0_0 ⟨n + 1, hn⟩).mpr h0)) ((Hyps.c2 hH c ⟨n + 1, hn⟩) ((hcond0_0 ⟨n + 1, hn⟩).mpr h0)) ((Hyps.c3 hH c ⟨n + 1, hn⟩) ((hcond0_0 ⟨n + 1, hn⟩).mpr h0)) ((Hyps.c4 hH c ⟨n + 1, hn⟩) ((hcond0_0 ⟨n + 1, hn⟩).mpr h0)), out0_A_15 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (ms0_10 m hO ⟨n + 1, hn⟩) (hs0_10 m hO ⟨n + 1, hn⟩) (ms0_11 m hO ⟨n + 1, hn⟩) (hs0_11 m hO ⟨n + 1, hn⟩) (ms0_12 m hO ⟨n + 1, hn⟩) (hs0_12 m hO ⟨n + 1, hn⟩) (ms0_13 m hO ⟨n + 1, hn⟩) (hs0_13 m hO ⟨n + 1, hn⟩) (ms0_14 m hO ⟨n + 1, hn⟩) (hs0_14 m hO ⟨n + 1, hn⟩) (ms0_15 m hO ⟨n + 1, hn⟩) (hs0_15 m hO ⟨n + 1, hn⟩) scM0_0 (Memref.isWhole_whole _) scM0_1 (Memref.isWhole_whole _) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (iblk m hO c 8 ⟨n + 1, hn⟩) (iblk m hO c 9 ⟨n + 1, hn⟩) (iblk m hO c 10 ⟨n + 1, hn⟩) (iblk m hO c 11 ⟨n + 1, hn⟩) (iblk m hO c 12 ⟨n + 1, hn⟩) (iblk m hO c 13 ⟨n + 1, hn⟩) (tbl m 0) (tbl m 1) (tbl m 2) (tbl m 3) ((Hyps.c0 hH c ⟨n + 1, hn⟩) ((hcond0_0 ⟨n + 1, hn⟩).mpr h0)) ((Hyps.c1 hH c ⟨n + 1, hn⟩) ((hcond0_0 ⟨n + 1, hn⟩).mpr h0)) ((Hyps.c2 hH c ⟨n + 1, hn⟩) ((hcond0_0 ⟨n + 1, hn⟩).mpr h0)) ((Hyps.c3 hH c ⟨n + 1, hn⟩) ((hcond0_0 ⟨n + 1, hn⟩).mpr h0)) ((Hyps.c4 hH c ⟨n + 1, hn⟩) ((hcond0_0 ⟨n + 1, hn⟩).mpr h0)), sout0_A_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (ms0_10 m hO ⟨n + 1, hn⟩) (hs0_10 m hO ⟨n + 1, hn⟩) (ms0_11 m hO ⟨n + 1, hn⟩) (hs0_11 m hO ⟨n + 1, hn⟩) (ms0_12 m hO ⟨n + 1, hn⟩) (hs0_12 m hO ⟨n + 1, hn⟩) (ms0_13 m hO ⟨n + 1, hn⟩) (hs0_13 m hO ⟨n + 1, hn⟩) (ms0_14 m hO ⟨n + 1, hn⟩) (hs0_14 m hO ⟨n + 1, hn⟩) (ms0_15 m hO ⟨n + 1, hn⟩) (hs0_15 m hO ⟨n + 1, hn⟩) scM0_0 (Memref.isWhole_whole _) scM0_1 (Memref.isWhole_whole _) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (iblk m hO c 8 ⟨n + 1, hn⟩) (iblk m hO c 9 ⟨n + 1, hn⟩) (iblk m hO c 10 ⟨n + 1, hn⟩) (iblk m hO c 11 ⟨n + 1, hn⟩) (iblk m hO c 12 ⟨n + 1, hn⟩) (iblk m hO c 13 ⟨n + 1, hn⟩) (tbl m 0) (tbl m 1) (tbl m 2) (tbl m 3) ((Hyps.c0 hH c ⟨n + 1, hn⟩) ((hcond0_0 ⟨n + 1, hn⟩).mpr h0)) ((Hyps.c1 hH c ⟨n + 1, hn⟩) ((hcond0_0 ⟨n + 1, hn⟩).mpr h0)) ((Hyps.c2 hH c ⟨n + 1, hn⟩) ((hcond0_0 ⟨n + 1, hn⟩).mpr h0)) ((Hyps.c3 hH c ⟨n + 1, hn⟩) ((hcond0_0 ⟨n + 1, hn⟩).mpr h0)) ((Hyps.c4 hH c ⟨n + 1, hn⟩) ((hcond0_0 ⟨n + 1, hn⟩).mpr h0)))
    else
      (out0_B_14 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (ms0_10 m hO ⟨n + 1, hn⟩) (hs0_10 m hO ⟨n + 1, hn⟩) (ms0_11 m hO ⟨n + 1, hn⟩) (hs0_11 m hO ⟨n + 1, hn⟩) (ms0_12 m hO ⟨n + 1, hn⟩) (hs0_12 m hO ⟨n + 1, hn⟩) (ms0_13 m hO ⟨n + 1, hn⟩) (hs0_13 m hO ⟨n + 1, hn⟩) (ms0_14 m hO ⟨n + 1, hn⟩) (hs0_14 m hO ⟨n + 1, hn⟩) (ms0_15 m hO ⟨n + 1, hn⟩) (hs0_15 m hO ⟨n + 1, hn⟩) scM0_0 (Memref.isWhole_whole _) scM0_1 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (iblk m hO c 8 ⟨n + 1, hn⟩) (iblk m hO c 9 ⟨n + 1, hn⟩) (iblk m hO c 10 ⟨n + 1, hn⟩) (iblk m hO c 11 ⟨n + 1, hn⟩) (iblk m hO c 12 ⟨n + 1, hn⟩) (iblk m hO c 13 ⟨n + 1, hn⟩) (tbl m 0) (tbl m 1) (tbl m 2) (tbl m 3) (outsAt0 hO hH c n (Nat.lt_of_succ_lt hn)).2.2, out0_B_15 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (ms0_10 m hO ⟨n + 1, hn⟩) (hs0_10 m hO ⟨n + 1, hn⟩) (ms0_11 m hO ⟨n + 1, hn⟩) (hs0_11 m hO ⟨n + 1, hn⟩) (ms0_12 m hO ⟨n + 1, hn⟩) (hs0_12 m hO ⟨n + 1, hn⟩) (ms0_13 m hO ⟨n + 1, hn⟩) (hs0_13 m hO ⟨n + 1, hn⟩) (ms0_14 m hO ⟨n + 1, hn⟩) (hs0_14 m hO ⟨n + 1, hn⟩) (ms0_15 m hO ⟨n + 1, hn⟩) (hs0_15 m hO ⟨n + 1, hn⟩) scM0_0 (Memref.isWhole_whole _) scM0_1 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (iblk m hO c 8 ⟨n + 1, hn⟩) (iblk m hO c 9 ⟨n + 1, hn⟩) (iblk m hO c 10 ⟨n + 1, hn⟩) (iblk m hO c 11 ⟨n + 1, hn⟩) (iblk m hO c 12 ⟨n + 1, hn⟩) (iblk m hO c 13 ⟨n + 1, hn⟩) (tbl m 0) (tbl m 1) (tbl m 2) (tbl m 3) (outsAt0 hO hH c n (Nat.lt_of_succ_lt hn)).2.2 (outsAt0 hO hH c n (Nat.lt_of_succ_lt hn)).2.1, sout0_B_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (ms0_10 m hO ⟨n + 1, hn⟩) (hs0_10 m hO ⟨n + 1, hn⟩) (ms0_11 m hO ⟨n + 1, hn⟩) (hs0_11 m hO ⟨n + 1, hn⟩) (ms0_12 m hO ⟨n + 1, hn⟩) (hs0_12 m hO ⟨n + 1, hn⟩) (ms0_13 m hO ⟨n + 1, hn⟩) (hs0_13 m hO ⟨n + 1, hn⟩) (ms0_14 m hO ⟨n + 1, hn⟩) (hs0_14 m hO ⟨n + 1, hn⟩) (ms0_15 m hO ⟨n + 1, hn⟩) (hs0_15 m hO ⟨n + 1, hn⟩) scM0_0 (Memref.isWhole_whole _) scM0_1 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (iblk m hO c 8 ⟨n + 1, hn⟩) (iblk m hO c 9 ⟨n + 1, hn⟩) (iblk m hO c 10 ⟨n + 1, hn⟩) (iblk m hO c 11 ⟨n + 1, hn⟩) (iblk m hO c 12 ⟨n + 1, hn⟩) (iblk m hO c 13 ⟨n + 1, hn⟩) (tbl m 0) (tbl m 1) (tbl m 2) (tbl m 3) (outsAt0 hO hH c n (Nat.lt_of_succ_lt hn)).2.2)

/-- `outsAt0` at a point of case A: that case's contents. -/
theorem outsAt0_A (hO : Ok m) (hH : Hyps m hO) (c : Dev nD) (t : Fin (cfgM m hO).N) (h0 : t.val % 10 = 0) :
    outsAt0 m hO hH c t.val t.isLt = (out0_A_14 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) scM0_0 (Memref.isWhole_whole _) scM0_1 (Memref.isWhole_whole _) ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (tbl m 0) (tbl m 1) (tbl m 2) (tbl m 3) ((Hyps.c0 hH c t) ((hcond0_0 t).mpr h0)) ((Hyps.c1 hH c t) ((hcond0_0 t).mpr h0)) ((Hyps.c2 hH c t) ((hcond0_0 t).mpr h0)) ((Hyps.c3 hH c t) ((hcond0_0 t).mpr h0)) ((Hyps.c4 hH c t) ((hcond0_0 t).mpr h0)), out0_A_15 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) scM0_0 (Memref.isWhole_whole _) scM0_1 (Memref.isWhole_whole _) ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (tbl m 0) (tbl m 1) (tbl m 2) (tbl m 3) ((Hyps.c0 hH c t) ((hcond0_0 t).mpr h0)) ((Hyps.c1 hH c t) ((hcond0_0 t).mpr h0)) ((Hyps.c2 hH c t) ((hcond0_0 t).mpr h0)) ((Hyps.c3 hH c t) ((hcond0_0 t).mpr h0)) ((Hyps.c4 hH c t) ((hcond0_0 t).mpr h0)), sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) scM0_0 (Memref.isWhole_whole _) scM0_1 (Memref.isWhole_whole _) ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (tbl m 0) (tbl m 1) (tbl m 2) (tbl m 3) ((Hyps.c0 hH c t) ((hcond0_0 t).mpr h0)) ((Hyps.c1 hH c t) ((hcond0_0 t).mpr h0)) ((Hyps.c2 hH c t) ((hcond0_0 t).mpr h0)) ((Hyps.c3 hH c t) ((hcond0_0 t).mpr h0)) ((Hyps.c4 hH c t) ((hcond0_0 t).mpr h0))) := by
  obtain ⟨n, hn⟩ := t
  cases n with
  | zero => exact rfl
  | succ n => exact (dif_pos h0).trans rfl

/-- `outsAt0` at a point of case B: that case's contents, over what the point before left. -/
theorem outsAt0_B (hO : Ok m) (hH : Hyps m hO) (c : Dev nD) (t : Fin (cfgM m hO).N) (h0 : ¬t.val % 10 = 0) :
    outsAt0 m hO hH c t.val t.isLt = (out0_B_14 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) scM0_0 (Memref.isWhole_whole _) scM0_1 (Memref.isWhole_whole _) (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (tbl m 0) (tbl m 1) (tbl m 2) (tbl m 3) (outsAt0 m hO hH c (t.val - 1) (Nat.lt_of_le_of_lt (Nat.sub_le _ _) t.isLt)).2.2, out0_B_15 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) scM0_0 (Memref.isWhole_whole _) scM0_1 (Memref.isWhole_whole _) (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (tbl m 0) (tbl m 1) (tbl m 2) (tbl m 3) (outsAt0 m hO hH c (t.val - 1) (Nat.lt_of_le_of_lt (Nat.sub_le _ _) t.isLt)).2.2 (outsAt0 m hO hH c (t.val - 1) (Nat.lt_of_le_of_lt (Nat.sub_le _ _) t.isLt)).2.1, sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) scM0_0 (Memref.isWhole_whole _) scM0_1 (Memref.isWhole_whole _) (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (tbl m 0) (tbl m 1) (tbl m 2) (tbl m 3) (outsAt0 m hO hH c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region invariant before position `n` with a scratch the kernel carries between points: before the first point the
    usual one (`ΦA`: every scratch at anything); afterwards the scoped rest with each carried scratch
    at what the point before left in it (`outsAt0`'s scratch components), the others at anything, and the generator register
    at some state. -/
def PhiS (hO : Ok m) (hH : Hyps m hO) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO hH c n hn).2.2) ∗ (∃ d, owns (c : Thread nD τ) scM0_1 fullShare d)) ∗ (∃ r, prngReg c r)) ∗ Pipeline.ΦT pre0 (tbl m) c)

theorem PhiS_zero (hO : Ok m) (hH : Hyps m hO) (c : Dev nD) (n : ℕ) (h : n ≤ (cfgM m hO).N) (hz : n = 0) : PhiS m hO hH c n h = iprop(Pipeline.ΦA spec0 c ∗ Pipeline.ΦT pre0 (tbl m) c) := by
  subst hz; rfl

/-- After point `n` (before point `n + 1`): the carried scratch at that point's contents. -/
theorem PhiS_succ (hO : Ok m) (hH : Hyps m hO) (c : Dev nD) (n : ℕ) (hn : n < (cfgM m hO).N) :
    PhiS m hO hH c (n + 1) hn = iprop(iprop(iprop(owns (c : Thread nD τ) scM0_0 fullShare ((outsAt0 m hO hH c n hn).2.2) ∗ (∃ d, owns (c : Thread nD τ) scM0_1 fullShare d)) ∗ (∃ r, prngReg c r)) ∗ Pipeline.ΦT pre0 (tbl m) c) := rfl

/-- Before a point that is not the first: the carried scratch at what the point before left. -/
theorem PhiS_pos (hO : Ok m) (hH : Hyps m hO) (c : Dev nD) (n : ℕ) (h : n ≤ (cfgM m hO).N) (hz : n ≠ 0) :
    PhiS m hO hH c n h = iprop(iprop(iprop(owns (c : Thread nD τ) scM0_0 fullShare ((outsAt0 m hO hH c (n - 1) (by omega)).2.2) ∗ (∃ d, owns (c : Thread nD τ) scM0_1 fullShare d)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the usual one
    (`ΦA`: the scoped rest and the generator register) and the tables' halves (`ΦT`); nothing owed;
    each input's share of its array
    (`Pipeline.shareOf`: the full share of an array several windows stage, dealt among them). -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, _⟩ => (outsAt0 m hO hH c t.val t.isLt).1
    | ⟨15, _⟩ => (outsAt0 m hO hH c t.val t.isLt).2.1
    | ⟨_ + 16, h⟩ => absurd h (Nat.not_lt.2 (Nat.le_add_left _ _))
  Φ t := PhiS m hO hH c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (hO : Ok m) (hH : Hyps m hO) (c : Dev nD) (w : Fin (cfgM m hO).W) : (dats m hO hH 0 c).A w = V m c (Pipeline.arrRef spec0 w) := by
  dsimp only [dats]

/-- The invariant at a point's start (the proof data at `t.castSucc`), restated at `t.val`. -/
theorem PhiS_castSucc (hO : Ok m) (hH : Hyps m hO) (c : Dev nD) (t : Fin (cfgM m hO).N) :
    (dats m hO hH 0 c).Φ t.castSucc = PhiS m hO hH c t.val (Nat.le_of_lt t.isLt) := by
  dsimp only [dats]; exact Pipeline.Dat.Φ_castSucc (PhiS m hO hH c) t

/-- What the body leaves, window by window (the proof data's `match` reduced by `dsimp`). -/
theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = iblk m hO c 3 t := by dsimp only [dats]; try rfl
theorem after0_4 (hO : Ok m) (hH : Hyps m hO) (c : Dev nD) (t : Fin (cfgM m hO).N) : (dats m hO hH 0 c).after 4 t = iblk m hO c 4 t := by dsimp only [dats]; try rfl
theorem after0_5 (hO : Ok m) (hH : Hyps m hO) (c : Dev nD) (t : Fin (cfgM m hO).N) : (dats m hO hH 0 c).after 5 t = iblk m hO c 5 t := by dsimp only [dats]; try rfl
theorem after0_6 (hO : Ok m) (hH : Hyps m hO) (c : Dev nD) (t : Fin (cfgM m hO).N) : (dats m hO hH 0 c).after 6 t = iblk m hO c 6 t := by dsimp only [dats]; try rfl
theorem after0_7 (hO : Ok m) (hH : Hyps m hO) (c : Dev nD) (t : Fin (cfgM m hO).N) : (dats m hO hH 0 c).after 7 t = iblk m hO c 7 t := by dsimp only [dats]; try rfl
theorem after0_8 (hO : Ok m) (hH : Hyps m hO) (c : Dev nD) (t : Fin (cfgM m hO).N) : (dats m hO hH 0 c).after 8 t = iblk m hO c 8 t := by dsimp only [dats]; try rfl
theorem after0_9 (hO : Ok m) (hH : Hyps m hO) (c : Dev nD) (t : Fin (cfgM m hO).N) : (dats m hO hH 0 c).after 9 t = iblk m hO c 9 t := by dsimp only [dats]; try rfl
theorem after0_10 (hO : Ok m) (hH : Hyps m hO) (c : Dev nD) (t : Fin (cfgM m hO).N) : (dats m hO hH 0 c).after 10 t = iblk m hO c 10 t := by dsimp only [dats]; try rfl
theorem after0_11 (hO : Ok m) (hH : Hyps m hO) (c : Dev nD) (t : Fin (cfgM m hO).N) : (dats m hO hH 0 c).after 11 t = iblk m hO c 11 t := by dsimp only [dats]; try rfl
theorem after0_12 (hO : Ok m) (hH : Hyps m hO) (c : Dev nD) (t : Fin (cfgM m hO).N) : (dats m hO hH 0 c).after 12 t = iblk m hO c 12 t := by dsimp only [dats]; try rfl
theorem after0_13 (hO : Ok m) (hH : Hyps m hO) (c : Dev nD) (t : Fin (cfgM m hO).N) : (dats m hO hH 0 c).after 13 t = iblk m hO c 13 t := by dsimp only [dats]; try rfl
theorem after0_14 (hO : Ok m) (hH : Hyps m hO) (c : Dev nD) (t : Fin (cfgM m hO).N) : (dats m hO hH 0 c).after 14 t = (outsAt0 m hO hH c t.val t.isLt).1 := by dsimp only [dats]; try rfl
theorem after0_15 (hO : Ok m) (hH : Hyps m hO) (c : Dev nD) (t : Fin (cfgM m hO).N) : (dats m hO hH 0 c).after 15 t = (outsAt0 m hO hH c t.val t.isLt).2.1 := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d
theorem before0_5 (hO : Ok m) (hH : Hyps m hO) (c : Dev nD) (t : Fin (cfgM m hO).N) (d) : (dats m hO hH 0 c).before 5 t d = iblk m hO c 5 t :=
  before0_5_of m hO (dats m hO hH 0 c) (A_eq m hO hH c 5) (after0_5 m hO hH c) t d
theorem before0_6 (hO : Ok m) (hH : Hyps m hO) (c : Dev nD) (t : Fin (cfgM m hO).N) (d) : (dats m hO hH 0 c).before 6 t d = iblk m hO c 6 t :=
  before0_6_of m hO (dats m hO hH 0 c) (A_eq m hO hH c 6) (after0_6 m hO hH c) t d
theorem before0_7 (hO : Ok m) (hH : Hyps m hO) (c : Dev nD) (t : Fin (cfgM m hO).N) (d) : (dats m hO hH 0 c).before 7 t d = iblk m hO c 7 t :=
  before0_7_of m hO (dats m hO hH 0 c) (A_eq m hO hH c 7) (after0_7 m hO hH c) t d
theorem before0_8 (hO : Ok m) (hH : Hyps m hO) (c : Dev nD) (t : Fin (cfgM m hO).N) (d) : (dats m hO hH 0 c).before 8 t d = iblk m hO c 8 t :=
  before0_8_of m hO (dats m hO hH 0 c) (A_eq m hO hH c 8) (after0_8 m hO hH c) t d
theorem before0_9 (hO : Ok m) (hH : Hyps m hO) (c : Dev nD) (t : Fin (cfgM m hO).N) (d) : (dats m hO hH 0 c).before 9 t d = iblk m hO c 9 t :=
  before0_9_of m hO (dats m hO hH 0 c) (A_eq m hO hH c 9) (after0_9 m hO hH c) t d
theorem before0_10 (hO : Ok m) (hH : Hyps m hO) (c : Dev nD) (t : Fin (cfgM m hO).N) (d) : (dats m hO hH 0 c).before 10 t d = iblk m hO c 10 t :=
  before0_10_of m hO (dats m hO hH 0 c) (A_eq m hO hH c 10) (after0_10 m hO hH c) t d
theorem before0_11 (hO : Ok m) (hH : Hyps m hO) (c : Dev nD) (t : Fin (cfgM m hO).N) (d) : (dats m hO hH 0 c).before 11 t d = iblk m hO c 11 t :=
  before0_11_of m hO (dats m hO hH 0 c) (A_eq m hO hH c 11) (after0_11 m hO hH c) t d
theorem before0_12 (hO : Ok m) (hH : Hyps m hO) (c : Dev nD) (t : Fin (cfgM m hO).N) (d) : (dats m hO hH 0 c).before 12 t d = iblk m hO c 12 t :=
  before0_12_of m hO (dats m hO hH 0 c) (A_eq m hO hH c 12) (after0_12 m hO hH c) t d
theorem before0_13 (hO : Ok m) (hH : Hyps m hO) (c : Dev nD) (t : Fin (cfgM m hO).N) (d) : (dats m hO hH 0 c).before 13 t d = iblk m hO c 13 t :=
  before0_13_of m hO (dats m hO hH 0 c) (A_eq m hO hH c 13) (after0_13 m hO hH c) t d

/-! ## The body obligation, at a generic point -/

/-- What the body is called with at point `t` (`BodyObligation`'s precondition, the windows one by one), -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare ((dats m hO hH 0 c).before 6 t d))
    ∗ (∃ d, owns (c : Thread nD τ) (ms0_7 m hO t) fullShare ((dats m hO hH 0 c).before 7 t d))
    ∗ (∃ d, owns (c : Thread nD τ) (ms0_8 m hO t) fullShare ((dats m hO hH 0 c).before 8 t d))
    ∗ (∃ d, owns (c : Thread nD τ) (ms0_9 m hO t) fullShare ((dats m hO hH 0 c).before 9 t d))
    ∗ (∃ d, owns (c : Thread nD τ) (ms0_10 m hO t) fullShare ((dats m hO hH 0 c).before 10 t d))
    ∗ (∃ d, owns (c : Thread nD τ) (ms0_11 m hO t) fullShare ((dats m hO hH 0 c).before 11 t d))
    ∗ (∃ d, owns (c : Thread nD τ) (ms0_12 m hO t) fullShare ((dats m hO hH 0 c).before 12 t d))
    ∗ (∃ d, owns (c : Thread nD τ) (ms0_13 m hO t) fullShare ((dats m hO hH 0 c).before 13 t d))
    ∗ (∃ d, owns (c : Thread nD τ) (ms0_14 m hO t) fullShare ((dats m hO hH 0 c).before 14 t d))
    ∗ (∃ d, owns (c : Thread nD τ) (ms0_15 m hO t) fullShare ((dats m hO hH 0 c).before 15 t d)))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ (dats m hO hH 0 c).leavesExact 0 t
    ∗ (dats m hO hH 0 c).leavesExact 1 t
    ∗ (dats m hO hH 0 c).leavesExact 2 t
    ∗ (dats m hO hH 0 c).leavesExact 3 t
    ∗ (dats m hO hH 0 c).leavesExact 4 t
    ∗ (dats m hO hH 0 c).leavesExact 5 t
    ∗ (dats m hO hH 0 c).leavesExact 6 t
    ∗ (dats m hO hH 0 c).leavesExact 7 t
    ∗ (dats m hO hH 0 c).leavesExact 8 t
    ∗ (dats m hO hH 0 c).leavesExact 9 t
    ∗ (dats m hO hH 0 c).leavesExact 10 t
    ∗ (dats m hO hH 0 c).leavesExact 11 t
    ∗ (dats m hO hH 0 c).leavesExact 12 t
    ∗ (dats m hO hH 0 c).leavesExact 13 t
    ∗ (dats m hO hH 0 c).leavesExact 14 t
    ∗ (dats m hO hH 0 c).leavesExact 15 t)

/-- At a point after the first, output 15's buffer is not fresh: the first point stored it and nothing wrote it back. -/
theorem fresh0_15 (hO : Ok m) : ∀ n : ℕ, n < 9 → (cfgM m hO).fresh 15 (n + 1) = false := by
  intro n hn
  have hN : (cfgM m hO).N = 10 := N_0
  induction n with
  | zero =>
    have h0 : 0 < (cfgM m hO).N := by omega
    rw [Pipeline.Cfg.fresh_succ _ 15 0 h0, noFlush0_15 m hO ⟨0, h0⟩ (show 0 < 9 by decide),
      liveAt0_15_A m hO ⟨0, h0⟩ ((hcond0_0 ⟨0, h0⟩).mpr rfl)]
    rfl
  | succ n ih =>
    rw [Pipeline.Cfg.fresh_succ _ 15 (n + 1) (by omega), noFlush0_15 m hO ⟨n + 1, by omega⟩ hn, ih (by omega)]
    simp

/-- After a point that is not the first, output 15's buffer holds what the point before left. -/
theorem carry0_15 (hO : Ok m) (hH : Hyps m hO) (c : Dev nD) (t : Fin (cfgM m hO).N) (h : t.val ≠ 0) :
    (dats m hO hH 0 c).after 15 t = (dats m hO hH 0 c).after 15 ⟨t.val - 1, by omega⟩ := by
  have hN : t.val < 10 := lt_of_lt_of_eq t.isLt (show (cfgM m hO).N = 10 from N_0)
  rw [after0_15, after0_15, outsAt0_B m hO hH c t (by omega)]
  rfl

/-- At a point of case B the body finds output 15's buffer at that point's contents already, and leaves it so. -/
theorem leaves0_15_B (hO : Ok m) (hH : Hyps m hO) (c : Dev nD) (t : Fin (cfgM m hO).N) (h0 : ¬t.val % 10 = 0) (d) :
    owns (c : Thread nD τ) (ms0_15 m hO t) fullShare ((dats m hO hH 0 c).before 15 t d) ⊢ (dats m hO hH 0 c).leavesExact 15 t := by
  have hi := idleAt0_15_B m hO t (fun h => h0 ((hcond0_0 t).mp h))
  have hN : t.val < 10 := lt_of_lt_of_eq t.isLt (show (cfgM m hO).N = 10 from N_0)
  have hz : t.val ≠ 0 := fun h => h0 (by rw [h])
  cases hf : ((cfgM m hO).win 15).flush t with
  | false =>
    rw [Dat.leavesExact_idle (dats m hO hH 0 c) 15 t hi hf]
    iintro H
    iexists d
    iexact H
  | true =>
    rw [show (dats m hO hH 0 c).leavesExact 15 t = owns (c : Thread nD τ) (ms0_15 m hO t) fullShare ((dats m hO hH 0 c).after 15 t) from by
      unfold Dat.leavesExact; rw [hi, hf]; rfl]
    rw [(dats m hO hH 0 c).before_out_traj 15 rfl (fun _ _ => rfl) (fun s hs _ _ => carry0_15 m hO hH c s hs) t.val t rfl d]
    have hfr : (cfgM m hO).fresh 15 t.val = false := by
      have := fresh0_15 m hO (t.val - 1) (by omega)
      rwa [show t.val - 1 + 1 = t.val by omega] at this
    rw [hfr, if_neg Bool.false_ne_true, ← carry0_15 m hO hH c t hz]

set_option maxHeartbeats 12800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4, before0_5, before0_6, before0_7, before0_8, before0_9, before0_10, before0_11, before0_12, before0_13]
  rw [show (dats m hO hH 0 c).owesAt () t.succ = (dats m hO hH 0 c).owesAt () t.castSucc from rfl]
  rw [show (dats m hO hH 0 c).Φ t.succ = PhiS m hO hH c (t.val + 1) t.isLt from rfl, PhiS_succ, PhiT0_eq]
  have hN : t.val < 10 := lt_of_lt_of_eq t.isLt (show (cfgM m hO).N = 10 from N_0)
  by_cases h0 : t.val % 10 = 0
  · rw [show (dats m hO hH 0 c).leavesExact 0 t = owns (c : Thread nD τ) (ms0_0 m hO t) fullShare ((dats m hO hH 0 c).after 0 t) from by
      unfold Dat.leavesExact; rw [liveAt0_0 m hO t]; try rfl, after0_0]
    rw [show (dats m hO hH 0 c).leavesExact 1 t = owns (c : Thread nD τ) (ms0_1 m hO t) fullShare ((dats m hO hH 0 c).after 1 t) from by
      unfold Dat.leavesExact; rw [liveAt0_1 m hO t]; try rfl, after0_1]
    rw [show (dats m hO hH 0 c).leavesExact 2 t = owns (c : Thread nD τ) (ms0_2 m hO t) fullShare ((dats m hO hH 0 c).after 2 t) from by
      unfold Dat.leavesExact; rw [liveAt0_2 m hO t]; try rfl, after0_2]
    rw [show (dats m hO hH 0 c).leavesExact 3 t = owns (c : Thread nD τ) (ms0_3 m hO t) fullShare ((dats m hO hH 0 c).after 3 t) from by
      unfold Dat.leavesExact; rw [liveAt0_3 m hO t]; try rfl, after0_3]
    rw [show (dats m hO hH 0 c).leavesExact 4 t = owns (c : Thread nD τ) (ms0_4 m hO t) fullShare ((dats m hO hH 0 c).after 4 t) from by
      unfold Dat.leavesExact; rw [liveAt0_4 m hO t]; try rfl, after0_4]
    rw [show (dats m hO hH 0 c).leavesExact 5 t = owns (c : Thread nD τ) (ms0_5 m hO t) fullShare ((dats m hO hH 0 c).after 5 t) from by
      unfold Dat.leavesExact; rw [liveAt0_5 m hO t]; try rfl, after0_5]
    rw [show (dats m hO hH 0 c).leavesExact 6 t = owns (c : Thread nD τ) (ms0_6 m hO t) fullShare ((dats m hO hH 0 c).after 6 t) from by
      unfold Dat.leavesExact; rw [liveAt0_6 m hO t]; try rfl, after0_6]
    rw [show (dats m hO hH 0 c).leavesExact 7 t = owns (c : Thread nD τ) (ms0_7 m hO t) fullShare ((dats m hO hH 0 c).after 7 t) from by
      unfold Dat.leavesExact; rw [liveAt0_7 m hO t]; try rfl, after0_7]
    rw [show (dats m hO hH 0 c).leavesExact 8 t = owns (c : Thread nD τ) (ms0_8 m hO t) fullShare ((dats m hO hH 0 c).after 8 t) from by
      unfold Dat.leavesExact; rw [liveAt0_8 m hO t]; try rfl, after0_8]
    rw [show (dats m hO hH 0 c).leavesExact 9 t = owns (c : Thread nD τ) (ms0_9 m hO t) fullShare ((dats m hO hH 0 c).after 9 t) from by
      unfold Dat.leavesExact; rw [liveAt0_9 m hO t]; try rfl, after0_9]
    rw [show (dats m hO hH 0 c).leavesExact 10 t = owns (c : Thread nD τ) (ms0_10 m hO t) fullShare ((dats m hO hH 0 c).after 10 t) from by
      unfold Dat.leavesExact; rw [liveAt0_10 m hO t]; try rfl, after0_10]
    rw [show (dats m hO hH 0 c).leavesExact 11 t = owns (c : Thread nD τ) (ms0_11 m hO t) fullShare ((dats m hO hH 0 c).after 11 t) from by
      unfold Dat.leavesExact; rw [liveAt0_11 m hO t]; try rfl, after0_11]
    rw [show (dats m hO hH 0 c).leavesExact 12 t = owns (c : Thread nD τ) (ms0_12 m hO t) fullShare ((dats m hO hH 0 c).after 12 t) from by
      unfold Dat.leavesExact; rw [liveAt0_12 m hO t]; try rfl, after0_12]
    rw [show (dats m hO hH 0 c).leavesExact 13 t = owns (c : Thread nD τ) (ms0_13 m hO t) fullShare ((dats m hO hH 0 c).after 13 t) from by
      unfold Dat.leavesExact; rw [liveAt0_13 m hO t]; try rfl, after0_13]
    rw [show (dats m hO hH 0 c).leavesExact 14 t = owns (c : Thread nD τ) (ms0_14 m hO t) fullShare ((dats m hO hH 0 c).after 14 t) from by
      unfold Dat.leavesExact; rw [liveAt0_14 m hO t]; try rfl, after0_14]
    rw [show (dats m hO hH 0 c).leavesExact 15 t = owns (c : Thread nD τ) (ms0_15 m hO t) fullShare ((dats m hO hH 0 c).after 15 t) from by
      unfold Dat.leavesExact; rw [liveAt0_15_A m hO t ((hcond0_0 t).mpr h0)]; try rfl, after0_15]
    by_cases hz : t.val = 0
    · rw [PhiS_castSucc m hO hH c t, PhiS_zero m hO hH c _ _ hz, PhiT0_eq, PhiA0_eq]
      rw [outsAt0_A m hO hH c t h0]
      unfold out0_A_14 out0_A_15 sout0_A_0; (try dsimp only)
      iintro ⟨⟨⟨⟨HS0, HS1⟩, Hg⟩, ⟨HT0, HT1, HT2, HT3⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((kernelRun0_A c (grid0.coords t) _ _ _ _ _ _ _ _ _ _ _ _ _ _ _ _ _ _ _ _ _ _ _ _ _ _ _ _ _ _ _ _ _ _ _ _ ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (tbl m 0) (tbl m 1) (tbl m 2) (tbl m 3) ((Hyps.c0 hH c t) ((hcond0_0 t).mpr h0)) ((Hyps.c1 hH c t) ((hcond0_0 t).mpr h0)) ((Hyps.c2 hH c t) ((hcond0_0 t).mpr h0)) ((Hyps.c3 hH c t) ((hcond0_0 t).mpr h0)) ((Hyps.c4 hH c t) ((hcond0_0 t).mpr h0))).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [H15]; · iexists _; iexact H15
      isplitl [HS0]; · iexact HS0
      isplitl [HS1]; · iexact HS1
      isplitl [HT0]; · iexact HT0
      isplitl [HT1]; · iexact HT1
      isplitl [HT2]; · iexact HT2
      isplitl [HT3]; · iexact HT3
      iintro ⟨H0, H1, H2, H3, H4, H5, H6, H7, H8, H9, H10, H11, H12, H13, ⟨%e14, H14⟩, ⟨%e15, H15⟩, ⟨%es0, HS0⟩, ⟨%fT1, HS1⟩, HT0, HT1, HT2, HT3⟩
      isplitl [HS0 HS1 Hg HT0 HT1 HT2 HT3]
      · isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
            iexists _; unfold owns; iexists _; isplitr
            swap; · iexact HS1
            ipureintro; rfl
          iexact Hg
        isplitl [HT0]; · iexact HT0
        isplitl [HT1]; · iexact HT1
        isplitl [HT2]; · iexact HT2
        iexact HT3
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]
      · unfold owns; iexists _; isplitr
        swap; · iexact H14
        ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H15
      ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · exfalso; have hN : t.val < 10 := lt_of_lt_of_eq t.isLt (show (cfgM m hO).N = 10 from N_0); omega
  · rw [show (dats m hO hH 0 c).leavesExact 0 t = owns (c : Thread nD τ) (ms0_0 m hO t) fullShare ((dats m hO hH 0 c).after 0 t) from by
      unfold Dat.leavesExact; rw [liveAt0_0 m hO t]; try rfl, after0_0]
    rw [show (dats m hO hH 0 c).leavesExact 1 t = owns (c : Thread nD τ) (ms0_1 m hO t) fullShare ((dats m hO hH 0 c).after 1 t) from by
      unfold Dat.leavesExact; rw [liveAt0_1 m hO t]; try rfl, after0_1]
    rw [show (dats m hO hH 0 c).leavesExact 2 t = owns (c : Thread nD τ) (ms0_2 m hO t) fullShare ((dats m hO hH 0 c).after 2 t) from by
      unfold Dat.leavesExact; rw [liveAt0_2 m hO t]; try rfl, after0_2]
    rw [show (dats m hO hH 0 c).leavesExact 3 t = owns (c : Thread nD τ) (ms0_3 m hO t) fullShare ((dats m hO hH 0 c).after 3 t) from by
      unfold Dat.leavesExact; rw [liveAt0_3 m hO t]; try rfl, after0_3]
    rw [show (dats m hO hH 0 c).leavesExact 4 t = owns (c : Thread nD τ) (ms0_4 m hO t) fullShare ((dats m hO hH 0 c).after 4 t) from by
      unfold Dat.leavesExact; rw [liveAt0_4 m hO t]; try rfl, after0_4]
    rw [show (dats m hO hH 0 c).leavesExact 5 t = owns (c : Thread nD τ) (ms0_5 m hO t) fullShare ((dats m hO hH 0 c).after 5 t) from by
      unfold Dat.leavesExact; rw [liveAt0_5 m hO t]; try rfl, after0_5]
    rw [show (dats m hO hH 0 c).leavesExact 6 t = owns (c : Thread nD τ) (ms0_6 m hO t) fullShare ((dats m hO hH 0 c).after 6 t) from by
      unfold Dat.leavesExact; rw [liveAt0_6 m hO t]; try rfl, after0_6]
    rw [show (dats m hO hH 0 c).leavesExact 7 t = owns (c : Thread nD τ) (ms0_7 m hO t) fullShare ((dats m hO hH 0 c).after 7 t) from by
      unfold Dat.leavesExact; rw [liveAt0_7 m hO t]; try rfl, after0_7]
    rw [show (dats m hO hH 0 c).leavesExact 8 t = owns (c : Thread nD τ) (ms0_8 m hO t) fullShare ((dats m hO hH 0 c).after 8 t) from by
      unfold Dat.leavesExact; rw [liveAt0_8 m hO t]; try rfl, after0_8]
    rw [show (dats m hO hH 0 c).leavesExact 9 t = owns (c : Thread nD τ) (ms0_9 m hO t) fullShare ((dats m hO hH 0 c).after 9 t) from by
      unfold Dat.leavesExact; rw [liveAt0_9 m hO t]; try rfl, after0_9]
    rw [show (dats m hO hH 0 c).leavesExact 10 t = owns (c : Thread nD τ) (ms0_10 m hO t) fullShare ((dats m hO hH 0 c).after 10 t) from by
      unfold Dat.leavesExact; rw [liveAt0_10 m hO t]; try rfl, after0_10]
    rw [show (dats m hO hH 0 c).leavesExact 11 t = owns (c : Thread nD τ) (ms0_11 m hO t) fullShare ((dats m hO hH 0 c).after 11 t) from by
      unfold Dat.leavesExact; rw [liveAt0_11 m hO t]; try rfl, after0_11]
    rw [show (dats m hO hH 0 c).leavesExact 12 t = owns (c : Thread nD τ) (ms0_12 m hO t) fullShare ((dats m hO hH 0 c).after 12 t) from by
      unfold Dat.leavesExact; rw [liveAt0_12 m hO t]; try rfl, after0_12]
    rw [show (dats m hO hH 0 c).leavesExact 13 t = owns (c : Thread nD τ) (ms0_13 m hO t) fullShare ((dats m hO hH 0 c).after 13 t) from by
      unfold Dat.leavesExact; rw [liveAt0_13 m hO t]; try rfl, after0_13]
    rw [show (dats m hO hH 0 c).leavesExact 14 t = owns (c : Thread nD τ) (ms0_14 m hO t) fullShare ((dats m hO hH 0 c).after 14 t) from by
      unfold Dat.leavesExact; rw [liveAt0_14 m hO t]; try rfl, after0_14]
    by_cases hz : t.val = 0
    · exfalso; have hN : t.val < 10 := lt_of_lt_of_eq t.isLt (show (cfgM m hO).N = 10 from N_0); omega
    · rw [PhiS_castSucc m hO hH c t, PhiS_pos m hO hH c _ _ hz, PhiT0_eq]
      rw [outsAt0_B m hO hH c t h0]
      unfold out0_B_14 sout0_B_0; (try dsimp only)
      iintro ⟨⟨⟨⟨HS0, HS1⟩, Hg⟩, ⟨HT0, HT1, HT2, HT3⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((kernelRun0_B c (grid0.coords t) _ _ _ _ _ _ _ _ _ _ _ _ _ _ _ _ _ _ _ _ _ _ _ _ _ _ _ _ _ _ _ _ _ _ _ _ (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (tbl m 0) (tbl m 1) (tbl m 2) (tbl m 3) _).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [H15]; · iexact H15
      isplitl [HS0]; · iexact HS0
      isplitl [HS1]; · iexact HS1
      isplitl [HT0]; · iexact HT0
      isplitl [HT1]; · iexact HT1
      isplitl [HT2]; · iexact HT2
      isplitl [HT3]; · iexact HT3
      iintro ⟨H0, H1, H2, H3, H4, H5, H6, H7, H8, H9, H10, H11, H12, H13, ⟨%e14, H14⟩, H15, HS0, ⟨%fT1, HS1⟩, HT0, HT1, HT2, HT3⟩
      isplitl [HS0 HS1 Hg HT0 HT1 HT2 HT3]
      · isplitl [HS0 HS1 Hg]
        · isplitl [HS0 HS1]
          · isplitl [HS0]
            · iexact HS0
            iexists _; unfold owns; iexists _; isplitr
            swap; · iexact HS1
            ipureintro; rfl
          iexact Hg
        isplitl [HT0]; · iexact HT0
        isplitl [HT1]; · iexact HT1
        isplitl [HT2]; · iexact HT2
        iexact HT3
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]
      · unfold owns; iexists _; isplitr
        swap; · iexact H14
        ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _ _ _ _ _ _)
      iapply (leaves0_15_B m hO hH c t h0 d15)
      iexact H15

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (`triple_restated`). -/
theorem body_obligation (hO : Ok m) (hH : Hyps m hO) (c : Dev nD) : BodyObligation (dats (F := F) m hO hH 0 c) (defs₀ (F := F)) Variants.none () Set.univ := fun t => by
  rw [bigSep_W0, bigSep_W0, defs₀_row m hO]
  exact triple_restated (sound_body m hO hH c t) rfl .rfl fun _ => .rfl

/-- What the launch hands the region (`ΦA`, the tables beside it) is the invariant before the first point. -/
theorem hin (hO : Ok m) (hH : Hyps m hO) (c : Dev nD) : iprop(Pipeline.ΦA spec0 c ∗ Pipeline.ΦT pre0 (tbl m) c) ⊢ (dats m hO hH 0 c).Φ 0 := by
  rw [show (dats m hO hH 0 c).Φ 0 = PhiS m hO hH c 0 (Nat.zero_le _) from rfl, PhiS_zero m hO hH c 0 _ rfl]
  try exact Idealize.SL.BI.Entails.refl _

/-- After any point but the first the invariant gives `ΦA` back: the carried scratch's named contents are forgotten (and the tables' halves dropped). -/
theorem Phi_out (hO : Ok m) (hH : Hyps m hO) (c : Dev nD) (t : Fin ((cfgM m hO).N + 1)) (ht : t.val ≠ 0) : (dats m hO hH 0 c).Φ t ⊢ Pipeline.ΦA spec0 c := by
  rw [show (dats m hO hH 0 c).Φ t = PhiS m hO hH c t.val (Nat.le_of_lt_succ t.isLt) from rfl, PhiS_pos m hO hH c _ _ ht, PhiA0_eq]
  iintro ⟨⟨⟨HS0, HS1⟩, Hg⟩, -⟩
  isplitl [HS0 HS1]
  · isplitl [HS0]
    · iexists _; iexact HS0
    iexact HS1
  iexact Hg

/-- The same after the last point. -/
theorem hout (hO : Ok m) (hH : Hyps m hO) (c : Dev nD) : (dats m hO hH 0 c).Φ (Fin.last (cfgM m hO).N) ⊢ Pipeline.ΦA spec0 c :=
  Phi_out m hO hH c _ (by rw [Fin.val_last]; have : (cfgM m hO).N = 10 := N_0; omega)

/-! ## The run and the frame -/

-- `θ_run_frameP_track_shared`'s implicit arguments are found by unifying its conclusion with this one, which takes unfolding plain
-- definitions in a metavariable's type
set_option backward.isDefEq.respectTransparency.types false in
/-- The launch: `run_main`'s statement, and every semaphore counter is zero at every final state. -/
theorem run_main_quiescent (hO : Ok m) (hH : Hyps m hO) : θ_run defs (onTc (τ := τ) (main (F := F))) (s₀ m ρ) (fun r => (Pipeline.FramePost (Pipeline.pin pcfgs fun _ => adm m hO) (dats m hO hH) 0 (V m)) r ∧ r.2.sem = fun _ => 0) :=
  Pipeline.θ_run_frameP_track_shared (Q' := _) pcfgs (fun _ => adm m hO) (dats m hO hH) (0 : Fin 1) launch₀0 defs₀ Variants.none m ρ main
    (hbody := fun c => (body_obligation m hO hH c).loose) (hq := fun _ _ _ => rfl)
    (howed := fun _ _ => rfl) (V := V m) (hmain := hmain m Variants.none) (hA := A_eq m hO hH) (hpf := V_pre m)
    (hin := hin m hO hH) (hout := hout m hO hH)

/-- From any memory with zero counters: every weakly fair execution of @main on the
    TensorCores terminates, and every final state has every array of the pipeline at what the library computes from the
    proof data and every other unscoped buffer as the region found it (`FramePost`). -/
theorem run_main (hO : Ok m) (hH : Hyps m hO) : θ_run defs (onTc (τ := τ) (main (F := F))) (s₀ m ρ) (Pipeline.FramePost (Pipeline.pin pcfgs fun _ => adm m hO) (dats m hO hH) 0 (V m)) :=
  (θ_run defs _ _).mono (fun _ h => h.1) (run_main_quiescent m ρ hO hH)

/-- `frame` without the counters: the argument arrays end unchanged. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ hO (dats m hO hH) (A_eq m hO hH) (run_main m ρ hO hH)

/-- The frame: every fair run ends without fault, with the arguments as they were and every semaphore at zero, whenever
    every block read through a table lies in its array (`Ok`) and the body's own side conditions hold at every point (`Hyps`). -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ hO hH) ((θ_run defs _ _).mono (fun _ h => h.2) (run_main_quiescent m ρ hO hH))

end Cert.KernelIdeal.Body

end
-- ==== Proof.Words.lean ====
/- Words that name rows: the arithmetic of a slab's first row, on 32-bit words small enough that nothing wraps. -/
module

public import Idealize.ShloMosaic.PureOps

@[expose] public section

namespace Cert.Words

open Idealize.ShloMosaic

/-- The word `v // 16 * 16` (floor division) as an index map computes it. -/
def alignDown (v0 : BitVec 32) : BitVec 32 :=
  let v2 : BitVec 1 := Scalar.cmpi .sgt v0 0#32
  let v3 : BitVec 32 := Scalar.extui v2
  let v4 : BitVec 1 := Scalar.cmpi .slt v0 0#32
  let v5 : BitVec 32 := Scalar.extui v4
  let v6 : BitVec 32 := Scalar.subi v3 v5
  let v7 : BitVec 1 := Scalar.cmpi .sgt 16#32 0#32
  let v8 : BitVec 32 := Scalar.extui v7
  let v9 : BitVec 1 := Scalar.cmpi .slt 16#32 0#32
  let v10 : BitVec 32 := Scalar.extui v9
  let v11 : BitVec 32 := Scalar.subi v8 v10
  let v12 : BitVec 1 := Scalar.cmpi .ne v6 v11
  let v13 : BitVec 32 := Scalar.remsi v0 16#32
  let v14 : BitVec 1 := Scalar.cmpi .ne v13 0#32
  let v15 : BitVec 1 := Scalar.andi v12 v14
  let v1 : BitVec 32 := Scalar.divsi v0 16#32
  let v16 : BitVec 32 := Scalar.subi v1 1#32
  let v17 : BitVec 32 := Scalar.select v15 v16 v1
  Scalar.muli v17 16#32

/-- Of a word below 368, `alignDown` is the greatest multiple of 16 that is not above it. -/
theorem alignDown_eq (v : BitVec 32) (h : v.toNat < 368) : alignDown v = BitVec.ofNat 32 (v.toNat / 16 * 16) := by
  have key : ∀ n : Fin 368, alignDown (BitVec.ofNat 32 n.val) = BitVec.ofNat 32 (n.val / 16 * 16) := by decide +kernel
  have e := key ⟨v.toNat, h⟩
  simpa using e

theorem alignDown_toNat (v : BitVec 32) (h : v.toNat < 368) : (alignDown v).toNat = v.toNat / 16 * 16 := by
  rw [alignDown_eq v h, BitVec.toNat_ofNat]; omega

/-- It is a multiple of 16, read as a signed integer. -/
theorem alignDown_dvd (v : BitVec 32) (h : v.toNat < 368) : (16 : Int) ∣ (alignDown v).toInt := by
  have key : ∀ n : Fin 368, (16 : Int) ∣ (alignDown (BitVec.ofNat 32 n.val)).toInt := by decide +kernel
  have e := key ⟨v.toNat, h⟩
  simpa using e

/-- A word at least 0 and below `n` as a signed integer is below `n` as a natural number. -/
theorem toNat_lt_of_cmpi (v : BitVec 32) (n : Nat) (hn : n < 2 ^ 31) (h0 : IntOp.cmpi .sge v 0#32 = 1#1)
    (h1 : IntOp.cmpi .slt v (BitVec.ofNat 32 n) = 1#1) : v.toNat < n := by
  have ofBool_eq_one (p : Bool) : (BitVec.ofBool p = 1#1) ↔ p = true := by cases p <;> decide
  simp only [ofBool_eq_one, IntOp.cmpi, BitVec.sle, BitVec.slt, decide_eq_true_eq, BitVec.toInt, BitVec.toNat_ofNat] at h0 h1
  split at h1 <;> split at h0 <;> omega

end Cert.Words

end
-- ==== Proof.IdealTables.lean ====
/- The tables the pipeline prefetches (at the reals): from where every start word is below 368 and every adapter word below 9,
   the slab windows lie inside their pools and the lookups by adapter inside their tables. -/
module

public import proofs.«01_k».proof.Proof.IdealRuns
public import proofs.«01_k».proof.Proof.Words

@[expose] public section

namespace Cert.KernelIdeal.Body

open Idealize.ShloMosaic Idealize.ShloMosaic.TcCoe
open Cert.KernelIdeal.Gen Cert.Words

variable {F : FTy → Type} [FloatOps F]
variable (m : (ℓ : Loc nD τ sig) → Buf (Elt F) ℓ)

/-- Every segment's start word is below 368, the last row at which 32 rows, aligned down to 16 and 48 tall, fit the pool. -/
def StartsFit : Prop := ∀ q : S5.Idx, (tbl m 0 q : BitVec 32).toNat < 368

/-- Every segment's adapter word is below 9, the number of adapters. -/
def AdaptersFit : Prop := ∀ q : S5.Idx, (tbl m 3 q : BitVec 32).toNat < 9

theorem mult1_dvd (h : StartsFit m) : (16 : Int) ∣ (k0_mult1 (tbl m)).toInt :=
  alignDown_dvd _ (h (fun a => ⟨(![0] : Fin 1 → Nat) a, by revert a; decide⟩))
theorem mult2_dvd (h : StartsFit m) : (16 : Int) ∣ (k0_mult2 (tbl m)).toInt :=
  alignDown_dvd _ (h (fun a => ⟨(![1] : Fin 1 → Nat) a, by revert a; decide⟩))
theorem mult3_dvd (h : StartsFit m) : (16 : Int) ∣ (k0_mult3 (tbl m)).toInt :=
  alignDown_dvd _ (h (fun a => ⟨(![2] : Fin 1 → Nat) a, by revert a; decide⟩))
theorem mult4_dvd (h : StartsFit m) : (16 : Int) ∣ (k0_mult4 (tbl m)).toInt :=
  alignDown_dvd _ (h (fun a => ⟨(![3] : Fin 1 → Nat) a, by revert a; decide⟩))
theorem mult5_dvd (h : StartsFit m) : (16 : Int) ∣ (k0_mult5 (tbl m)).toInt :=
  alignDown_dvd _ (h (fun a => ⟨(![4] : Fin 1 → Nat) a, by revert a; decide⟩))
theorem mult6_dvd (h : StartsFit m) : (16 : Int) ∣ (k0_mult6 (tbl m)).toInt :=
  alignDown_dvd _ (h (fun a => ⟨(![0] : Fin 1 → Nat) a, by revert a; decide⟩))
theorem mult8_dvd (h : StartsFit m) : (16 : Int) ∣ (k0_mult8 (tbl m)).toInt :=
  alignDown_dvd _ (h (fun a => ⟨(![1] : Fin 1 → Nat) a, by revert a; decide⟩))
theorem mult10_dvd (h : StartsFit m) : (16 : Int) ∣ (k0_mult10 (tbl m)).toInt :=
  alignDown_dvd _ (h (fun a => ⟨(![2] : Fin 1 → Nat) a, by revert a; decide⟩))
theorem mult12_dvd (h : StartsFit m) : (16 : Int) ∣ (k0_mult12 (tbl m)).toInt :=
  alignDown_dvd _ (h (fun a => ⟨(![3] : Fin 1 → Nat) a, by revert a; decide⟩))
theorem mult14_dvd (h : StartsFit m) : (16 : Int) ∣ (k0_mult14 (tbl m)).toInt :=
  alignDown_dvd _ (h (fun a => ⟨(![4] : Fin 1 → Nat) a, by revert a; decide⟩))

/-- Window 4's offsets at every point: row `start // 16 * 16`, column 0. -/
theorem transform_4_eq (pf : pre0.Contents (Elt F)) (i : grid0.Coords) :
    cc0_transform_4 inb_S5_S1_0 numel1_S1 pf i = ![(alignDown (pf.at 0 (Rect.unit (s := S5) ![0] S1.size inb_S5_S1_0) numel1_S1)).toNat, 0] := rfl
/-- Window 5's offsets at every point: row `start // 16 * 16`, column 0. -/
theorem transform_5_eq (pf : pre0.Contents (Elt F)) (i : grid0.Coords) :
    cc0_transform_5 inb_S5_S1_1 numel1_S1 pf i = ![(alignDown (pf.at 0 (Rect.unit (s := S5) ![1] S1.size inb_S5_S1_1) numel1_S1)).toNat, 0] := rfl
/-- Window 6's offsets at every point: row `start // 16 * 16`, column 0. -/
theorem transform_6_eq (pf : pre0.Contents (Elt F)) (i : grid0.Coords) :
    cc0_transform_6 inb_S5_S1_2 numel1_S1 pf i = ![(alignDown (pf.at 0 (Rect.unit (s := S5) ![2] S1.size inb_S5_S1_2) numel1_S1)).toNat, 0] := rfl
/-- Window 7's offsets at every point: row `start // 16 * 16`, column 0. -/
theorem transform_7_eq (pf : pre0.Contents (Elt F)) (i : grid0.Coords) :
    cc0_transform_7 inb_S5_S1_3 numel1_S1 pf i = ![(alignDown (pf.at 0 (Rect.unit (s := S5) ![3] S1.size inb_S5_S1_3) numel1_S1)).toNat, 0] := rfl
/-- Window 8's offsets at every point: row `start // 16 * 16`, column 0. -/
theorem transform_8_eq (pf : pre0.Contents (Elt F)) (i : grid0.Coords) :
    cc0_transform_8 inb_S5_S1_4 numel1_S1 pf i = ![(alignDown (pf.at 0 (Rect.unit (s := S5) ![4] S1.size inb_S5_S1_4) numel1_S1)).toNat, 0] := rfl
/-- Window 9's offsets at point `i`: row `start // 16 * 16`, column `1024 i`. -/
theorem transform_9_eq (pf : pre0.Contents (Elt F)) (i : grid0.Coords) :
    cc0_transform_9 inb_S5_S1_0 numel1_S1 pf i = ![(alignDown (pf.at 0 (Rect.unit (s := S5) ![0] S1.size inb_S5_S1_0) numel1_S1)).toNat, (Scalar.muli (BitVec.ofNat 32 (i 0).val) 1024#32).toNat] := rfl
/-- Window 10's offsets at point `i`: row `start // 16 * 16`, column `1024 i`. -/
theorem transform_10_eq (pf : pre0.Contents (Elt F)) (i : grid0.Coords) :
    cc0_transform_10 inb_S5_S1_1 numel1_S1 pf i = ![(alignDown (pf.at 0 (Rect.unit (s := S5) ![1] S1.size inb_S5_S1_1) numel1_S1)).toNat, (Scalar.muli (BitVec.ofNat 32 (i 0).val) 1024#32).toNat] := rfl
/-- Window 11's offsets at point `i`: row `start // 16 * 16`, column `1024 i`. -/
theorem transform_11_eq (pf : pre0.Contents (Elt F)) (i : grid0.Coords) :
    cc0_transform_11 inb_S5_S1_2 numel1_S1 pf i = ![(alignDown (pf.at 0 (Rect.unit (s := S5) ![2] S1.size inb_S5_S1_2) numel1_S1)).toNat, (Scalar.muli (BitVec.ofNat 32 (i 0).val) 1024#32).toNat] := rfl
/-- Window 12's offsets at point `i`: row `start // 16 * 16`, column `1024 i`. -/
theorem transform_12_eq (pf : pre0.Contents (Elt F)) (i : grid0.Coords) :
    cc0_transform_12 inb_S5_S1_3 numel1_S1 pf i = ![(alignDown (pf.at 0 (Rect.unit (s := S5) ![3] S1.size inb_S5_S1_3) numel1_S1)).toNat, (Scalar.muli (BitVec.ofNat 32 (i 0).val) 1024#32).toNat] := rfl
/-- Window 13's offsets at point `i`: row `start // 16 * 16`, column `1024 i`. -/
theorem transform_13_eq (pf : pre0.Contents (Elt F)) (i : grid0.Coords) :
    cc0_transform_13 inb_S5_S1_4 numel1_S1 pf i = ![(alignDown (pf.at 0 (Rect.unit (s := S5) ![4] S1.size inb_S5_S1_4) numel1_S1)).toNat, (Scalar.muli (BitVec.ofNat 32 (i 0).val) 1024#32).toNat] := rfl

/-- A slab 48 rows tall at an aligned start lies inside a pool of 400 rows, and takes whole words of it. -/
theorem slab_a (v : BitVec 32) (hv : v.toNat < 368) (off : Fin 2 → Nat) (e : off = ![(alignDown v).toNat, 0]) :
    ∃ h : (∀ a, off a + S48x2560.size a ≤ S400x2560.size a), EltTy.bits .bf16 = 32 ∨ (Rect.unit (s := S400x2560) off S48x2560.size h).WholeWords (EltTy.packing .bf16) := by
  subst e
  have hs := alignDown_toNat v hv
  refine ⟨fun a => ?_, .inr (.inl (.inr ⟨by decide, rfl, .inl ⟨?_, ?_⟩⟩))⟩
  · match a with
    | 0 => show (alignDown v).toNat + 48 ≤ 400; omega
    | 1 => show 0 + 2560 ≤ 2560; omega
  · show 2 ∣ (alignDown v).toNat; omega
  · show 2 ∣ 48; decide

theorem column_lt (i : grid0.Coords) : (Scalar.muli (BitVec.ofNat 32 (i 0).val) 1024#32).toNat = (i 0).val * 1024 ∧ (i 0).val < 10 := by
  have h : (i 0).val < 10 := (i 0).isLt
  refine ⟨?_, h⟩
  show (BitVec.ofNat 32 (i 0).val * 1024#32).toNat = _
  rw [BitVec.toNat_mul, BitVec.toNat_ofNat, BitVec.toNat_ofNat]
  omega

/-- The same for a slab of 1024 columns at `1024 i`. -/
theorem slab_b (v : BitVec 32) (hv : v.toNat < 368) (i : grid0.Coords) (off : Fin 2 → Nat)
    (e : off = ![(alignDown v).toNat, (Scalar.muli (BitVec.ofNat 32 (i 0).val) 1024#32).toNat]) :
    ∃ h : (∀ a, off a + S48x1024.size a ≤ S400x10240.size a), EltTy.bits .bf16 = 32 ∨ (Rect.unit (s := S400x10240) off S48x1024.size h).WholeWords (EltTy.packing .bf16) := by
  subst e
  have hs := alignDown_toNat v hv
  obtain ⟨hc, hi⟩ := column_lt i
  refine ⟨fun a => ?_, .inr (.inl (.inr ⟨by decide, rfl, .inl ⟨?_, ?_⟩⟩))⟩
  · match a with
    | 0 => show (alignDown v).toNat + 48 ≤ 400; omega
    | 1 => show (Scalar.muli (BitVec.ofNat 32 (i 0).val) 1024#32).toNat + 1024 ≤ 10240; omega
  · show 2 ∣ (alignDown v).toNat; omega
  · show 2 ∣ 48; decide

/-- The pipeline's side condition of the tables. -/
theorem ok_of_fit (h : StartsFit m) : Ok m :=
  ⟨mult1_dvd m h, mult2_dvd m h, mult3_dvd m h, mult4_dvd m h, mult5_dvd m h, mult6_dvd m h, mult8_dvd m h, mult10_dvd m h, mult12_dvd m h, mult14_dvd m h,
    fun i => slab_a _ (h _) _ (transform_4_eq (tbl m) i),
    fun i => slab_a _ (h _) _ (transform_5_eq (tbl m) i),
    fun i => slab_a _ (h _) _ (transform_6_eq (tbl m) i),
    fun i => slab_a _ (h _) _ (transform_7_eq (tbl m) i),
    fun i => slab_a _ (h _) _ (transform_8_eq (tbl m) i),
    fun i => slab_b _ (h _) i _ (transform_9_eq (tbl m) i),
    fun i => slab_b _ (h _) i _ (transform_10_eq (tbl m) i),
    fun i => slab_b _ (h _) i _ (transform_11_eq (tbl m) i),
    fun i => slab_b _ (h _) i _ (transform_12_eq (tbl m) i),
    fun i => slab_b _ (h _) i _ (transform_13_eq (tbl m) i)⟩

/-- The body's side conditions: a lookup by an adapter word below 9 is inside a table of nine. -/
theorem hyps_of_fit (h : AdaptersFit m) (hO : Ok m) : Hyps m hO := fun c t =>
  ⟨fun _ _ a => by
      obtain rfl : a = 0 := Subsingleton.elim _ _
      exact Nat.succ_le_of_lt (h _),
    fun _ _ a => by
      obtain rfl : a = 0 := Subsingleton.elim _ _
      exact Nat.succ_le_of_lt (h _),
    fun _ _ a => by
      obtain rfl : a = 0 := Subsingleton.elim _ _
      exact Nat.succ_le_of_lt (h _),
    fun _ _ a => by
      obtain rfl : a = 0 := Subsingleton.elim _ _
      exact Nat.succ_le_of_lt (h _),
    fun _ _ a => by
      obtain rfl : a = 0 := Subsingleton.elim _ _
      exact Nat.succ_le_of_lt (h _)⟩

end Cert.KernelIdeal.Body

end
-- ==== Proof.IdealEntry.lean ====
/- What the host leaves in the pipeline's arrays before the launch (at the reals): the start words gathered by segment, and the
   tokens reshaped to rows; and from the precondition the tables' bounds. -/
module

public import proofs.«01_k».proof.Defs
public import proofs.«01_k».proof.Proof.IdealTables
public import proofs.«01_k».proof.Proof.Gen.Pre_slabs_in_pool
public import Idealize.ShloMosaic.Lib.Claim
public import proofs.«01_k».proof.Proof.Gen.Pre_ranks_fit

@[expose] public section

noncomputable section

namespace Cert.KernelIdeal.Body

open Idealize.ShloMosaic Idealize.ShloMosaic.TcCoe
open Cert.KernelIdeal.Gen Cert.Words

variable {F : FTy → Type} [FloatOps F]
variable (m : (ℓ : Loc nD τ sig) → Buf (Elt F) ℓ)

/-- The index of the gather: the adapter word, plus 9 where it is negative. -/
def pick (ad : IVec S5 32) : IVec S5x1 32 :=
  broadcastInDim S5x1 ![0] bcast_S5_S5x1_0 (select (cmpi .slt ad (broadcastInDim S5 ![] bcast_S_S5 (constantI S_ 32 0#32))) (addi ad (broadcastInDim S5 ![] bcast_S_S5 (constantI S_ 32 9#32))) ad)

/-- The word each segment's adapter has in a table of nine. -/
def lookup {A : Type} (tab : S9.Idx → A) (ad : IVec S5 32) : S5.Idx → A := Host.gather gather_S9_S5x1_S5_n_0_n_n_0_1_1 tab (pick ad)

/-- The start words at the launch. -/
theorem V_main_v6 (c : Dev nD) : V m c main_v6 = lookup (m ((c : Thread nD τ).loc main_arg5)) (m ((c : Thread nD τ).loc main_arg9)) := by
  show StableHlo.after hostOps0 (fun b => m (c, b)) main_v6 = _
  run_tidy
  rfl

/-- The tokens at the launch, as 256 rows. -/
theorem V_main_v7 (c : Dev nD) : V m c main_v7 = shapeCast S256x2560 (m ((c : Thread nD τ).loc main_arg0)) shapeCasts_S2x128x2560_S256x2560 := by
  show StableHlo.after hostOps0 (fun b => m (c, b)) main_v7 = _
  run_tidy
  rfl

theorem startsFit_of (h0 : ∀ q, IntOp.cmpi .sge (lookup (m (((0 : Dev nD) : Thread nD τ).loc main_arg5)) (m (((0 : Dev nD) : Thread nD τ).loc main_arg9)) q) 0#32 = 1#1)
    (h1 : ∀ q, IntOp.cmpi .slt (lookup (m (((0 : Dev nD) : Thread nD τ).loc main_arg5)) (m (((0 : Dev nD) : Thread nD τ).loc main_arg9)) q) 368#32 = 1#1) : StartsFit m := fun q => by
  have e : (tbl m 0 q : BitVec 32) = lookup (m (((0 : Dev nD) : Thread nD τ).loc main_arg5)) (m (((0 : Dev nD) : Thread nD τ).loc main_arg9)) q := congrFun (V_main_v6 m 0) q
  rw [e]
  exact toNat_lt_of_cmpi _ 368 (by decide) (h0 q) (h1 q)

theorem adaptersFit_of (h0 : ∀ q, IntOp.cmpi .sge (m (((0 : Dev nD) : Thread nD τ).loc main_arg9) q) 0#32 = 1#1)
    (h1 : ∀ q, IntOp.cmpi .slt (m (((0 : Dev nD) : Thread nD τ).loc main_arg9) q) 9#32 = 1#1) : AdaptersFit m := fun q => by
  have e : (tbl m 3 q : BitVec 32) = m (((0 : Dev nD) : Thread nD τ).loc main_arg9) q := congrFun (V_main_arg9 m 0) q
  rw [e]
  exact toNat_lt_of_cmpi _ 9 (by decide) (h0 q) (h1 q)

/-- The precondition bounds the tables. -/
theorem fit_of_pre (m : (ℓ : Loc nD τ sig) → Buf (Elt Ideal) ℓ) (h : Cert.Pre_KernelIdeal m) : StartsFit m ∧ AdaptersFit m := by
  obtain ⟨a, b, c, d⟩ := h 0
  exact ⟨startsFit_of m (fun q => congrFun c q) (fun q => congrFun d q), adaptersFit_of m (fun q => congrFun a q) (fun q => congrFun b q)⟩

/-- The precondition of the value claim bounds them too. -/
theorem fit_of_pre' (m : (ℓ : Loc nD τ sig) → Buf (Elt Ideal) ℓ) (h : Cert.Pre_KernelIdeal_ranks_fit m) : StartsFit m ∧ AdaptersFit m := by
  obtain ⟨a, b, c, d, -⟩ := h 0
  exact ⟨startsFit_of m (fun q => congrFun c q) (fun q => congrFun d q), adaptersFit_of m (fun q => congrFun a q) (fun q => congrFun b q)⟩

end Cert.KernelIdeal.Body

end
-- ==== Proof.BitsPoints.lean ====
/- The grid points and the windows' blocks at the bits: where each window stands at each point. -/
module

public import proofs.«01_k».proof.Proof.Gen.Kernel
public import Idealize.ShloMosaic.Lib.Pipeline.Kit

@[expose] public section

noncomputable section

namespace Cert.Kernel.Body

open Idealize.ShloMosaic Idealize.ShloMosaic.TcCoe
open Cert.Kernel.Gen
open Idealize.SL Idealize.SL.Sem

variable {F : FTy → Type} [FloatOps F]
/-! ## custom_call 0 -/

/-! A call with PREFETCHED TABLES: its memrefs and body are stated over the pipeline at ANY admissible contents `a`
    of the tables (they are instantiated at the contents it reads off the launch memory). A window whose
    index map reads no table has the same schedule at every `a`: stated over the grid, the window's direction and
    that map alone (`Window.fetchOf` / `flushOf`), proved from the map and the fact about the
    axes it reads (`hreadsK_W`) or decided, and restated over the pinned window, which unfolds to them. A window whose
    map reads a table gets none here. -/

/-- Window 0 (operand 4 (%arg7)) is fetched at the first point only, at any contents of the tables (its index map reads none). -/
theorem fetch0_0 (a : (pcfg0 (F := F)).Adm) : ∀ t : Fin (cfg0 a).N, ((cfg0 a).win 0).fetch t = true ↔ t.val % 10 = 0 :=
  (fun t => Pipeline.Window.fetchOf_const cc0_transform_0 (fun _ _ => rfl) (n := 10) (by decide) t : ∀ t : Fin grid0.N, Pipeline.Window.fetchOf grid0 false cc0_transform_0 t = true ↔ t.val % 10 = 0)
/-- Window 1 (operand 5 (%7)) is fetched at the first point only, at any contents of the tables (its index map reads none). -/
theorem fetch0_1 (a : (pcfg0 (F := F)).Adm) : ∀ t : Fin (cfg0 a).N, ((cfg0 a).win 1).fetch t = true ↔ t.val % 10 = 0 :=
  (fun t => Pipeline.Window.fetchOf_const cc0_transform_1 (fun _ _ => rfl) (n := 10) (by decide) t : ∀ t : Fin grid0.N, Pipeline.Window.fetchOf grid0 false cc0_transform_1 t = true ↔ t.val % 10 = 0)
/-- Window 2 (operand 6 (%arg1)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 0 (by decide) (by decide) (Pipeline.Window.sep_of_coord cc0_transform_2 0 1 (fun _ => rfl) (by decide)) (P := 1) (by decide) t).mpr (Nat.mod_one _) : ∀ t : Fin grid0.N, Pipeline.Window.fetchOf grid0 false cc0_transform_2 t = true)
/-- Window 3 (operand 7 (%arg2)) is fetched at every point, at any contents of the tables (its index map reads none). -/
theorem fetch0_3 (a : (pcfg0 (F := F)).Adm) : ∀ t : Fin (cfg0 a).N, ((cfg0 a).win 3).fetch t = true :=
  (fun t => (Pipeline.Window.fetchOf_reads cc0_transform_3 reads0_3 hreads0_3 0 (by decide) (by decide) (Pipeline.Window.sep_of_coord cc0_transform_3 0 1 (fun _ => rfl) (by decide)) (P := 1) (by decide) t).mpr (Nat.mod_one _) : ∀ t : Fin grid0.N, Pipeline.Window.fetchOf grid0 false cc0_transform_3 t = true)
-- window 4: no schedule fact — its index map reads a prefetched table, so where it is fetched or written back depends on the tables' contents
-- window 5: no schedule fact — its index map reads a prefetched table, so where it is fetched or written back depends on the tables' contents
-- window 6: no schedule fact — its index map reads a prefetched table, so where it is fetched or written back depends on the tables' contents
-- window 7: no schedule fact — its index map reads a prefetched table, so where it is fetched or written back depends on the tables' contents
-- window 8: no schedule fact — its index map reads a prefetched table, so where it is fetched or written back depends on the tables' contents
-- window 9: no schedule fact — its index map reads a prefetched table, so where it is fetched or written back depends on the tables' contents
-- window 10: no schedule fact — its index map reads a prefetched table, so where it is fetched or written back depends on the tables' contents
-- window 11: no schedule fact — its index map reads a prefetched table, so where it is fetched or written back depends on the tables' contents
-- window 12: no schedule fact — its index map reads a prefetched table, so where it is fetched or written back depends on the tables' contents
-- window 13: no schedule fact — its index map reads a prefetched table, so where it is fetched or written back depends on the tables' contents
/-- Window 14 (result 0 (%8#0)) is written back at every point, at any contents of the tables (its index map reads none). -/
theorem flush0_14 (a : (pcfg0 (F := F)).Adm) : ∀ t : Fin (cfg0 a).N, ((cfg0 a).win 14).flush t = true :=
  (fun t => (Pipeline.Window.flushOf_reads cc0_transform_14 reads0_14 hreads0_14 0 (by decide) (by decide) (Pipeline.Window.sep_of_coord cc0_transform_14 0 1 (fun _ => rfl) (by decide)) (P := 1) (m := 0) (by decide) rfl t).mpr (Nat.mod_one _) : ∀ t : Fin grid0.N, Pipeline.Window.flushOf grid0 true cc0_transform_14 t = true)
/-- Window 15 (result 1 (%8#1)) is written back at the last point only, at any contents of the tables (its index map reads none). -/
theorem flush0_15 (a : (pcfg0 (F := F)).Adm) : ∀ t : Fin (cfg0 a).N, ((cfg0 a).win 15).flush t = true ↔ t.val % 10 = 9 :=
  (fun t => Pipeline.Window.flushOf_const cc0_transform_15 (fun _ _ => rfl) (n := 10) (by decide) rfl t : ∀ t : Fin grid0.N, Pipeline.Window.flushOf grid0 true cc0_transform_15 t = true ↔ t.val % 10 = 9)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)
abbrev st0_12 (a : (pcfg0 (F := F)).Adm) (t : Fin (cfg0 a).N) := ((cfg0 a).win 12).stage ((cfg0 a).slots t 12)
abbrev st0_13 (a : (pcfg0 (F := F)).Adm) (t : Fin (cfg0 a).N) := ((cfg0 a).win 13).stage ((cfg0 a).slots t 13)
abbrev st0_14 (a : (pcfg0 (F := F)).Adm) (t : Fin (cfg0 a).N) := ((cfg0 a).win 14).stage ((cfg0 a).slots t 14)
abbrev st0_15 (a : (pcfg0 (F := F)).Adm) (t : Fin (cfg0 a).N) := ((cfg0 a).win 15).stage ((cfg0 a).slots t 15)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_slora_int4 (grid0.coords t) (Memref.whole main_v6) (Memref.isWhole_whole _) (Memref.whole main_arg6) (Memref.isWhole_whole _) (Memref.whole main_arg8) (Memref.isWhole_whole _) (Memref.whole main_arg9) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (spec0_14.stage ((cfg0 a).slots t 14)) (hstage0_14 (((cfg0 a).slots t 14).cast nbuf0_14)) (spec0_15.stage ((cfg0 a).slots t 15)) (hstage0_15 (((cfg0 a).slots t 15).cast nbuf0_15)) (Memref.whole cc0_scratch0) (Memref.isWhole_whole _) (Memref.whole cc0_scratch1) (Memref.isWhole_whole _)

end Cert.Kernel.Body

end
-- ==== Proof.BitsRuns.lean ====
/- The shared part of the kernel's run at the bits: what the body's cases are stated over (the tables, the staging and scratch memrefs, the windows' blocks, the branch condition in closed form). -/
module

public import proofs.«01_k».proof.Proof.Gen.Kernel.Launch
public import proofs.«01_k».proof.Proof.Gen.Kernel.Skeleton
public import proofs.«01_k».proof.Proof.BitsPoints
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Body

open Idealize.ShloMosaic Idealize.ShloMosaic.TcCoe Idealize.ShloMosaic.Tactic
open Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 4) : V m c (pre0.ref j) = tbl m j := by
  obtain rfl : c = 0 := Subsingleton.elim _ _; rfl
/-- The pipeline's side condition of the tables' contents: every window whose index map reads a table has its block
    inside the array at every point (the printed `ok0`; `True` when no map reads a table). The frame holds under it. -/
abbrev Ok : Prop := ok0 (F := F) (tbl m)
/-- The tables' contents as admissible contents, and the pipeline at them: what the launch theorem runs
    (`θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S5 .i32 := Memref.whole main_v6
abbrev htbM0_0 : tbM0_0.IsWhole := Memref.isWhole_whole _
abbrev tbM0_1 : Memref sig .tc .smem S9 .i32 := Memref.whole main_arg6
abbrev htbM0_1 : tbM0_1.IsWhole := Memref.isWhole_whole _
abbrev tbM0_2 : Memref sig .tc .smem S6 .i32 := Memref.whole main_arg8
abbrev htbM0_2 : tbM0_2.IsWhole := Memref.isWhole_whole _
abbrev tbM0_3 : Memref sig .tc .smem S5 .i32 := Memref.whole main_arg9
abbrev htbM0_3 : tbM0_3.IsWhole := Memref.isWhole_whole _

/-- A table memref's buffer on core `c`: its contents type, and it held at half the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (`ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for any proof
    data whose array is `V`'s (`hA`) and whose body leaves the block in place (`hafter`); where it is
    not fetched the index has not moved (`Dat.before_in_eq_fetched`). -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is `V`'s (`hA`) and whose body leaves the block in place (`hafter`); where it is
    not fetched the index has not moved (`Dat.before_in_eq_fetched`). -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is `V`'s (`hA`) and whose body leaves the block in place (`hafter`); where it is
    not fetched the index has not moved (`Dat.before_in_eq_fetched`). -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data whose array is `V`'s (`hA`) and whose body leaves the block in place (`hafter`); where it is
    not fetched the index has not moved (`Dat.before_in_eq_fetched`). -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof
    data whose array is `V`'s (`hA`) and whose body leaves the block in place (`hafter`); where it is
    not fetched the index has not moved (`Dat.before_in_eq_fetched`). -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof
    data whose array is `V`'s (`hA`) and whose body leaves the block in place (`hafter`); where it is
    not fetched the index has not moved (`Dat.before_in_eq_fetched`). -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for any proof
    data whose array is `V`'s (`hA`) and whose body leaves the block in place (`hafter`); where it is
    not fetched the index has not moved (`Dat.before_in_eq_fetched`). -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for any proof
    data whose array is `V`'s (`hA`) and whose body leaves the block in place (`hafter`); where it is
    not fetched the index has not moved (`Dat.before_in_eq_fetched`). -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for any proof
    data whose array is `V`'s (`hA`) and whose body leaves the block in place (`hafter`); where it is
    not fetched the index has not moved (`Dat.before_in_eq_fetched`). -/
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for any proof
    data whose array is `V`'s (`hA`) and whose body leaves the block in place (`hafter`); where it is
    not fetched the index has not moved (`Dat.before_in_eq_fetched`). -/
theorem before0_9_of (hO : Ok m) {c : Dev nD} (dat : Dat τ (Elt F) Unit ℕ (UR sig nD τ) ℕ (cfgM m hO) c) (hA : dat.A 9 = V m c (Pipeline.arrRef spec0 9))
    (hafter : ∀ t, dat.after 9 t = iblk m hO c 9 t) (t : Fin (cfgM m hO).N) (d) : dat.before 9 t d = iblk m hO c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for any proof
    data whose array is `V`'s (`hA`) and whose body leaves the block in place (`hafter`); where it is
    not fetched the index has not moved (`Dat.before_in_eq_fetched`). -/
theorem before0_10_of (hO : Ok m) {c : Dev nD} (dat : Dat τ (Elt F) Unit ℕ (UR sig nD τ) ℕ (cfgM m hO) c) (hA : dat.A 10 = V m c (Pipeline.arrRef spec0 10))
    (hafter : ∀ t, dat.after 10 t = iblk m hO c 10 t) (t : Fin (cfgM m hO).N) (d) : dat.before 10 t d = iblk m hO c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for any proof
    data whose array is `V`'s (`hA`) and whose body leaves the block in place (`hafter`); where it is
    not fetched the index has not moved (`Dat.before_in_eq_fetched`). -/
theorem before0_11_of (hO : Ok m) {c : Dev nD} (dat : Dat τ (Elt F) Unit ℕ (UR sig nD τ) ℕ (cfgM m hO) c) (hA : dat.A 11 = V m c (Pipeline.arrRef spec0 11))
    (hafter : ∀ t, dat.after 11 t = iblk m hO c 11 t) (t : Fin (cfgM m hO).N) (d) : dat.before 11 t d = iblk m hO c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for any proof
    data whose array is `V`'s (`hA`) and whose body leaves the block in place (`hafter`); where it is
    not fetched the index has not moved (`Dat.before_in_eq_fetched`). -/
theorem before0_12_of (hO : Ok m) {c : Dev nD} (dat : Dat τ (Elt F) Unit ℕ (UR sig nD τ) ℕ (cfgM m hO) c) (hA : dat.A 12 = V m c (Pipeline.arrRef spec0 12))
    (hafter : ∀ t, dat.after 12 t = iblk m hO c 12 t) (t : Fin (cfgM m hO).N) (d) : dat.before 12 t d = iblk m hO c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for any proof
    data whose array is `V`'s (`hA`) and whose body leaves the block in place (`hafter`); where it is
    not fetched the index has not moved (`Dat.before_in_eq_fetched`). -/
theorem before0_13_of (hO : Ok m) {c : Dev nD} (dat : Dat τ (Elt F) Unit ℕ (UR sig nD τ) ℕ (cfgM m hO) c) (hA : dat.A 13 = V m c (Pipeline.arrRef spec0 13))
    (hafter : ∀ t, dat.after 13 t = iblk m hO c 13 t) (t : Fin (cfgM m hO).N) (d) : dat.before 13 t d = iblk m hO c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (by decide : main_arg0 ∈ Pipeline.restRefs sig spec0)).trans (V_main_arg0 m c),
      (Pipeline.RDat.FramePost.arr_in h c 2 rfl).trans ((hA c 2).trans (V_main_arg1 m c)),
      (Pipeline.RDat.FramePost.arr_in h c 3 rfl).trans ((hA c 3).trans (V_main_arg2 m c)),
      (Pipeline.RDat.FramePost.arr_in h c 8 rfl).trans ((hA c 8).trans (V_main_arg3 m c)),
      (Pipeline.RDat.FramePost.arr_in h c 13 rfl).trans ((hA c 13).trans (V_main_arg4 m c)),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      (Pipeline.RDat.FramePost.arr_in h c 0 rfl).trans ((hA c 0).trans (V_main_arg7 m c)),
      ((h c).2 main_arg8 (by decide : main_arg8 ∈ Pipeline.restRefs sig spec0)).trans (V_main_arg8 m c),
      ((h c).2 main_arg9 (by decide : main_arg9 ∈ Pipeline.restRefs sig spec0)).trans (V_main_arg9 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin grid0.N, cond0_0 (grid0.coords t) ↔ t.val % 10 = 0 :=
  (fun t => by
    have ht : t.val < 10 := Nat.lt_of_lt_of_eq t.isLt N_0
    have e0 : (grid0.coords t 0).val = t.val / 1 % 10 := Pipeline.Grid.coords_val t 0 (by decide) rfl
    simp only [cond0_0, k0_cond1, e0]
    word_cmp
   : ∀ t : Fin grid0.N, cond0_0 (grid0.coords t) ↔ t.val % 10 = 0)

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 3 (grid0.coords t) = false)
/-- Window 4 is never idle (an input). -/
theorem liveAt0_4 (hO : Ok m) : ∀ t : Fin (cfgM m hO).N, (cfgM m hO).idle 4 (grid0.coords t) = false :=
  (fun _ => rfl : ∀ t : Fin grid0.N, idle0 4 (grid0.coords t) = false)
/-- Window 5 is never idle (an input). -/
theorem liveAt0_5 (hO : Ok m) : ∀ t : Fin (cfgM m hO).N, (cfgM m hO).idle 5 (grid0.coords t) = false :=
  (fun _ => rfl : ∀ t : Fin grid0.N, idle0 5 (grid0.coords t) = false)
/-- Window 6 is never idle (an input). -/
theorem liveAt0_6 (hO : Ok m) : ∀ t : Fin (cfgM m hO).N, (cfgM m hO).idle 6 (grid0.coords t) = false :=
  (fun _ => rfl : ∀ t : Fin grid0.N, idle0 6 (grid0.coords t) = false)
/-- Window 7 is never idle (an input). -/
theorem liveAt0_7 (hO : Ok m) : ∀ t : Fin (cfgM m hO).N, (cfgM m hO).idle 7 (grid0.coords t) = false :=
  (fun _ => rfl : ∀ t : Fin grid0.N, idle0 7 (grid0.coords t) = false)
/-- Window 8 is never idle (an input). -/
theorem liveAt0_8 (hO : Ok m) : ∀ t : Fin (cfgM m hO).N, (cfgM m hO).idle 8 (grid0.coords t) = false :=
  (fun _ => rfl : ∀ t : Fin grid0.N, idle0 8 (grid0.coords t) = false)
/-- Window 9 is never idle (an input). -/
theorem liveAt0_9 (hO : Ok m) : ∀ t : Fin (cfgM m hO).N, (cfgM m hO).idle 9 (grid0.coords t) = false :=
  (fun _ => rfl : ∀ t : Fin grid0.N, idle0 9 (grid0.coords t) = false)
/-- Window 10 is never idle (an input). -/
theorem liveAt0_10 (hO : Ok m) : ∀ t : Fin (cfgM m hO).N, (cfgM m hO).idle 10 (grid0.coords t) = false :=
  (fun _ => rfl : ∀ t : Fin grid0.N, idle0 10 (grid0.coords t) = false)
/-- Window 11 is never idle (an input). -/
theorem liveAt0_11 (hO : Ok m) : ∀ t : Fin (cfgM m hO).N, (cfgM m hO).idle 11 (grid0.coords t) = false :=
  (fun _ => rfl : ∀ t : Fin grid0.N, idle0 11 (grid0.coords t) = false)
/-- Window 12 is never idle (an input). -/
theorem liveAt0_12 (hO : Ok m) : ∀ t : Fin (cfgM m hO).N, (cfgM m hO).idle 12 (grid0.coords t) = false :=
  (fun _ => rfl : ∀ t : Fin grid0.N, idle0 12 (grid0.coords t) = false)
/-- Window 13 is never idle (an input). -/
theorem liveAt0_13 (hO : Ok m) : ∀ t : Fin (cfgM m hO).N, (cfgM m hO).idle 13 (grid0.coords t) = false :=
  (fun _ => rfl : ∀ t : Fin grid0.N, idle0 13 (grid0.coords t) = false)
/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .smem S9 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S256x2560 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S2560x128 .i32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S20x1024 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S48x2560 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S48x2560 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S48x2560 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S48x2560 .bf16 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S48x2560 .bf16 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S48x1024 .bf16 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S48x1024 .bf16 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S48x1024 .bf16 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S48x1024 .bf16 := spec0_12.stage ((cfgM m hO).slots t 12)
abbrev hs0_12 (hO : Ok m) (t : Fin (cfgM m hO).N) : (ms0_12 m hO t).IsWhole := hstage0_12 (((cfgM m hO).slots t 12).cast nbuf0_12)
abbrev ms0_13 (hO : Ok m) (t : Fin (cfgM m hO).N) : Memref sig .tc .vmem S48x1024 .bf16 := spec0_13.stage ((cfgM m hO).slots t 13)
abbrev hs0_13 (hO : Ok m) (t : Fin (cfgM m hO).N) : (ms0_13 m hO t).IsWhole := hstage0_13 (((cfgM m hO).slots t 13).cast nbuf0_13)
abbrev ms0_14 (hO : Ok m) (t : Fin (cfgM m hO).N) : Memref sig .tc .vmem S256x1024 .bf16 := spec0_14.stage ((cfgM m hO).slots t 14)
abbrev hs0_14 (hO : Ok m) (t : Fin (cfgM m hO).N) : (ms0_14 m hO t).IsWhole := hstage0_14 (((cfgM m hO).slots t 14).cast nbuf0_14)
abbrev ms0_15 (hO : Ok m) (t : Fin (cfgM m hO).N) : Memref sig .tc .vmem S256x32 .bf16 := spec0_15.stage ((cfgM m hO).slots t 15)
abbrev hs0_15 (hO : Ok m) (t : Fin (cfgM m hO).N) : (ms0_15 m hO t).IsWhole := hstage0_15 (((cfgM m hO).slots t 15).cast nbuf0_15)

/-! ## The side conditions the body assumes, as the frame's hypothesis -/

/-- The side conditions the body assumes of words it loads from its prefetched tables and input SMEM windows, or
    inside a counted loop of the loop's carried counter at every trip (the
    printed `TpuEff.assume (kK_chkN …)`: facts computed from the words that no program decides for every word), at
    every point, over the tables' words (`tbl m`, under `hO`) and the argument blocks' there — spelled as each case's
    run reads them (`View.readAt` through the memref at its held contents), each under the conditions of the
    branches it sits inside. The frame holds under it. -/
def Hyps (m : (ℓ : Loc nD τ sig) → Buf (Elt F) ℓ) (hO : Ok m) : Prop :=
  ∀ (c : Dev nD) (t : Fin (cfgM m hO).N),
    (cond0_0 (grid0.coords t) → k0_chk1 (grid0.coords t) (tbM0_3.view.readAt (Elt F) (Rect.unit (s := S5) ![0] S1.size inb_S5_S1_0).toLoadRect (tbl m 3) (Shape.Idx.first (numel1_S1.symm ▸ Nat.one_pos))))
    ∧ (cond0_0 (grid0.coords t) → k0_chk2 (grid0.coords t) (tbM0_3.view.readAt (Elt F) (Rect.unit (s := S5) ![1] S1.size inb_S5_S1_1).toLoadRect (tbl m 3) (Shape.Idx.first (numel1_S1.symm ▸ Nat.one_pos))))
    ∧ (cond0_0 (grid0.coords t) → k0_chk3 (grid0.coords t) (tbM0_3.view.readAt (Elt F) (Rect.unit (s := S5) ![2] S1.size inb_S5_S1_2).toLoadRect (tbl m 3) (Shape.Idx.first (numel1_S1.symm ▸ Nat.one_pos))))
    ∧ (cond0_0 (grid0.coords t) → k0_chk4 (grid0.coords t) (tbM0_3.view.readAt (Elt F) (Rect.unit (s := S5) ![3] S1.size inb_S5_S1_3).toLoadRect (tbl m 3) (Shape.Idx.first (numel1_S1.symm ▸ Nat.one_pos))))
    ∧ (cond0_0 (grid0.coords t) → k0_chk5 (grid0.coords t) (tbM0_3.view.readAt (Elt F) (Rect.unit (s := S5) ![4] S1.size inb_S5_S1_4).toLoadRect (tbl m 3) (Shape.Idx.first (numel1_S1.symm ▸ Nat.one_pos))))

/-! Each conjunct of `Hyps` by name: its statement (`Hyps.pN`), a lemma citing it (`Hyps.cN`: what a run, or a
    statement over it, takes for that side condition), and `Hyps` built from one proof per conjunct (`Hyps.of`). -/

/-- Conjunct 0 of `Hyps` at point `t`: the side condition `k0_chk1` the body assumes as `k0_hw1`, under the conditions of the branches it sits inside. -/
abbrev Hyps.p0 (m : (ℓ : Loc nD τ sig) → Buf (Elt F) ℓ) (hO : Ok m) (c : Dev nD) (t : Fin (cfgM m hO).N) : Prop :=
  (cond0_0 (grid0.coords t) → k0_chk1 (grid0.coords t) (tbM0_3.view.readAt (Elt F) (Rect.unit (s := S5) ![0] S1.size inb_S5_S1_0).toLoadRect (tbl m 3) (Shape.Idx.first (numel1_S1.symm ▸ Nat.one_pos))))
variable {m} in
theorem Hyps.c0 {hO : Ok m} (hH : Hyps m hO) (c : Dev nD) (t : Fin (cfgM m hO).N) :
    (cond0_0 (grid0.coords t) → k0_chk1 (grid0.coords t) (tbM0_3.view.readAt (Elt F) (Rect.unit (s := S5) ![0] S1.size inb_S5_S1_0).toLoadRect (tbl m 3) (Shape.Idx.first (numel1_S1.symm ▸ Nat.one_pos)))) := (hH c t).1
/-- Conjunct 1 of `Hyps` at point `t`: the side condition `k0_chk2` the body assumes as `k0_hw2`, under the conditions of the branches it sits inside. -/
abbrev Hyps.p1 (m : (ℓ : Loc nD τ sig) → Buf (Elt F) ℓ) (hO : Ok m) (c : Dev nD) (t : Fin (cfgM m hO).N) : Prop :=
  (cond0_0 (grid0.coords t) → k0_chk2 (grid0.coords t) (tbM0_3.view.readAt (Elt F) (Rect.unit (s := S5) ![1] S1.size inb_S5_S1_1).toLoadRect (tbl m 3) (Shape.Idx.first (numel1_S1.symm ▸ Nat.one_pos))))
variable {m} in
theorem Hyps.c1 {hO : Ok m} (hH : Hyps m hO) (c : Dev nD) (t : Fin (cfgM m hO).N) :
    (cond0_0 (grid0.coords t) → k0_chk2 (grid0.coords t) (tbM0_3.view.readAt (Elt F) (Rect.unit (s := S5) ![1] S1.size inb_S5_S1_1).toLoadRect (tbl m 3) (Shape.Idx.first (numel1_S1.symm ▸ Nat.one_pos)))) := (hH c t).2.1
/-- Conjunct 2 of `Hyps` at point `t`: the side condition `k0_chk3` the body assumes as `k0_hw3`, under the conditions of the branches it sits inside. -/
abbrev Hyps.p2 (m : (ℓ : Loc nD τ sig) → Buf (Elt F) ℓ) (hO : Ok m) (c : Dev nD) (t : Fin (cfgM m hO).N) : Prop :=
  (cond0_0 (grid0.coords t) → k0_chk3 (grid0.coords t) (tbM0_3.view.readAt (Elt F) (Rect.unit (s := S5) ![2] S1.size inb_S5_S1_2).toLoadRect (tbl m 3) (Shape.Idx.first (numel1_S1.symm ▸ Nat.one_pos))))
variable {m} in
theorem Hyps.c2 {hO : Ok m} (hH : Hyps m hO) (c : Dev nD) (t : Fin (cfgM m hO).N) :
    (cond0_0 (grid0.coords t) → k0_chk3 (grid0.coords t) (tbM0_3.view.readAt (Elt F) (Rect.unit (s := S5) ![2] S1.size inb_S5_S1_2).toLoadRect (tbl m 3) (Shape.Idx.first (numel1_S1.symm ▸ Nat.one_pos)))) := (hH c t).2.2.1
/-- Conjunct 3 of `Hyps` at point `t`: the side condition `k0_chk4` the body assumes as `k0_hw4`, under the conditions of the branches it sits inside. -/
abbrev Hyps.p3 (m : (ℓ : Loc nD τ sig) → Buf (Elt F) ℓ) (hO : Ok m) (c : Dev nD) (t : Fin (cfgM m hO).N) : Prop :=
  (cond0_0 (grid0.coords t) → k0_chk4 (grid0.coords t) (tbM0_3.view.readAt (Elt F) (Rect.unit (s := S5) ![3] S1.size inb_S5_S1_3).toLoadRect (tbl m 3) (Shape.Idx.first (numel1_S1.symm ▸ Nat.one_pos))))
variable {m} in
theorem Hyps.c3 {hO : Ok m} (hH : Hyps m hO) (c : Dev nD) (t : Fin (cfgM m hO).N) :
    (cond0_0 (grid0.coords t) → k0_chk4 (grid0.coords t) (tbM0_3.view.readAt (Elt F) (Rect.unit (s := S5) ![3] S1.size inb_S5_S1_3).toLoadRect (tbl m 3) (Shape.Idx.first (numel1_S1.symm ▸ Nat.one_pos)))) := (hH c t).2.2.2.1
/-- Conjunct 4 of `Hyps` at point `t`: the side condition `k0_chk5` the body assumes as `k0_hw5`, under the conditions of the branches it sits inside. -/
abbrev Hyps.p4 (m : (ℓ : Loc nD τ sig) → Buf (Elt F) ℓ) (hO : Ok m) (c : Dev nD) (t : Fin (cfgM m hO).N) : Prop :=
  (cond0_0 (grid0.coords t) → k0_chk5 (grid0.coords t) (tbM0_3.view.readAt (Elt F) (Rect.unit (s := S5) ![4] S1.size inb_S5_S1_4).toLoadRect (tbl m 3) (Shape.Idx.first (numel1_S1.symm ▸ Nat.one_pos))))
variable {m} in
theorem Hyps.c4 {hO : Ok m} (hH : Hyps m hO) (c : Dev nD) (t : Fin (cfgM m hO).N) :
    (cond0_0 (grid0.coords t) → k0_chk5 (grid0.coords t) (tbM0_3.view.readAt (Elt F) (Rect.unit (s := S5) ![4] S1.size inb_S5_S1_4).toLoadRect (tbl m 3) (Shape.Idx.first (numel1_S1.symm ▸ Nat.one_pos)))) := (hH c t).2.2.2.2
variable {m} in
theorem Hyps.of {hO : Ok m}
    (p0 : ∀ (c : Dev nD) (t : Fin (cfgM m hO).N), Hyps.p0 m hO c t)
    (p1 : ∀ (c : Dev nD) (t : Fin (cfgM m hO).N), Hyps.p1 m hO c t)
    (p2 : ∀ (c : Dev nD) (t : Fin (cfgM m hO).N), Hyps.p2 m hO c t)
    (p3 : ∀ (c : Dev nD) (t : Fin (cfgM m hO).N), Hyps.p3 m hO c t)
    (p4 : ∀ (c : Dev nD) (t : Fin (cfgM m hO).N), Hyps.p4 m hO c t) :
    Hyps m hO := fun c t =>
  And.intro (p0 c t) (And.intro (p1 c t) (And.intro (p2 c t) (And.intro (p3 c t) (p4 c t))))

/-- The scratch operands: whole scoped buffers of the kernel's own, passed beside the windows. -/
abbrev scM0_0 : Memref sig .tc .vmem S256x240 .bf16 := Memref.whole cc0_scratch0
abbrev scM0_1 : Memref sig .tc .vmem S8x240x128 .bf16 := Memref.whole cc0_scratch1

/-- The frame kit's invariant with the scratch operands as memrefs owned at some contents (`scopedRest0_eq`,
    `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Body

end
-- ==== Proof.BitsRunA.lean ====
/- The kernel's body at the bits at the first grid point (the branch taken), run whole: what it leaves in each buffer. -/
module

public import proofs.«01_k».proof.Proof.BitsRuns

@[expose] public section

-- membership in a rectangle of production extents (`View.cover_of_tiled`): the elaborator's structural look
-- recurses once per coordinate of the long axes
set_option maxRecDepth 16384

noncomputable section

namespace Cert.Kernel.Body

open Idealize.ShloMosaic Idealize.ShloMosaic.TcCoe Idealize.ShloMosaic.Tactic
open Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 2196000 in
/-- The body's triple in case A (`scf.if` 0 taken: points 0): on whole staging memrefs — the inputs' at their contents,
    the FORGOTTEN outputs' (14, 15) at anything, handed back at some contents nothing names —
    the body runs to the continuation holding the inputs' as they were, the scratch at some contents: the printed functions are their skeletons (`*_eq_skeleton`),
    which `sl_exec` runs  — each `scf.if` decided by the case's hypotheses `hc·`. -/
theorem kernelRun0_A (c : Dev nD) (i : grid0.Coords) (arg5 : Memref sig .tc .smem S9 .f32) (harg5 : arg5.IsWhole) (arg6 : Memref sig .tc .vmem S256x2560 .bf16) (harg6 : arg6.IsWhole) (arg7 : Memref sig .tc .vmem S2560x128 .i32) (harg7 : arg7.IsWhole) (arg8 : Memref sig .tc .vmem S20x1024 .bf16) (harg8 : arg8.IsWhole) (arg9 : Memref sig .tc .vmem S48x2560 .bf16) (harg9 : arg9.IsWhole) (arg10 : Memref sig .tc .vmem S48x2560 .bf16) (harg10 : arg10.IsWhole) (arg11 : Memref sig .tc .vmem S48x2560 .bf16) (harg11 : arg11.IsWhole) (arg12 : Memref sig .tc .vmem S48x2560 .bf16) (harg12 : arg12.IsWhole) (arg13 : Memref sig .tc .vmem S48x2560 .bf16) (harg13 : arg13.IsWhole) (arg14 : Memref sig .tc .vmem S48x1024 .bf16) (harg14 : arg14.IsWhole) (arg15 : Memref sig .tc .vmem S48x1024 .bf16) (harg15 : arg15.IsWhole) (arg16 : Memref sig .tc .vmem S48x1024 .bf16) (harg16 : arg16.IsWhole) (arg17 : Memref sig .tc .vmem S48x1024 .bf16) (harg17 : arg17.IsWhole) (arg18 : Memref sig .tc .vmem S48x1024 .bf16) (harg18 : arg18.IsWhole) (arg19 : Memref sig .tc .vmem S256x1024 .bf16) (harg19 : arg19.IsWhole) (arg20 : Memref sig .tc .vmem S256x32 .bf16) (harg20 : arg20.IsWhole) (arg21 : Memref sig .tc .vmem S256x240 .bf16) (harg21 : arg21.IsWhole) (arg22 : Memref sig .tc .vmem S8x240x128 .bf16) (harg22 : arg22.IsWhole) (hc0 : cond0_0 i)
    (x0 : Vec F S9 .f32) (x1 : Vec F S256x2560 .bf16) (x2 : Vec F S2560x128 .i32) (x3 : Vec F S20x1024 .bf16) (x4 : Vec F S48x2560 .bf16) (x5 : Vec F S48x2560 .bf16) (x6 : Vec F S48x2560 .bf16) (x7 : Vec F S48x2560 .bf16) (x8 : Vec F S48x2560 .bf16) (x9 : Vec F S48x1024 .bf16) (x10 : Vec F S48x1024 .bf16) (x11 : Vec F S48x1024 .bf16) (x12 : Vec F S48x1024 .bf16) (x13 : Vec F S48x1024 .bf16) (xt0 : TbBuf0 (F := F) c tbM0_0) (xt1 : TbBuf0 (F := F) c tbM0_1) (xt2 : TbBuf0 (F := F) c tbM0_2) (xt3 : TbBuf0 (F := F) c tbM0_3) (k0_hw1 : k0_chk1 i (tbM0_3.view.readAt (Elt F) (Rect.unit (s := S5) ![0] S1.size inb_S5_S1_0).toLoadRect xt3 (Shape.Idx.first (numel1_S1.symm ▸ Nat.one_pos)))) (k0_hw2 : k0_chk2 i (tbM0_3.view.readAt (Elt F) (Rect.unit (s := S5) ![1] S1.size inb_S5_S1_1).toLoadRect xt3 (Shape.Idx.first (numel1_S1.symm ▸ Nat.one_pos)))) (k0_hw3 : k0_chk3 i (tbM0_3.view.readAt (Elt F) (Rect.unit (s := S5) ![2] S1.size inb_S5_S1_2).toLoadRect xt3 (Shape.Idx.first (numel1_S1.symm ▸ Nat.one_pos)))) (k0_hw4 : k0_chk4 i (tbM0_3.view.readAt (Elt F) (Rect.unit (s := S5) ![3] S1.size inb_S5_S1_3).toLoadRect xt3 (Shape.Idx.first (numel1_S1.symm ▸ Nat.one_pos)))) (k0_hw5 : k0_chk5 i (tbM0_3.view.readAt (Elt F) (Rect.unit (s := S5) ![4] S1.size inb_S5_S1_4).toLoadRect xt3 (Shape.Idx.first (numel1_S1.symm ▸ Nat.one_pos)))) :
      ∀ (E : Set ℕ) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare x8 ∗ owns (c : Thread nD τ) arg14 fullShare x9 ∗ owns (c : Thread nD τ) arg15 fullShare x10 ∗ owns (c : Thread nD τ) arg16 fullShare x11 ∗ owns (c : Thread nD τ) arg17 fullShare x12 ∗ owns (c : Thread nD τ) arg18 fullShare x13 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ tbPt0 c tbM0_0 xt0 ∗ tbPt0 c tbM0_1 xt1 ∗ tbPt0 c tbM0_2 xt2 ∗ tbPt0 c tbM0_3 xt3
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare x8 ∗ owns (c : Thread nD τ) arg14 fullShare x9 ∗ owns (c : Thread nD τ) arg15 fullShare x10 ∗ owns (c : Thread nD τ) arg16 fullShare x11 ∗ owns (c : Thread nD τ) arg17 fullShare x12 ∗ owns (c : Thread nD τ) arg18 fullShare x13 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_slora_int4 i tbM0_0 htbM0_0 tbM0_1 htbM0_1 tbM0_2 htbM0_2 tbM0_3 htbM0_3 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
    intro E K
    simp only [cc0_slora_int4_eq_skeleton]; unfold cc0_slora_int4_skel
    simp only [k0_part118_eq_skeleton, k0_part6_eq_skeleton, k0_part1_eq_skeleton, k0_part2_eq_skeleton, k0_part3_eq_skeleton, k0_part4_eq_skeleton, k0_part5_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part119_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%ds0, %fs0, -, HS0⟩, ⟨%ds1, %fs1, -, HS1⟩, HT0, HT1, HT2, HT3, Hk⟩
    obtain rfl := harg5.eq_unread hf0; obtain rfl := harg6.eq_unread hf1; obtain rfl := harg7.eq_unread hf2; obtain rfl := harg8.eq_unread hf3; obtain rfl := harg9.eq_unread hf4; obtain rfl := harg10.eq_unread hf5; obtain rfl := harg11.eq_unread hf6; obtain rfl := harg12.eq_unread hf7; obtain rfl := harg13.eq_unread hf8; obtain rfl := harg14.eq_unread hf9; obtain rfl := harg15.eq_unread hf10; obtain rfl := harg16.eq_unread hf11; obtain rfl := harg17.eq_unread hf12; obtain rfl := harg18.eq_unread hf13
    sl_exec (disch := first | sl_exact hc0 | sl_exact k0_hw1 | sl_exact k0_hw2 | sl_exact k0_hw3 | sl_exact k0_hw4 | sl_exact k0_hw5)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    isplitl [H7]
    · iexists _; isplitr; · ipureintro; exact harg12.read_unread _
      iexact H7
    isplitl [H8]
    · iexists _; isplitr; · ipureintro; exact harg13.read_unread _
      iexact H8
    isplitl [H9]
    · iexists _; isplitr; · ipureintro; exact harg14.read_unread _
      iexact H9
    isplitl [H10]
    · iexists _; isplitr; · ipureintro; exact harg15.read_unread _
      iexact H10
    isplitl [H11]
    · iexists _; isplitr; · ipureintro; exact harg16.read_unread _
      iexact H11
    isplitl [H12]
    · iexists _; isplitr; · ipureintro; exact harg17.read_unread _
      iexact H12
    isplitl [H13]
    · iexists _; isplitr; · ipureintro; exact harg18.read_unread _
      iexact H13
    isplitl [H14]
    · iexists _, _; isplitr; swap; · iexact H14
      ipureintro; rfl
    isplitl [H15]
    · iexists _, _; isplitr; swap; · iexact H15
      ipureintro; rfl
    isplitl [HS0]
    · iexists _, _; isplitr; swap; · iexact HS0
      ipureintro; rfl
    isplitl [HS1]
    · iexists _, _; isplitr; swap; · iexact HS1
      ipureintro; rfl
    isplitl [HT0]; · iexact HT0
    isplitl [HT1]; · iexact HT1
    isplitl [HT2]; · iexact HT2
    iexact HT3

end Cert.Kernel.Body

end
-- ==== Proof.BitsRunB.lean ====
/- The kernel's body at the bits at a later grid point (the branch not taken), run whole: what it leaves in each buffer. -/
module

public import proofs.«01_k».proof.Proof.BitsRunA

@[expose] public section

-- membership in a rectangle of production extents (`View.cover_of_tiled`): the elaborator's structural look
-- recurses once per coordinate of the long axes
set_option maxRecDepth 16384

noncomputable section

namespace Cert.Kernel.Body

open Idealize.ShloMosaic Idealize.ShloMosaic.TcCoe Idealize.ShloMosaic.Tactic
open Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1780000 in
/-- The body's triple in case B (`scf.if` 0 not taken: points 1, 2, … 9: 9 of 10): on whole staging memrefs — the inputs' at their contents,
    the FORGOTTEN outputs' (14, 15) at anything, handed back at some contents nothing names —
    the body runs to the continuation holding the inputs' as they were, the scratch at some contents: the printed functions are their skeletons (`*_eq_skeleton`),
    which `sl_exec` runs  — each `scf.if` decided by the case's hypotheses `hc·`. -/
theorem kernelRun0_B (c : Dev nD) (i : grid0.Coords) (arg5 : Memref sig .tc .smem S9 .f32) (harg5 : arg5.IsWhole) (arg6 : Memref sig .tc .vmem S256x2560 .bf16) (harg6 : arg6.IsWhole) (arg7 : Memref sig .tc .vmem S2560x128 .i32) (harg7 : arg7.IsWhole) (arg8 : Memref sig .tc .vmem S20x1024 .bf16) (harg8 : arg8.IsWhole) (arg9 : Memref sig .tc .vmem S48x2560 .bf16) (harg9 : arg9.IsWhole) (arg10 : Memref sig .tc .vmem S48x2560 .bf16) (harg10 : arg10.IsWhole) (arg11 : Memref sig .tc .vmem S48x2560 .bf16) (harg11 : arg11.IsWhole) (arg12 : Memref sig .tc .vmem S48x2560 .bf16) (harg12 : arg12.IsWhole) (arg13 : Memref sig .tc .vmem S48x2560 .bf16) (harg13 : arg13.IsWhole) (arg14 : Memref sig .tc .vmem S48x1024 .bf16) (harg14 : arg14.IsWhole) (arg15 : Memref sig .tc .vmem S48x1024 .bf16) (harg15 : arg15.IsWhole) (arg16 : Memref sig .tc .vmem S48x1024 .bf16) (harg16 : arg16.IsWhole) (arg17 : Memref sig .tc .vmem S48x1024 .bf16) (harg17 : arg17.IsWhole) (arg18 : Memref sig .tc .vmem S48x1024 .bf16) (harg18 : arg18.IsWhole) (arg19 : Memref sig .tc .vmem S256x1024 .bf16) (harg19 : arg19.IsWhole) (arg20 : Memref sig .tc .vmem S256x32 .bf16) (harg20 : arg20.IsWhole) (arg21 : Memref sig .tc .vmem S256x240 .bf16) (harg21 : arg21.IsWhole) (arg22 : Memref sig .tc .vmem S8x240x128 .bf16) (harg22 : arg22.IsWhole) (hc0 : ¬cond0_0 i)
    (x0 : Vec F S9 .f32) (x1 : Vec F S256x2560 .bf16) (x2 : Vec F S2560x128 .i32) (x3 : Vec F S20x1024 .bf16) (x4 : Vec F S48x2560 .bf16) (x5 : Vec F S48x2560 .bf16) (x6 : Vec F S48x2560 .bf16) (x7 : Vec F S48x2560 .bf16) (x8 : Vec F S48x2560 .bf16) (x9 : Vec F S48x1024 .bf16) (x10 : Vec F S48x1024 .bf16) (x11 : Vec F S48x1024 .bf16) (x12 : Vec F S48x1024 .bf16) (x13 : Vec F S48x1024 .bf16) (xt0 : TbBuf0 (F := F) c tbM0_0) (xt1 : TbBuf0 (F := F) c tbM0_1) (xt2 : TbBuf0 (F := F) c tbM0_2) (xt3 : TbBuf0 (F := F) c tbM0_3) :
      ∀ (E : Set ℕ) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare x8 ∗ owns (c : Thread nD τ) arg14 fullShare x9 ∗ owns (c : Thread nD τ) arg15 fullShare x10 ∗ owns (c : Thread nD τ) arg16 fullShare x11 ∗ owns (c : Thread nD τ) arg17 fullShare x12 ∗ owns (c : Thread nD τ) arg18 fullShare x13 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ tbPt0 c tbM0_0 xt0 ∗ tbPt0 c tbM0_1 xt1 ∗ tbPt0 c tbM0_2 xt2 ∗ tbPt0 c tbM0_3 xt3
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare x8 ∗ owns (c : Thread nD τ) arg14 fullShare x9 ∗ owns (c : Thread nD τ) arg15 fullShare x10 ∗ owns (c : Thread nD τ) arg16 fullShare x11 ∗ owns (c : Thread nD τ) arg17 fullShare x12 ∗ owns (c : Thread nD τ) arg18 fullShare x13 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_slora_int4 i tbM0_0 htbM0_0 tbM0_1 htbM0_1 tbM0_2 htbM0_2 tbM0_3 htbM0_3 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
    intro E K
    simp only [cc0_slora_int4_eq_skeleton]; unfold cc0_slora_int4_skel
    simp only [k0_part118_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part119_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%ds0, %fs0, -, HS0⟩, ⟨%ds1, %fs1, -, HS1⟩, HT0, HT1, HT2, HT3, Hk⟩
    obtain rfl := harg5.eq_unread hf0; obtain rfl := harg6.eq_unread hf1; obtain rfl := harg7.eq_unread hf2; obtain rfl := harg8.eq_unread hf3; obtain rfl := harg9.eq_unread hf4; obtain rfl := harg10.eq_unread hf5; obtain rfl := harg11.eq_unread hf6; obtain rfl := harg12.eq_unread hf7; obtain rfl := harg13.eq_unread hf8; obtain rfl := harg14.eq_unread hf9; obtain rfl := harg15.eq_unread hf10; obtain rfl := harg16.eq_unread hf11; obtain rfl := harg17.eq_unread hf12; obtain rfl := harg18.eq_unread hf13
    sl_exec (disch := first | sl_exact hc0)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    isplitl [H7]
    · iexists _; isplitr; · ipureintro; exact harg12.read_unread _
      iexact H7
    isplitl [H8]
    · iexists _; isplitr; · ipureintro; exact harg13.read_unread _
      iexact H8
    isplitl [H9]
    · iexists _; isplitr; · ipureintro; exact harg14.read_unread _
      iexact H9
    isplitl [H10]
    · iexists _; isplitr; · ipureintro; exact harg15.read_unread _
      iexact H10
    isplitl [H11]
    · iexists _; isplitr; · ipureintro; exact harg16.read_unread _
      iexact H11
    isplitl [H12]
    · iexists _; isplitr; · ipureintro; exact harg17.read_unread _
      iexact H12
    isplitl [H13]
    · iexists _; isplitr; · ipureintro; exact harg18.read_unread _
      iexact H13
    isplitl [H14]
    · iexists _, _; isplitr; swap; · iexact H14
      ipureintro; rfl
    isplitl [H15]
    · iexists _, _; isplitr; swap; · iexact H15
      ipureintro; rfl
    isplitl [HS0]
    · iexists _, _; isplitr; swap; · iexact HS0
      ipureintro; rfl
    isplitl [HS1]
    · iexists _, _; isplitr; swap; · iexact HS1
      ipureintro; rfl
    isplitl [HT0]; · iexact HT0
    isplitl [HT1]; · iexact HT1
    isplitl [HT2]; · iexact HT2
    iexact HT3

end Cert.Kernel.Body

end
-- ==== Proof.BitsFrame.lean ====
/- The kernel's run at the bits: the proof data of the pipeline, the body's obligation, the whole run, and the frame claim. -/
module

public import proofs.«01_k».proof.Proof.BitsRunB
public import Idealize.ShloMosaic.Lib.Claim

@[expose] public section

-- membership in a rectangle of production extents (`View.cover_of_tiled`): the elaborator's structural look
-- recurses once per coordinate of the long axes
set_option maxRecDepth 16384

noncomputable section

namespace Cert.Kernel.Body

open Idealize.ShloMosaic Idealize.ShloMosaic.TcCoe Idealize.ShloMosaic.Tactic
open Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this proof forgets (14, 15): nothing reads what the kernel leaves in them, so nothing
    of it is named (`Dat.toRForget`). -/
def forgets0 : Fin 16 → Bool := fun w => w.val == 14 || w.val == 15

/-- The proof data of the one pipeline on core `c`: the arrays as the region finds them (`V`); after the body at
    point `t` each input's buffer at its block and the outputs, FORGOTTEN, at `Dat.unnamed`; the invariant the usual one
    (`ΦA`: the scoped rest and the generator register) and the tables' halves (`ΦT`); nothing owed;
    each input's share of its array
    (`Pipeline.shareOf`: the full share of an array several windows stage, dealt among them). -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, h⟩ => Pipeline.Dat.unnamed (cfg := (cfgM m hO)) ⟨14, h⟩ t
    | ⟨15, h⟩ => Pipeline.Dat.unnamed (cfg := (cfgM m hO)) ⟨15, h⟩ t
    | ⟨_ + 16, h⟩ => absurd h (Nat.not_lt.2 (Nat.le_add_left _ _))
  Φ _ := iprop(Pipeline.ΦA spec0 c ∗ Pipeline.ΦT pre0 (tbl m) c)
  q w := Pipeline.shareOf spec0 w
  owed _ := 0

/-- The proof data's arrays are the region-entry contents: the proof data's definition projected (`dsimp`), so that
    `V` — a fold over @main's host prefix, long for some programs — is never unfolded to check it. -/
theorem A_eq (hO : Ok m) (hH : Hyps m hO) (c : Dev nD) (w : Fin (cfgM m hO).W) : (dats m hO hH 0 c).A w = V m c (Pipeline.arrRef spec0 w) := by
  dsimp only [dats]

/-- What the body leaves, window by window (the proof data's `match` reduced by `dsimp`). -/
theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = iblk m hO c 3 t := by dsimp only [dats]; try rfl
theorem after0_4 (hO : Ok m) (hH : Hyps m hO) (c : Dev nD) (t : Fin (cfgM m hO).N) : (dats m hO hH 0 c).after 4 t = iblk m hO c 4 t := by dsimp only [dats]; try rfl
theorem after0_5 (hO : Ok m) (hH : Hyps m hO) (c : Dev nD) (t : Fin (cfgM m hO).N) : (dats m hO hH 0 c).after 5 t = iblk m hO c 5 t := by dsimp only [dats]; try rfl
theorem after0_6 (hO : Ok m) (hH : Hyps m hO) (c : Dev nD) (t : Fin (cfgM m hO).N) : (dats m hO hH 0 c).after 6 t = iblk m hO c 6 t := by dsimp only [dats]; try rfl
theorem after0_7 (hO : Ok m) (hH : Hyps m hO) (c : Dev nD) (t : Fin (cfgM m hO).N) : (dats m hO hH 0 c).after 7 t = iblk m hO c 7 t := by dsimp only [dats]; try rfl
theorem after0_8 (hO : Ok m) (hH : Hyps m hO) (c : Dev nD) (t : Fin (cfgM m hO).N) : (dats m hO hH 0 c).after 8 t = iblk m hO c 8 t := by dsimp only [dats]; try rfl
theorem after0_9 (hO : Ok m) (hH : Hyps m hO) (c : Dev nD) (t : Fin (cfgM m hO).N) : (dats m hO hH 0 c).after 9 t = iblk m hO c 9 t := by dsimp only [dats]; try rfl
theorem after0_10 (hO : Ok m) (hH : Hyps m hO) (c : Dev nD) (t : Fin (cfgM m hO).N) : (dats m hO hH 0 c).after 10 t = iblk m hO c 10 t := by dsimp only [dats]; try rfl
theorem after0_11 (hO : Ok m) (hH : Hyps m hO) (c : Dev nD) (t : Fin (cfgM m hO).N) : (dats m hO hH 0 c).after 11 t = iblk m hO c 11 t := by dsimp only [dats]; try rfl
theorem after0_12 (hO : Ok m) (hH : Hyps m hO) (c : Dev nD) (t : Fin (cfgM m hO).N) : (dats m hO hH 0 c).after 12 t = iblk m hO c 12 t := by dsimp only [dats]; try rfl
theorem after0_13 (hO : Ok m) (hH : Hyps m hO) (c : Dev nD) (t : Fin (cfgM m hO).N) : (dats m hO hH 0 c).after 13 t = iblk m hO c 13 t := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d
theorem before0_5 (hO : Ok m) (hH : Hyps m hO) (c : Dev nD) (t : Fin (cfgM m hO).N) (d) : (dats m hO hH 0 c).before 5 t d = iblk m hO c 5 t :=
  before0_5_of m hO (dats m hO hH 0 c) (A_eq m hO hH c 5) (after0_5 m hO hH c) t d
theorem before0_6 (hO : Ok m) (hH : Hyps m hO) (c : Dev nD) (t : Fin (cfgM m hO).N) (d) : (dats m hO hH 0 c).before 6 t d = iblk m hO c 6 t :=
  before0_6_of m hO (dats m hO hH 0 c) (A_eq m hO hH c 6) (after0_6 m hO hH c) t d
theorem before0_7 (hO : Ok m) (hH : Hyps m hO) (c : Dev nD) (t : Fin (cfgM m hO).N) (d) : (dats m hO hH 0 c).before 7 t d = iblk m hO c 7 t :=
  before0_7_of m hO (dats m hO hH 0 c) (A_eq m hO hH c 7) (after0_7 m hO hH c) t d
theorem before0_8 (hO : Ok m) (hH : Hyps m hO) (c : Dev nD) (t : Fin (cfgM m hO).N) (d) : (dats m hO hH 0 c).before 8 t d = iblk m hO c 8 t :=
  before0_8_of m hO (dats m hO hH 0 c) (A_eq m hO hH c 8) (after0_8 m hO hH c) t d
theorem before0_9 (hO : Ok m) (hH : Hyps m hO) (c : Dev nD) (t : Fin (cfgM m hO).N) (d) : (dats m hO hH 0 c).before 9 t d = iblk m hO c 9 t :=
  before0_9_of m hO (dats m hO hH 0 c) (A_eq m hO hH c 9) (after0_9 m hO hH c) t d
theorem before0_10 (hO : Ok m) (hH : Hyps m hO) (c : Dev nD) (t : Fin (cfgM m hO).N) (d) : (dats m hO hH 0 c).before 10 t d = iblk m hO c 10 t :=
  before0_10_of m hO (dats m hO hH 0 c) (A_eq m hO hH c 10) (after0_10 m hO hH c) t d
theorem before0_11 (hO : Ok m) (hH : Hyps m hO) (c : Dev nD) (t : Fin (cfgM m hO).N) (d) : (dats m hO hH 0 c).before 11 t d = iblk m hO c 11 t :=
  before0_11_of m hO (dats m hO hH 0 c) (A_eq m hO hH c 11) (after0_11 m hO hH c) t d
theorem before0_12 (hO : Ok m) (hH : Hyps m hO) (c : Dev nD) (t : Fin (cfgM m hO).N) (d) : (dats m hO hH 0 c).before 12 t d = iblk m hO c 12 t :=
  before0_12_of m hO (dats m hO hH 0 c) (A_eq m hO hH c 12) (after0_12 m hO hH c) t d
theorem before0_13 (hO : Ok m) (hH : Hyps m hO) (c : Dev nD) (t : Fin (cfgM m hO).N) (d) : (dats m hO hH 0 c).before 13 t d = iblk m hO c 13 t :=
  before0_13_of m hO (dats m hO hH 0 c) (A_eq m hO hH c 13) (after0_13 m hO hH c) t d

/-! ## The body obligation, at a generic point -/

/-- What the body is called with at point `t` (`BodyObligation`'s precondition, the windows one by one), -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare ((dats m hO hH 0 c).before 6 t d))
    ∗ (∃ d, owns (c : Thread nD τ) (ms0_7 m hO t) fullShare ((dats m hO hH 0 c).before 7 t d))
    ∗ (∃ d, owns (c : Thread nD τ) (ms0_8 m hO t) fullShare ((dats m hO hH 0 c).before 8 t d))
    ∗ (∃ d, owns (c : Thread nD τ) (ms0_9 m hO t) fullShare ((dats m hO hH 0 c).before 9 t d))
    ∗ (∃ d, owns (c : Thread nD τ) (ms0_10 m hO t) fullShare ((dats m hO hH 0 c).before 10 t d))
    ∗ (∃ d, owns (c : Thread nD τ) (ms0_11 m hO t) fullShare ((dats m hO hH 0 c).before 11 t d))
    ∗ (∃ d, owns (c : Thread nD τ) (ms0_12 m hO t) fullShare ((dats m hO hH 0 c).before 12 t d))
    ∗ (∃ d, owns (c : Thread nD τ) (ms0_13 m hO t) fullShare ((dats m hO hH 0 c).before 13 t d))
    ∗ (∃ d, owns (c : Thread nD τ) (ms0_14 m hO t) fullShare d)
    ∗ (∃ d, owns (c : Thread nD τ) (ms0_15 m hO t) fullShare d))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ (dats m hO hH 0 c).leavesExact 0 t
    ∗ (dats m hO hH 0 c).leavesExact 1 t
    ∗ (dats m hO hH 0 c).leavesExact 2 t
    ∗ (dats m hO hH 0 c).leavesExact 3 t
    ∗ (dats m hO hH 0 c).leavesExact 4 t
    ∗ (dats m hO hH 0 c).leavesExact 5 t
    ∗ (dats m hO hH 0 c).leavesExact 6 t
    ∗ (dats m hO hH 0 c).leavesExact 7 t
    ∗ (dats m hO hH 0 c).leavesExact 8 t
    ∗ (dats m hO hH 0 c).leavesExact 9 t
    ∗ (dats m hO hH 0 c).leavesExact 10 t
    ∗ (dats m hO hH 0 c).leavesExact 11 t
    ∗ (dats m hO hH 0 c).leavesExact 12 t
    ∗ (dats m hO hH 0 c).leavesExact 13 t
    ∗ (∃ d, owns (c : Thread nD τ) (ms0_14 m hO t) fullShare d)
    ∗ (∃ d, owns (c : Thread nD τ) (ms0_15 m hO t) fullShare d))

set_option maxHeartbeats 3200000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4, before0_5, before0_6, before0_7, before0_8, before0_9, before0_10, before0_11, before0_12, before0_13]
  rw [show (dats m hO hH 0 c).Φ t.succ = (dats m hO hH 0 c).Φ t.castSucc from rfl,
    show (dats m hO hH 0 c).owesAt () t.succ = (dats m hO hH 0 c).owesAt () t.castSucc from rfl]
  rw [show (dats m hO hH 0 c).Φ t.castSucc = iprop(Pipeline.ΦA spec0 c ∗ Pipeline.ΦT pre0 (tbl m) c) from rfl, PhiT0_eq, PhiA0_eq]
  have hN : t.val < 10 := lt_of_lt_of_eq t.isLt (show (cfgM m hO).N = 10 from N_0)
  by_cases h0 : t.val % 10 = 0
  · rw [show (dats m hO hH 0 c).leavesExact 0 t = owns (c : Thread nD τ) (ms0_0 m hO t) fullShare ((dats m hO hH 0 c).after 0 t) from by
      unfold Dat.leavesExact; rw [liveAt0_0 m hO t]; try rfl, after0_0]
    rw [show (dats m hO hH 0 c).leavesExact 1 t = owns (c : Thread nD τ) (ms0_1 m hO t) fullShare ((dats m hO hH 0 c).after 1 t) from by
      unfold Dat.leavesExact; rw [liveAt0_1 m hO t]; try rfl, after0_1]
    rw [show (dats m hO hH 0 c).leavesExact 2 t = owns (c : Thread nD τ) (ms0_2 m hO t) fullShare ((dats m hO hH 0 c).after 2 t) from by
      unfold Dat.leavesExact; rw [liveAt0_2 m hO t]; try rfl, after0_2]
    rw [show (dats m hO hH 0 c).leavesExact 3 t = owns (c : Thread nD τ) (ms0_3 m hO t) fullShare ((dats m hO hH 0 c).after 3 t) from by
      unfold Dat.leavesExact; rw [liveAt0_3 m hO t]; try rfl, after0_3]
    rw [show (dats m hO hH 0 c).leavesExact 4 t = owns (c : Thread nD τ) (ms0_4 m hO t) fullShare ((dats m hO hH 0 c).after 4 t) from by
      unfold Dat.leavesExact; rw [liveAt0_4 m hO t]; try rfl, after0_4]
    rw [show (dats m hO hH 0 c).leavesExact 5 t = owns (c : Thread nD τ) (ms0_5 m hO t) fullShare ((dats m hO hH 0 c).after 5 t) from by
      unfold Dat.leavesExact; rw [liveAt0_5 m hO t]; try rfl, after0_5]
    rw [show (dats m hO hH 0 c).leavesExact 6 t = owns (c : Thread nD τ) (ms0_6 m hO t) fullShare ((dats m hO hH 0 c).after 6 t) from by
      unfold Dat.leavesExact; rw [liveAt0_6 m hO t]; try rfl, after0_6]
    rw [show (dats m hO hH 0 c).leavesExact 7 t = owns (c : Thread nD τ) (ms0_7 m hO t) fullShare ((dats m hO hH 0 c).after 7 t) from by
      unfold Dat.leavesExact; rw [liveAt0_7 m hO t]; try rfl, after0_7]
    rw [show (dats m hO hH 0 c).leavesExact 8 t = owns (c : Thread nD τ) (ms0_8 m hO t) fullShare ((dats m hO hH 0 c).after 8 t) from by
      unfold Dat.leavesExact; rw [liveAt0_8 m hO t]; try rfl, after0_8]
    rw [show (dats m hO hH 0 c).leavesExact 9 t = owns (c : Thread nD τ) (ms0_9 m hO t) fullShare ((dats m hO hH 0 c).after 9 t) from by
      unfold Dat.leavesExact; rw [liveAt0_9 m hO t]; try rfl, after0_9]
    rw [show (dats m hO hH 0 c).leavesExact 10 t = owns (c : Thread nD τ) (ms0_10 m hO t) fullShare ((dats m hO hH 0 c).after 10 t) from by
      unfold Dat.leavesExact; rw [liveAt0_10 m hO t]; try rfl, after0_10]
    rw [show (dats m hO hH 0 c).leavesExact 11 t = owns (c : Thread nD τ) (ms0_11 m hO t) fullShare ((dats m hO hH 0 c).after 11 t) from by
      unfold Dat.leavesExact; rw [liveAt0_11 m hO t]; try rfl, after0_11]
    rw [show (dats m hO hH 0 c).leavesExact 12 t = owns (c : Thread nD τ) (ms0_12 m hO t) fullShare ((dats m hO hH 0 c).after 12 t) from by
      unfold Dat.leavesExact; rw [liveAt0_12 m hO t]; try rfl, after0_12]
    rw [show (dats m hO hH 0 c).leavesExact 13 t = owns (c : Thread nD τ) (ms0_13 m hO t) fullShare ((dats m hO hH 0 c).after 13 t) from by
      unfold Dat.leavesExact; rw [liveAt0_13 m hO t]; try rfl, after0_13]
    iintro ⟨⟨⟨⟨HS0, HS1⟩, Hg⟩, ⟨HT0, HT1, HT2, HT3⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply ((kernelRun0_A c (grid0.coords t) _ _ _ _ _ _ _ _ _ _ _ _ _ _ _ _ _ _ _ _ _ _ _ _ _ _ _ _ _ _ _ _ _ _ _ _ ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (tbl m 0) (tbl m 1) (tbl m 2) (tbl m 3) ((Hyps.c0 hH c t) ((hcond0_0 t).mpr h0)) ((Hyps.c1 hH c t) ((hcond0_0 t).mpr h0)) ((Hyps.c2 hH c t) ((hcond0_0 t).mpr h0)) ((Hyps.c3 hH c t) ((hcond0_0 t).mpr h0)) ((Hyps.c4 hH c t) ((hcond0_0 t).mpr h0))) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexists _; iexact H15
    isplitl [HS0]; · iexact HS0
    isplitl [HS1]; · iexact HS1
    isplitl [HT0]; · iexact HT0
    isplitl [HT1]; · iexact HT1
    isplitl [HT2]; · iexact HT2
    isplitl [HT3]; · iexact HT3
    iintro ⟨H0, H1, H2, H3, H4, H5, H6, H7, H8, H9, H10, H11, H12, H13, H14, H15, HS0, HS1, HT0, HT1, HT2, HT3⟩
    isplitl [HS0 HS1 Hg HT0 HT1 HT2 HT3]
    · isplitl [HS0 HS1 Hg]
      · isplitl [HS0 HS1]
        · isplitl [HS0]
          · iexact HS0
          iexact HS1
        iexact Hg
      isplitl [HT0]; · iexact HT0
      isplitl [HT1]; · iexact HT1
      isplitl [HT2]; · iexact HT2
      iexact HT3
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · rw [show (dats m hO hH 0 c).leavesExact 0 t = owns (c : Thread nD τ) (ms0_0 m hO t) fullShare ((dats m hO hH 0 c).after 0 t) from by
      unfold Dat.leavesExact; rw [liveAt0_0 m hO t]; try rfl, after0_0]
    rw [show (dats m hO hH 0 c).leavesExact 1 t = owns (c : Thread nD τ) (ms0_1 m hO t) fullShare ((dats m hO hH 0 c).after 1 t) from by
      unfold Dat.leavesExact; rw [liveAt0_1 m hO t]; try rfl, after0_1]
    rw [show (dats m hO hH 0 c).leavesExact 2 t = owns (c : Thread nD τ) (ms0_2 m hO t) fullShare ((dats m hO hH 0 c).after 2 t) from by
      unfold Dat.leavesExact; rw [liveAt0_2 m hO t]; try rfl, after0_2]
    rw [show (dats m hO hH 0 c).leavesExact 3 t = owns (c : Thread nD τ) (ms0_3 m hO t) fullShare ((dats m hO hH 0 c).after 3 t) from by
      unfold Dat.leavesExact; rw [liveAt0_3 m hO t]; try rfl, after0_3]
    rw [show (dats m hO hH 0 c).leavesExact 4 t = owns (c : Thread nD τ) (ms0_4 m hO t) fullShare ((dats m hO hH 0 c).after 4 t) from by
      unfold Dat.leavesExact; rw [liveAt0_4 m hO t]; try rfl, after0_4]
    rw [show (dats m hO hH 0 c).leavesExact 5 t = owns (c : Thread nD τ) (ms0_5 m hO t) fullShare ((dats m hO hH 0 c).after 5 t) from by
      unfold Dat.leavesExact; rw [liveAt0_5 m hO t]; try rfl, after0_5]
    rw [show (dats m hO hH 0 c).leavesExact 6 t = owns (c : Thread nD τ) (ms0_6 m hO t) fullShare ((dats m hO hH 0 c).after 6 t) from by
      unfold Dat.leavesExact; rw [liveAt0_6 m hO t]; try rfl, after0_6]
    rw [show (dats m hO hH 0 c).leavesExact 7 t = owns (c : Thread nD τ) (ms0_7 m hO t) fullShare ((dats m hO hH 0 c).after 7 t) from by
      unfold Dat.leavesExact; rw [liveAt0_7 m hO t]; try rfl, after0_7]
    rw [show (dats m hO hH 0 c).leavesExact 8 t = owns (c : Thread nD τ) (ms0_8 m hO t) fullShare ((dats m hO hH 0 c).after 8 t) from by
      unfold Dat.leavesExact; rw [liveAt0_8 m hO t]; try rfl, after0_8]
    rw [show (dats m hO hH 0 c).leavesExact 9 t = owns (c : Thread nD τ) (ms0_9 m hO t) fullShare ((dats m hO hH 0 c).after 9 t) from by
      unfold Dat.leavesExact; rw [liveAt0_9 m hO t]; try rfl, after0_9]
    rw [show (dats m hO hH 0 c).leavesExact 10 t = owns (c : Thread nD τ) (ms0_10 m hO t) fullShare ((dats m hO hH 0 c).after 10 t) from by
      unfold Dat.leavesExact; rw [liveAt0_10 m hO t]; try rfl, after0_10]
    rw [show (dats m hO hH 0 c).leavesExact 11 t = owns (c : Thread nD τ) (ms0_11 m hO t) fullShare ((dats m hO hH 0 c).after 11 t) from by
      unfold Dat.leavesExact; rw [liveAt0_11 m hO t]; try rfl, after0_11]
    rw [show (dats m hO hH 0 c).leavesExact 12 t = owns (c : Thread nD τ) (ms0_12 m hO t) fullShare ((dats m hO hH 0 c).after 12 t) from by
      unfold Dat.leavesExact; rw [liveAt0_12 m hO t]; try rfl, after0_12]
    rw [show (dats m hO hH 0 c).leavesExact 13 t = owns (c : Thread nD τ) (ms0_13 m hO t) fullShare ((dats m hO hH 0 c).after 13 t) from by
      unfold Dat.leavesExact; rw [liveAt0_13 m hO t]; try rfl, after0_13]
    iintro ⟨⟨⟨⟨HS0, HS1⟩, Hg⟩, ⟨HT0, HT1, HT2, HT3⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply ((kernelRun0_B c (grid0.coords t) _ _ _ _ _ _ _ _ _ _ _ _ _ _ _ _ _ _ _ _ _ _ _ _ _ _ _ _ _ _ _ _ _ _ _ _ (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (tbl m 0) (tbl m 1) (tbl m 2) (tbl m 3)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexists _; iexact H15
    isplitl [HS0]; · iexact HS0
    isplitl [HS1]; · iexact HS1
    isplitl [HT0]; · iexact HT0
    isplitl [HT1]; · iexact HT1
    isplitl [HT2]; · iexact HT2
    isplitl [HT3]; · iexact HT3
    iintro ⟨H0, H1, H2, H3, H4, H5, H6, H7, H8, H9, H10, H11, H12, H13, H14, H15, HS0, HS1, HT0, HT1, HT2, HT3⟩
    isplitl [HS0 HS1 Hg HT0 HT1 HT2 HT3]
    · isplitl [HS0 HS1 Hg]
      · isplitl [HS0 HS1]
        · isplitl [HS0]
          · iexact HS0
          iexact HS1
        iexact Hg
      isplitl [HT0]; · iexact HT0
      isplitl [HT1]; · iexact HT1
      isplitl [HT2]; · iexact HT2
      iexact HT3
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (`triple_restated`). -/
theorem body_obligation (hO : Ok m) (hH : Hyps m hO) (c : Dev nD) : BodyObligation (dats (F := F) m hO hH 0 c) (defs₀ (F := F)) Variants.none () Set.univ forgets0 := fun t => by
  rw [bigSep_W0, bigSep_W0, defs₀_row m hO]
  exact triple_restated (sound_body m hO hH c t) rfl .rfl fun _ => .rfl

/-! ## The run and the frame -/

-- `θ_run_frameP_forget_shared`'s implicit arguments are found by unifying its conclusion with this one, which takes unfolding plain
-- definitions in a metavariable's type
set_option backward.isDefEq.respectTransparency.types false in
/-- The launch: `run_main`'s statement, and every semaphore counter is zero at every final state. -/
theorem run_main_quiescent (hO : Ok m) (hH : Hyps m hO) : θ_run defs (onTc (τ := τ) (main (F := F))) (s₀ m ρ) (fun r => (Pipeline.RDat.FramePost ((Pipeline.pin pcfgs fun _ => adm m hO) 0) (fun c => (dats m hO hH 0 c).toRForget forgets0) (V m)) r ∧ r.2.sem = fun _ => 0) :=
  Pipeline.θ_run_frameP_forget_shared (Q' := _) pcfgs (fun _ => adm m hO) (dats m hO hH) (0 : Fin 1) launch₀0 defs₀ Variants.none forgets0 m ρ main
    (hbody := fun c => (body_obligation m hO hH c).loose) (hq := fun _ _ _ => rfl)
    (howed := fun _ _ => rfl) (V := V m) (hmain := hmain m Variants.none) (hA := A_eq m hO hH) (hpf := V_pre m) (hΦ := fun _ _ => rfl)

/-- From any memory with zero counters: every weakly fair execution of @main on the
    TensorCores terminates, and every final state has every INPUT array of the pipeline unchanged, nothing stated of the
    FORGOTTEN outputs (windows 14, 15) (`RDat.FramePost` over the proof data with those windows
    forgotten, Dat.lean `Dat.toRForget`), and every other unscoped buffer at its region-entry contents. -/
theorem run_main (hO : Ok m) (hH : Hyps m hO) : θ_run defs (onTc (τ := τ) (main (F := F))) (s₀ m ρ) (Pipeline.RDat.FramePost ((Pipeline.pin pcfgs fun _ => adm m hO) 0) (fun c => (dats m hO hH 0 c).toRForget forgets0) (V m)) :=
  (θ_run defs _ _).mono (fun _ h => h.1) (run_main_quiescent m ρ hO hH)

/-- `frame` without the counters: the argument arrays end unchanged. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ hO (fun c => (dats m hO hH 0 c).toRForget forgets0) (A_eq m hO hH) (run_main m ρ hO hH)

/-- The frame: every fair run ends without fault, with the arguments as they were and every semaphore at zero, whenever
    every block read through a table lies in its array (`Ok`) and the body's own side conditions hold at every point (`Hyps`). -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ hO hH) ((θ_run defs _ _).mono (fun _ h => h.2) (run_main_quiescent m ρ hO hH))

end Cert.Kernel.Body

end
-- ==== Proof.BitsTables.lean ====
/- The tables the pipeline prefetches (bit for bit): from where every start word is below 368 and every adapter word below 9,
   the slab windows lie inside their pools and the lookups by adapter inside their tables. -/
module

public import proofs.«01_k».proof.Proof.BitsRuns
public import proofs.«01_k».proof.Proof.Words

@[expose] public section

namespace Cert.Kernel.Body

open Idealize.ShloMosaic Idealize.ShloMosaic.TcCoe
open Cert.Kernel.Gen Cert.Words

variable {F : FTy → Type} [FloatOps F]
variable (m : (ℓ : Loc nD τ sig) → Buf (Elt F) ℓ)

/-- Every segment's start word is below 368, the last row at which 32 rows, aligned down to 16 and 48 tall, fit the pool. -/
def StartsFit : Prop := ∀ q : S5.Idx, (tbl m 0 q : BitVec 32).toNat < 368

/-- Every segment's adapter word is below 9, the number of adapters. -/
def AdaptersFit : Prop := ∀ q : S5.Idx, (tbl m 3 q : BitVec 32).toNat < 9

theorem mult1_dvd (h : StartsFit m) : (16 : Int) ∣ (k0_mult1 (tbl m)).toInt :=
  alignDown_dvd _ (h (fun a => ⟨(![0] : Fin 1 → Nat) a, by revert a; decide⟩))
theorem mult2_dvd (h : StartsFit m) : (16 : Int) ∣ (k0_mult2 (tbl m)).toInt :=
  alignDown_dvd _ (h (fun a => ⟨(![1] : Fin 1 → Nat) a, by revert a; decide⟩))
theorem mult3_dvd (h : StartsFit m) : (16 : Int) ∣ (k0_mult3 (tbl m)).toInt :=
  alignDown_dvd _ (h (fun a => ⟨(![2] : Fin 1 → Nat) a, by revert a; decide⟩))
theorem mult4_dvd (h : StartsFit m) : (16 : Int) ∣ (k0_mult4 (tbl m)).toInt :=
  alignDown_dvd _ (h (fun a => ⟨(![3] : Fin 1 → Nat) a, by revert a; decide⟩))
theorem mult5_dvd (h : StartsFit m) : (16 : Int) ∣ (k0_mult5 (tbl m)).toInt :=
  alignDown_dvd _ (h (fun a => ⟨(![4] : Fin 1 → Nat) a, by revert a; decide⟩))
theorem mult6_dvd (h : StartsFit m) : (16 : Int) ∣ (k0_mult6 (tbl m)).toInt :=
  alignDown_dvd _ (h (fun a => ⟨(![0] : Fin 1 → Nat) a, by revert a; decide⟩))
theorem mult8_dvd (h : StartsFit m) : (16 : Int) ∣ (k0_mult8 (tbl m)).toInt :=
  alignDown_dvd _ (h (fun a => ⟨(![1] : Fin 1 → Nat) a, by revert a; decide⟩))
theorem mult10_dvd (h : StartsFit m) : (16 : Int) ∣ (k0_mult10 (tbl m)).toInt :=
  alignDown_dvd _ (h (fun a => ⟨(![2] : Fin 1 → Nat) a, by revert a; decide⟩))
theorem mult12_dvd (h : StartsFit m) : (16 : Int) ∣ (k0_mult12 (tbl m)).toInt :=
  alignDown_dvd _ (h (fun a => ⟨(![3] : Fin 1 → Nat) a, by revert a; decide⟩))
theorem mult14_dvd (h : StartsFit m) : (16 : Int) ∣ (k0_mult14 (tbl m)).toInt :=
  alignDown_dvd _ (h (fun a => ⟨(![4] : Fin 1 → Nat) a, by revert a; decide⟩))

/-- Window 4's offsets at every point: row `start // 16 * 16`, column 0. -/
theorem transform_4_eq (pf : pre0.Contents (Elt F)) (i : grid0.Coords) :
    cc0_transform_4 inb_S5_S1_0 numel1_S1 pf i = ![(alignDown (pf.at 0 (Rect.unit (s := S5) ![0] S1.size inb_S5_S1_0) numel1_S1)).toNat, 0] := rfl
/-- Window 5's offsets at every point: row `start // 16 * 16`, column 0. -/
theorem transform_5_eq (pf : pre0.Contents (Elt F)) (i : grid0.Coords) :
    cc0_transform_5 inb_S5_S1_1 numel1_S1 pf i = ![(alignDown (pf.at 0 (Rect.unit (s := S5) ![1] S1.size inb_S5_S1_1) numel1_S1)).toNat, 0] := rfl
/-- Window 6's offsets at every point: row `start // 16 * 16`, column 0. -/
theorem transform_6_eq (pf : pre0.Contents (Elt F)) (i : grid0.Coords) :
    cc0_transform_6 inb_S5_S1_2 numel1_S1 pf i = ![(alignDown (pf.at 0 (Rect.unit (s := S5) ![2] S1.size inb_S5_S1_2) numel1_S1)).toNat, 0] := rfl
/-- Window 7's offsets at every point: row `start // 16 * 16`, column 0. -/
theorem transform_7_eq (pf : pre0.Contents (Elt F)) (i : grid0.Coords) :
    cc0_transform_7 inb_S5_S1_3 numel1_S1 pf i = ![(alignDown (pf.at 0 (Rect.unit (s := S5) ![3] S1.size inb_S5_S1_3) numel1_S1)).toNat, 0] := rfl
/-- Window 8's offsets at every point: row `start // 16 * 16`, column 0. -/
theorem transform_8_eq (pf : pre0.Contents (Elt F)) (i : grid0.Coords) :
    cc0_transform_8 inb_S5_S1_4 numel1_S1 pf i = ![(alignDown (pf.at 0 (Rect.unit (s := S5) ![4] S1.size inb_S5_S1_4) numel1_S1)).toNat, 0] := rfl
/-- Window 9's offsets at point `i`: row `start // 16 * 16`, column `1024 i`. -/
theorem transform_9_eq (pf : pre0.Contents (Elt F)) (i : grid0.Coords) :
    cc0_transform_9 inb_S5_S1_0 numel1_S1 pf i = ![(alignDown (pf.at 0 (Rect.unit (s := S5) ![0] S1.size inb_S5_S1_0) numel1_S1)).toNat, (Scalar.muli (BitVec.ofNat 32 (i 0).val) 1024#32).toNat] := rfl
/-- Window 10's offsets at point `i`: row `start // 16 * 16`, column `1024 i`. -/
theorem transform_10_eq (pf : pre0.Contents (Elt F)) (i : grid0.Coords) :
    cc0_transform_10 inb_S5_S1_1 numel1_S1 pf i = ![(alignDown (pf.at 0 (Rect.unit (s := S5) ![1] S1.size inb_S5_S1_1) numel1_S1)).toNat, (Scalar.muli (BitVec.ofNat 32 (i 0).val) 1024#32).toNat] := rfl
/-- Window 11's offsets at point `i`: row `start // 16 * 16`, column `1024 i`. -/
theorem transform_11_eq (pf : pre0.Contents (Elt F)) (i : grid0.Coords) :
    cc0_transform_11 inb_S5_S1_2 numel1_S1 pf i = ![(alignDown (pf.at 0 (Rect.unit (s := S5) ![2] S1.size inb_S5_S1_2) numel1_S1)).toNat, (Scalar.muli (BitVec.ofNat 32 (i 0).val) 1024#32).toNat] := rfl
/-- Window 12's offsets at point `i`: row `start // 16 * 16`, column `1024 i`. -/
theorem transform_12_eq (pf : pre0.Contents (Elt F)) (i : grid0.Coords) :
    cc0_transform_12 inb_S5_S1_3 numel1_S1 pf i = ![(alignDown (pf.at 0 (Rect.unit (s := S5) ![3] S1.size inb_S5_S1_3) numel1_S1)).toNat, (Scalar.muli (BitVec.ofNat 32 (i 0).val) 1024#32).toNat] := rfl
/-- Window 13's offsets at point `i`: row `start // 16 * 16`, column `1024 i`. -/
theorem transform_13_eq (pf : pre0.Contents (Elt F)) (i : grid0.Coords) :
    cc0_transform_13 inb_S5_S1_4 numel1_S1 pf i = ![(alignDown (pf.at 0 (Rect.unit (s := S5) ![4] S1.size inb_S5_S1_4) numel1_S1)).toNat, (Scalar.muli (BitVec.ofNat 32 (i 0).val) 1024#32).toNat] := rfl

/-- A slab 48 rows tall at an aligned start lies inside a pool of 400 rows, and takes whole words of it. -/
theorem slab_a (v : BitVec 32) (hv : v.toNat < 368) (off : Fin 2 → Nat) (e : off = ![(alignDown v).toNat, 0]) :
    ∃ h : (∀ a, off a + S48x2560.size a ≤ S400x2560.size a), EltTy.bits .bf16 = 32 ∨ (Rect.unit (s := S400x2560) off S48x2560.size h).WholeWords (EltTy.packing .bf16) := by
  subst e
  have hs := alignDown_toNat v hv
  refine ⟨fun a => ?_, .inr (.inl (.inr ⟨by decide, rfl, .inl ⟨?_, ?_⟩⟩))⟩
  · match a with
    | 0 => show (alignDown v).toNat + 48 ≤ 400; omega
    | 1 => show 0 + 2560 ≤ 2560; omega
  · show 2 ∣ (alignDown v).toNat; omega
  · show 2 ∣ 48; decide

theorem column_lt (i : grid0.Coords) : (Scalar.muli (BitVec.ofNat 32 (i 0).val) 1024#32).toNat = (i 0).val * 1024 ∧ (i 0).val < 10 := by
  have h : (i 0).val < 10 := (i 0).isLt
  refine ⟨?_, h⟩
  show (BitVec.ofNat 32 (i 0).val * 1024#32).toNat = _
  rw [BitVec.toNat_mul, BitVec.toNat_ofNat, BitVec.toNat_ofNat]
  omega

/-- The same for a slab of 1024 columns at `1024 i`. -/
theorem slab_b (v : BitVec 32) (hv : v.toNat < 368) (i : grid0.Coords) (off : Fin 2 → Nat)
    (e : off = ![(alignDown v).toNat, (Scalar.muli (BitVec.ofNat 32 (i 0).val) 1024#32).toNat]) :
    ∃ h : (∀ a, off a + S48x1024.size a ≤ S400x10240.size a), EltTy.bits .bf16 = 32 ∨ (Rect.unit (s := S400x10240) off S48x1024.size h).WholeWords (EltTy.packing .bf16) := by
  subst e
  have hs := alignDown_toNat v hv
  obtain ⟨hc, hi⟩ := column_lt i
  refine ⟨fun a => ?_, .inr (.inl (.inr ⟨by decide, rfl, .inl ⟨?_, ?_⟩⟩))⟩
  · match a with
    | 0 => show (alignDown v).toNat + 48 ≤ 400; omega
    | 1 => show (Scalar.muli (BitVec.ofNat 32 (i 0).val) 1024#32).toNat + 1024 ≤ 10240; omega
  · show 2 ∣ (alignDown v).toNat; omega
  · show 2 ∣ 48; decide

/-- The pipeline's side condition of the tables. -/
theorem ok_of_fit (h : StartsFit m) : Ok m :=
  ⟨mult1_dvd m h, mult2_dvd m h, mult3_dvd m h, mult4_dvd m h, mult5_dvd m h, mult6_dvd m h, mult8_dvd m h, mult10_dvd m h, mult12_dvd m h, mult14_dvd m h,
    fun i => slab_a _ (h _) _ (transform_4_eq (tbl m) i),
    fun i => slab_a _ (h _) _ (transform_5_eq (tbl m) i),
    fun i => slab_a _ (h _) _ (transform_6_eq (tbl m) i),
    fun i => slab_a _ (h _) _ (transform_7_eq (tbl m) i),
    fun i => slab_a _ (h _) _ (transform_8_eq (tbl m) i),
    fun i => slab_b _ (h _) i _ (transform_9_eq (tbl m) i),
    fun i => slab_b _ (h _) i _ (transform_10_eq (tbl m) i),
    fun i => slab_b _ (h _) i _ (transform_11_eq (tbl m) i),
    fun i => slab_b _ (h _) i _ (transform_12_eq (tbl m) i),
    fun i => slab_b _ (h _) i _ (transform_13_eq (tbl m) i)⟩

/-- The body's side conditions: a lookup by an adapter word below 9 is inside a table of nine. -/
theorem hyps_of_fit (h : AdaptersFit m) (hO : Ok m) : Hyps m hO := fun c t =>
  ⟨fun _ _ a => by
      obtain rfl : a = 0 := Subsingleton.elim _ _
      exact Nat.succ_le_of_lt (h _),
    fun _ _ a => by
      obtain rfl : a = 0 := Subsingleton.elim _ _
      exact Nat.succ_le_of_lt (h _),
    fun _ _ a => by
      obtain rfl : a = 0 := Subsingleton.elim _ _
      exact Nat.succ_le_of_lt (h _),
    fun _ _ a => by
      obtain rfl : a = 0 := Subsingleton.elim _ _
      exact Nat.succ_le_of_lt (h _),
    fun _ _ a => by
      obtain rfl : a = 0 := Subsingleton.elim _ _
      exact Nat.succ_le_of_lt (h _)⟩

end Cert.Kernel.Body

end
-- ==== Proof.BitsEntry.lean ====
/- What the host leaves in the pipeline's arrays before the launch (at the bits): the start words gathered by segment, and the
   tokens reshaped to rows; and from the precondition the tables' bounds. -/
module

public import proofs.«01_k».proof.Defs
public import proofs.«01_k».proof.Proof.BitsTables
public import proofs.«01_k».proof.Proof.Gen.Pre_slabs_in_pool
public import Idealize.ShloMosaic.Lib.Claim
public import proofs.«01_k».proof.Proof.Gen.Pre_ranks_fit

@[expose] public section

noncomputable section

namespace Cert.Kernel.Body

open Idealize.ShloMosaic Idealize.ShloMosaic.TcCoe
open Cert.Kernel.Gen Cert.Words

variable {F : FTy → Type} [FloatOps F]
variable (m : (ℓ : Loc nD τ sig) → Buf (Elt F) ℓ)

/-- The index of the gather: the adapter word, plus 9 where it is negative. -/
def pick (ad : IVec S5 32) : IVec S5x1 32 :=
  broadcastInDim S5x1 ![0] bcast_S5_S5x1_0 (select (cmpi .slt ad (broadcastInDim S5 ![] bcast_S_S5 (constantI S_ 32 0#32))) (addi ad (broadcastInDim S5 ![] bcast_S_S5 (constantI S_ 32 9#32))) ad)

/-- The word each segment's adapter has in a table of nine. -/
def lookup {A : Type} (tab : S9.Idx → A) (ad : IVec S5 32) : S5.Idx → A := Host.gather gather_S9_S5x1_S5_n_0_n_n_0_1_1 tab (pick ad)

/-- The start words at the launch. -/
theorem V_main_v6 (c : Dev nD) : V m c main_v6 = lookup (m ((c : Thread nD τ).loc main_arg5)) (m ((c : Thread nD τ).loc main_arg9)) := by
  show StableHlo.after hostOps0 (fun b => m (c, b)) main_v6 = _
  run_tidy
  rfl

/-- The tokens at the launch, as 256 rows. -/
theorem V_main_v7 (c : Dev nD) : V m c main_v7 = shapeCast S256x2560 (m ((c : Thread nD τ).loc main_arg0)) shapeCasts_S2x128x2560_S256x2560 := by
  show StableHlo.after hostOps0 (fun b => m (c, b)) main_v7 = _
  run_tidy
  rfl

theorem startsFit_of (h0 : ∀ q, IntOp.cmpi .sge (lookup (m (((0 : Dev nD) : Thread nD τ).loc main_arg5)) (m (((0 : Dev nD) : Thread nD τ).loc main_arg9)) q) 0#32 = 1#1)
    (h1 : ∀ q, IntOp.cmpi .slt (lookup (m (((0 : Dev nD) : Thread nD τ).loc main_arg5)) (m (((0 : Dev nD) : Thread nD τ).loc main_arg9)) q) 368#32 = 1#1) : StartsFit m := fun q => by
  have e : (tbl m 0 q : BitVec 32) = lookup (m (((0 : Dev nD) : Thread nD τ).loc main_arg5)) (m (((0 : Dev nD) : Thread nD τ).loc main_arg9)) q := congrFun (V_main_v6 m 0) q
  rw [e]
  exact toNat_lt_of_cmpi _ 368 (by decide) (h0 q) (h1 q)

theorem adaptersFit_of (h0 : ∀ q, IntOp.cmpi .sge (m (((0 : Dev nD) : Thread nD τ).loc main_arg9) q) 0#32 = 1#1)
    (h1 : ∀ q, IntOp.cmpi .slt (m (((0 : Dev nD) : Thread nD τ).loc main_arg9) q) 9#32 = 1#1) : AdaptersFit m := fun q => by
  have e : (tbl m 3 q : BitVec 32) = m (((0 : Dev nD) : Thread nD τ).loc main_arg9) q := congrFun (V_main_arg9 m 0) q
  rw [e]
  exact toNat_lt_of_cmpi _ 9 (by decide) (h0 q) (h1 q)

/-- The precondition bounds the tables. -/
theorem fit_of_pre (m : (ℓ : Loc nD τ sig) → Buf (Elt Bits) ℓ) (h : Cert.Pre_Kernel m) : StartsFit m ∧ AdaptersFit m := by
  obtain ⟨a, b, c, d⟩ := h 0
  exact ⟨startsFit_of m (fun q => congrFun c q) (fun q => congrFun d q), adaptersFit_of m (fun q => congrFun a q) (fun q => congrFun b q)⟩

end Cert.Kernel.Body

end
-- ==== Proof.Net.lean ====
/- The lane networks.

The kernel regroups the lanes of eight registers of `n` rows and 128 lanes, either from "column `8 l + j` of a row" to
"lane `l` of register `j`" or back.  Both directions are a gather inside each register, a rotation of the registers
that depends on the chunk of sixteen lanes (the barrel), and a rotation of the lanes.  This module states the two
networks for any number of rows and proves what they compute.
-/
module

public import Idealize.ShloMosaic.Lib.Pipeline.Value
public import Idealize.ShloMosaic.PureOps.Vector

@[expose] public section

set_option maxRecDepth 16000

namespace Cert.Net
open Idealize.ShloMosaic

/-- A register of `n` rows and 128 lanes. -/
abbrev R (n : Nat) : Shape := ⟨2, ![n, 128]⟩
/-- The same register with a last axis of extent one. -/
abbrev R1 (n : Nat) : Shape := ⟨3, ![n, 128, 1]⟩

/-- The shape facts the operations on a register ask for. -/
class Rows (n : Nat) : Prop where
  iota : (R n).Iotas .tc 32 [1]
  bc : (R n).Broadcasts (R n)
  to1 : (R n).ShapeCasts (R1 n)
  of1 : (R1 n).ShapeCasts (R n)
  rot : (R n).Rotates 1 none

variable {α : Type} {n : Nat} [Rows n]

/-- The number of each lane. -/
def lane (n : Nat) [h : Rows n] : IVec (R n) 32 := iota .tc (R n) 32 [1] h.iota

/-- The remainder of a division that rounds down. -/
def pymod (v : IVec (R n) 32) (d : BitVec 32) : IVec (R n) 32 :=
  select (andi (xori (cmpi .slt (remsi v (broadcast (R n) (Scalar.select (Scalar.cmpi .eq d 0#32) 1#32 d))) (broadcast (R n) 0#32))
      (broadcastTo (R n) (broadcast (R n) (Scalar.cmpi .slt (Scalar.select (Scalar.cmpi .eq d 0#32) 1#32 d) 0#32)) Rows.bc))
      (cmpi .ne (remsi v (broadcast (R n) (Scalar.select (Scalar.cmpi .eq d 0#32) 1#32 d))) (broadcast (R n) 0#32)))
    (addi (remsi v (broadcast (R n) (Scalar.select (Scalar.cmpi .eq d 0#32) 1#32 d)))
      (broadcast (R n) (Scalar.select (Scalar.cmpi .eq d 0#32) 1#32 d)))
    (remsi v (broadcast (R n) (Scalar.select (Scalar.cmpi .eq d 0#32) 1#32 d)))

/-- The quotient of a division that rounds down. -/
def pydiv (v : IVec (R n) 32) (d : BitVec 32) : IVec (R n) 32 :=
  select (andi (cmpi .ne (subi (extui 32 (cmpi .sgt v (broadcast (R n) 0#32)) (by decide)) (extui 32 (cmpi .slt v (broadcast (R n) 0#32)) (by decide)))
      (broadcast (R n) (Scalar.subi (Scalar.extui (Scalar.cmpi .sgt d 0#32)) (Scalar.extui (Scalar.cmpi .slt d 0#32)))))
      (cmpi .ne (remsi v (broadcast (R n) d)) (broadcast (R n) 0#32)))
    (subi (divsi v (broadcast (R n) d)) (broadcast (R n) 1#32))
    (divsi v (broadcast (R n) d))

/-- A gather index brought into range, through the shape with a last axis of extent one. -/
def wrap (v : IVec (R n) 32) : IVec (R n) 32 :=
  shapeCast (R n) (shapeCast (R1 n) (select (cmpi .slt v (broadcast (R n) 0#32)) (addi v (broadcast (R n) 128#32)) v) Rows.to1) Rows.of1

/-- The gather index of register `b` on the way from columns to fields. -/
def gidx (n : Nat) [Rows n] (b : BitVec 32) : IVec (R n) 32 :=
  wrap (addi (muli (pymod (lane n) 16#32) (broadcast (R n) 8#32)) (pymod (subi (pydiv (lane n) 16#32) (broadcast (R n) b)) 8#32))

/-- The gather index of register `b` on the way from fields to columns. -/
def iidx (n : Nat) [Rows n] (b : BitVec 32) : IVec (R n) 32 :=
  wrap (addi (muli (pymod (addi (lane n) (broadcast (R n) b)) 8#32) (broadcast (R n) 16#32)) (pydiv (lane n) 8#32))

/-- The lanes whose chunk of sixteen has the given bit. -/
def mask (n : Nat) [Rows n] (bit : BitVec 32) : IVec (R n) 1 :=
  cmpi .ne (andi (pydiv (lane n) 16#32) (broadcast (R n) bit)) (broadcast (R n) 0#32)

/-- The barrel: after it register `b` holds in chunk `c` what register `c - b` held there. -/
def barrel (r : Fin 8 → (R n).Idx → α) (b : Fin 8) : (R n).Idx → α :=
  let o0 : Fin 8 → (R n).Idx → α := fun b => r (-b)
  let o1 : Fin 8 → (R n).Idx → α := fun b => select (mask n 1#32) (o0 (b - 1)) (o0 b)
  let o2 : Fin 8 → (R n).Idx → α := fun b => select (mask n 2#32) (o1 (b - 2)) (o1 b)
  select (mask n 4#32) (o2 (b - 4)) (o2 b)

/-- The barrel of the gathered registers, before the last rotation of lanes. -/
def deintRaw (x : Fin 8 → (R n).Idx → α) (j : Fin 8) : (R n).Idx → α :=
  barrel (fun b => dynamicGather 1 (x b) (gidx n (BitVec.ofNat 32 b.val))) j

/-- Field `j` of eight registers that hold a row of 1024 columns. -/
def deint (x : Fin 8 → (R n).Idx → α) (j : Fin 8) : (R n).Idx → α :=
  if j = 0 then deintRaw x j else dynamicRotate 1 (BitVec.ofNat 32 ((8 - j.val) * 16)) none (deintRaw x j) Rows.rot

/-- Register `b` of the row of 1024 columns whose fields are given. -/
def inter (f : Fin 8 → (R n).Idx → α) (b : Fin 8) : (R n).Idx → α :=
  dynamicGather 1 (barrel (fun j => if j = 0 then f j else dynamicRotate 1 (BitVec.ofNat 32 (j.val * 16)) none (f j) Rows.rot) b)
    (iidx n (BitVec.ofNat 32 b.val))

/-! ## The words, lane by lane -/

/-- `pymod` of one word. -/
def pymodS (v d : BitVec 32) : BitVec 32 :=
  let den := Scalar.select (Scalar.cmpi .eq d 0#32) 1#32 d
  let r := IntOp.remsi .vector v den
  Scalar.select (IntOp.andi (IntOp.xori (IntOp.cmpi .slt r 0#32) (Scalar.cmpi .slt den 0#32)) (IntOp.cmpi .ne r 0#32)) (IntOp.addi r den) r

/-- `pydiv` of one word. -/
def pydivS (v d : BitVec 32) : BitVec 32 :=
  Scalar.select (IntOp.andi (IntOp.cmpi .ne (IntOp.subi ((IntOp.cmpi .sgt v 0#32).setWidth 32) ((IntOp.cmpi .slt v 0#32).setWidth 32))
      (Scalar.subi (Scalar.extui (Scalar.cmpi .sgt d 0#32)) (Scalar.extui (Scalar.cmpi .slt d 0#32))))
      (IntOp.cmpi .ne (IntOp.remsi .vector v d) 0#32))
    (IntOp.subi (IntOp.divsi .vector v d) 1#32) (IntOp.divsi .vector v d)

/-- `wrap` of one word. -/
def wrapS (v : BitVec 32) : BitVec 32 := Scalar.select (IntOp.cmpi .slt v 0#32) (IntOp.addi v 128#32) v

theorem pymod_apply (v : IVec (R n) 32) (d : BitVec 32) (i : (R n).Idx) : pymod v d i = pymodS (v i) d := rfl
theorem pydiv_apply (v : IVec (R n) 32) (d : BitVec 32) (i : (R n).Idx) : pydiv v d i = pydivS (v i) d := rfl
theorem wrap_apply (v : IVec (R n) 32) (i : (R n).Idx) : wrap v i = wrapS (v i) := by
  rw [wrap, shapeCast_shapeCast]; rfl
theorem lane_apply (i : (R n).Idx) : lane n i = BitVec.ofNat 32 (i 1).val := by
  show BitVec.ofNat 32 (0 * _ + (i 1).val) = _
  rw [Nat.zero_mul, Nat.zero_add]

theorem gidxS_eq : ∀ (b : Fin 8) (l : Fin 128),
    (wrapS (pymodS (BitVec.ofNat 32 l.val) 16#32 * 8#32 + pymodS (pydivS (BitVec.ofNat 32 l.val) 16#32 - BitVec.ofNat 32 b.val) 8#32)).toNat % 128
      = l.val % 16 * 8 + (l.val / 16 + 8 - b.val) % 8 := by decide +kernel

theorem iidxS_eq : ∀ (b : Fin 8) (l : Fin 128),
    (wrapS (pymodS (BitVec.ofNat 32 l.val + BitVec.ofNat 32 b.val) 8#32 * 16#32 + pydivS (BitVec.ofNat 32 l.val) 8#32)).toNat % 128
      = (l.val + b.val) % 8 * 16 + l.val / 8 := by decide +kernel

theorem maskS_eq : ∀ (k : Fin 3) (l : Fin 128),
    IntOp.cmpi .ne (pydivS (BitVec.ofNat 32 l.val) 16#32 &&& BitVec.ofNat 32 (2 ^ k.val)) 0#32
      = if l.val / 16 / 2 ^ k.val % 2 = 1 then 1#1 else 0#1 := by decide +kernel

theorem gidx_apply (b : Fin 8) (i : (R n).Idx) :
    (gidx n (BitVec.ofNat 32 b.val) i).toNat % 128 = (i 1).val % 16 * 8 + ((i 1).val / 16 + 8 - b.val) % 8 := by
  rw [gidx, wrap_apply, ← gidxS_eq b (i 1), ← lane_apply]; rfl

theorem iidx_apply (b : Fin 8) (i : (R n).Idx) :
    (iidx n (BitVec.ofNat 32 b.val) i).toNat % 128 = ((i 1).val + b.val) % 8 * 16 + (i 1).val / 8 := by
  rw [iidx, wrap_apply, ← iidxS_eq b (i 1), ← lane_apply]; rfl

theorem mask_apply (k : Fin 3) (i : (R n).Idx) :
    mask n (BitVec.ofNat 32 (2 ^ k.val)) i = if (i 1).val / 16 / 2 ^ k.val % 2 = 1 then 1#1 else 0#1 := by
  rw [← maskS_eq k (i 1), ← lane_apply]; rfl

/-! ## What the networks compute -/

/-- The chunk of sixteen lanes an index lies in. -/
def chunk (i : (R n).Idx) : Fin 8 := ⟨(i 1).val / 16, by have h : (i 1).val < 128 := (i 1).isLt; omega⟩

/-- The index with the lane replaced. -/
def at1 (i : (R n).Idx) (l : Fin 128) : (R n).Idx := fun a => if h : a = 1 then l.cast (by subst h; rfl) else i a

theorem barrel_bits : ∀ (c b : Fin 8),
    (let o1 : Fin 8 → Fin 8 := fun b => if c.val / 2 ^ (0 : Fin 3).val % 2 = 1 then -(b - 1) else -b
     let o2 : Fin 8 → Fin 8 := fun b => if c.val / 2 ^ (1 : Fin 3).val % 2 = 1 then o1 (b - 2) else o1 b
     if c.val / 2 ^ (2 : Fin 3).val % 2 = 1 then o2 (b - 4) else o2 b) = c - b := by decide

theorem barrel_apply (r : Fin 8 → (R n).Idx → α) (b : Fin 8) (i : (R n).Idx) : barrel r b i = r (chunk i - b) i := by
  have h1 := mask_apply (n := n) 0 i
  have h2 := mask_apply (n := n) 1 i
  have h4 := mask_apply (n := n) 2 i
  rw [← barrel_bits (chunk i) b]
  change mask n 1#32 i = _ at h1
  change mask n 2#32 i = _ at h2
  change mask n 4#32 i = _ at h4
  simp only [barrel, select, Scalar.select, h1, h2, h4, chunk]
  by_cases e1 : (i 1).val / 16 / 2 ^ (0 : Fin 3).val % 2 = 1 <;> by_cases e2 : (i 1).val / 16 / 2 ^ (1 : Fin 3).val % 2 = 1 <;>
    by_cases e4 : (i 1).val / 16 / 2 ^ (2 : Fin 3).val % 2 = 1 <;>
    simp only [e1, e2, e4, ↓reduceIte, show ((0#1 : BitVec 1) = 1) = False from by decide, show ((1#1 : BitVec 1) = 1) = True from by decide]

theorem dynamicGather_at1 (x : (R n).Idx → α) (ix : IVec (R n) 32) (i : (R n).Idx) (l : Fin 128) (h : (ix i).toNat % 128 = l.val) :
    dynamicGather 1 x ix i = x (at1 i l) := by
  refine congrArg x (funext fun a => ?_)
  match a with
  | 0 => rfl
  | 1 => exact Fin.ext h

theorem dynamicRotate_at1 (x : (R n).Idx → α) (k : Nat) (hk : k < 128) (i : (R n).Idx) (l : Fin 128) (h : ((i 1).val + 128 - k) % 128 = l.val) :
    dynamicRotate 1 (BitVec.ofNat 32 k) none x (Rows.rot (n := n)) i = x (at1 i l) := by
  refine congrArg x (funext fun a => ?_)
  match a with
  | 0 => rfl
  | 1 =>
    refine Fin.ext ?_
    show ((i 1).val + 128 - ((BitVec.ofNat 32 k).toNat + 0) % 128) % 128 = l.val
    rw [← h, BitVec.toNat_ofNat, Nat.mod_eq_of_lt (show k < 2 ^ 32 by omega)]
    omega

theorem at1_val (i : (R n).Idx) (l : Fin 128) : ((at1 i l) 1).val = l.val := rfl
theorem at1_at1 (i : (R n).Idx) (l l' : Fin 128) : at1 (at1 i l) l' = at1 i l' := by
  funext a
  match a with
  | 0 => rfl
  | 1 => rfl

theorem chunk_at1 (i : (R n).Idx) (l : Fin 128) : chunk (at1 i l) = ⟨l.val / 16, by omega⟩ := rfl

theorem chunk_roll : ∀ (l : Fin 128) (j : Fin 8), (⟨(l.val + j.val * 16) % 128 / 16, by omega⟩ : Fin 8) - j = ⟨l.val / 16, by omega⟩ := by
  decide +kernel

theorem chunk_inter : ∀ (l : Fin 128) (b : Fin 8), (⟨((l.val + b.val) % 8 * 16 + l.val / 8) / 16, by omega⟩ : Fin 8) - b = ⟨l.val % 8, by omega⟩ := by
  decide +kernel

theorem deintRaw_apply (x : Fin 8 → (R n).Idx → α) (j : Fin 8) (i : (R n).Idx) :
    deintRaw x j i = x (chunk i - j) (at1 i ⟨(i 1).val % 16 * 8 + j.val, by omega⟩) := by
  rw [deintRaw, barrel_apply]
  refine dynamicGather_at1 _ _ _ _ ?_
  rw [gidx_apply]
  have hl : (i 1).val < 128 := (i 1).isLt
  have hs : ∀ c j : Fin 8, (c.val + 8 - (c - j).val) % 8 = j.val := by decide
  have := hs (chunk i) j
  rw [show (chunk i).val = (i 1).val / 16 from rfl] at this
  show _ = (i 1).val % 16 * 8 + j.val
  omega

/-- **Field `j` of a row of 1024 columns** holds in lane `l` column `8 l + j`: lane `8 (l mod 16) + j` of register
    `l / 16`. -/
theorem deint_apply (x : Fin 8 → (R n).Idx → α) (j : Fin 8) (i : (R n).Idx) :
    deint x j i = x (chunk i) (at1 i ⟨(i 1).val % 16 * 8 + j.val, by omega⟩) := by
  have hl : (i 1).val < 128 := (i 1).isLt
  unfold deint
  split
  · next h => subst h; rw [deintRaw_apply, show chunk i - 0 = chunk i from (by decide : ∀ c : Fin 8, c - 0 = c) _]
  · next h =>
    have hj : j.val ≠ 0 := fun e => h (Fin.ext e)
    rw [dynamicRotate_at1 _ _ (by omega) i ⟨((i 1).val + j.val * 16) % 128, by omega⟩ (by show _ = ((i 1).val + j.val * 16) % 128; omega), deintRaw_apply, at1_at1]
    have e1 : chunk (at1 i ⟨((i 1).val + j.val * 16) % 128, by omega⟩) - j = chunk i := by
      exact chunk_roll (i 1) j
    rw [e1]
    refine congrArg (fun l => x (chunk i) (at1 i l)) (Fin.ext ?_)
    show ((i 1).val + j.val * 16) % 128 % 16 * 8 + j.val = (i 1).val % 16 * 8 + j.val
    omega

/-- **Register `b` of the interleaved fields** holds in lane `l` lane `16 b + l / 8` of field `l mod 8`. -/
theorem inter_apply (f : Fin 8 → (R n).Idx → α) (b : Fin 8) (i : (R n).Idx) :
    inter f b i = f ⟨(i 1).val % 8, by omega⟩ (at1 i ⟨16 * b.val + (i 1).val / 8, by have h : (i 1).val < 128 := (i 1).isLt; omega⟩) := by
  have hl : (i 1).val < 128 := (i 1).isLt
  rw [inter, dynamicGather_at1 _ _ i ⟨((i 1).val + b.val) % 8 * 16 + (i 1).val / 8, by omega⟩ (iidx_apply b i), barrel_apply]
  have e1 : chunk (at1 i ⟨((i 1).val + b.val) % 8 * 16 + (i 1).val / 8, by omega⟩) - b = ⟨(i 1).val % 8, by omega⟩ := by
    exact chunk_inter (i 1) b
  rw [e1]
  have hz : ((⟨(i 1).val % 8, by omega⟩ : Fin 8) = 0) ↔ (i 1).val % 8 = 0 := by rw [Fin.ext_iff]; rfl
  split
  · next h =>
    rw [hz] at h
    refine congrArg (fun l => f ⟨(i 1).val % 8, by omega⟩ (at1 i l)) (Fin.ext ?_)
    show ((i 1).val + b.val) % 8 * 16 + (i 1).val / 8 = 16 * b.val + (i 1).val / 8
    omega
  · next h =>
    rw [dynamicRotate_at1 _ _ (by show (i 1).val % 8 * 16 < 128; omega) _ ⟨16 * b.val + (i 1).val / 8, by omega⟩ ?_, at1_at1]
    show ((((i 1).val + b.val) % 8 * 16 + (i 1).val / 8) + 128 - (i 1).val % 8 * 16) % 128 = 16 * b.val + (i 1).val / 8
    omega

end Cert.Net
-- ==== Proof.IdealBlock.lean ====
/- One block of the kernel's output as a function of the blocks of its operands: the same operations in the same order,
   with the lane networks named. -/
module

public import proofs.«01_k».proof.Proof.Gen.KernelIdeal
public import proofs.«01_k».proof.Proof.Net

@[expose] public section

set_option maxRecDepth 16384

noncomputable section

namespace Cert.KernelIdeal.Body

open Idealize.ShloMosaic
open Cert.KernelIdeal.Gen Cert.Net

variable {F : FTy → Type} [FloatOps F]

instance rows48 : Rows 48 := ⟨by decide, by decide, by decide, by decide, by decide⟩
instance rows24 : Rows 24 := ⟨by decide, by decide, by decide, by decide, by decide⟩
instance rows256 : Rows 256 := ⟨by decide, by decide, by decide, by decide, by decide⟩

/-! ## The pool rows -/

theorem slices48 : ∀ b : Fin 8, S48x1024.Slices ![0, 128 * b.val] S48x128 := by decide
theorem slices24 : ∀ b : Fin 8, S24x1024.Slices ![0, 128 * b.val] S24x128 := by decide

/-- The eight registers of a slab of 48 pool rows. -/
def slabReg (P : Vec F S48x1024 .bf16) (b : Fin 8) : FVec F S48x128 .f32 :=
  extractStridedSlice S48x128 ![0, 128 * b.val] (extf .f32 P bitsLt_bf16_f32) (slices48 b)

/-- Field `j` of a slab of pool rows, as it is stored. -/
def slabField (P : Vec F S48x1024 .bf16) (j : Fin 8) : FVec F S1x48x128 .bf16 :=
  shapeCast S1x48x128 (truncf .bf16 (deint (n := 48) (slabReg P) j) bitsLt_bf16_f32) shapeCasts_S48x128_S1x48x128

theorem inbSlab : ∀ (s : Fin 5) (j : Fin 8) (a : Fin 3), (![j.val, 48 * s.val, 0] : Fin 3 → Nat) a + S1x48x128.size a ≤ S8x240x128.size a := by decide

/-- The stores of the five slabs' fields, last first. -/
def slabPieces (P : Fin 5 → Vec F S48x1024 .bf16) : List (View.Piece (Elt F) S8x240x128 .bf16) :=
  ([4, 3, 2, 1, 0] : List (Fin 5)).flatMap fun s => ([7, 6, 5, 4, 3, 2, 1, 0] : List (Fin 8)).map fun j =>
    ⟨Rect.unit (s := S8x240x128) ![j.val, 48 * s.val, 0] S1x48x128.size (inbSlab s j), slabField (P s) j⟩

theorem inbField : ∀ (j : Fin 8) (a : Fin 3), (![j.val, 0, 0] : Fin 3 → Nat) a + S1x240x128.size a ≤ S8x240x128.size a := by decide

/-! ## The weights -/

/-- The scale rows, padded to 24. -/
def scalePad (S : Vec F S20x1024 .bf16) : FVec F S24x1024 .f32 :=
  concatenate S24x1024 0 [⟨S20x1024, extf .f32 S bitsLt_bf16_f32⟩, ⟨S4x1024, broadcast S4x1024 (Scalar.ofBits .f32 0x00000000#32)⟩]
    concatenates_S20x1024_S4x1024_S24x1024_d0

/-- The eight registers of the scale rows. -/
def scaleReg (S : Vec F S20x1024 .bf16) (b : Fin 8) : FVec F S24x128 .f32 :=
  extractStridedSlice S24x128 ![0, 128 * b.val] (scalePad S) (slices24 b)

theorem slicesRow : ∀ g : Fin 20, S24x128.Slices ![g.val, 0] S1x128 := by decide

/-- Scale row `g` of field `j`, over the 128 rows of its group. -/
def scaleRow (S : Vec F S20x1024 .bf16) (j : Fin 8) (g : Fin 20) : FVec F S128x128 .f32 :=
  broadcastTo S128x128 (shapeCast S1x128 (extractStridedSlice S1x128 ![g.val, 0] (deint (n := 24) (scaleReg S) j) (slicesRow g)) shapeCasts_S1x128_S1x128)
    broadcasts_S1x128_S128x128

/-- The scales of field `j`, over all rows. -/
def scaleField (S : Vec F S20x1024 .bf16) (j : Fin 8) : FVec F S2560x128 .f32 :=
  concatenate S2560x128 0 (([0, 1, 2, 3, 4, 5, 6, 7, 8, 9, 10, 11, 12, 13, 14, 15, 16, 17, 18, 19] : List (Fin 20)).map fun g => ⟨S128x128, scaleRow S j g⟩)
    concatenates_S128x128_S128x128_S128x128_S128x128_S128x128_S128x128_S128x128_S128x128_S128x128_S128x128_S128x128_S128x128_S128x128_S128x128_S128x128_S128x128_S128x128_S128x128_S128x128_S128x128_S2560x128_d0

/-- The low halves of the words of an even row and the odd row after it, side by side. -/
def lowHalves (We Wo : Vec F S1280x128 .i32) : IVec S1280x128 32 :=
  ori (andi We (broadcast S1280x128 65535#32)) (shli Wo (broadcast S1280x128 16#32))
/-- The high halves. -/
def highHalves (We Wo : Vec F S1280x128 .i32) : IVec S1280x128 32 :=
  ori (shrui We (broadcast S1280x128 16#32)) (andi Wo (broadcast S1280x128 4294901760#32))

/-- The four bits of every half at the given shift, as the numbers they code. -/
def codes (v : IVec S1280x128 32) : FVec F S2560x128 .bf16 :=
  subf (bitcastToFloat .bf16 (bitcast S2560x128 16 (xori (andi v (broadcast S1280x128 983055#32)) (broadcast S1280x128 1124614920#32)) bitcasts_S1280x128_w32_S2560x128_w16))
    (broadcast S2560x128 (Scalar.ofBits .bf16 0x4308#16))

/-- The words field `j` is read from. -/
def fieldWords (We Wo : Vec F S1280x128 .i32) (j : Fin 8) : IVec S1280x128 32 :=
  match j with
  | 0 => lowHalves We Wo
  | 1 => shrui (lowHalves We Wo) (broadcast S1280x128 4#32)
  | 2 => shrui (lowHalves We Wo) (broadcast S1280x128 8#32)
  | 3 => shrui (lowHalves We Wo) (broadcast S1280x128 12#32)
  | 4 => highHalves We Wo
  | 5 => shrui (highHalves We Wo) (broadcast S1280x128 4#32)
  | 6 => shrui (highHalves We Wo) (broadcast S1280x128 8#32)
  | 7 => shrui (highHalves We Wo) (broadcast S1280x128 12#32)

/-- The weights of field `j`. -/
def weights (We Wo : Vec F S1280x128 .i32) (S : Vec F S20x1024 .bf16) (j : Fin 8) : FVec F S2560x128 .bf16 :=
  mulf (codes (fieldWords We Wo j)) (truncf .bf16 (scaleField S j) bitsLt_bf16_f32)

/-! ## The result -/

/-- The product for two fields of the result, rounded. -/
def pairOut (X : Vec F S256x2560 .bf16) (We Wo : Vec F S1280x128 .i32) (S : Vec F S20x1024 .bf16) (hk : Vec F S256x240 .bf16)
    (bf : Fin 8 → Vec F S1x240x128 .bf16) (j j' : Fin 8) : FVec F S256x256 .f32 :=
  extf .f32 (truncf .bf16 (addf
    (matmul dot_S256x2560_S2560x256_S256x256_1_0_0_1_n_n none (shapeCast S256x2560 X shapeCasts_S256x2560_S256x2560)
      (concatenate S2560x256 1 [⟨S2560x128, weights We Wo S j⟩, ⟨S2560x128, weights We Wo S j'⟩] concatenates_S2560x128_S2560x128_S2560x256_d1)
      (constant S256x256 .f32 0x00000000#32))
    (matmul dot_S256x240_S240x256_S256x256_1_0_0_1_n_n none hk
      (concatenate S240x256 1 [⟨S240x128, shapeCast S240x128 (bf j) shapeCasts_S1x240x128_S240x128⟩, ⟨S240x128, shapeCast S240x128 (bf j') shapeCasts_S1x240x128_S240x128⟩] concatenates_S240x128_S240x128_S240x256_d1)
      (constant S256x256 .f32 0x00000000#32)))
    bitsLt_bf16_f32) bitsLt_bf16_f32

/-- Field `j` of the result. -/
def fieldOut (X : Vec F S256x2560 .bf16) (We Wo : Vec F S1280x128 .i32) (S : Vec F S20x1024 .bf16) (hk : Vec F S256x240 .bf16)
    (bf : Fin 8 → Vec F S1x240x128 .bf16) (j : Fin 8) : FVec F S256x128 .f32 :=
  match j with
  | 0 => extractStridedSlice S256x128 ![0, 0] (pairOut X We Wo S hk bf 0 1) slices_S256x256_o0_0_S256x128
  | 1 => extractStridedSlice S256x128 ![0, 128] (pairOut X We Wo S hk bf 0 1) slices_S256x256_o0_128_S256x128
  | 2 => extractStridedSlice S256x128 ![0, 0] (pairOut X We Wo S hk bf 2 3) slices_S256x256_o0_0_S256x128
  | 3 => extractStridedSlice S256x128 ![0, 128] (pairOut X We Wo S hk bf 2 3) slices_S256x256_o0_128_S256x128
  | 4 => extractStridedSlice S256x128 ![0, 0] (pairOut X We Wo S hk bf 4 5) slices_S256x256_o0_0_S256x128
  | 5 => extractStridedSlice S256x128 ![0, 128] (pairOut X We Wo S hk bf 4 5) slices_S256x256_o0_128_S256x128
  | 6 => extractStridedSlice S256x128 ![0, 0] (pairOut X We Wo S hk bf 6 7) slices_S256x256_o0_0_S256x128
  | 7 => extractStridedSlice S256x128 ![0, 128] (pairOut X We Wo S hk bf 6 7) slices_S256x256_o0_128_S256x128

/-- Register `b` of the result, as it is stored. -/
def regOut (X : Vec F S256x2560 .bf16) (We Wo : Vec F S1280x128 .i32) (S : Vec F S20x1024 .bf16) (hk : Vec F S256x240 .bf16)
    (bf : Fin 8 → Vec F S1x240x128 .bf16) (b : Fin 8) : FVec F S256x128 .bf16 :=
  truncf .bf16 (inter (n := 256) (fieldOut X We Wo S hk bf) b) bitsLt_bf16_f32

theorem inbReg : ∀ (b : Fin 8) (a : Fin 2), (![0, 128 * b.val] : Fin 2 → Nat) a + S256x128.size a ≤ S256x1024.size a := by decide

/-- The stores of the result's registers, last first. -/
def regPieces (X : Vec F S256x2560 .bf16) (We Wo : Vec F S1280x128 .i32) (S : Vec F S20x1024 .bf16) (hk : Vec F S256x240 .bf16)
    (bf : Fin 8 → Vec F S1x240x128 .bf16) : List (View.Piece (Elt F) S256x1024 .bf16) :=
  ([7, 6, 5, 4, 3, 2, 1, 0] : List (Fin 8)).map fun b =>
    ⟨Rect.unit (s := S256x1024) ![0, 128 * b.val] S256x128.size (inbReg b), regOut X We Wo S hk bf b⟩

end Cert.KernelIdeal.Body

end
-- ==== Proof.Nibble.lean ====
/- The four-bit fields of a word, and the numbers they code. -/
module

public import Idealize.ShloMosaic.PureOps.Ideal.Laws

@[expose] public section

noncomputable section

namespace Cert.Nibble

open Idealize.ShloMosaic

/-- Field `j` of a word: four bits. -/
def fld (v : BitVec 32) (j : Fin 8) : BitVec 4 := v.extractLsb' (4 * j.val) 4

/-- The signed number four bits code. -/
def num (n : BitVec 4) : EReal := ((n.toInt : ℝ) : EReal)

/-- A bf16 pattern whose exponent is that of 128 and whose fraction is four bits is 128 plus those bits; less 136, with
    the top bit flipped, it is the number the bits code. -/
theorem bias_sub (n : BitVec 4) : Ideal.ofBits .bf16 (n.setWidth 16 ^^^ 0x4308#16) - Ideal.ofBits .bf16 0x4308#16 = num n := by
  have h : ∀ k : Fin 16, Ideal.ofBits .bf16 (((BitVec.ofFin k : BitVec 4)).setWidth 16 ^^^ 0x4308#16) - Ideal.ofBits .bf16 0x4308#16
      = num (BitVec.ofFin k : BitVec 4) := by
    intro k
    fin_cases k <;>
    · simp [Ideal.ofBits, Ideal.ieee, num, -EReal.coe_mul, -EReal.coe_sub]
      try rw [← EReal.coe_sub]
      try norm_num [BitVec.toInt]
  exact h n.toFin

/-- The other reading of the same four bits: the unsigned number, less 16 from 8 on. -/
theorem sub_sixteen (n : BitVec 4) :
    (n.setWidth 32 - 16#32 * (BitVec.ofBool ((8#32).sle (n.setWidth 32))).setWidth 32).toInt = n.toInt := by
  revert n; decide

end Cert.Nibble

end
-- ==== Proof.IdealVals.lean ====
/- The pieces of a block of the kernel's output, element by element, over the extended reals: the scales, the codes, the
   weights and the adapters' second factors. -/
module

public import proofs.«01_k».proof.Proof.IdealBlock
public import proofs.«01_k».proof.Proof.Nibble
public import Idealize.ShloMosaic.Lib.ValueIdx
public import Idealize.ShloMosaic.Lib.BitcastPair
public import Idealize.ShloMosaic.Lib.MatmulPlain
public import Idealize.ShloMosaic.Lib.Pipeline.Value

@[expose] public section

set_option maxRecDepth 16384

noncomputable section

namespace Cert.KernelIdeal.Body

open Idealize.ShloMosaic Idealize.ShloMosaic.ValueIdx
open Cert.KernelIdeal.Gen Cert.Net Cert.Nibble

/-! ## Registers of a row of 1024 columns -/

/-- Field `j` of a slab of pool rows. -/
theorem slabField_apply (P : Vec Ideal S48x1024 .bf16) (j : Fin 8) (u : Fin 1) (r : Fin 48) (l : Fin 128) :
    slabField P j (ix3 u r l) = P (ix2 r ⟨8 * l.val + j.val, by omega⟩) := by
  unfold slabField
  rw [shapeCast_apply _ shapeCasts_S48x128_S1x48x128 (ix3 u r l) (ix2 r l) (by
    rw [Shape.rowMajor_val_two, Shape.rowMajor_val_three]; simp)]
  show deint (n := 48) (slabReg P) j (ix2 r l) = _
  rw [deint_apply]
  show P _ = _
  congr 1
  funext a
  apply Fin.ext
  match a with
  | ⟨0, _⟩ => exact Nat.zero_add _
  | ⟨1, _⟩ =>
    show 128 * (l.val / 16) + (l.val % 16 * 8 + j.val) = 8 * l.val + j.val
    omega

/-- Field `j` of the scale rows. -/
theorem scaleDeint_apply (S : Vec Ideal S20x1024 .bf16) (j : Fin 8) (g : Fin 20) (l : Fin 128) :
    deint (n := 24) (scaleReg S) j (ix2 ⟨g.val, by omega⟩ l) = S (ix2 g ⟨8 * l.val + j.val, by omega⟩) := by
  rw [deint_apply]
  unfold scaleReg scalePad
  unfold extractStridedSlice
  rw [concatenate_pair_apply_left (t := S24x1024) (s₁ := S20x1024) (s₂ := S4x1024) 0 _ _ _ _ rfl (ix2 (n0 := 20) (n1 := 1024) g ⟨8 * l.val + j.val, by omega⟩) ?_]
  · rfl
  · intro b
    match b with
    | ⟨0, _⟩ => exact (Nat.zero_add _).symm
    | ⟨1, _⟩ =>
      show 8 * l.val + j.val = 128 * (l.val / 16) + (l.val % 16 * 8 + j.val)
      omega

theorem groups_get : ∀ g : Fin 20,
    ([0, 1, 2, 3, 4, 5, 6, 7, 8, 9, 10, 11, 12, 13, 14, 15, 16, 17, 18, 19] : List (Fin 20))[g.val]'(by simpa using g.isLt) = g := by
  decide

/-- A row of a broadcast scale row. -/
theorem scaleRow_apply (S : Vec Ideal S20x1024 .bf16) (j : Fin 8) (g : Fin 20) (r l : Fin 128) :
    scaleRow S j g (ix2 r l) = S (ix2 g ⟨8 * l.val + j.val, by omega⟩) := by
  unfold scaleRow
  rw [broadcastTo_apply _ _ _ (ix2 (0 : Fin 1) l) (fun a => by match a with | ⟨0, _⟩ => rfl | ⟨1, _⟩ => rfl), shapeCast_self,
    ← scaleDeint_apply S j g l]
  show deint (n := 24) (scaleReg S) j _ = _
  congr 1
  funext a
  apply Fin.ext
  match a with
  | ⟨0, _⟩ => rfl
  | ⟨1, _⟩ => exact Nat.zero_add _

/-- Pieces of one shape, joined along an axis: the extents before piece `k`. -/
theorem pre_sum {β : Type} (L : List β) (f : β → S128x128.Idx → EReal) (k : Nat) (hk : k ≤ L.length) :
    ((((L.map fun g => (⟨S128x128, f g⟩ : (s : Shape) × (s.Idx → EReal))).take k).map (·.1)).map
      fun s => if h : s.rank = S2560x128.rank then s.size ((0 : Fin S2560x128.rank).cast h.symm) else 0).sum = 128 * k := by
  rw [← List.map_take, List.map_map, List.map_map]
  refine (congrArg List.sum (List.map_congr_left (g := fun _ => 128) fun _ _ => rfl)).trans ?_
  rw [List.map_const', List.sum_replicate, List.length_take, Nat.min_eq_left hk, smul_eq_mul, Nat.mul_comm]

/-- The scales of field `j`: every group of 128 rows has its own. -/
theorem scaleField_apply (S : Vec Ideal S20x1024 .bf16) (j : Fin 8) (d : Fin 2560) (l : Fin 128) :
    scaleField S j (ix2 d l) = S (ix2 ⟨d.val / 128, by omega⟩ ⟨8 * l.val + j.val, by omega⟩) := by
  have key : ∀ g : Fin 20, d.val / 128 = g.val → scaleField S j (ix2 d l) = S (ix2 g ⟨8 * l.val + j.val, by omega⟩) := by
    intro g hg
    rw [← scaleRow_apply S j g ⟨d.val % 128, by omega⟩ l]
    unfold scaleField
    exact concatenate_apply_piece (t := S2560x128) 0 _ _ (ix2 d l) g.val (by simpa using g.isLt) S128x128 (scaleRow S j g)
      (by rw [List.getElem_map, groups_get]) rfl (128 * g.val) (pre_sum _ _ _ (by simpa using g.isLt.le)) (ix2 ⟨d.val % 128, by omega⟩ l)
      (fun b hb => by match b with | ⟨0, _⟩ => exact absurd rfl hb | ⟨1, _⟩ => rfl)
      (by show 128 * g.val + d.val % 128 = d.val; omega)
  exact key ⟨d.val / 128, by omega⟩ rfl

/-! ## The codes -/

/-- The four bits of one half of a packed word. -/
theorem halfBits (a b : BitVec 32) (j : Fin 8) (p : Fin 2) :
    (((if j.val < 4 then ((a &&& 65535#32) ||| (b <<< 16#32)) else ((a >>> 16#32) ||| (b &&& 4294901760#32))) >>> (4 * (j.val % 4)))
        &&& 983055#32 ^^^ 1124614920#32).extractLsb' (16 * p.val) 16
      = ((if p.val = 0 then fld a j else fld b j).setWidth 16) ^^^ 0x4308#16 := by
  apply BitVec.eq_of_getLsbD_eq
  intro i hi
  unfold fld
  fin_cases j <;> fin_cases p <;> simp <;> interval_cases i <;> simp

/-- The words field `j` is read from, an element at a time. -/
theorem fieldWords_apply (We Wo : Vec Ideal S1280x128 .i32) (j : Fin 8) (i : S1280x128.Idx) :
    fieldWords We Wo j i
      = (if j.val < 4 then ((We i &&& 65535#32) ||| (Wo i <<< 16#32)) else ((We i >>> 16#32) ||| (Wo i &&& 4294901760#32)))
        >>> (4 * (j.val % 4)) := by
  fin_cases j <;> rfl

/-- The codes of field `j`: row `d` comes from the word of its own row. -/
theorem codes_apply (We Wo : Vec Ideal S1280x128 .i32) (j : Fin 8) (d : Fin 2560) (l : Fin 128) :
    codes (F := Ideal) (fieldWords We Wo j) (ix2 d l)
      = num (fld (if d.val % 2 = 0 then We (ix2 ⟨d.val / 2, by omega⟩ l) else Wo (ix2 ⟨d.val / 2, by omega⟩ l)) j) := by
  rw [← bias_sub]
  show Ideal.ofBits .bf16 (bitcast S2560x128 16 _ bitcasts_S1280x128_w32_S2560x128_w16 (ix2 d l)) - Ideal.ofBits .bf16 0x4308#16 = _
  congr 2
  rw [bitcast_32_16]
  have hsrc : ∀ hp, bitcasts_S1280x128_w32_S2560x128_w16.srcIdx (ix2 d l) (S2560x128.row (ix2 d l) / 2) hp = ix2 (⟨d.val / 2, by omega⟩ : Fin 1280) l := by
    intro hp; funext a; apply Fin.ext
    match a with
    | ⟨0, _⟩ => rfl
    | ⟨1, _⟩ => rfl
  rw [hsrc]
  show BitVec.extractLsb' (16 * (d.val % 2)) 16 ((fieldWords We Wo j _ &&& 983055#32) ^^^ 1124614920#32) = _
  rw [fieldWords_apply, halfBits _ _ j ⟨d.val % 2, by omega⟩]
  show (if d.val % 2 = 0 then _ else _ : BitVec 4).setWidth 16 ^^^ _ = _
  split <;> rfl

/-- The weights of field `j`: code times scale. `W` is the block of packed words, whose even and odd rows are given apart. -/
theorem weights_apply (W : Vec Ideal S2560x128 .i32) (We Wo : Vec Ideal S1280x128 .i32) (S : Vec Ideal S20x1024 .bf16)
    (he : ∀ (r : Fin 1280) (l : Fin 128), We (ix2 r l) = W (ix2 ⟨2 * r.val, by omega⟩ l))
    (ho : ∀ (r : Fin 1280) (l : Fin 128), Wo (ix2 r l) = W (ix2 ⟨2 * r.val + 1, by omega⟩ l))
    (j : Fin 8) (d : Fin 2560) (l : Fin 128) :
    weights We Wo S j (ix2 d l)
      = num (fld (W (ix2 d l)) j) * S (ix2 ⟨d.val / 128, by omega⟩ ⟨8 * l.val + j.val, by omega⟩) := by
  show codes (F := Ideal) (fieldWords We Wo j) (ix2 d l) * scaleField S j (ix2 d l) = _
  rw [codes_apply, scaleField_apply, he, ho]
  congr 3
  split
  · next h => congr 3; show 2 * (d.val / 2) = d.val; omega
  · next h => congr 3; show 2 * (d.val / 2) + 1 = d.val; omega

/-! ## The result -/

/-- The sum an element of the result is: its token against the weights of its column, and its hidden values against the
    adapters' rows of its column. -/
def outSum (X : Vec Ideal S256x2560 .bf16) (w : Fin 2560 → EReal) (hk : Vec Ideal S256x240 .bf16) (b : Fin 240 → EReal) (t : Fin 256) : EReal :=
  (∑ d : Fin 2560, X (ix2 t d) * w d) + ∑ c : Fin 240, hk (ix2 t c) * b c

theorem two_pieces {n : Nat} (x y : (⟨2, ![n, 128]⟩ : Shape).Idx → EReal) (h : Shape.Concatenates [⟨2, ![n, 128]⟩, ⟨2, ![n, 128]⟩] ⟨2, ![n, 256]⟩ 1)
    (r : Fin n) (q : Fin 2) (l : Fin 128) :
    concatenate ⟨2, ![n, 256]⟩ 1 [⟨⟨2, ![n, 128]⟩, x⟩, ⟨⟨2, ![n, 128]⟩, y⟩] h (ix2 r ⟨128 * q.val + l.val, by omega⟩)
      = if q.val = 0 then x (ix2 r l) else y (ix2 r l) := by
  by_cases hq : q.val = 0
  · rw [if_pos hq]
    exact concatenate_pair_apply_left (t := ⟨2, ![n, 256]⟩) (s₁ := ⟨2, ![n, 128]⟩) (s₂ := ⟨2, ![n, 128]⟩) 1 x y h _ rfl (ix2 r l)
      (fun b => by match b with | ⟨0, _⟩ => rfl | ⟨1, _⟩ => show l.val = 128 * q.val + l.val; omega)
  · rw [if_neg hq]
    exact concatenate_pair_apply_right (t := ⟨2, ![n, 256]⟩) (s₁ := ⟨2, ![n, 128]⟩) (s₂ := ⟨2, ![n, 128]⟩) 1 x y h _ rfl rfl (ix2 r l)
      (fun b hb => by match b with | ⟨0, _⟩ => rfl | ⟨1, _⟩ => exact absurd rfl hb) (by show l.val + 128 = 128 * q.val + l.val; omega)

theorem pairOut_apply (X : Vec Ideal S256x2560 .bf16) (We Wo : Vec Ideal S1280x128 .i32) (S : Vec Ideal S20x1024 .bf16) (hk : Vec Ideal S256x240 .bf16)
    (bf : Fin 8 → Vec Ideal S1x240x128 .bf16) (j j' : Fin 8) (t : Fin 256) (q : Fin 2) (l : Fin 128) :
    pairOut X We Wo S hk bf j j' (ix2 t ⟨128 * q.val + l.val, by omega⟩)
      = outSum X (fun d => weights We Wo S (if q.val = 0 then j else j') (ix2 d l)) hk
          (fun c => bf (if q.val = 0 then j else j') (ix3 0 c l)) t := by
  have hcast : ∀ (v : Vec Ideal S1x240x128 .bf16) (c : Fin 240), shapeCast S240x128 v shapeCasts_S1x240x128_S240x128 (ix2 c l) = v (ix3 0 c l) :=
    fun v c => shapeCast_apply _ _ _ _ (by rw [Shape.rowMajor_val_two, Shape.rowMajor_val_three]; simp)
  unfold pairOut outSum
  show FloatOps.matmul (F := Ideal) (φ₁ := .bf16) (φ₂ := .bf16) (DotDims.plain 256 2560 256) none _ _ _ (ix2 t _) + FloatOps.matmul (F := Ideal) (φ₁ := .bf16) (φ₂ := .bf16) (DotDims.plain 256 240 256) none _ _ _ (ix2 t _) = _
  rw [Ideal.matmul_plain_apply, Ideal.matmul_plain_apply, constant_apply, Ideal.ofBits_zero_f32, zero_add, zero_add, shapeCast_self]
  congr 1
  · refine Finset.sum_congr rfl fun d _ => ?_
    rw [two_pieces]
    congr 1
    split <;> rfl
  · refine Finset.sum_congr rfl fun c _ => ?_
    rw [two_pieces, hcast, hcast]
    congr 1
    split <;> rfl

/-- Field `j` of the result. -/
theorem fieldOut_apply (X : Vec Ideal S256x2560 .bf16) (We Wo : Vec Ideal S1280x128 .i32) (S : Vec Ideal S20x1024 .bf16) (hk : Vec Ideal S256x240 .bf16)
    (bf : Fin 8 → Vec Ideal S1x240x128 .bf16) (j : Fin 8) (t : Fin 256) (l : Fin 128) :
    fieldOut X We Wo S hk bf j (ix2 t l) = outSum X (fun d => weights We Wo S j (ix2 d l)) hk (fun c => bf j (ix3 0 c l)) t := by
  have key : ∀ (a b : Fin 8) (q : Fin 2) (h : S256x256.Slices ![0, 128 * q.val] S256x128),
      extractStridedSlice S256x128 ![0, 128 * q.val] (pairOut X We Wo S hk bf a b) h (ix2 t l)
        = outSum X (fun d => weights We Wo S (if q.val = 0 then a else b) (ix2 d l)) hk (fun c => bf (if q.val = 0 then a else b) (ix3 0 c l)) t := by
    intro a b q h
    rw [← pairOut_apply]
    unfold extractStridedSlice
    congr 1
    funext x
    apply Fin.ext
    match x with
    | ⟨0, _⟩ => exact Nat.zero_add _
    | ⟨1, _⟩ => rfl
  fin_cases j
  · exact key 0 1 0 slices_S256x256_o0_0_S256x128
  · exact key 0 1 1 slices_S256x256_o0_128_S256x128
  · exact key 2 3 0 slices_S256x256_o0_0_S256x128
  · exact key 2 3 1 slices_S256x256_o0_128_S256x128
  · exact key 4 5 0 slices_S256x256_o0_0_S256x128
  · exact key 4 5 1 slices_S256x256_o0_128_S256x128
  · exact key 6 7 0 slices_S256x256_o0_0_S256x128
  · exact key 6 7 1 slices_S256x256_o0_128_S256x128

/-- Register `b` of the result: column `8 w + j` of the block is field `j`'s column `w`. -/
theorem regOut_apply (X : Vec Ideal S256x2560 .bf16) (We Wo : Vec Ideal S1280x128 .i32) (S : Vec Ideal S20x1024 .bf16) (hk : Vec Ideal S256x240 .bf16)
    (bf : Fin 8 → Vec Ideal S1x240x128 .bf16) (b : Fin 8) (t : Fin 256) (l : Fin 128) :
    regOut X We Wo S hk bf b (ix2 t l)
      = fieldOut X We Wo S hk bf ⟨(128 * b.val + l.val) % 8, by omega⟩ (ix2 t ⟨(128 * b.val + l.val) / 8, by omega⟩) := by
  show inter (n := 256) (fieldOut X We Wo S hk bf) b (ix2 t l) = _
  rw [inter_apply]
  have e1 : (⟨l.val % 8, by omega⟩ : Fin 8) = ⟨(128 * b.val + l.val) % 8, by omega⟩ := Fin.ext (by show l.val % 8 = (128 * b.val + l.val) % 8; omega)
  have e2 : at1 (n := 256) (ix2 t l) ⟨16 * b.val + l.val / 8, by omega⟩ = ix2 t ⟨(128 * b.val + l.val) / 8, by omega⟩ := by
    funext a
    apply Fin.ext
    match a with
    | ⟨0, _⟩ => rfl
    | ⟨1, _⟩ => show 16 * b.val + l.val / 8 = (128 * b.val + l.val) / 8; omega
  show fieldOut X We Wo S hk bf (⟨l.val % 8, _⟩ : Fin 8) (at1 (n := 256) (ix2 t l) ⟨16 * b.val + l.val / 8, _⟩) = _
  rw [e1, e2]

end Cert.KernelIdeal.Body

end
-- ==== Proof.IdealAdapter.lean ====
/- The two results of the kernel's first grid point that come from the adapters' first factors, as functions of the
   blocks they are read from: the same operations in the same order. -/
module

public import proofs.«01_k».proof.Proof.Gen.KernelIdeal

@[expose] public section

set_option maxRecDepth 16384

noncomputable section

namespace Cert.KernelIdeal.Body

open Idealize.ShloMosaic
open Cert.KernelIdeal.Gen

variable {F : FTy → Type} [FloatOps F]

/-- The remainder of a word by 16, rounded to the sign of 16. -/
def low4 (v : BitVec 32) : BitVec 32 :=
  let d : BitVec 32 := Scalar.select (Scalar.cmpi .eq 16#32 0#32) 1#32 16#32
  let r : BitVec 32 := Scalar.remsi v d
  Scalar.select (Scalar.andi (Scalar.xori (Scalar.cmpi .slt r 0#32) (Scalar.cmpi .slt d 0#32)) (Scalar.cmpi .ne r 0#32))
    (Scalar.addi r d) r

/-- The slot of the first row of segment `s`'s adapter. -/
def slotWord (st : Fin 5 → BitVec 32) (s : Fin 5) : BitVec 32 := Scalar.addi (BitVec.ofNat 32 (48 * s.val)) (low4 (st s))

/-- Which entries segment `s` writes: the rows of its tokens, the slots of its adapter's rank. -/
def segMask (st lo hi rk : Fin 5 → BitVec 32) (s : Fin 5) : IVec S256x240 1 :=
  andi (andi (andi
    (cmpi .sge (iota .tc S256x240 32 [0] iota_S256x240_d0_w32) (broadcast S256x240 (lo s)))
    (cmpi .slt (iota .tc S256x240 32 [0] iota_S256x240_d0_w32) (broadcast S256x240 (hi s))))
    (cmpi .sge (iota .tc S256x240 32 [1] iota_S256x240_d1_w32) (broadcast S256x240 (slotWord st s))))
    (cmpi .slt (iota .tc S256x240 32 [1] iota_S256x240_d1_w32) (broadcast S256x240 (Scalar.addi (slotWord st s) (rk s))))

/-- Every token against every row of the five slabs. -/
def slabDot (X : Vec F S256x2560 .bf16) (A : Fin 5 → Vec F S48x2560 .bf16) : FVec F S256x240 .f32 :=
  matmul dot_S256x2560_S240x2560_S256x240_1_1_0_0_n_n none (shapeCast S256x2560 X shapeCasts_S256x2560_S256x2560)
    (concatenate S240x2560 0 [⟨S48x2560, A 0⟩, ⟨S48x2560, A 1⟩, ⟨S48x2560, A 2⟩, ⟨S48x2560, A 3⟩, ⟨S48x2560, A 4⟩]
      concatenates_S48x2560_S48x2560_S48x2560_S48x2560_S48x2560_S240x2560_d0)
    (constant S256x240 .f32 0x00000000#32)

/-- The hidden values by slot: each segment writes its own over those of the segments before it. -/
def hkOf (X : Vec F S256x2560 .bf16) (A : Fin 5 → Vec F S48x2560 .bf16) (st lo hi rk : Fin 5 → BitVec 32) (sc : Fin 5 → F .f32) :
    FVec F S256x240 .bf16 :=
  truncf .bf16 (([0, 1, 2, 3, 4] : List (Fin 5)).foldl
    (fun acc s => select (segMask st lo hi rk s) (mulf (slabDot X A) (broadcast S256x240 (sc s))) acc)
    (broadcast S256x240 (Scalar.ofBits .f32 0x00000000#32))) bitsLt_bf16_f32

/-- The matrix taking slots to places within the adapter. -/
def slotSel (st : Fin 5 → BitVec 32) : FVec F S240x32 .f32 :=
  ([0, 1, 2, 3, 4] : List (Fin 5)).foldl
    (fun acc s => select
      (cmpi .eq (iota .tc S240x32 32 [0] iota_S240x32_d0_w32)
        (addi (iota .tc S240x32 32 [1] iota_S240x32_d1_w32) (broadcast S240x32 (slotWord st s))))
      (broadcast S240x32 (Scalar.ofBits .f32 0x3F800000#32)) acc)
    (broadcast S240x32 (Scalar.ofBits .f32 0x00000000#32))

/-- The hidden values by place within the adapter. -/
def hOf (X : Vec F S256x2560 .bf16) (A : Fin 5 → Vec F S48x2560 .bf16) (st lo hi rk : Fin 5 → BitVec 32) (sc : Fin 5 → F .f32) :
    FVec F S256x32 .bf16 :=
  truncf .bf16 (matmul dot_S256x240_S240x32_S256x32_1_0_0_1_n_n none (hkOf X A st lo hi rk sc) (truncf .bf16 (slotSel st) bitsLt_bf16_f32)
    (constant S256x32 .f32 0x00000000#32)) bitsLt_bf16_f32

end Cert.KernelIdeal.Body

end
-- ==== Proof.IdealLinkA.lean ====
/- What the first grid point stores, in the terms of `IdealBlock` and `IdealAdapter`. -/
module

public import proofs.«01_k».proof.Proof.IdealRunA
public import proofs.«01_k».proof.Proof.IdealBlock
public import proofs.«01_k».proof.Proof.IdealAdapter

@[expose] public section

set_option maxRecDepth 16384

noncomputable section

namespace Cert.KernelIdeal.Body

open Idealize.ShloMosaic Idealize.ShloMosaic.TcCoe Idealize.ShloMosaic.Tactic
open Cert.KernelIdeal.Gen

variable {F : FTy → Type} [FloatOps F]

/-- The stores of the pool rows' fields. -/
theorem slabs_A (c : Dev nD) (arg14 : Memref sig .tc .vmem S48x1024 .bf16) (harg14 : arg14.IsWhole) (arg15 : Memref sig .tc .vmem S48x1024 .bf16) (harg15 : arg15.IsWhole) (arg16 : Memref sig .tc .vmem S48x1024 .bf16) (harg16 : arg16.IsWhole) (arg17 : Memref sig .tc .vmem S48x1024 .bf16) (harg17 : arg17.IsWhole) (arg18 : Memref sig .tc .vmem S48x1024 .bf16) (harg18 : arg18.IsWhole) (x9 : Vec F S48x1024 .bf16) (x10 : Vec F S48x1024 .bf16) (x11 : Vec F S48x1024 .bf16) (x12 : Vec F S48x1024 .bf16) (x13 : Vec F S48x1024 .bf16) :
    kernelRun0_A.sl.HS1_40 c arg14 harg14 arg15 harg15 arg16 harg16 arg17 harg17 arg18 harg18 x9 x10 x11 x12 x13 = slabPieces (F := F) ![View.readAt (Elt F) arg14.view (Rect.unit (s := S48x1024) ![0, 0] S48x1024.size inb_S48x1024_S48x1024_0_0).toLoadRect (harg14.unread x9), View.readAt (Elt F) arg15.view (Rect.unit (s := S48x1024) ![0, 0] S48x1024.size inb_S48x1024_S48x1024_0_0).toLoadRect (harg15.unread x10), View.readAt (Elt F) arg16.view (Rect.unit (s := S48x1024) ![0, 0] S48x1024.size inb_S48x1024_S48x1024_0_0).toLoadRect (harg16.unread x11), View.readAt (Elt F) arg17.view (Rect.unit (s := S48x1024) ![0, 0] S48x1024.size inb_S48x1024_S48x1024_0_0).toLoadRect (harg17.unread x12), View.readAt (Elt F) arg18.view (Rect.unit (s := S48x1024) ![0, 0] S48x1024.size inb_S48x1024_S48x1024_0_0).toLoadRect (harg18.unread x13)] := by sl_kernel_rfl

/-- The stores of the result's registers. -/
theorem regs_A (c : Dev nD) (i : grid0.Coords) (arg5 : Memref sig .tc .smem S9 .f32) (harg5 : arg5.IsWhole) (arg6 : Memref sig .tc .vmem S256x2560 .bf16) (harg6 : arg6.IsWhole) (arg7 : Memref sig .tc .vmem S2560x128 .i32) (harg7 : arg7.IsWhole) (arg8 : Memref sig .tc .vmem S20x1024 .bf16) (harg8 : arg8.IsWhole) (arg9 : Memref sig .tc .vmem S48x2560 .bf16) (harg9 : arg9.IsWhole) (arg10 : Memref sig .tc .vmem S48x2560 .bf16) (harg10 : arg10.IsWhole) (arg11 : Memref sig .tc .vmem S48x2560 .bf16) (harg11 : arg11.IsWhole) (arg12 : Memref sig .tc .vmem S48x2560 .bf16) (harg12 : arg12.IsWhole) (arg13 : Memref sig .tc .vmem S48x2560 .bf16) (harg13 : arg13.IsWhole) (arg14 : Memref sig .tc .vmem S48x1024 .bf16) (harg14 : arg14.IsWhole) (arg15 : Memref sig .tc .vmem S48x1024 .bf16) (harg15 : arg15.IsWhole) (arg16 : Memref sig .tc .vmem S48x1024 .bf16) (harg16 : arg16.IsWhole) (arg17 : Memref sig .tc .vmem S48x1024 .bf16) (harg17 : arg17.IsWhole) (arg18 : Memref sig .tc .vmem S48x1024 .bf16) (harg18 : arg18.IsWhole) (arg19 : Memref sig .tc .vmem S256x1024 .bf16) (harg19 : arg19.IsWhole) (arg20 : Memref sig .tc .vmem S256x32 .bf16) (harg20 : arg20.IsWhole) (arg21 : Memref sig .tc .vmem S256x240 .bf16) (harg21 : arg21.IsWhole) (arg22 : Memref sig .tc .vmem S8x240x128 .bf16) (harg22 : arg22.IsWhole) (hc0 : cond0_0 i)
    (x0 : Vec F S9 .f32) (x1 : Vec F S256x2560 .bf16) (x2 : Vec F S2560x128 .i32) (x3 : Vec F S20x1024 .bf16) (x4 : Vec F S48x2560 .bf16) (x5 : Vec F S48x2560 .bf16) (x6 : Vec F S48x2560 .bf16) (x7 : Vec F S48x2560 .bf16) (x8 : Vec F S48x2560 .bf16) (x9 : Vec F S48x1024 .bf16) (x10 : Vec F S48x1024 .bf16) (x11 : Vec F S48x1024 .bf16) (x12 : Vec F S48x1024 .bf16) (x13 : Vec F S48x1024 .bf16) (xt0 : TbBuf0 (F := F) c tbM0_0) (xt1 : TbBuf0 (F := F) c tbM0_1) (xt2 : TbBuf0 (F := F) c tbM0_2) (xt3 : TbBuf0 (F := F) c tbM0_3) (k0_hw1 : k0_chk1 i (tbM0_3.view.readAt (Elt F) (Rect.unit (s := S5) ![0] S1.size inb_S5_S1_0).toLoadRect xt3 (Shape.Idx.first (numel1_S1.symm ▸ Nat.one_pos)))) (k0_hw2 : k0_chk2 i (tbM0_3.view.readAt (Elt F) (Rect.unit (s := S5) ![1] S1.size inb_S5_S1_1).toLoadRect xt3 (Shape.Idx.first (numel1_S1.symm ▸ Nat.one_pos)))) (k0_hw3 : k0_chk3 i (tbM0_3.view.readAt (Elt F) (Rect.unit (s := S5) ![2] S1.size inb_S5_S1_2).toLoadRect xt3 (Shape.Idx.first (numel1_S1.symm ▸ Nat.one_pos)))) (k0_hw4 : k0_chk4 i (tbM0_3.view.readAt (Elt F) (Rect.unit (s := S5) ![3] S1.size inb_S5_S1_3).toLoadRect xt3 (Shape.Idx.first (numel1_S1.symm ▸ Nat.one_pos)))) (k0_hw5 : k0_chk5 i (tbM0_3.view.readAt (Elt F) (Rect.unit (s := S5) ![4] S1.size inb_S5_S1_4).toLoadRect xt3 (Shape.Idx.first (numel1_S1.symm ▸ Nat.one_pos)))) :
    (kernelRun0_A c i arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xt0 xt1 xt2 xt3 k0_hw1 k0_hw2 k0_hw3 k0_hw4 k0_hw5).1 = regPieces (F := F) (View.readAt (Elt F) arg6.view (Rect.unit (s := S256x2560) ![0, 0] S256x2560.size inb_S256x2560_S256x2560_0_0).toLoadRect (harg6.unread x1)) (View.readAt (Elt F) arg7.view (⟨![0, 0], S1280x128.size, ![2, 1], inb_S2560x128_S1280x128_0_0_s_2_1⟩ : LoadRect S2560x128) (harg7.unread x2)) (View.readAt (Elt F) arg7.view (⟨![1, 0], S1280x128.size, ![2, 1], inb_S2560x128_S1280x128_1_0_s_2_1⟩ : LoadRect S2560x128) (harg7.unread x2)) (View.readAt (Elt F) arg8.view (Rect.unit (s := S20x1024) ![0, 0] S20x1024.size inb_S20x1024_S20x1024_0_0).toLoadRect (harg8.unread x3)) (arg21.view.readCov (kernelRun0_A.sl.HS0_1 c i arg5 harg5 arg6 harg6 arg9 harg9 arg10 harg10 arg11 harg11 arg12 harg12 arg13 harg13 hc0 x0 x1 x4 x5 x6 x7 x8 xt0 xt1 xt2 xt3 k0_hw1 k0_hw2 k0_hw3 k0_hw4 k0_hw5) (Rect.unit (s := S256x240) ![0, 0] S256x240.size inb_S256x240_S256x240_0_0).toLoadRect)
      (fun j => arg22.view.readCov (kernelRun0_A.sl.HS1_40 c arg14 harg14 arg15 harg15 arg16 harg16 arg17 harg17 arg18 harg18 x9 x10 x11 x12 x13) (Rect.unit (s := S8x240x128) ![j.val, 0, 0] S1x240x128.size (inbField j)).toLoadRect) := by sl_kernel_rfl

/-- The store of the hidden values by slot. -/
theorem hk_A (c : Dev nD) (i : grid0.Coords) (arg5 : Memref sig .tc .smem S9 .f32) (harg5 : arg5.IsWhole) (arg6 : Memref sig .tc .vmem S256x2560 .bf16) (harg6 : arg6.IsWhole) (arg7 : Memref sig .tc .vmem S2560x128 .i32) (harg7 : arg7.IsWhole) (arg8 : Memref sig .tc .vmem S20x1024 .bf16) (harg8 : arg8.IsWhole) (arg9 : Memref sig .tc .vmem S48x2560 .bf16) (harg9 : arg9.IsWhole) (arg10 : Memref sig .tc .vmem S48x2560 .bf16) (harg10 : arg10.IsWhole) (arg11 : Memref sig .tc .vmem S48x2560 .bf16) (harg11 : arg11.IsWhole) (arg12 : Memref sig .tc .vmem S48x2560 .bf16) (harg12 : arg12.IsWhole) (arg13 : Memref sig .tc .vmem S48x2560 .bf16) (harg13 : arg13.IsWhole) (arg14 : Memref sig .tc .vmem S48x1024 .bf16) (harg14 : arg14.IsWhole) (arg15 : Memref sig .tc .vmem S48x1024 .bf16) (harg15 : arg15.IsWhole) (arg16 : Memref sig .tc .vmem S48x1024 .bf16) (harg16 : arg16.IsWhole) (arg17 : Memref sig .tc .vmem S48x1024 .bf16) (harg17 : arg17.IsWhole) (arg18 : Memref sig .tc .vmem S48x1024 .bf16) (harg18 : arg18.IsWhole) (arg19 : Memref sig .tc .vmem S256x1024 .bf16) (harg19 : arg19.IsWhole) (arg20 : Memref sig .tc .vmem S256x32 .bf16) (harg20 : arg20.IsWhole) (arg21 : Memref sig .tc .vmem S256x240 .bf16) (harg21 : arg21.IsWhole) (arg22 : Memref sig .tc .vmem S8x240x128 .bf16) (harg22 : arg22.IsWhole) (hc0 : cond0_0 i)
    (x0 : Vec F S9 .f32) (x1 : Vec F S256x2560 .bf16) (x2 : Vec F S2560x128 .i32) (x3 : Vec F S20x1024 .bf16) (x4 : Vec F S48x2560 .bf16) (x5 : Vec F S48x2560 .bf16) (x6 : Vec F S48x2560 .bf16) (x7 : Vec F S48x2560 .bf16) (x8 : Vec F S48x2560 .bf16) (x9 : Vec F S48x1024 .bf16) (x10 : Vec F S48x1024 .bf16) (x11 : Vec F S48x1024 .bf16) (x12 : Vec F S48x1024 .bf16) (x13 : Vec F S48x1024 .bf16) (xt0 : TbBuf0 (F := F) c tbM0_0) (xt1 : TbBuf0 (F := F) c tbM0_1) (xt2 : TbBuf0 (F := F) c tbM0_2) (xt3 : TbBuf0 (F := F) c tbM0_3) (k0_hw1 : k0_chk1 i (tbM0_3.view.readAt (Elt F) (Rect.unit (s := S5) ![0] S1.size inb_S5_S1_0).toLoadRect xt3 (Shape.Idx.first (numel1_S1.symm ▸ Nat.one_pos)))) (k0_hw2 : k0_chk2 i (tbM0_3.view.readAt (Elt F) (Rect.unit (s := S5) ![1] S1.size inb_S5_S1_1).toLoadRect xt3 (Shape.Idx.first (numel1_S1.symm ▸ Nat.one_pos)))) (k0_hw3 : k0_chk3 i (tbM0_3.view.readAt (Elt F) (Rect.unit (s := S5) ![2] S1.size inb_S5_S1_2).toLoadRect xt3 (Shape.Idx.first (numel1_S1.symm ▸ Nat.one_pos)))) (k0_hw4 : k0_chk4 i (tbM0_3.view.readAt (Elt F) (Rect.unit (s := S5) ![3] S1.size inb_S5_S1_3).toLoadRect xt3 (Shape.Idx.first (numel1_S1.symm ▸ Nat.one_pos)))) (k0_hw5 : k0_chk5 i (tbM0_3.view.readAt (Elt F) (Rect.unit (s := S5) ![4] S1.size inb_S5_S1_4).toLoadRect xt3 (Shape.Idx.first (numel1_S1.symm ▸ Nat.one_pos)))) :
    kernelRun0_A.sl.HS0_1 c i arg5 harg5 arg6 harg6 arg9 harg9 arg10 harg10 arg11 harg11 arg12 harg12 arg13 harg13 hc0 x0 x1 x4 x5 x6 x7 x8 xt0 xt1 xt2 xt3 k0_hw1 k0_hw2 k0_hw3 k0_hw4 k0_hw5 = [⟨Rect.unit (s := S256x240) ![0, 0] S256x240.size inb_S256x240_S256x240_0_0,
      shapeCast S256x240 (hkOf (F := F) (View.readAt (Elt F) arg6.view (Rect.unit (s := S256x2560) ![0, 0] S256x2560.size inb_S256x2560_S256x2560_0_0).toLoadRect (harg6.unread x1)) ![View.readAt (Elt F) arg9.view (Rect.unit (s := S48x2560) ![0, 0] S48x2560.size inb_S48x2560_S48x2560_0_0).toLoadRect (harg9.unread x4), View.readAt (Elt F) arg10.view (Rect.unit (s := S48x2560) ![0, 0] S48x2560.size inb_S48x2560_S48x2560_0_0).toLoadRect (harg10.unread x5), View.readAt (Elt F) arg11.view (Rect.unit (s := S48x2560) ![0, 0] S48x2560.size inb_S48x2560_S48x2560_0_0).toLoadRect (harg11.unread x6), View.readAt (Elt F) arg12.view (Rect.unit (s := S48x2560) ![0, 0] S48x2560.size inb_S48x2560_S48x2560_0_0).toLoadRect (harg12.unread x7), View.readAt (Elt F) arg13.view (Rect.unit (s := S48x2560) ![0, 0] S48x2560.size inb_S48x2560_S48x2560_0_0).toLoadRect (harg13.unread x8)] ![kernelRun0_A.sl.r_1 (F := F) c xt0, kernelRun0_A.sl.r_10 (F := F) c xt0, kernelRun0_A.sl.r_18 (F := F) c xt0, kernelRun0_A.sl.r_25 (F := F) c xt0, kernelRun0_A.sl.r_32 (F := F) c xt0] ![kernelRun0_A.sl.r_2 (F := F) c xt2, kernelRun0_A.sl.r_3 (F := F) c xt2, kernelRun0_A.sl.r_11 (F := F) c xt2, kernelRun0_A.sl.r_19 (F := F) c xt2, kernelRun0_A.sl.r_26 (F := F) c xt2] ![kernelRun0_A.sl.r_3 (F := F) c xt2, kernelRun0_A.sl.r_11 (F := F) c xt2, kernelRun0_A.sl.r_19 (F := F) c xt2, kernelRun0_A.sl.r_26 (F := F) c xt2, kernelRun0_A.sl.r_33 (F := F) c xt2] ![kernelRun0_A.sl.r_7 (F := F) c i hc0 xt1 xt3 k0_hw1, kernelRun0_A.sl.r_12 (F := F) c i hc0 xt1 xt3 k0_hw2, kernelRun0_A.sl.r_20 (F := F) c i hc0 xt1 xt3 k0_hw3, kernelRun0_A.sl.r_27 (F := F) c i hc0 xt1 xt3 k0_hw4, kernelRun0_A.sl.r_34 (F := F) c i hc0 xt1 xt3 k0_hw5] ![kernelRun0_A.sl.r_8 (F := F) c i arg5 harg5 hc0 x0 xt3 k0_hw1, kernelRun0_A.sl.r_16 (F := F) c i arg5 harg5 hc0 x0 xt3 k0_hw2, kernelRun0_A.sl.r_21 (F := F) c i arg5 harg5 hc0 x0 xt3 k0_hw3, kernelRun0_A.sl.r_28 (F := F) c i arg5 harg5 hc0 x0 xt3 k0_hw4, kernelRun0_A.sl.r_35 (F := F) c i arg5 harg5 hc0 x0 xt3 k0_hw5]) shapeCasts_S256x240_S256x240⟩] := by sl_kernel_rfl

/-- The same store, among the stores of the point. -/
theorem hk_A' (c : Dev nD) (i : grid0.Coords) (arg5 : Memref sig .tc .smem S9 .f32) (harg5 : arg5.IsWhole) (arg6 : Memref sig .tc .vmem S256x2560 .bf16) (harg6 : arg6.IsWhole) (arg7 : Memref sig .tc .vmem S2560x128 .i32) (harg7 : arg7.IsWhole) (arg8 : Memref sig .tc .vmem S20x1024 .bf16) (harg8 : arg8.IsWhole) (arg9 : Memref sig .tc .vmem S48x2560 .bf16) (harg9 : arg9.IsWhole) (arg10 : Memref sig .tc .vmem S48x2560 .bf16) (harg10 : arg10.IsWhole) (arg11 : Memref sig .tc .vmem S48x2560 .bf16) (harg11 : arg11.IsWhole) (arg12 : Memref sig .tc .vmem S48x2560 .bf16) (harg12 : arg12.IsWhole) (arg13 : Memref sig .tc .vmem S48x2560 .bf16) (harg13 : arg13.IsWhole) (arg14 : Memref sig .tc .vmem S48x1024 .bf16) (harg14 : arg14.IsWhole) (arg15 : Memref sig .tc .vmem S48x1024 .bf16) (harg15 : arg15.IsWhole) (arg16 : Memref sig .tc .vmem S48x1024 .bf16) (harg16 : arg16.IsWhole) (arg17 : Memref sig .tc .vmem S48x1024 .bf16) (harg17 : arg17.IsWhole) (arg18 : Memref sig .tc .vmem S48x1024 .bf16) (harg18 : arg18.IsWhole) (arg19 : Memref sig .tc .vmem S256x1024 .bf16) (harg19 : arg19.IsWhole) (arg20 : Memref sig .tc .vmem S256x32 .bf16) (harg20 : arg20.IsWhole) (arg21 : Memref sig .tc .vmem S256x240 .bf16) (harg21 : arg21.IsWhole) (arg22 : Memref sig .tc .vmem S8x240x128 .bf16) (harg22 : arg22.IsWhole) (hc0 : cond0_0 i)
    (x0 : Vec F S9 .f32) (x1 : Vec F S256x2560 .bf16) (x2 : Vec F S2560x128 .i32) (x3 : Vec F S20x1024 .bf16) (x4 : Vec F S48x2560 .bf16) (x5 : Vec F S48x2560 .bf16) (x6 : Vec F S48x2560 .bf16) (x7 : Vec F S48x2560 .bf16) (x8 : Vec F S48x2560 .bf16) (x9 : Vec F S48x1024 .bf16) (x10 : Vec F S48x1024 .bf16) (x11 : Vec F S48x1024 .bf16) (x12 : Vec F S48x1024 .bf16) (x13 : Vec F S48x1024 .bf16) (xt0 : TbBuf0 (F := F) c tbM0_0) (xt1 : TbBuf0 (F := F) c tbM0_1) (xt2 : TbBuf0 (F := F) c tbM0_2) (xt3 : TbBuf0 (F := F) c tbM0_3) (k0_hw1 : k0_chk1 i (tbM0_3.view.readAt (Elt F) (Rect.unit (s := S5) ![0] S1.size inb_S5_S1_0).toLoadRect xt3 (Shape.Idx.first (numel1_S1.symm ▸ Nat.one_pos)))) (k0_hw2 : k0_chk2 i (tbM0_3.view.readAt (Elt F) (Rect.unit (s := S5) ![1] S1.size inb_S5_S1_1).toLoadRect xt3 (Shape.Idx.first (numel1_S1.symm ▸ Nat.one_pos)))) (k0_hw3 : k0_chk3 i (tbM0_3.view.readAt (Elt F) (Rect.unit (s := S5) ![2] S1.size inb_S5_S1_2).toLoadRect xt3 (Shape.Idx.first (numel1_S1.symm ▸ Nat.one_pos)))) (k0_hw4 : k0_chk4 i (tbM0_3.view.readAt (Elt F) (Rect.unit (s := S5) ![3] S1.size inb_S5_S1_3).toLoadRect xt3 (Shape.Idx.first (numel1_S1.symm ▸ Nat.one_pos)))) (k0_hw5 : k0_chk5 i (tbM0_3.view.readAt (Elt F) (Rect.unit (s := S5) ![4] S1.size inb_S5_S1_4).toLoadRect xt3 (Shape.Idx.first (numel1_S1.symm ▸ Nat.one_pos)))) :
    (kernelRun0_A c i arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xt0 xt1 xt2 xt3 k0_hw1 k0_hw2 k0_hw3 k0_hw4 k0_hw5).2.2.1 = kernelRun0_A.sl.HS0_1 c i arg5 harg5 arg6 harg6 arg9 harg9 arg10 harg10 arg11 harg11 arg12 harg12 arg13 harg13 hc0 x0 x1 x4 x5 x6 x7 x8 xt0 xt1 xt2 xt3 k0_hw1 k0_hw2 k0_hw3 k0_hw4 k0_hw5 := by sl_kernel_rfl

/-- The store of the hidden values by place. -/
theorem h_A (c : Dev nD) (i : grid0.Coords) (arg5 : Memref sig .tc .smem S9 .f32) (harg5 : arg5.IsWhole) (arg6 : Memref sig .tc .vmem S256x2560 .bf16) (harg6 : arg6.IsWhole) (arg7 : Memref sig .tc .vmem S2560x128 .i32) (harg7 : arg7.IsWhole) (arg8 : Memref sig .tc .vmem S20x1024 .bf16) (harg8 : arg8.IsWhole) (arg9 : Memref sig .tc .vmem S48x2560 .bf16) (harg9 : arg9.IsWhole) (arg10 : Memref sig .tc .vmem S48x2560 .bf16) (harg10 : arg10.IsWhole) (arg11 : Memref sig .tc .vmem S48x2560 .bf16) (harg11 : arg11.IsWhole) (arg12 : Memref sig .tc .vmem S48x2560 .bf16) (harg12 : arg12.IsWhole) (arg13 : Memref sig .tc .vmem S48x2560 .bf16) (harg13 : arg13.IsWhole) (arg14 : Memref sig .tc .vmem S48x1024 .bf16) (harg14 : arg14.IsWhole) (arg15 : Memref sig .tc .vmem S48x1024 .bf16) (harg15 : arg15.IsWhole) (arg16 : Memref sig .tc .vmem S48x1024 .bf16) (harg16 : arg16.IsWhole) (arg17 : Memref sig .tc .vmem S48x1024 .bf16) (harg17 : arg17.IsWhole) (arg18 : Memref sig .tc .vmem S48x1024 .bf16) (harg18 : arg18.IsWhole) (arg19 : Memref sig .tc .vmem S256x1024 .bf16) (harg19 : arg19.IsWhole) (arg20 : Memref sig .tc .vmem S256x32 .bf16) (harg20 : arg20.IsWhole) (arg21 : Memref sig .tc .vmem S256x240 .bf16) (harg21 : arg21.IsWhole) (arg22 : Memref sig .tc .vmem S8x240x128 .bf16) (harg22 : arg22.IsWhole) (hc0 : cond0_0 i)
    (x0 : Vec F S9 .f32) (x1 : Vec F S256x2560 .bf16) (x2 : Vec F S2560x128 .i32) (x3 : Vec F S20x1024 .bf16) (x4 : Vec F S48x2560 .bf16) (x5 : Vec F S48x2560 .bf16) (x6 : Vec F S48x2560 .bf16) (x7 : Vec F S48x2560 .bf16) (x8 : Vec F S48x2560 .bf16) (x9 : Vec F S48x1024 .bf16) (x10 : Vec F S48x1024 .bf16) (x11 : Vec F S48x1024 .bf16) (x12 : Vec F S48x1024 .bf16) (x13 : Vec F S48x1024 .bf16) (xt0 : TbBuf0 (F := F) c tbM0_0) (xt1 : TbBuf0 (F := F) c tbM0_1) (xt2 : TbBuf0 (F := F) c tbM0_2) (xt3 : TbBuf0 (F := F) c tbM0_3) (k0_hw1 : k0_chk1 i (tbM0_3.view.readAt (Elt F) (Rect.unit (s := S5) ![0] S1.size inb_S5_S1_0).toLoadRect xt3 (Shape.Idx.first (numel1_S1.symm ▸ Nat.one_pos)))) (k0_hw2 : k0_chk2 i (tbM0_3.view.readAt (Elt F) (Rect.unit (s := S5) ![1] S1.size inb_S5_S1_1).toLoadRect xt3 (Shape.Idx.first (numel1_S1.symm ▸ Nat.one_pos)))) (k0_hw3 : k0_chk3 i (tbM0_3.view.readAt (Elt F) (Rect.unit (s := S5) ![2] S1.size inb_S5_S1_2).toLoadRect xt3 (Shape.Idx.first (numel1_S1.symm ▸ Nat.one_pos)))) (k0_hw4 : k0_chk4 i (tbM0_3.view.readAt (Elt F) (Rect.unit (s := S5) ![3] S1.size inb_S5_S1_3).toLoadRect xt3 (Shape.Idx.first (numel1_S1.symm ▸ Nat.one_pos)))) (k0_hw5 : k0_chk5 i (tbM0_3.view.readAt (Elt F) (Rect.unit (s := S5) ![4] S1.size inb_S5_S1_4).toLoadRect xt3 (Shape.Idx.first (numel1_S1.symm ▸ Nat.one_pos)))) :
    (kernelRun0_A c i arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xt0 xt1 xt2 xt3 k0_hw1 k0_hw2 k0_hw3 k0_hw4 k0_hw5).2.1 = [⟨Rect.unit (s := S256x32) ![0, 0] S256x32.size inb_S256x32_S256x32_0_0,
      hOf (F := F) (View.readAt (Elt F) arg6.view (Rect.unit (s := S256x2560) ![0, 0] S256x2560.size inb_S256x2560_S256x2560_0_0).toLoadRect (harg6.unread x1)) ![View.readAt (Elt F) arg9.view (Rect.unit (s := S48x2560) ![0, 0] S48x2560.size inb_S48x2560_S48x2560_0_0).toLoadRect (harg9.unread x4), View.readAt (Elt F) arg10.view (Rect.unit (s := S48x2560) ![0, 0] S48x2560.size inb_S48x2560_S48x2560_0_0).toLoadRect (harg10.unread x5), View.readAt (Elt F) arg11.view (Rect.unit (s := S48x2560) ![0, 0] S48x2560.size inb_S48x2560_S48x2560_0_0).toLoadRect (harg11.unread x6), View.readAt (Elt F) arg12.view (Rect.unit (s := S48x2560) ![0, 0] S48x2560.size inb_S48x2560_S48x2560_0_0).toLoadRect (harg12.unread x7), View.readAt (Elt F) arg13.view (Rect.unit (s := S48x2560) ![0, 0] S48x2560.size inb_S48x2560_S48x2560_0_0).toLoadRect (harg13.unread x8)] ![kernelRun0_A.sl.r_1 (F := F) c xt0, kernelRun0_A.sl.r_10 (F := F) c xt0, kernelRun0_A.sl.r_18 (F := F) c xt0, kernelRun0_A.sl.r_25 (F := F) c xt0, kernelRun0_A.sl.r_32 (F := F) c xt0] ![kernelRun0_A.sl.r_2 (F := F) c xt2, kernelRun0_A.sl.r_3 (F := F) c xt2, kernelRun0_A.sl.r_11 (F := F) c xt2, kernelRun0_A.sl.r_19 (F := F) c xt2, kernelRun0_A.sl.r_26 (F := F) c xt2] ![kernelRun0_A.sl.r_3 (F := F) c xt2, kernelRun0_A.sl.r_11 (F := F) c xt2, kernelRun0_A.sl.r_19 (F := F) c xt2, kernelRun0_A.sl.r_26 (F := F) c xt2, kernelRun0_A.sl.r_33 (F := F) c xt2] ![kernelRun0_A.sl.r_7 (F := F) c i hc0 xt1 xt3 k0_hw1, kernelRun0_A.sl.r_12 (F := F) c i hc0 xt1 xt3 k0_hw2, kernelRun0_A.sl.r_20 (F := F) c i hc0 xt1 xt3 k0_hw3, kernelRun0_A.sl.r_27 (F := F) c i hc0 xt1 xt3 k0_hw4, kernelRun0_A.sl.r_34 (F := F) c i hc0 xt1 xt3 k0_hw5] ![kernelRun0_A.sl.r_8 (F := F) c i arg5 harg5 hc0 x0 xt3 k0_hw1, kernelRun0_A.sl.r_16 (F := F) c i arg5 harg5 hc0 x0 xt3 k0_hw2, kernelRun0_A.sl.r_21 (F := F) c i arg5 harg5 hc0 x0 xt3 k0_hw3, kernelRun0_A.sl.r_28 (F := F) c i arg5 harg5 hc0 x0 xt3 k0_hw4, kernelRun0_A.sl.r_35 (F := F) c i arg5 harg5 hc0 x0 xt3 k0_hw5]⟩] := by sl_kernel_rfl

end Cert.KernelIdeal.Body

end
-- ==== Proof.IdealLinkB.lean ====
/- What a later grid point stores, in the terms of `IdealBlock`. -/
module

public import proofs.«01_k».proof.Proof.IdealRunB
public import proofs.«01_k».proof.Proof.IdealBlock

@[expose] public section

set_option maxRecDepth 16384

noncomputable section

namespace Cert.KernelIdeal.Body

open Idealize.ShloMosaic Idealize.ShloMosaic.TcCoe Idealize.ShloMosaic.Tactic
open Cert.KernelIdeal.Gen

variable {F : FTy → Type} [FloatOps F]

/-- The stores of the pool rows' fields. -/
theorem slabs_B (c : Dev nD) (arg14 : Memref sig .tc .vmem S48x1024 .bf16) (harg14 : arg14.IsWhole) (arg15 : Memref sig .tc .vmem S48x1024 .bf16) (harg15 : arg15.IsWhole) (arg16 : Memref sig .tc .vmem S48x1024 .bf16) (harg16 : arg16.IsWhole) (arg17 : Memref sig .tc .vmem S48x1024 .bf16) (harg17 : arg17.IsWhole) (arg18 : Memref sig .tc .vmem S48x1024 .bf16) (harg18 : arg18.IsWhole) (x9 : Vec F S48x1024 .bf16) (x10 : Vec F S48x1024 .bf16) (x11 : Vec F S48x1024 .bf16) (x12 : Vec F S48x1024 .bf16) (x13 : Vec F S48x1024 .bf16) :
    kernelRun0_B.sl.HS1_40 c arg14 harg14 arg15 harg15 arg16 harg16 arg17 harg17 arg18 harg18 x9 x10 x11 x12 x13 = slabPieces (F := F) ![View.readAt (Elt F) arg14.view (Rect.unit (s := S48x1024) ![0, 0] S48x1024.size inb_S48x1024_S48x1024_0_0).toLoadRect (harg14.unread x9), View.readAt (Elt F) arg15.view (Rect.unit (s := S48x1024) ![0, 0] S48x1024.size inb_S48x1024_S48x1024_0_0).toLoadRect (harg15.unread x10), View.readAt (Elt F) arg16.view (Rect.unit (s := S48x1024) ![0, 0] S48x1024.size inb_S48x1024_S48x1024_0_0).toLoadRect (harg16.unread x11), View.readAt (Elt F) arg17.view (Rect.unit (s := S48x1024) ![0, 0] S48x1024.size inb_S48x1024_S48x1024_0_0).toLoadRect (harg17.unread x12), View.readAt (Elt F) arg18.view (Rect.unit (s := S48x1024) ![0, 0] S48x1024.size inb_S48x1024_S48x1024_0_0).toLoadRect (harg18.unread x13)] := by sl_kernel_rfl

/-- The stores of the result's registers. -/
theorem regs_B (c : Dev nD) (i : grid0.Coords) (arg5 : Memref sig .tc .smem S9 .f32) (harg5 : arg5.IsWhole) (arg6 : Memref sig .tc .vmem S256x2560 .bf16) (harg6 : arg6.IsWhole) (arg7 : Memref sig .tc .vmem S2560x128 .i32) (harg7 : arg7.IsWhole) (arg8 : Memref sig .tc .vmem S20x1024 .bf16) (harg8 : arg8.IsWhole) (arg9 : Memref sig .tc .vmem S48x2560 .bf16) (harg9 : arg9.IsWhole) (arg10 : Memref sig .tc .vmem S48x2560 .bf16) (harg10 : arg10.IsWhole) (arg11 : Memref sig .tc .vmem S48x2560 .bf16) (harg11 : arg11.IsWhole) (arg12 : Memref sig .tc .vmem S48x2560 .bf16) (harg12 : arg12.IsWhole) (arg13 : Memref sig .tc .vmem S48x2560 .bf16) (harg13 : arg13.IsWhole) (arg14 : Memref sig .tc .vmem S48x1024 .bf16) (harg14 : arg14.IsWhole) (arg15 : Memref sig .tc .vmem S48x1024 .bf16) (harg15 : arg15.IsWhole) (arg16 : Memref sig .tc .vmem S48x1024 .bf16) (harg16 : arg16.IsWhole) (arg17 : Memref sig .tc .vmem S48x1024 .bf16) (harg17 : arg17.IsWhole) (arg18 : Memref sig .tc .vmem S48x1024 .bf16) (harg18 : arg18.IsWhole) (arg19 : Memref sig .tc .vmem S256x1024 .bf16) (harg19 : arg19.IsWhole) (arg20 : Memref sig .tc .vmem S256x32 .bf16) (harg20 : arg20.IsWhole) (arg21 : Memref sig .tc .vmem S256x240 .bf16) (harg21 : arg21.IsWhole) (arg22 : Memref sig .tc .vmem S8x240x128 .bf16) (harg22 : arg22.IsWhole) (hc0 : ¬cond0_0 i)
    (x0 : Vec F S9 .f32) (x1 : Vec F S256x2560 .bf16) (x2 : Vec F S2560x128 .i32) (x3 : Vec F S20x1024 .bf16) (x4 : Vec F S48x2560 .bf16) (x5 : Vec F S48x2560 .bf16) (x6 : Vec F S48x2560 .bf16) (x7 : Vec F S48x2560 .bf16) (x8 : Vec F S48x2560 .bf16) (x9 : Vec F S48x1024 .bf16) (x10 : Vec F S48x1024 .bf16) (x11 : Vec F S48x1024 .bf16) (x12 : Vec F S48x1024 .bf16) (x13 : Vec F S48x1024 .bf16) (xt0 : TbBuf0 (F := F) c tbM0_0) (xt1 : TbBuf0 (F := F) c tbM0_1) (xt2 : TbBuf0 (F := F) c tbM0_2) (xt3 : TbBuf0 (F := F) c tbM0_3) (xs0 : Vec F S256x240 .bf16) :
    (kernelRun0_B c i arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xt0 xt1 xt2 xt3 xs0).1 = regPieces (F := F) (View.readAt (Elt F) arg6.view (Rect.unit (s := S256x2560) ![0, 0] S256x2560.size inb_S256x2560_S256x2560_0_0).toLoadRect (harg6.unread x1)) (View.readAt (Elt F) arg7.view (⟨![0, 0], S1280x128.size, ![2, 1], inb_S2560x128_S1280x128_0_0_s_2_1⟩ : LoadRect S2560x128) (harg7.unread x2)) (View.readAt (Elt F) arg7.view (⟨![1, 0], S1280x128.size, ![2, 1], inb_S2560x128_S1280x128_1_0_s_2_1⟩ : LoadRect S2560x128) (harg7.unread x2)) (View.readAt (Elt F) arg8.view (Rect.unit (s := S20x1024) ![0, 0] S20x1024.size inb_S20x1024_S20x1024_0_0).toLoadRect (harg8.unread x3)) (View.readAt (Elt F) arg21.view (Rect.unit (s := S256x240) ![0, 0] S256x240.size inb_S256x240_S256x240_0_0).toLoadRect (harg21.unread xs0))
      (fun j => arg22.view.readCov (kernelRun0_B.sl.HS1_40 c arg14 harg14 arg15 harg15 arg16 harg16 arg17 harg17 arg18 harg18 x9 x10 x11 x12 x13) (Rect.unit (s := S8x240x128) ![j.val, 0, 0] S1x240x128.size (inbField j)).toLoadRect) := by sl_kernel_rfl

end Cert.KernelIdeal.Body

end
-- ==== Proof.IdealOut.lean ====
/- What a grid point leaves in the kernel's blocks, over the extended reals, as closed functions of the blocks it reads. -/
module

public import proofs.«01_k».proof.Proof.IdealVals
public import proofs.«01_k».proof.Proof.IdealLinkA
public import proofs.«01_k».proof.Proof.IdealLinkB
public import proofs.«01_k».proof.Proof.IdealFrame

@[expose] public section

set_option maxRecDepth 16384

noncomputable section

namespace Cert.KernelIdeal.Body

open Idealize.ShloMosaic Idealize.ShloMosaic.TcCoe Idealize.ShloMosaic.ValueIdx
open Cert.KernelIdeal.Gen Cert.Net Cert.Nibble

theorem zero2 : (![0, 0] : Fin 2 → Nat) = fun _ => 0 := funext fun a => by fin_cases a <;> rfl

/-! ## The adapters' second factors, read back -/

/-- What the fields of the five slabs are at an index. -/
def slabVal (P : Fin 5 → Vec Ideal S48x1024 .bf16) : Vec Ideal S8x240x128 .bf16 := fun y =>
  P ⟨(y 1).val / 48, by have h : (y 1).val < 240 := (y 1).isLt; omega⟩
    (ix2 ⟨(y 1).val % 48, by omega⟩ ⟨8 * (y 2).val + (y 0).val, by
      have h : (y 0).val < 8 := (y 0).isLt
      have h' : (y 2).val < 128 := (y 2).isLt
      omega⟩)

/-- A piece of the list is a field of a slab. -/
theorem slab_mem (P : Fin 5 → Vec Ideal S48x1024 .bf16) (p : View.Piece (Elt Ideal) S8x240x128 .bf16) :
    p ∈ slabPieces P ↔ ∃ (s : Fin 5) (j : Fin 8),
      (⟨Rect.unit (s := S8x240x128) ![j.val, 48 * s.val, 0] S1x48x128.size (inbSlab s j), slabField (P s) j⟩ : View.Piece (Elt Ideal) S8x240x128 .bf16) = p := by
  unfold slabPieces
  rw [List.mem_flatMap]
  constructor
  · rintro ⟨s, -, h⟩
    obtain ⟨j, -, e⟩ := List.mem_map.1 h
    exact ⟨s, j, e⟩
  · rintro ⟨s, j, e⟩
    exact ⟨s, by fin_cases s <;> simp, List.mem_map.2 ⟨j, by fin_cases j <;> simp, e⟩⟩

/-- Field `j` of the stored slabs, loaded. -/
theorem slabs_canon (P : Fin 5 → Vec Ideal S48x1024 .bf16) (y : S8x240x128.Idx) : View.canon (slabPieces P) y = slabVal P y := by
  refine View.canon_apply_of_pieces (slabVal P) _ ?_ y ?_
  · intro p hp x
    obtain ⟨s, j, rfl⟩ := (slab_mem P p).1 hp
    obtain ⟨u, r, l, rfl⟩ : ∃ (u : Fin 1) (r : Fin 48) (l : Fin 128), x = ix3 u r l := ⟨x 0, x 1, x 2, eq_ix3 (n0 := 1) (n1 := 48) (n2 := 128) x⟩
    have ey : (Rect.unit (s := S8x240x128) ![j.val, 48 * s.val, 0] S1x48x128.size (inbSlab s j)).emb (ix3 u r l) = ix3 j (⟨48 * s.val + r.val, by omega⟩ : Fin 240) l := by
      funext a
      apply Fin.ext
      match a with
      | ⟨0, _⟩ => show j.val + 1 * u.val = j.val; omega
      | ⟨1, _⟩ => show 48 * s.val + 1 * r.val = 48 * s.val + r.val; omega
      | ⟨2, _⟩ => show 0 + 1 * l.val = l.val; omega
    show slabField (P s) j (ix3 u r l) = slabVal P ((Rect.unit (s := S8x240x128) ![j.val, 48 * s.val, 0] S1x48x128.size (inbSlab s j)).emb (ix3 u r l))
    rw [ey, slabField_apply]
    unfold slabVal
    have es : ∀ h, (⟨(48 * s.val + r.val) / 48, h⟩ : Fin 5) = s := fun h => Fin.ext (by show (48 * s.val + r.val) / 48 = s.val; omega)
    have er : ∀ h, (⟨(48 * s.val + r.val) % 48, h⟩ : Fin 48) = r := fun h => Fin.ext (by show (48 * s.val + r.val) % 48 = r.val; omega)
    exact (congr (congrArg P (es _)) (congrArg (fun r => ix2 r (⟨8 * l.val + j.val, by omega⟩ : Fin 1024)) (er _))).symm
  · have h0 : (y 0).val < 8 := (y 0).isLt
    have h1 : (y 1).val < 240 := (y 1).isLt
    have h2 : (y 2).val < 128 := (y 2).isLt
    refine ⟨_, (slab_mem P _).2 ⟨⟨(y 1).val / 48, by omega⟩, ⟨(y 0).val, h0⟩, rfl⟩, ?_⟩
    rw [Rect.mem_set_unit]
    intro a
    match a with
    | ⟨0, _⟩ => exact ⟨le_rfl, Nat.lt_succ_self _⟩
    | ⟨1, _⟩ => show 48 * ((y 1).val / 48) ≤ (y 1).val ∧ (y 1).val < 48 * ((y 1).val / 48) + 48; omega
    | ⟨2, _⟩ => show 0 ≤ (y 2).val ∧ (y 2).val < 0 + 128; omega

theorem slabs_load (v : View sig .tc .vmem S8x240x128 .bf16) (P : Fin 5 → Vec Ideal S48x1024 .bf16) (j : Fin 8) (c : Fin 240) (l : Fin 128) :
    v.readCov (Val := Elt Ideal) (slabPieces P) (Rect.unit (s := S8x240x128) ![j.val, 0, 0] S1x240x128.size (inbField j)).toLoadRect (ix3 0 c l)
      = P ⟨c.val / 48, by omega⟩ (ix2 ⟨c.val % 48, by omega⟩ ⟨8 * l.val + j.val, by omega⟩) := by
  rw [View.readCov_eq_canon']
  refine (slabs_canon P _).trans ?_
  unfold slabVal
  have es : ∀ h, (⟨(0 + 1 * c.val) / 48, h⟩ : Fin 5) = ⟨c.val / 48, by omega⟩ := fun h => Fin.ext (by show (0 + 1 * c.val) / 48 = c.val / 48; omega)
  refine congr (congrArg P (es _)) ?_
  funext a
  apply Fin.ext
  match a with
  | ⟨0, _⟩ => show (0 + 1 * c.val) % 48 = c.val % 48; omega
  | ⟨1, _⟩ => show 8 * (0 + 1 * l.val) + (j.val + 1 * 0) = 8 * l.val + j.val; omega

/-! ## The result's block -/

/-- The block of the result: every token against the decoded weights of a column, and its hidden values against the
    adapters' rows of that column. -/
def blockOut (X : Vec Ideal S256x2560 .bf16) (W : Vec Ideal S2560x128 .i32) (S : Vec Ideal S20x1024 .bf16) (hk : Vec Ideal S256x240 .bf16)
    (P : Fin 5 → Vec Ideal S48x1024 .bf16) : Vec Ideal S256x1024 .bf16 := fun y =>
  outSum X (fun d => num (fld (W (ix2 d ⟨(y 1).val / 8, by have h : (y 1).val < 1024 := (y 1).isLt; omega⟩)) ⟨(y 1).val % 8, by omega⟩)
      * S (ix2 ⟨d.val / 128, by omega⟩ (y 1)))
    hk (fun c => P ⟨c.val / 48, by omega⟩ (ix2 ⟨c.val % 48, by omega⟩ (y 1))) (y 0)

theorem reg_mem (X : Vec Ideal S256x2560 .bf16) (We Wo : Vec Ideal S1280x128 .i32) (S : Vec Ideal S20x1024 .bf16) (hk : Vec Ideal S256x240 .bf16)
    (bf : Fin 8 → Vec Ideal S1x240x128 .bf16) (p : View.Piece (Elt Ideal) S256x1024 .bf16) :
    p ∈ regPieces X We Wo S hk bf ↔ ∃ b : Fin 8,
      (⟨Rect.unit (s := S256x1024) ![0, 128 * b.val] S256x128.size (inbReg b), regOut X We Wo S hk bf b⟩ : View.Piece (Elt Ideal) S256x1024 .bf16) = p := by
  unfold regPieces
  rw [List.mem_map]
  exact ⟨fun ⟨b, _, e⟩ => ⟨b, e⟩, fun ⟨b, e⟩ => ⟨b, by fin_cases b <;> simp, e⟩⟩

/-- The eight registers, together. -/
theorem regs_canon (X : Vec Ideal S256x2560 .bf16) (W : Vec Ideal S2560x128 .i32) (We Wo : Vec Ideal S1280x128 .i32) (S : Vec Ideal S20x1024 .bf16)
    (hk : Vec Ideal S256x240 .bf16) (bf : Fin 8 → Vec Ideal S1x240x128 .bf16) (P : Fin 5 → Vec Ideal S48x1024 .bf16)
    (he : ∀ (r : Fin 1280) (l : Fin 128), We (ix2 r l) = W (ix2 ⟨2 * r.val, by omega⟩ l))
    (ho : ∀ (r : Fin 1280) (l : Fin 128), Wo (ix2 r l) = W (ix2 ⟨2 * r.val + 1, by omega⟩ l))
    (hb : ∀ (j : Fin 8) (c : Fin 240) (l : Fin 128), bf j (ix3 0 c l) = P ⟨c.val / 48, by omega⟩ (ix2 ⟨c.val % 48, by omega⟩ ⟨8 * l.val + j.val, by omega⟩)) :
    View.canon (regPieces X We Wo S hk bf) = blockOut X W S hk P := by
  funext y
  refine View.canon_apply_of_pieces (blockOut X W S hk P) _ ?_ y ?_
  · intro p hp x
    obtain ⟨b, rfl⟩ := (reg_mem X We Wo S hk bf p).1 hp
    have h0 : (x 0).val < 256 := (x 0).isLt
    have h1 : (x 1).val < 128 := (x 1).isLt
    obtain ⟨t, l, rfl⟩ : ∃ (t : Fin 256) (l : Fin 128), x = ix2 t l := ⟨x 0, x 1, eq_ix2 (n0 := 256) (n1 := 128) x⟩
    have ey : (Rect.unit (s := S256x1024) ![0, 128 * b.val] S256x128.size (inbReg b)).emb (ix2 t l) = ix2 t (⟨128 * b.val + l.val, by omega⟩ : Fin 1024) := by
      funext a
      apply Fin.ext
      match a with
      | ⟨0, _⟩ => show 0 + 1 * t.val = t.val; omega
      | ⟨1, _⟩ => show 128 * b.val + 1 * l.val = 128 * b.val + l.val; omega
    show regOut X We Wo S hk bf b (ix2 t l) = blockOut X W S hk P ((Rect.unit (s := S256x1024) ![0, 128 * b.val] S256x128.size (inbReg b)).emb (ix2 t l))
    rw [ey, regOut_apply, fieldOut_apply]
    unfold blockOut
    have en : ∀ h, (⟨8 * ((128 * b.val + l.val) / 8) + (128 * b.val + l.val) % 8, h⟩ : Fin 1024) = ⟨128 * b.val + l.val, by omega⟩ :=
      fun h => Fin.ext (by show 8 * ((128 * b.val + l.val) / 8) + (128 * b.val + l.val) % 8 = 128 * b.val + l.val; omega)
    refine congr (congr (congrArg (fun w => outSum X w hk) ?_) ?_) rfl
    · funext d
      rw [weights_apply W We Wo S he ho]
      exact congrArg (fun n => num _ * S (ix2 _ n)) (en _)
    · funext c
      rw [hb]
      exact congrArg (fun n => P _ (ix2 _ n)) (en _)
  · have h0 : (y 0).val < 256 := (y 0).isLt
    have h1 : (y 1).val < 1024 := (y 1).isLt
    refine ⟨_, (reg_mem X We Wo S hk bf _).2 ⟨⟨(y 1).val / 128, by omega⟩, rfl⟩, ?_⟩
    rw [Rect.mem_set_unit]
    intro a
    match a with
    | ⟨0, _⟩ => show 0 ≤ (y 0).val ∧ (y 0).val < 0 + 256; omega
    | ⟨1, _⟩ => show 128 * ((y 1).val / 128) ≤ (y 1).val ∧ (y 1).val < 128 * ((y 1).val / 128) + 128; omega

/-- The even rows of the packed words. -/
theorem even_rows (W : Vec Ideal S2560x128 .i32) (r : Fin 1280) (l : Fin 128) :
    (fun j => W ((⟨![0, 0], S1280x128.size, ![2, 1], inb_S2560x128_S1280x128_0_0_s_2_1⟩ : LoadRect S2560x128).idx j)) (ix2 r l) = W (ix2 ⟨2 * r.val, by omega⟩ l) := by
  show W _ = W _
  congr 1
  funext a
  apply Fin.ext
  match a with
  | ⟨0, _⟩ => show 0 + 2 * r.val = 2 * r.val; omega
  | ⟨1, _⟩ => show 0 + 1 * l.val = l.val; omega

/-- The odd rows. -/
theorem odd_rows (W : Vec Ideal S2560x128 .i32) (r : Fin 1280) (l : Fin 128) :
    (fun j => W ((⟨![1, 0], S1280x128.size, ![2, 1], inb_S2560x128_S1280x128_1_0_s_2_1⟩ : LoadRect S2560x128).idx j)) (ix2 r l) = W (ix2 ⟨2 * r.val + 1, by omega⟩ l) := by
  show W _ = W _
  congr 1
  funext a
  apply Fin.ext
  match a with
  | ⟨0, _⟩ => show 1 + 2 * r.val = 2 * r.val + 1; omega
  | ⟨1, _⟩ => show 0 + 1 * l.val = l.val; omega

/-! ## The words of the tables -/

/-- A segment's word. -/
def word5 (x : S5.Idx → BitVec 32) (s : Fin 5) : BitVec 32 := x (ix1 s)
/-- A segment's first token. -/
def lo6 (x : S6.Idx → BitVec 32) (s : Fin 5) : BitVec 32 := x (ix1 (s.castSucc : Fin 6))
/-- The token after its last. -/
def hi6 (x : S6.Idx → BitVec 32) (s : Fin 5) : BitVec 32 := x (ix1 (s.succ : Fin 6))
/-- The entry of a table of nine a word names. -/
def at9 (v : BitVec 32) : S9.Idx := ix1 (⟨v.toNat % 9, Nat.mod_lt _ (by decide)⟩ : Fin 9)
/-- A segment's entry in a table of nine, by its adapter. -/
def look {A : Type} (x : S9.Idx → A) (ad : S5.Idx → BitVec 32) (s : Fin 5) : A := x (at9 (word5 ad s))

section
variable (c : Dev nD) (i : grid0.Coords) (arg5 : Memref sig .tc .smem S9 .f32) (harg5 : arg5.IsWhole) (arg6 : Memref sig .tc .vmem S256x2560 .bf16) (harg6 : arg6.IsWhole) (arg7 : Memref sig .tc .vmem S2560x128 .i32) (harg7 : arg7.IsWhole) (arg8 : Memref sig .tc .vmem S20x1024 .bf16) (harg8 : arg8.IsWhole) (arg9 : Memref sig .tc .vmem S48x2560 .bf16) (harg9 : arg9.IsWhole) (arg10 : Memref sig .tc .vmem S48x2560 .bf16) (harg10 : arg10.IsWhole) (arg11 : Memref sig .tc .vmem S48x2560 .bf16) (harg11 : arg11.IsWhole) (arg12 : Memref sig .tc .vmem S48x2560 .bf16) (harg12 : arg12.IsWhole) (arg13 : Memref sig .tc .vmem S48x2560 .bf16) (harg13 : arg13.IsWhole) (arg14 : Memref sig .tc .vmem S48x1024 .bf16) (harg14 : arg14.IsWhole) (arg15 : Memref sig .tc .vmem S48x1024 .bf16) (harg15 : arg15.IsWhole) (arg16 : Memref sig .tc .vmem S48x1024 .bf16) (harg16 : arg16.IsWhole) (arg17 : Memref sig .tc .vmem S48x1024 .bf16) (harg17 : arg17.IsWhole) (arg18 : Memref sig .tc .vmem S48x1024 .bf16) (harg18 : arg18.IsWhole) (arg19 : Memref sig .tc .vmem S256x1024 .bf16) (harg19 : arg19.IsWhole) (arg20 : Memref sig .tc .vmem S256x32 .bf16) (harg20 : arg20.IsWhole) (arg21 : Memref sig .tc .vmem S256x240 .bf16) (harg21 : arg21.IsWhole) (arg22 : Memref sig .tc .vmem S8x240x128 .bf16) (harg22 : arg22.IsWhole) (hc0 : cond0_0 i)
    (x0 : Vec Ideal S9 .f32) (x1 : Vec Ideal S256x2560 .bf16) (x2 : Vec Ideal S2560x128 .i32) (x3 : Vec Ideal S20x1024 .bf16) (x4 : Vec Ideal S48x2560 .bf16) (x5 : Vec Ideal S48x2560 .bf16) (x6 : Vec Ideal S48x2560 .bf16) (x7 : Vec Ideal S48x2560 .bf16) (x8 : Vec Ideal S48x2560 .bf16) (x9 : Vec Ideal S48x1024 .bf16) (x10 : Vec Ideal S48x1024 .bf16) (x11 : Vec Ideal S48x1024 .bf16) (x12 : Vec Ideal S48x1024 .bf16) (x13 : Vec Ideal S48x1024 .bf16) (xt0 : TbBuf0 (F := Ideal) c tbM0_0) (xt1 : TbBuf0 (F := Ideal) c tbM0_1) (xt2 : TbBuf0 (F := Ideal) c tbM0_2) (xt3 : TbBuf0 (F := Ideal) c tbM0_3) (k0_hw1 : k0_chk1 i (tbM0_3.view.readAt (Elt Ideal) (Rect.unit (s := S5) ![0] S1.size inb_S5_S1_0).toLoadRect xt3 (Shape.Idx.first (numel1_S1.symm ▸ Nat.one_pos)))) (k0_hw2 : k0_chk2 i (tbM0_3.view.readAt (Elt Ideal) (Rect.unit (s := S5) ![1] S1.size inb_S5_S1_1).toLoadRect xt3 (Shape.Idx.first (numel1_S1.symm ▸ Nat.one_pos)))) (k0_hw3 : k0_chk3 i (tbM0_3.view.readAt (Elt Ideal) (Rect.unit (s := S5) ![2] S1.size inb_S5_S1_2).toLoadRect xt3 (Shape.Idx.first (numel1_S1.symm ▸ Nat.one_pos)))) (k0_hw4 : k0_chk4 i (tbM0_3.view.readAt (Elt Ideal) (Rect.unit (s := S5) ![3] S1.size inb_S5_S1_3).toLoadRect xt3 (Shape.Idx.first (numel1_S1.symm ▸ Nat.one_pos)))) (k0_hw5 : k0_chk5 i (tbM0_3.view.readAt (Elt Ideal) (Rect.unit (s := S5) ![4] S1.size inb_S5_S1_4).toLoadRect xt3 (Shape.Idx.first (numel1_S1.symm ▸ Nat.one_pos))))

theorem key5 (k : ℕ) (hk : k + 1 ≤ 5) (j : S1.Idx) : (Rect.unit (s := S5) ![k] S1.size (fun a => by obtain rfl : a = 0 := Subsingleton.elim _ _; exact hk)).toLoadRect.idx j
    = ix1 (⟨k, hk⟩ : Fin 5) := by
  funext a
  obtain rfl : a = 0 := Subsingleton.elim _ _
  apply Fin.ext
  have hj : (j 0).val < 1 := (j 0).isLt
  show k + 1 * (j 0).val = k
  omega

theorem key6 (k : ℕ) (hk : k + 1 ≤ 6) (j : S1.Idx) : (Rect.unit (s := S6) ![k] S1.size (fun a => by obtain rfl : a = 0 := Subsingleton.elim _ _; exact hk)).toLoadRect.idx j
    = ix1 (⟨k, hk⟩ : Fin 6) := by
  funext a
  obtain rfl : a = 0 := Subsingleton.elim _ _
  apply Fin.ext
  have hj : (j 0).val < 1 := (j 0).isLt
  show k + 1 * (j 0).val = k
  omega

theorem words_st : (![kernelRun0_A.sl.r_1 (F := Ideal) c xt0, kernelRun0_A.sl.r_10 (F := Ideal) c xt0, kernelRun0_A.sl.r_18 (F := Ideal) c xt0, kernelRun0_A.sl.r_25 (F := Ideal) c xt0, kernelRun0_A.sl.r_32 (F := Ideal) c xt0] : Fin 5 → BitVec 32) = word5 xt0 := by
  funext s
  fin_cases s
  · exact congrArg xt0 (key5 0 (by decide) _)
  · exact congrArg xt0 (key5 1 (by decide) _)
  · exact congrArg xt0 (key5 2 (by decide) _)
  · exact congrArg xt0 (key5 3 (by decide) _)
  · exact congrArg xt0 (key5 4 (by decide) _)

theorem words_ad : (![kernelRun0_A.sl.r (F := Ideal) c xt3, kernelRun0_A.sl.r_9 (F := Ideal) c xt3, kernelRun0_A.sl.r_17 (F := Ideal) c xt3, kernelRun0_A.sl.r_24 (F := Ideal) c xt3, kernelRun0_A.sl.r_29 (F := Ideal) c xt3] : Fin 5 → BitVec 32) = word5 xt3 := by
  funext s
  fin_cases s
  · exact congrArg xt3 (key5 0 (by decide) _)
  · exact congrArg xt3 (key5 1 (by decide) _)
  · exact congrArg xt3 (key5 2 (by decide) _)
  · exact congrArg xt3 (key5 3 (by decide) _)
  · exact congrArg xt3 (key5 4 (by decide) _)

theorem words_lo : (![kernelRun0_A.sl.r_2 (F := Ideal) c xt2, kernelRun0_A.sl.r_3 (F := Ideal) c xt2, kernelRun0_A.sl.r_11 (F := Ideal) c xt2, kernelRun0_A.sl.r_19 (F := Ideal) c xt2, kernelRun0_A.sl.r_26 (F := Ideal) c xt2] : Fin 5 → BitVec 32) = lo6 xt2 := by
  funext s
  fin_cases s
  · exact congrArg xt2 (key6 0 (by decide) _)
  · exact congrArg xt2 (key6 1 (by decide) _)
  · exact congrArg xt2 (key6 2 (by decide) _)
  · exact congrArg xt2 (key6 3 (by decide) _)
  · exact congrArg xt2 (key6 4 (by decide) _)

theorem words_hi : (![kernelRun0_A.sl.r_3 (F := Ideal) c xt2, kernelRun0_A.sl.r_11 (F := Ideal) c xt2, kernelRun0_A.sl.r_19 (F := Ideal) c xt2, kernelRun0_A.sl.r_26 (F := Ideal) c xt2, kernelRun0_A.sl.r_33 (F := Ideal) c xt2] : Fin 5 → BitVec 32) = hi6 xt2 := by
  funext s
  fin_cases s
  · exact congrArg xt2 (key6 1 (by decide) _)
  · exact congrArg xt2 (key6 2 (by decide) _)
  · exact congrArg xt2 (key6 3 (by decide) _)
  · exact congrArg xt2 (key6 4 (by decide) _)
  · exact congrArg xt2 (key6 5 (by decide) _)

theorem at9_eq (v : BitVec 32) (hv : v.toNat < 9) (off : Fin 1 → Nat) (h : off 0 = v.toNat) (inb : ∀ a, off a + S1.size a ≤ S9.size a) (j : S1.Idx) :
    (Rect.unit (s := S9) off S1.size inb).toLoadRect.idx j = at9 v := by
  funext a
  obtain rfl : a = 0 := Subsingleton.elim _ _
  apply Fin.ext
  have hj : (j 0).val < 1 := (j 0).isLt
  show off 0 + 1 * (j 0).val = v.toNat % 9
  omega

theorem words_rk (hx : ∀ s, (word5 xt3 s).toNat < 9) : (![kernelRun0_A.sl.r_7 (F := Ideal) c i hc0 xt1 xt3 k0_hw1, kernelRun0_A.sl.r_12 (F := Ideal) c i hc0 xt1 xt3 k0_hw2, kernelRun0_A.sl.r_20 (F := Ideal) c i hc0 xt1 xt3 k0_hw3, kernelRun0_A.sl.r_27 (F := Ideal) c i hc0 xt1 xt3 k0_hw4, kernelRun0_A.sl.r_34 (F := Ideal) c i hc0 xt1 xt3 k0_hw5] : Fin 5 → BitVec 32) = look xt1 xt3 := by
  have ad := words_ad c xt3
  funext s
  fin_cases s
  · exact congrArg xt1 (at9_eq _ (hx 0) _ (congrArg BitVec.toNat (congrFun ad 0)) _ _)
  · exact congrArg xt1 (at9_eq _ (hx 1) _ (congrArg BitVec.toNat (congrFun ad 1)) _ _)
  · exact congrArg xt1 (at9_eq _ (hx 2) _ (congrArg BitVec.toNat (congrFun ad 2)) _ _)
  · exact congrArg xt1 (at9_eq _ (hx 3) _ (congrArg BitVec.toNat (congrFun ad 3)) _ _)
  · exact congrArg xt1 (at9_eq _ (hx 4) _ (congrArg BitVec.toNat (congrFun ad 4)) _ _)

theorem words_sc (hx : ∀ s, (word5 xt3 s).toNat < 9) : (![kernelRun0_A.sl.r_8 (F := Ideal) c i arg5 harg5 hc0 x0 xt3 k0_hw1, kernelRun0_A.sl.r_16 (F := Ideal) c i arg5 harg5 hc0 x0 xt3 k0_hw2, kernelRun0_A.sl.r_21 (F := Ideal) c i arg5 harg5 hc0 x0 xt3 k0_hw3, kernelRun0_A.sl.r_28 (F := Ideal) c i arg5 harg5 hc0 x0 xt3 k0_hw4, kernelRun0_A.sl.r_35 (F := Ideal) c i arg5 harg5 hc0 x0 xt3 k0_hw5] : Fin 5 → EReal) = look x0 xt3 := by
  have ad := words_ad c xt3
  have key : ∀ i, View.read (Elt Ideal) arg5.view (harg5.unread x0) i = x0 i := fun i => congrFun (harg5.read_unread x0) i
  funext s
  fin_cases s
  · exact (key _).trans (congrArg x0 (at9_eq _ (hx 0) _ (congrArg BitVec.toNat (congrFun ad 0)) _ _))
  · exact (key _).trans (congrArg x0 (at9_eq _ (hx 1) _ (congrArg BitVec.toNat (congrFun ad 1)) _ _))
  · exact (key _).trans (congrArg x0 (at9_eq _ (hx 2) _ (congrArg BitVec.toNat (congrFun ad 2)) _ _))
  · exact (key _).trans (congrArg x0 (at9_eq _ (hx 3) _ (congrArg BitVec.toNat (congrFun ad 3)) _ _))
  · exact (key _).trans (congrArg x0 (at9_eq _ (hx 4) _ (congrArg BitVec.toNat (congrFun ad 4)) _ _))

end

/-- The first point: the hidden values by slot. -/
theorem hkList_A (c : Dev nD) (i : grid0.Coords) (arg5 : Memref sig .tc .smem S9 .f32) (harg5 : arg5.IsWhole) (arg6 : Memref sig .tc .vmem S256x2560 .bf16) (harg6 : arg6.IsWhole) (arg7 : Memref sig .tc .vmem S2560x128 .i32) (harg7 : arg7.IsWhole) (arg8 : Memref sig .tc .vmem S20x1024 .bf16) (harg8 : arg8.IsWhole) (arg9 : Memref sig .tc .vmem S48x2560 .bf16) (harg9 : arg9.IsWhole) (arg10 : Memref sig .tc .vmem S48x2560 .bf16) (harg10 : arg10.IsWhole) (arg11 : Memref sig .tc .vmem S48x2560 .bf16) (harg11 : arg11.IsWhole) (arg12 : Memref sig .tc .vmem S48x2560 .bf16) (harg12 : arg12.IsWhole) (arg13 : Memref sig .tc .vmem S48x2560 .bf16) (harg13 : arg13.IsWhole) (arg14 : Memref sig .tc .vmem S48x1024 .bf16) (harg14 : arg14.IsWhole) (arg15 : Memref sig .tc .vmem S48x1024 .bf16) (harg15 : arg15.IsWhole) (arg16 : Memref sig .tc .vmem S48x1024 .bf16) (harg16 : arg16.IsWhole) (arg17 : Memref sig .tc .vmem S48x1024 .bf16) (harg17 : arg17.IsWhole) (arg18 : Memref sig .tc .vmem S48x1024 .bf16) (harg18 : arg18.IsWhole) (arg19 : Memref sig .tc .vmem S256x1024 .bf16) (harg19 : arg19.IsWhole) (arg20 : Memref sig .tc .vmem S256x32 .bf16) (harg20 : arg20.IsWhole) (arg21 : Memref sig .tc .vmem S256x240 .bf16) (harg21 : arg21.IsWhole) (arg22 : Memref sig .tc .vmem S8x240x128 .bf16) (harg22 : arg22.IsWhole) (hc0 : cond0_0 i)
    (x0 : Vec Ideal S9 .f32) (x1 : Vec Ideal S256x2560 .bf16) (x2 : Vec Ideal S2560x128 .i32) (x3 : Vec Ideal S20x1024 .bf16) (x4 : Vec Ideal S48x2560 .bf16) (x5 : Vec Ideal S48x2560 .bf16) (x6 : Vec Ideal S48x2560 .bf16) (x7 : Vec Ideal S48x2560 .bf16) (x8 : Vec Ideal S48x2560 .bf16) (x9 : Vec Ideal S48x1024 .bf16) (x10 : Vec Ideal S48x1024 .bf16) (x11 : Vec Ideal S48x1024 .bf16) (x12 : Vec Ideal S48x1024 .bf16) (x13 : Vec Ideal S48x1024 .bf16) (xt0 : TbBuf0 (F := Ideal) c tbM0_0) (xt1 : TbBuf0 (F := Ideal) c tbM0_1) (xt2 : TbBuf0 (F := Ideal) c tbM0_2) (xt3 : TbBuf0 (F := Ideal) c tbM0_3) (k0_hw1 : k0_chk1 i (tbM0_3.view.readAt (Elt Ideal) (Rect.unit (s := S5) ![0] S1.size inb_S5_S1_0).toLoadRect xt3 (Shape.Idx.first (numel1_S1.symm ▸ Nat.one_pos)))) (k0_hw2 : k0_chk2 i (tbM0_3.view.readAt (Elt Ideal) (Rect.unit (s := S5) ![1] S1.size inb_S5_S1_1).toLoadRect xt3 (Shape.Idx.first (numel1_S1.symm ▸ Nat.one_pos)))) (k0_hw3 : k0_chk3 i (tbM0_3.view.readAt (Elt Ideal) (Rect.unit (s := S5) ![2] S1.size inb_S5_S1_2).toLoadRect xt3 (Shape.Idx.first (numel1_S1.symm ▸ Nat.one_pos)))) (k0_hw4 : k0_chk4 i (tbM0_3.view.readAt (Elt Ideal) (Rect.unit (s := S5) ![3] S1.size inb_S5_S1_3).toLoadRect xt3 (Shape.Idx.first (numel1_S1.symm ▸ Nat.one_pos)))) (k0_hw5 : k0_chk5 i (tbM0_3.view.readAt (Elt Ideal) (Rect.unit (s := S5) ![4] S1.size inb_S5_S1_4).toLoadRect xt3 (Shape.Idx.first (numel1_S1.symm ▸ Nat.one_pos)))) (hx : ∀ s, (word5 xt3 s).toNat < 9) :
    kernelRun0_A.sl.HS0_1 (F := Ideal) c i arg5 harg5 arg6 harg6 arg9 harg9 arg10 harg10 arg11 harg11 arg12 harg12 arg13 harg13 hc0 x0 x1 x4 x5 x6 x7 x8 xt0 xt1 xt2 xt3 k0_hw1 k0_hw2 k0_hw3 k0_hw4 k0_hw5 = [⟨Rect.unit (s := S256x240) ![0, 0] S256x240.size inb_S256x240_S256x240_0_0, (hkOf x1 ![x4, x5, x6, x7, x8] (word5 xt0) (lo6 xt2) (hi6 xt2) (look xt1 xt3) (look x0 xt3))⟩] := by
  rw [hk_A c i arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xt0 xt1 xt2 xt3 k0_hw1 k0_hw2 k0_hw3 k0_hw4 k0_hw5]
  rw [words_st, words_lo, words_hi, words_rk (hx := hx), words_sc (hx := hx)]
  simp only [View.readAt_eq_ld, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S256x2560) zero2, View.ld_unit_zero (S := S48x2560) zero2, View.ld_unit_zero (S := S20x1024) zero2, View.ld_unit_zero (S := S48x1024) zero2, View.ld_unit_zero (S := S256x240) zero2, shapeCast_self]

/-- What the first point carries on: the hidden values by slot. -/
theorem sout_A (c : Dev nD) (i : grid0.Coords) (arg5 : Memref sig .tc .smem S9 .f32) (harg5 : arg5.IsWhole) (arg6 : Memref sig .tc .vmem S256x2560 .bf16) (harg6 : arg6.IsWhole) (arg7 : Memref sig .tc .vmem S2560x128 .i32) (harg7 : arg7.IsWhole) (arg8 : Memref sig .tc .vmem S20x1024 .bf16) (harg8 : arg8.IsWhole) (arg9 : Memref sig .tc .vmem S48x2560 .bf16) (harg9 : arg9.IsWhole) (arg10 : Memref sig .tc .vmem S48x2560 .bf16) (harg10 : arg10.IsWhole) (arg11 : Memref sig .tc .vmem S48x2560 .bf16) (harg11 : arg11.IsWhole) (arg12 : Memref sig .tc .vmem S48x2560 .bf16) (harg12 : arg12.IsWhole) (arg13 : Memref sig .tc .vmem S48x2560 .bf16) (harg13 : arg13.IsWhole) (arg14 : Memref sig .tc .vmem S48x1024 .bf16) (harg14 : arg14.IsWhole) (arg15 : Memref sig .tc .vmem S48x1024 .bf16) (harg15 : arg15.IsWhole) (arg16 : Memref sig .tc .vmem S48x1024 .bf16) (harg16 : arg16.IsWhole) (arg17 : Memref sig .tc .vmem S48x1024 .bf16) (harg17 : arg17.IsWhole) (arg18 : Memref sig .tc .vmem S48x1024 .bf16) (harg18 : arg18.IsWhole) (arg19 : Memref sig .tc .vmem S256x1024 .bf16) (harg19 : arg19.IsWhole) (arg20 : Memref sig .tc .vmem S256x32 .bf16) (harg20 : arg20.IsWhole) (arg21 : Memref sig .tc .vmem S256x240 .bf16) (harg21 : arg21.IsWhole) (arg22 : Memref sig .tc .vmem S8x240x128 .bf16) (harg22 : arg22.IsWhole) (hc0 : cond0_0 i)
    (x0 : Vec Ideal S9 .f32) (x1 : Vec Ideal S256x2560 .bf16) (x2 : Vec Ideal S2560x128 .i32) (x3 : Vec Ideal S20x1024 .bf16) (x4 : Vec Ideal S48x2560 .bf16) (x5 : Vec Ideal S48x2560 .bf16) (x6 : Vec Ideal S48x2560 .bf16) (x7 : Vec Ideal S48x2560 .bf16) (x8 : Vec Ideal S48x2560 .bf16) (x9 : Vec Ideal S48x1024 .bf16) (x10 : Vec Ideal S48x1024 .bf16) (x11 : Vec Ideal S48x1024 .bf16) (x12 : Vec Ideal S48x1024 .bf16) (x13 : Vec Ideal S48x1024 .bf16) (xt0 : TbBuf0 (F := Ideal) c tbM0_0) (xt1 : TbBuf0 (F := Ideal) c tbM0_1) (xt2 : TbBuf0 (F := Ideal) c tbM0_2) (xt3 : TbBuf0 (F := Ideal) c tbM0_3) (k0_hw1 : k0_chk1 i (tbM0_3.view.readAt (Elt Ideal) (Rect.unit (s := S5) ![0] S1.size inb_S5_S1_0).toLoadRect xt3 (Shape.Idx.first (numel1_S1.symm ▸ Nat.one_pos)))) (k0_hw2 : k0_chk2 i (tbM0_3.view.readAt (Elt Ideal) (Rect.unit (s := S5) ![1] S1.size inb_S5_S1_1).toLoadRect xt3 (Shape.Idx.first (numel1_S1.symm ▸ Nat.one_pos)))) (k0_hw3 : k0_chk3 i (tbM0_3.view.readAt (Elt Ideal) (Rect.unit (s := S5) ![2] S1.size inb_S5_S1_2).toLoadRect xt3 (Shape.Idx.first (numel1_S1.symm ▸ Nat.one_pos)))) (k0_hw4 : k0_chk4 i (tbM0_3.view.readAt (Elt Ideal) (Rect.unit (s := S5) ![3] S1.size inb_S5_S1_3).toLoadRect xt3 (Shape.Idx.first (numel1_S1.symm ▸ Nat.one_pos)))) (k0_hw5 : k0_chk5 i (tbM0_3.view.readAt (Elt Ideal) (Rect.unit (s := S5) ![4] S1.size inb_S5_S1_4).toLoadRect xt3 (Shape.Idx.first (numel1_S1.symm ▸ Nat.one_pos)))) (hx : ∀ s, (word5 xt3 s).toNat < 9) :
    sout0_A_0 (F := Ideal) c i arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xt0 xt1 xt2 xt3 k0_hw1 k0_hw2 k0_hw3 k0_hw4 k0_hw5 = (hkOf x1 ![x4, x5, x6, x7, x8] (word5 xt0) (lo6 xt2) (hi6 xt2) (look xt1 xt3) (look x0 xt3)) := by
  unfold sout0_A_0
  rw [View.read_writes_junk_eq_canon, hk_A' c i arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xt0 xt1 xt2 xt3 k0_hw1 k0_hw2 k0_hw3 k0_hw4 k0_hw5, hkList_A c i arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xt0 xt1 xt2 xt3 k0_hw1 k0_hw2 k0_hw3 k0_hw4 k0_hw5 hx]
  exact View.canon_unit_zero zero2 _ _

/-- The first point: the hidden values by place. -/
theorem outh_A (c : Dev nD) (i : grid0.Coords) (arg5 : Memref sig .tc .smem S9 .f32) (harg5 : arg5.IsWhole) (arg6 : Memref sig .tc .vmem S256x2560 .bf16) (harg6 : arg6.IsWhole) (arg7 : Memref sig .tc .vmem S2560x128 .i32) (harg7 : arg7.IsWhole) (arg8 : Memref sig .tc .vmem S20x1024 .bf16) (harg8 : arg8.IsWhole) (arg9 : Memref sig .tc .vmem S48x2560 .bf16) (harg9 : arg9.IsWhole) (arg10 : Memref sig .tc .vmem S48x2560 .bf16) (harg10 : arg10.IsWhole) (arg11 : Memref sig .tc .vmem S48x2560 .bf16) (harg11 : arg11.IsWhole) (arg12 : Memref sig .tc .vmem S48x2560 .bf16) (harg12 : arg12.IsWhole) (arg13 : Memref sig .tc .vmem S48x2560 .bf16) (harg13 : arg13.IsWhole) (arg14 : Memref sig .tc .vmem S48x1024 .bf16) (harg14 : arg14.IsWhole) (arg15 : Memref sig .tc .vmem S48x1024 .bf16) (harg15 : arg15.IsWhole) (arg16 : Memref sig .tc .vmem S48x1024 .bf16) (harg16 : arg16.IsWhole) (arg17 : Memref sig .tc .vmem S48x1024 .bf16) (harg17 : arg17.IsWhole) (arg18 : Memref sig .tc .vmem S48x1024 .bf16) (harg18 : arg18.IsWhole) (arg19 : Memref sig .tc .vmem S256x1024 .bf16) (harg19 : arg19.IsWhole) (arg20 : Memref sig .tc .vmem S256x32 .bf16) (harg20 : arg20.IsWhole) (arg21 : Memref sig .tc .vmem S256x240 .bf16) (harg21 : arg21.IsWhole) (arg22 : Memref sig .tc .vmem S8x240x128 .bf16) (harg22 : arg22.IsWhole) (hc0 : cond0_0 i)
    (x0 : Vec Ideal S9 .f32) (x1 : Vec Ideal S256x2560 .bf16) (x2 : Vec Ideal S2560x128 .i32) (x3 : Vec Ideal S20x1024 .bf16) (x4 : Vec Ideal S48x2560 .bf16) (x5 : Vec Ideal S48x2560 .bf16) (x6 : Vec Ideal S48x2560 .bf16) (x7 : Vec Ideal S48x2560 .bf16) (x8 : Vec Ideal S48x2560 .bf16) (x9 : Vec Ideal S48x1024 .bf16) (x10 : Vec Ideal S48x1024 .bf16) (x11 : Vec Ideal S48x1024 .bf16) (x12 : Vec Ideal S48x1024 .bf16) (x13 : Vec Ideal S48x1024 .bf16) (xt0 : TbBuf0 (F := Ideal) c tbM0_0) (xt1 : TbBuf0 (F := Ideal) c tbM0_1) (xt2 : TbBuf0 (F := Ideal) c tbM0_2) (xt3 : TbBuf0 (F := Ideal) c tbM0_3) (k0_hw1 : k0_chk1 i (tbM0_3.view.readAt (Elt Ideal) (Rect.unit (s := S5) ![0] S1.size inb_S5_S1_0).toLoadRect xt3 (Shape.Idx.first (numel1_S1.symm ▸ Nat.one_pos)))) (k0_hw2 : k0_chk2 i (tbM0_3.view.readAt (Elt Ideal) (Rect.unit (s := S5) ![1] S1.size inb_S5_S1_1).toLoadRect xt3 (Shape.Idx.first (numel1_S1.symm ▸ Nat.one_pos)))) (k0_hw3 : k0_chk3 i (tbM0_3.view.readAt (Elt Ideal) (Rect.unit (s := S5) ![2] S1.size inb_S5_S1_2).toLoadRect xt3 (Shape.Idx.first (numel1_S1.symm ▸ Nat.one_pos)))) (k0_hw4 : k0_chk4 i (tbM0_3.view.readAt (Elt Ideal) (Rect.unit (s := S5) ![3] S1.size inb_S5_S1_3).toLoadRect xt3 (Shape.Idx.first (numel1_S1.symm ▸ Nat.one_pos)))) (k0_hw5 : k0_chk5 i (tbM0_3.view.readAt (Elt Ideal) (Rect.unit (s := S5) ![4] S1.size inb_S5_S1_4).toLoadRect xt3 (Shape.Idx.first (numel1_S1.symm ▸ Nat.one_pos)))) (hx : ∀ s, (word5 xt3 s).toNat < 9) :
    out0_A_15 (F := Ideal) c i arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xt0 xt1 xt2 xt3 k0_hw1 k0_hw2 k0_hw3 k0_hw4 k0_hw5 = (hOf x1 ![x4, x5, x6, x7, x8] (word5 xt0) (lo6 xt2) (hi6 xt2) (look xt1 xt3) (look x0 xt3)) := by
  unfold out0_A_15
  rw [View.read_writes_junk_eq_canon, h_A c i arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xt0 xt1 xt2 xt3 k0_hw1 k0_hw2 k0_hw3 k0_hw4 k0_hw5, View.canon_unit_zero zero2]
  rw [words_st, words_lo, words_hi, words_rk (hx := hx), words_sc (hx := hx)]
  simp only [View.readAt_eq_ld, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S256x2560) zero2, View.ld_unit_zero (S := S48x2560) zero2, View.ld_unit_zero (S := S20x1024) zero2, View.ld_unit_zero (S := S48x1024) zero2, View.ld_unit_zero (S := S256x240) zero2]

/-- The first point's block of the result. -/
theorem out_A (c : Dev nD) (i : grid0.Coords) (arg5 : Memref sig .tc .smem S9 .f32) (harg5 : arg5.IsWhole) (arg6 : Memref sig .tc .vmem S256x2560 .bf16) (harg6 : arg6.IsWhole) (arg7 : Memref sig .tc .vmem S2560x128 .i32) (harg7 : arg7.IsWhole) (arg8 : Memref sig .tc .vmem S20x1024 .bf16) (harg8 : arg8.IsWhole) (arg9 : Memref sig .tc .vmem S48x2560 .bf16) (harg9 : arg9.IsWhole) (arg10 : Memref sig .tc .vmem S48x2560 .bf16) (harg10 : arg10.IsWhole) (arg11 : Memref sig .tc .vmem S48x2560 .bf16) (harg11 : arg11.IsWhole) (arg12 : Memref sig .tc .vmem S48x2560 .bf16) (harg12 : arg12.IsWhole) (arg13 : Memref sig .tc .vmem S48x2560 .bf16) (harg13 : arg13.IsWhole) (arg14 : Memref sig .tc .vmem S48x1024 .bf16) (harg14 : arg14.IsWhole) (arg15 : Memref sig .tc .vmem S48x1024 .bf16) (harg15 : arg15.IsWhole) (arg16 : Memref sig .tc .vmem S48x1024 .bf16) (harg16 : arg16.IsWhole) (arg17 : Memref sig .tc .vmem S48x1024 .bf16) (harg17 : arg17.IsWhole) (arg18 : Memref sig .tc .vmem S48x1024 .bf16) (harg18 : arg18.IsWhole) (arg19 : Memref sig .tc .vmem S256x1024 .bf16) (harg19 : arg19.IsWhole) (arg20 : Memref sig .tc .vmem S256x32 .bf16) (harg20 : arg20.IsWhole) (arg21 : Memref sig .tc .vmem S256x240 .bf16) (harg21 : arg21.IsWhole) (arg22 : Memref sig .tc .vmem S8x240x128 .bf16) (harg22 : arg22.IsWhole) (hc0 : cond0_0 i)
    (x0 : Vec Ideal S9 .f32) (x1 : Vec Ideal S256x2560 .bf16) (x2 : Vec Ideal S2560x128 .i32) (x3 : Vec Ideal S20x1024 .bf16) (x4 : Vec Ideal S48x2560 .bf16) (x5 : Vec Ideal S48x2560 .bf16) (x6 : Vec Ideal S48x2560 .bf16) (x7 : Vec Ideal S48x2560 .bf16) (x8 : Vec Ideal S48x2560 .bf16) (x9 : Vec Ideal S48x1024 .bf16) (x10 : Vec Ideal S48x1024 .bf16) (x11 : Vec Ideal S48x1024 .bf16) (x12 : Vec Ideal S48x1024 .bf16) (x13 : Vec Ideal S48x1024 .bf16) (xt0 : TbBuf0 (F := Ideal) c tbM0_0) (xt1 : TbBuf0 (F := Ideal) c tbM0_1) (xt2 : TbBuf0 (F := Ideal) c tbM0_2) (xt3 : TbBuf0 (F := Ideal) c tbM0_3) (k0_hw1 : k0_chk1 i (tbM0_3.view.readAt (Elt Ideal) (Rect.unit (s := S5) ![0] S1.size inb_S5_S1_0).toLoadRect xt3 (Shape.Idx.first (numel1_S1.symm ▸ Nat.one_pos)))) (k0_hw2 : k0_chk2 i (tbM0_3.view.readAt (Elt Ideal) (Rect.unit (s := S5) ![1] S1.size inb_S5_S1_1).toLoadRect xt3 (Shape.Idx.first (numel1_S1.symm ▸ Nat.one_pos)))) (k0_hw3 : k0_chk3 i (tbM0_3.view.readAt (Elt Ideal) (Rect.unit (s := S5) ![2] S1.size inb_S5_S1_2).toLoadRect xt3 (Shape.Idx.first (numel1_S1.symm ▸ Nat.one_pos)))) (k0_hw4 : k0_chk4 i (tbM0_3.view.readAt (Elt Ideal) (Rect.unit (s := S5) ![3] S1.size inb_S5_S1_3).toLoadRect xt3 (Shape.Idx.first (numel1_S1.symm ▸ Nat.one_pos)))) (k0_hw5 : k0_chk5 i (tbM0_3.view.readAt (Elt Ideal) (Rect.unit (s := S5) ![4] S1.size inb_S5_S1_4).toLoadRect xt3 (Shape.Idx.first (numel1_S1.symm ▸ Nat.one_pos)))) (hx : ∀ s, (word5 xt3 s).toNat < 9) :
    out0_A_14 (F := Ideal) c i arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xt0 xt1 xt2 xt3 k0_hw1 k0_hw2 k0_hw3 k0_hw4 k0_hw5 = blockOut x1 x2 x3 (hkOf x1 ![x4, x5, x6, x7, x8] (word5 xt0) (lo6 xt2) (hi6 xt2) (look xt1 xt3) (look x0 xt3)) ![x9, x10, x11, x12, x13] := by
  unfold out0_A_14
  rw [View.read_writes_junk_eq_canon, regs_A c i arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xt0 xt1 xt2 xt3 k0_hw1 k0_hw2 k0_hw3 k0_hw4 k0_hw5, hkList_A c i arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xt0 xt1 xt2 xt3 k0_hw1 k0_hw2 k0_hw3 k0_hw4 k0_hw5 hx, View.readCov_unit_zero _ zero2, slabs_A]
  simp only [View.readAt_eq_ld, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S256x2560) zero2, View.ld_unit_zero (S := S48x2560) zero2, View.ld_unit_zero (S := S20x1024) zero2, View.ld_unit_zero (S := S48x1024) zero2, View.ld_unit_zero (S := S256x240) zero2]
  exact regs_canon x1 x2 _ _ x3 _ _ ![x9, x10, x11, x12, x13] (fun r l => (congrFun (harg7.read_unread x2) _).trans (even_rows x2 r l)) (fun r l => (congrFun (harg7.read_unread x2) _).trans (odd_rows x2 r l)) fun j c l => slabs_load _ ![x9, x10, x11, x12, x13] j c l

/-- A later point's block of the result. -/
theorem out_B (c : Dev nD) (i : grid0.Coords) (arg5 : Memref sig .tc .smem S9 .f32) (harg5 : arg5.IsWhole) (arg6 : Memref sig .tc .vmem S256x2560 .bf16) (harg6 : arg6.IsWhole) (arg7 : Memref sig .tc .vmem S2560x128 .i32) (harg7 : arg7.IsWhole) (arg8 : Memref sig .tc .vmem S20x1024 .bf16) (harg8 : arg8.IsWhole) (arg9 : Memref sig .tc .vmem S48x2560 .bf16) (harg9 : arg9.IsWhole) (arg10 : Memref sig .tc .vmem S48x2560 .bf16) (harg10 : arg10.IsWhole) (arg11 : Memref sig .tc .vmem S48x2560 .bf16) (harg11 : arg11.IsWhole) (arg12 : Memref sig .tc .vmem S48x2560 .bf16) (harg12 : arg12.IsWhole) (arg13 : Memref sig .tc .vmem S48x2560 .bf16) (harg13 : arg13.IsWhole) (arg14 : Memref sig .tc .vmem S48x1024 .bf16) (harg14 : arg14.IsWhole) (arg15 : Memref sig .tc .vmem S48x1024 .bf16) (harg15 : arg15.IsWhole) (arg16 : Memref sig .tc .vmem S48x1024 .bf16) (harg16 : arg16.IsWhole) (arg17 : Memref sig .tc .vmem S48x1024 .bf16) (harg17 : arg17.IsWhole) (arg18 : Memref sig .tc .vmem S48x1024 .bf16) (harg18 : arg18.IsWhole) (arg19 : Memref sig .tc .vmem S256x1024 .bf16) (harg19 : arg19.IsWhole) (arg20 : Memref sig .tc .vmem S256x32 .bf16) (harg20 : arg20.IsWhole) (arg21 : Memref sig .tc .vmem S256x240 .bf16) (harg21 : arg21.IsWhole) (arg22 : Memref sig .tc .vmem S8x240x128 .bf16) (harg22 : arg22.IsWhole) (hc0 : ¬cond0_0 i)
    (x0 : Vec Ideal S9 .f32) (x1 : Vec Ideal S256x2560 .bf16) (x2 : Vec Ideal S2560x128 .i32) (x3 : Vec Ideal S20x1024 .bf16) (x4 : Vec Ideal S48x2560 .bf16) (x5 : Vec Ideal S48x2560 .bf16) (x6 : Vec Ideal S48x2560 .bf16) (x7 : Vec Ideal S48x2560 .bf16) (x8 : Vec Ideal S48x2560 .bf16) (x9 : Vec Ideal S48x1024 .bf16) (x10 : Vec Ideal S48x1024 .bf16) (x11 : Vec Ideal S48x1024 .bf16) (x12 : Vec Ideal S48x1024 .bf16) (x13 : Vec Ideal S48x1024 .bf16) (xt0 : TbBuf0 (F := Ideal) c tbM0_0) (xt1 : TbBuf0 (F := Ideal) c tbM0_1) (xt2 : TbBuf0 (F := Ideal) c tbM0_2) (xt3 : TbBuf0 (F := Ideal) c tbM0_3) (xs0 : Vec Ideal S256x240 .bf16) :
    out0_B_14 (F := Ideal) c i arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xt0 xt1 xt2 xt3 xs0 = blockOut x1 x2 x3 xs0 ![x9, x10, x11, x12, x13] := by
  unfold out0_B_14
  rw [View.read_writes_junk_eq_canon, regs_B c i arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xt0 xt1 xt2 xt3 xs0, slabs_B]
  simp only [View.readAt_eq_ld, harg6.read_unread, harg7.read_unread, harg8.read_unread, harg9.read_unread, harg10.read_unread, harg11.read_unread, harg12.read_unread, harg13.read_unread, harg14.read_unread, harg15.read_unread, harg16.read_unread, harg17.read_unread, harg18.read_unread, harg21.read_unread, View.ld_unit_zero (S := S256x2560) zero2, View.ld_unit_zero (S := S48x2560) zero2, View.ld_unit_zero (S := S20x1024) zero2, View.ld_unit_zero (S := S48x1024) zero2, View.ld_unit_zero (S := S256x240) zero2]
  exact regs_canon x1 x2 _ _ x3 _ _ ![x9, x10, x11, x12, x13] (fun r l => (congrFun (harg7.read_unread x2) _).trans (even_rows x2 r l)) (fun r l => (congrFun (harg7.read_unread x2) _).trans (odd_rows x2 r l)) fun j c l => slabs_load _ ![x9, x10, x11, x12, x13] j c l

end Cert.KernelIdeal.Body

end
-- ==== Proof.IdealBlocks.lean ====
/- The blocks the kernel's windows hand the body at a grid point, as entries of the arrays they are cut from. -/
module

public import proofs.«01_k».proof.Proof.IdealTables
public import proofs.«01_k».proof.Proof.IdealEntry
public import proofs.«01_k».proof.Proof.IdealOut

@[expose] public section

set_option maxRecDepth 16384

noncomputable section

namespace Cert.KernelIdeal.Body

open Idealize.ShloMosaic Idealize.ShloMosaic.TcCoe Idealize.ShloMosaic.ValueIdx
open Cert.KernelIdeal.Gen Cert.Words

variable {F : FTy → Type} [FloatOps F]
variable (m : (ℓ : Loc nD τ sig) → Buf (Elt F) ℓ)

theorem coords_val (t : Fin grid0.N) : ((grid0.coords t) 0).val = t.val := by
  rcases fin_N0 t with rfl | rfl | rfl | rfl | rfl | rfl | rfl | rfl | rfl | rfl <;> rfl

theorem coords_word (t : Fin grid0.N) : (BitVec.ofNat 32 ((grid0.coords t) 0).val).toNat = t.val := by
  have h : ((grid0.coords t) 0).val < 10 := ((grid0.coords t) 0).isLt
  rw [BitVec.toNat_ofNat, coords_val] at *
  omega

/-- A segment's start word. -/
def startWord (s : Fin 5) : BitVec 32 := tbl m 0 (ix1 s : S5.Idx)

/-- The first row of a segment's slab in the pools. -/
def slabRow (s : Fin 5) : ℕ := (startWord m s).toNat / 16 * 16

theorem slabRow_le (h : StartsFit m) (s : Fin 5) : slabRow m s + 48 ≤ 400 := by
  have := h (ix1 s : S5.Idx)
  unfold slabRow startWord
  omega

theorem at_word (k : ℕ) (hk : k + 1 ≤ 5) (hb) : ((tbl m).at 0 (Rect.unit (s := S5) ![k] S1.size hb) numel1_S1 : BitVec 32) = startWord m ⟨k, hk⟩ := by
  exact congrArg (tbl m 0) (key5 k hk _)

theorem row_word (h : StartsFit m) (k : ℕ) (hk : k + 1 ≤ 5) (hb) :
    (alignDown ((tbl m).at 0 (Rect.unit (s := S5) ![k] S1.size hb) numel1_S1)).toNat = slabRow m ⟨k, hk⟩ := by
  rw [at_word m k hk hb]
  exact alignDown_toNat _ (h _)

theorem column_word (t : Fin grid0.N) : (Scalar.muli (BitVec.ofNat 32 ((grid0.coords t) 0).val) 1024#32).toNat = 1024 * t.val := by
  rw [(column_lt (grid0.coords t)).1, coords_val]
  omega

theorem lt10 (t : Fin grid0.N) : t.val < 10 := lt_of_lt_of_eq t.isLt (show grid0.N = 10 from N_0)

/-- The scalings, whole at every point. -/
theorem blk_0 (hO : Ok m) (c : Dev nD) (t : Fin grid0.N) (j : S9.Idx) : (iblk m hO c 0 t : Vec F S9 .f32) j = V m c main_arg7 j := by
  show View.read (Elt F) _ _ _ = _
  refine (View.read_apply _ _).trans ?_
  show V m c main_arg7 _ = V m c main_arg7 _
  congr 1
  funext a
  apply Fin.ext
  match a with
  | ⟨0, _⟩ => show 0 * 9 + 1 * (j 0).val = (j 0).val; omega

/-- The tokens, whole at every point. -/
theorem blk_1 (hO : Ok m) (c : Dev nD) (t : Fin grid0.N) (j : S256x2560.Idx) : (iblk m hO c 1 t : Vec F S256x2560 .bf16) j = V m c main_v7 j := by
  show View.read (Elt F) _ _ _ = _
  refine (View.read_apply _ _).trans ?_
  show V m c main_v7 _ = V m c main_v7 _
  congr 1
  funext a
  apply Fin.ext
  match a with
  | ⟨0, _⟩ => show 0 * 256 + 1 * (j 0).val = (j 0).val; omega
  | ⟨1, _⟩ => show 0 * 2560 + 1 * (j 1).val = (j 1).val; omega

/-- The packed words of a point's columns. -/
theorem blk_2 (hO : Ok m) (c : Dev nD) (t : Fin grid0.N) (r : Fin 2560) (l : Fin 128) : (iblk m hO c 2 t : Vec F S2560x128 .i32) (ix2 r l)
    = V m c main_arg1 (ix2 r (⟨128 * t.val + l.val, by have := lt10 t; omega⟩ : Fin 1280)) := by
  show View.read (Elt F) _ _ _ = _
  refine (View.read_apply _ _).trans ?_
  show V m c main_arg1 _ = V m c main_arg1 _
  congr 1
  funext a
  apply Fin.ext
  match a with
  | ⟨0, _⟩ => show 0 * 2560 + 1 * r.val = r.val; omega
  | ⟨1, _⟩ => show (BitVec.ofNat 32 ((grid0.coords t) 0).val).toNat * 128 + 1 * l.val = 128 * t.val + l.val; rw [coords_word]; omega

/-- The scales of a point's columns. -/
theorem blk_3 (hO : Ok m) (c : Dev nD) (t : Fin grid0.N) (r : Fin 20) (l : Fin 1024) : (iblk m hO c 3 t : Vec F S20x1024 .bf16) (ix2 r l)
    = V m c main_arg2 (ix2 r (⟨1024 * t.val + l.val, by have := lt10 t; omega⟩ : Fin 10240)) := by
  show View.read (Elt F) _ _ _ = _
  refine (View.read_apply _ _).trans ?_
  show V m c main_arg2 _ = V m c main_arg2 _
  congr 1
  funext a
  apply Fin.ext
  match a with
  | ⟨0, _⟩ => show 0 * 20 + 1 * r.val = r.val; omega
  | ⟨1, _⟩ => show (BitVec.ofNat 32 ((grid0.coords t) 0).val).toNat * 1024 + 1 * l.val = 1024 * t.val + l.val; rw [coords_word]; omega

/-- Segment 0's slab of the first factors. -/
theorem blk_4 (hO : Ok m) (h : StartsFit m) (c : Dev nD) (t : Fin grid0.N) (r : Fin 48) (l : Fin 2560) : (iblk m hO c 4 t : Vec F S48x2560 .bf16) (ix2 r l)
    = V m c main_arg3 (ix2 (⟨slabRow m 0 + r.val, by have := slabRow_le m h 0; omega⟩ : Fin 400) l) := by
  show View.read (Elt F) _ _ _ = _
  refine (View.read_apply _ _).trans ?_
  show V m c main_arg3 _ = V m c main_arg3 _
  congr 1
  funext a
  apply Fin.ext
  match a with
  | ⟨0, _⟩ =>
    show (alignDown ((tbl m).at 0 (Rect.unit (s := S5) ![0] S1.size inb_S5_S1_0) numel1_S1)).toNat + 1 * r.val = slabRow m 0 + r.val
    rw [row_word m h 0 (by decide) _]
    show slabRow m 0 + 1 * r.val = _
    omega
  | ⟨1, _⟩ => show 0 + 1 * l.val = l.val; omega

/-- Segment 1's slab of the first factors. -/
theorem blk_5 (hO : Ok m) (h : StartsFit m) (c : Dev nD) (t : Fin grid0.N) (r : Fin 48) (l : Fin 2560) : (iblk m hO c 5 t : Vec F S48x2560 .bf16) (ix2 r l)
    = V m c main_arg3 (ix2 (⟨slabRow m 1 + r.val, by have := slabRow_le m h 1; omega⟩ : Fin 400) l) := by
  show View.read (Elt F) _ _ _ = _
  refine (View.read_apply _ _).trans ?_
  show V m c main_arg3 _ = V m c main_arg3 _
  congr 1
  funext a
  apply Fin.ext
  match a with
  | ⟨0, _⟩ =>
    show (alignDown ((tbl m).at 0 (Rect.unit (s := S5) ![1] S1.size inb_S5_S1_1) numel1_S1)).toNat + 1 * r.val = slabRow m 1 + r.val
    rw [row_word m h 1 (by decide) _]
    show slabRow m 1 + 1 * r.val = _
    omega
  | ⟨1, _⟩ => show 0 + 1 * l.val = l.val; omega

/-- Segment 2's slab of the first factors. -/
theorem blk_6 (hO : Ok m) (h : StartsFit m) (c : Dev nD) (t : Fin grid0.N) (r : Fin 48) (l : Fin 2560) : (iblk m hO c 6 t : Vec F S48x2560 .bf16) (ix2 r l)
    = V m c main_arg3 (ix2 (⟨slabRow m 2 + r.val, by have := slabRow_le m h 2; omega⟩ : Fin 400) l) := by
  show View.read (Elt F) _ _ _ = _
  refine (View.read_apply _ _).trans ?_
  show V m c main_arg3 _ = V m c main_arg3 _
  congr 1
  funext a
  apply Fin.ext
  match a with
  | ⟨0, _⟩ =>
    show (alignDown ((tbl m).at 0 (Rect.unit (s := S5) ![2] S1.size inb_S5_S1_2) numel1_S1)).toNat + 1 * r.val = slabRow m 2 + r.val
    rw [row_word m h 2 (by decide) _]
    show slabRow m 2 + 1 * r.val = _
    omega
  | ⟨1, _⟩ => show 0 + 1 * l.val = l.val; omega

/-- Segment 3's slab of the first factors. -/
theorem blk_7 (hO : Ok m) (h : StartsFit m) (c : Dev nD) (t : Fin grid0.N) (r : Fin 48) (l : Fin 2560) : (iblk m hO c 7 t : Vec F S48x2560 .bf16) (ix2 r l)
    = V m c main_arg3 (ix2 (⟨slabRow m 3 + r.val, by have := slabRow_le m h 3; omega⟩ : Fin 400) l) := by
  show View.read (Elt F) _ _ _ = _
  refine (View.read_apply _ _).trans ?_
  show V m c main_arg3 _ = V m c main_arg3 _
  congr 1
  funext a
  apply Fin.ext
  match a with
  | ⟨0, _⟩ =>
    show (alignDown ((tbl m).at 0 (Rect.unit (s := S5) ![3] S1.size inb_S5_S1_3) numel1_S1)).toNat + 1 * r.val = slabRow m 3 + r.val
    rw [row_word m h 3 (by decide) _]
    show slabRow m 3 + 1 * r.val = _
    omega
  | ⟨1, _⟩ => show 0 + 1 * l.val = l.val; omega

/-- Segment 4's slab of the first factors. -/
theorem blk_8 (hO : Ok m) (h : StartsFit m) (c : Dev nD) (t : Fin grid0.N) (r : Fin 48) (l : Fin 2560) : (iblk m hO c 8 t : Vec F S48x2560 .bf16) (ix2 r l)
    = V m c main_arg3 (ix2 (⟨slabRow m 4 + r.val, by have := slabRow_le m h 4; omega⟩ : Fin 400) l) := by
  show View.read (Elt F) _ _ _ = _
  refine (View.read_apply _ _).trans ?_
  show V m c main_arg3 _ = V m c main_arg3 _
  congr 1
  funext a
  apply Fin.ext
  match a with
  | ⟨0, _⟩ =>
    show (alignDown ((tbl m).at 0 (Rect.unit (s := S5) ![4] S1.size inb_S5_S1_4) numel1_S1)).toNat + 1 * r.val = slabRow m 4 + r.val
    rw [row_word m h 4 (by decide) _]
    show slabRow m 4 + 1 * r.val = _
    omega
  | ⟨1, _⟩ => show 0 + 1 * l.val = l.val; omega

/-- Segment 0's slab of the second factors, at a point's columns. -/
theorem blk_9 (hO : Ok m) (h : StartsFit m) (c : Dev nD) (t : Fin grid0.N) (r : Fin 48) (l : Fin 1024) : (iblk m hO c 9 t : Vec F S48x1024 .bf16) (ix2 r l)
    = V m c main_arg4 (ix2 (⟨slabRow m 0 + r.val, by have := slabRow_le m h 0; omega⟩ : Fin 400) (⟨1024 * t.val + l.val, by have := lt10 t; omega⟩ : Fin 10240)) := by
  show View.read (Elt F) _ _ _ = _
  refine (View.read_apply _ _).trans ?_
  show V m c main_arg4 _ = V m c main_arg4 _
  congr 1
  funext a
  apply Fin.ext
  match a with
  | ⟨0, _⟩ =>
    show (alignDown ((tbl m).at 0 (Rect.unit (s := S5) ![0] S1.size inb_S5_S1_0) numel1_S1)).toNat + 1 * r.val = slabRow m 0 + r.val
    rw [row_word m h 0 (by decide) _]
    show slabRow m 0 + 1 * r.val = _
    omega
  | ⟨1, _⟩ =>
    show (Scalar.muli (BitVec.ofNat 32 ((grid0.coords t) 0).val) 1024#32).toNat + 1 * l.val = 1024 * t.val + l.val
    rw [column_word]
    omega

/-- Segment 1's slab of the second factors, at a point's columns. -/
theorem blk_10 (hO : Ok m) (h : StartsFit m) (c : Dev nD) (t : Fin grid0.N) (r : Fin 48) (l : Fin 1024) : (iblk m hO c 10 t : Vec F S48x1024 .bf16) (ix2 r l)
    = V m c main_arg4 (ix2 (⟨slabRow m 1 + r.val, by have := slabRow_le m h 1; omega⟩ : Fin 400) (⟨1024 * t.val + l.val, by have := lt10 t; omega⟩ : Fin 10240)) := by
  show View.read (Elt F) _ _ _ = _
  refine (View.read_apply _ _).trans ?_
  show V m c main_arg4 _ = V m c main_arg4 _
  congr 1
  funext a
  apply Fin.ext
  match a with
  | ⟨0, _⟩ =>
    show (alignDown ((tbl m).at 0 (Rect.unit (s := S5) ![1] S1.size inb_S5_S1_1) numel1_S1)).toNat + 1 * r.val = slabRow m 1 + r.val
    rw [row_word m h 1 (by decide) _]
    show slabRow m 1 + 1 * r.val = _
    omega
  | ⟨1, _⟩ =>
    show (Scalar.muli (BitVec.ofNat 32 ((grid0.coords t) 0).val) 1024#32).toNat + 1 * l.val = 1024 * t.val + l.val
    rw [column_word]
    omega

/-- Segment 2's slab of the second factors, at a point's columns. -/
theorem blk_11 (hO : Ok m) (h : StartsFit m) (c : Dev nD) (t : Fin grid0.N) (r : Fin 48) (l : Fin 1024) : (iblk m hO c 11 t : Vec F S48x1024 .bf16) (ix2 r l)
    = V m c main_arg4 (ix2 (⟨slabRow m 2 + r.val, by have := slabRow_le m h 2; omega⟩ : Fin 400) (⟨1024 * t.val + l.val, by have := lt10 t; omega⟩ : Fin 10240)) := by
  show View.read (Elt F) _ _ _ = _
  refine (View.read_apply _ _).trans ?_
  show V m c main_arg4 _ = V m c main_arg4 _
  congr 1
  funext a
  apply Fin.ext
  match a with
  | ⟨0, _⟩ =>
    show (alignDown ((tbl m).at 0 (Rect.unit (s := S5) ![2] S1.size inb_S5_S1_2) numel1_S1)).toNat + 1 * r.val = slabRow m 2 + r.val
    rw [row_word m h 2 (by decide) _]
    show slabRow m 2 + 1 * r.val = _
    omega
  | ⟨1, _⟩ =>
    show (Scalar.muli (BitVec.ofNat 32 ((grid0.coords t) 0).val) 1024#32).toNat + 1 * l.val = 1024 * t.val + l.val
    rw [column_word]
    omega

/-- Segment 3's slab of the second factors, at a point's columns. -/
theorem blk_12 (hO : Ok m) (h : StartsFit m) (c : Dev nD) (t : Fin grid0.N) (r : Fin 48) (l : Fin 1024) : (iblk m hO c 12 t : Vec F S48x1024 .bf16) (ix2 r l)
    = V m c main_arg4 (ix2 (⟨slabRow m 3 + r.val, by have := slabRow_le m h 3; omega⟩ : Fin 400) (⟨1024 * t.val + l.val, by have := lt10 t; omega⟩ : Fin 10240)) := by
  show View.read (Elt F) _ _ _ = _
  refine (View.read_apply _ _).trans ?_
  show V m c main_arg4 _ = V m c main_arg4 _
  congr 1
  funext a
  apply Fin.ext
  match a with
  | ⟨0, _⟩ =>
    show (alignDown ((tbl m).at 0 (Rect.unit (s := S5) ![3] S1.size inb_S5_S1_3) numel1_S1)).toNat + 1 * r.val = slabRow m 3 + r.val
    rw [row_word m h 3 (by decide) _]
    show slabRow m 3 + 1 * r.val = _
    omega
  | ⟨1, _⟩ =>
    show (Scalar.muli (BitVec.ofNat 32 ((grid0.coords t) 0).val) 1024#32).toNat + 1 * l.val = 1024 * t.val + l.val
    rw [column_word]
    omega

/-- Segment 4's slab of the second factors, at a point's columns. -/
theorem blk_13 (hO : Ok m) (h : StartsFit m) (c : Dev nD) (t : Fin grid0.N) (r : Fin 48) (l : Fin 1024) : (iblk m hO c 13 t : Vec F S48x1024 .bf16) (ix2 r l)
    = V m c main_arg4 (ix2 (⟨slabRow m 4 + r.val, by have := slabRow_le m h 4; omega⟩ : Fin 400) (⟨1024 * t.val + l.val, by have := lt10 t; omega⟩ : Fin 10240)) := by
  show View.read (Elt F) _ _ _ = _
  refine (View.read_apply _ _).trans ?_
  show V m c main_arg4 _ = V m c main_arg4 _
  congr 1
  funext a
  apply Fin.ext
  match a with
  | ⟨0, _⟩ =>
    show (alignDown ((tbl m).at 0 (Rect.unit (s := S5) ![4] S1.size inb_S5_S1_4) numel1_S1)).toNat + 1 * r.val = slabRow m 4 + r.val
    rw [row_word m h 4 (by decide) _]
    show slabRow m 4 + 1 * r.val = _
    omega
  | ⟨1, _⟩ =>
    show (Scalar.muli (BitVec.ofNat 32 ((grid0.coords t) 0).val) 1024#32).toNat + 1 * l.val = 1024 * t.val + l.val
    rw [column_word]
    omega

end Cert.KernelIdeal.Body

end
-- ==== Proof.IdealChain.lean ====
/- The kernel's results as closed functions of its arrays at the launch: the hidden values are computed at the first grid
   point and carried, and every point writes its own columns of the result. -/
module

public import proofs.«01_k».proof.Proof.IdealBlocks
public import Idealize.ShloMosaic.Lib.Pipeline.Value

@[expose] public section

set_option maxRecDepth 16384

noncomputable section

namespace Cert.KernelIdeal.Body

open Idealize.ShloMosaic Idealize.ShloMosaic.TcCoe Idealize.ShloMosaic.ValueIdx Idealize.ShloMosaic.Pipeline
open Cert.KernelIdeal.Gen Cert.Words Cert.Nibble

variable (m : (ℓ : Loc nD τ sig) → Buf (Elt Ideal) ℓ)

/-- The slabs of the first factors, one a segment. -/
def slabA (h : StartsFit m) (c : Dev nD) (s : Fin 5) : Vec Ideal S48x2560 .bf16 := fun j =>
  V m c main_arg3 (ix2 (⟨slabRow m s + (j 0).val, by have := slabRow_le m h s; have h' : (j 0).val < 48 := (j 0).isLt; omega⟩ : Fin 400) (j 1))

/-- The slabs of the second factors at a point's columns. -/
def slabB (h : StartsFit m) (c : Dev nD) (t : Fin grid0.N) (s : Fin 5) : Vec Ideal S48x1024 .bf16 := fun j =>
  V m c main_arg4 (ix2 (⟨slabRow m s + (j 0).val, by have := slabRow_le m h s; have h' : (j 0).val < 48 := (j 0).isLt; omega⟩ : Fin 400)
    (⟨1024 * t.val + (j 1).val, by have := lt10 t; have h' : (j 1).val < 1024 := (j 1).isLt; omega⟩ : Fin 10240))

/-- The hidden values by slot. -/
def hkRes (h : StartsFit m) (c : Dev nD) : Vec Ideal S256x240 .bf16 :=
  hkOf (F := Ideal) (V m c main_v7) (slabA m h c) (word5 (tbl m 0)) (lo6 (tbl m 2)) (hi6 (tbl m 2)) (look (tbl m 1) (tbl m 3))
    (look (V m c main_arg7) (tbl m 3))

/-- The hidden values by place within the adapter: the second result. -/
def hRes (h : StartsFit m) (c : Dev nD) : Vec Ideal S256x32 .bf16 :=
  hOf (F := Ideal) (V m c main_v7) (slabA m h c) (word5 (tbl m 0)) (lo6 (tbl m 2)) (hi6 (tbl m 2)) (look (tbl m 1) (tbl m 3))
    (look (V m c main_arg7) (tbl m 3))

/-- The first result. -/
def yRes (h : StartsFit m) (c : Dev nD) : Vec Ideal S256x10240 .bf16 := fun y =>
  outSum (V m c main_v7) (fun d => num (fld (V m c main_arg1 (ix2 d (⟨(y 1).val / 8, by have h : (y 1).val < 10240 := (y 1).isLt; omega⟩ : Fin 1280)))
      ⟨(y 1).val % 8, by omega⟩) * V m c main_arg2 (ix2 (⟨d.val / 128, by omega⟩ : Fin 20) (y 1)))
    (hkRes m h c) (fun k => V m c main_arg4 (ix2 (⟨slabRow m ⟨k.val / 48, by omega⟩ + k.val % 48, by
      have := slabRow_le m h ⟨k.val / 48, by omega⟩; omega⟩ : Fin 400) (y 1))) (y 0)

variable (hO : Ok m) (h : StartsFit m)

theorem blocks_A (c : Dev nD) (t : Fin grid0.N) :
    (![iblk m hO c 4 t, iblk m hO c 5 t, iblk m hO c 6 t, iblk m hO c 7 t, iblk m hO c 8 t] : Fin 5 → Vec Ideal S48x2560 .bf16) = slabA m h c := by
  funext s j
  obtain ⟨r, l, rfl⟩ : ∃ (r : Fin 48) (l : Fin 2560), j = ix2 r l := ⟨j 0, j 1, eq_ix2 (n0 := 48) (n1 := 2560) j⟩
  fin_cases s
  · exact blk_4 m hO h c t r l
  · exact blk_5 m hO h c t r l
  · exact blk_6 m hO h c t r l
  · exact blk_7 m hO h c t r l
  · exact blk_8 m hO h c t r l

theorem blocks_B (c : Dev nD) (t : Fin grid0.N) :
    (![iblk m hO c 9 t, iblk m hO c 10 t, iblk m hO c 11 t, iblk m hO c 12 t, iblk m hO c 13 t] : Fin 5 → Vec Ideal S48x1024 .bf16) = slabB m h c t := by
  funext s j
  obtain ⟨r, l, rfl⟩ : ∃ (r : Fin 48) (l : Fin 1024), j = ix2 r l := ⟨j 0, j 1, eq_ix2 (n0 := 48) (n1 := 1024) j⟩
  fin_cases s
  · exact blk_9 m hO h c t r l
  · exact blk_10 m hO h c t r l
  · exact blk_11 m hO h c t r l
  · exact blk_12 m hO h c t r l
  · exact blk_13 m hO h c t r l

theorem block_0 (c : Dev nD) (t : Fin grid0.N) : (iblk m hO c 0 t : Vec Ideal S9 .f32) = V m c main_arg7 := funext (blk_0 m hO c t)
theorem block_1 (c : Dev nD) (t : Fin grid0.N) : (iblk m hO c 1 t : Vec Ideal S256x2560 .bf16) = V m c main_v7 := funext (blk_1 m hO c t)

variable (hH : Hyps m hO) (hA : AdaptersFit m)

include hA in
/-- The first point leaves both hidden values, and its block of the result. -/
theorem first_point (c : Dev nD) (t : Fin (cfgM m hO).N) (h0 : t.val % 10 = 0) :
    outsAt0 m hO hH c t.val t.isLt
      = (blockOut (V m c main_v7) (iblk m hO c 2 t) (iblk m hO c 3 t) (hkRes m h c) (slabB m h c t), hRes m h c, hkRes m h c) := by
  rw [outsAt0_A m hO hH c t h0]
  have hx : ∀ s, (word5 (tbl m 3) s : BitVec 32).toNat < 9 := fun s => hA _
  refine Prod.ext ?_ (Prod.ext ?_ ?_)
  · dsimp only
    refine (out_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) scM0_0 (Memref.isWhole_whole _) scM0_1 (Memref.isWhole_whole _) ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (tbl m 0) (tbl m 1) (tbl m 2) (tbl m 3) ((Hyps.c0 hH c t) ((hcond0_0 t).mpr h0)) ((Hyps.c1 hH c t) ((hcond0_0 t).mpr h0)) ((Hyps.c2 hH c t) ((hcond0_0 t).mpr h0)) ((Hyps.c3 hH c t) ((hcond0_0 t).mpr h0)) ((Hyps.c4 hH c t) ((hcond0_0 t).mpr h0)) hx).trans ?_
    rw [blocks_A m hO h c t, blocks_B m hO h c t, block_0, block_1]
    rfl
  · dsimp only
    refine (outh_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) scM0_0 (Memref.isWhole_whole _) scM0_1 (Memref.isWhole_whole _) ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (tbl m 0) (tbl m 1) (tbl m 2) (tbl m 3) ((Hyps.c0 hH c t) ((hcond0_0 t).mpr h0)) ((Hyps.c1 hH c t) ((hcond0_0 t).mpr h0)) ((Hyps.c2 hH c t) ((hcond0_0 t).mpr h0)) ((Hyps.c3 hH c t) ((hcond0_0 t).mpr h0)) ((Hyps.c4 hH c t) ((hcond0_0 t).mpr h0)) hx).trans ?_
    rw [blocks_A m hO h c t, block_0, block_1]
    rfl
  · dsimp only
    refine (sout_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) scM0_0 (Memref.isWhole_whole _) scM0_1 (Memref.isWhole_whole _) ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (tbl m 0) (tbl m 1) (tbl m 2) (tbl m 3) ((Hyps.c0 hH c t) ((hcond0_0 t).mpr h0)) ((Hyps.c1 hH c t) ((hcond0_0 t).mpr h0)) ((Hyps.c2 hH c t) ((hcond0_0 t).mpr h0)) ((Hyps.c3 hH c t) ((hcond0_0 t).mpr h0)) ((Hyps.c4 hH c t) ((hcond0_0 t).mpr h0)) hx).trans ?_
    rw [blocks_A m hO h c t, block_0, block_1]
    rfl

include hA in
/-- Every point leaves both hidden values, and its own block of the result. -/
theorem every_point (c : Dev nD) : ∀ (n : ℕ) (hn : n < (cfgM m hO).N),
    outsAt0 m hO hH c n hn
      = (blockOut (V m c main_v7) (iblk m hO c 2 ⟨n, hn⟩) (iblk m hO c 3 ⟨n, hn⟩) (hkRes m h c) (slabB m h c ⟨n, hn⟩), hRes m h c, hkRes m h c)
  | 0, hn => first_point m hO h hH hA c ⟨0, hn⟩ rfl
  | n + 1, hn => by
    have hN : n + 1 < 10 := lt_of_lt_of_eq hn (show (cfgM m hO).N = 10 from N_0)
    have ih := every_point c n (Nat.lt_of_succ_lt hn)
    rw [outsAt0_B m hO hH c ⟨n + 1, hn⟩ (by dsimp only; omega)]
    have ih' : outsAt0 m hO hH c ((⟨n + 1, hn⟩ : Fin (cfgM m hO).N).val - 1) (Nat.lt_of_le_of_lt (Nat.sub_le _ _) hn) = _ := ih
    refine Prod.ext ?_ (Prod.ext ?_ ?_)
    · dsimp only
      refine (out_B c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (ms0_10 m hO ⟨n + 1, hn⟩) (hs0_10 m hO ⟨n + 1, hn⟩) (ms0_11 m hO ⟨n + 1, hn⟩) (hs0_11 m hO ⟨n + 1, hn⟩) (ms0_12 m hO ⟨n + 1, hn⟩) (hs0_12 m hO ⟨n + 1, hn⟩) (ms0_13 m hO ⟨n + 1, hn⟩) (hs0_13 m hO ⟨n + 1, hn⟩) (ms0_14 m hO ⟨n + 1, hn⟩) (hs0_14 m hO ⟨n + 1, hn⟩) (ms0_15 m hO ⟨n + 1, hn⟩) (hs0_15 m hO ⟨n + 1, hn⟩) scM0_0 (Memref.isWhole_whole _) scM0_1 (Memref.isWhole_whole _) (fun h' => (show ¬(n + 1) % 10 = 0 by omega) ((hcond0_0 ⟨n + 1, hn⟩).mp h')) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (iblk m hO c 8 ⟨n + 1, hn⟩) (iblk m hO c 9 ⟨n + 1, hn⟩) (iblk m hO c 10 ⟨n + 1, hn⟩) (iblk m hO c 11 ⟨n + 1, hn⟩) (iblk m hO c 12 ⟨n + 1, hn⟩) (iblk m hO c 13 ⟨n + 1, hn⟩) (tbl m 0) (tbl m 1) (tbl m 2) (tbl m 3) (outsAt0 m hO hH c n (Nat.lt_of_succ_lt hn)).2.2).trans ?_
      rw [blocks_B m hO h c ⟨n + 1, hn⟩, block_1]
      show blockOut _ _ _ (outsAt0 m hO hH c n _).2.2 _ = _
      rw [ih]
    · show (outsAt0 m hO hH c n _).2.1 = _
      rw [ih]
    · show (outsAt0 m hO hH c n _).2.2 = _
      rw [ih]

/-- A point's block of the result, entry by entry. -/
theorem block_entry (c : Dev nD) (t : Fin grid0.N) (a : Fin 256) (b : Fin 1024) :
    blockOut (V m c main_v7) (iblk m hO c 2 t) (iblk m hO c 3 t) (hkRes m h c) (slabB m h c t) (ix2 a b)
      = yRes m h c (ix2 a (⟨1024 * t.val + b.val, by have := lt10 t; omega⟩ : Fin 10240)) := by
  have ht := lt10 t
  unfold blockOut yRes
  refine congr (congr (congrArg (fun w => outSum (V m c main_v7) w (hkRes m h c)) ?_) ?_) rfl
  · funext d
    have e2 := blk_2 m hO c t d (⟨b.val / 8, by omega⟩ : Fin 128)
    have e3 := blk_3 m hO c t (⟨d.val / 128, by omega⟩ : Fin 20) b
    refine congr (congrArg HMul.hMul (congrArg num (congr (congrArg fld (e2.trans ?_)) ?_))) e3
    · refine congrArg (fun q => V m c main_arg1 (ix2 d q)) (Fin.ext ?_)
      show 128 * t.val + b.val / 8 = (1024 * t.val + b.val) / 8
      omega
    · apply Fin.ext
      show b.val % 8 = (1024 * t.val + b.val) % 8
      omega
  · rfl

include hA in
theorem flushed_14 (c : Dev nD) (t : Fin (cfgM m hO).N) (hf : ((cfgM m hO).win 14).flush t = true) :
    (dats m hO hH 0 c).flushed 14 t = (((cfgM m hO).win 14).blk t).view.read (Elt Ideal) (yRes m h c) := by
  show ((cfgM m hO).win 14).cut (grid0.coords t) ((dats m hO hH 0 c).after 14 t) = _
  rw [after0_14, every_point m hO h hH hA c t.val t.isLt]
  have ht : t.val < 10 := lt10 t
  refine funext fun (j : S256x1024.Idx) => ?_
  have e := block_entry m hO h c t (j 0) (j 1)
  refine ((congrArg (blockOut (V m c main_v7) (iblk m hO c 2 t) (iblk m hO c 3 t) (hkRes m h c) (slabB m h c t)) (eq_ix2 (n0 := 256) (n1 := 1024) j)).trans e).trans ?_
  refine congrArg (yRes m h c) (?_ : _ = (((cfgM m hO).win 14).blk t).view.emb j)
  funext a
  apply Fin.ext
  match a with
  | ⟨0, _⟩ => show (j 0).val = 0 * 256 + 1 * (j 0).val; omega
  | ⟨1, _⟩ => show 1024 * t.val + (j 1).val = (BitVec.ofNat 32 ((grid0.coords t) 0).val).toNat * 1024 + 1 * (j 1).val; rw [coords_word]; omega

include hA in
/-- The first result's array at the end. -/
theorem final_14 (c : Dev nD) : (dats m hO hH 0 c).arrAt 14 (cfgM m hO).N = yRes m h c :=
  (dats m hO hH 0 c).arrAt_eq_of_cover 14 (yRes m h c) (flushed_14 m hO h hH hA c) fun i => by
    have h0 : (i (0 : Fin 2) : Nat) < 256 := (i (0 : Fin 2)).isLt
    have h1 : (i (1 : Fin 2) : Nat) < 10240 := (i (1 : Fin 2)).isLt
    have hN : (cfgM m hO).N = 10 := N_0
    have ht : (i (1 : Fin 2) : Nat) / 1024 < (cfgM m hO).N := by omega
    refine ⟨⟨(i (1 : Fin 2) : Nat) / 1024, ht⟩, flush0_14 _ _, ?_⟩
    refine (Finset.ext_iff.mp (View.set_slice_whole main_v8_0 (((cfgM m hO).win 14).rect ⟨(i (1 : Fin 2) : Nat) / 1024, ht⟩)) i).mpr ?_
    refine (Rect.mem_set_unit (s := S256x10240) (i := i)).mpr ?_
    intro a
    match a with
    | ⟨0, _⟩ => show 0 * 256 ≤ (i (0 : Fin 2) : Nat) ∧ (i (0 : Fin 2) : Nat) < 0 * 256 + 256; omega
    | ⟨1, _⟩ =>
      show (BitVec.ofNat 32 ((grid0.coords ⟨(i (1 : Fin 2) : Nat) / 1024, ht⟩) 0).val).toNat * 1024 ≤ (i (1 : Fin 2) : Nat)
        ∧ (i (1 : Fin 2) : Nat) < (BitVec.ofNat 32 ((grid0.coords ⟨(i (1 : Fin 2) : Nat) / 1024, ht⟩) 0).val).toNat * 1024 + 1024
      rw [coords_word]
      show (i (1 : Fin 2) : Nat) / 1024 * 1024 ≤ (i (1 : Fin 2) : Nat) ∧ (i (1 : Fin 2) : Nat) < (i (1 : Fin 2) : Nat) / 1024 * 1024 + 1024
      omega

include hA in
theorem flushed_15 (c : Dev nD) (t : Fin (cfgM m hO).N) (hf : ((cfgM m hO).win 15).flush t = true) :
    (dats m hO hH 0 c).flushed 15 t = (((cfgM m hO).win 15).blk t).view.read (Elt Ideal) (hRes m h c) := by
  show ((cfgM m hO).win 15).cut (grid0.coords t) ((dats m hO hH 0 c).after 15 t) = _
  rw [after0_15, every_point m hO h hH hA c t.val t.isLt]
  refine funext fun (j : S256x32.Idx) => ?_
  refine congrArg (hRes m h c) (?_ : j = (((cfgM m hO).win 15).blk t).view.emb j)
  funext a
  apply Fin.ext
  match a with
  | ⟨0, _⟩ => show (j 0).val = 0 * 256 + 1 * (j 0).val; omega
  | ⟨1, _⟩ => show (j 1).val = 0 * 32 + 1 * (j 1).val; omega

include hA in
/-- The second result's array at the end. -/
theorem final_15 (c : Dev nD) : (dats m hO hH 0 c).arrAt 15 (cfgM m hO).N = hRes m h c :=
  (dats m hO hH 0 c).arrAt_eq_of_cover 15 (hRes m h c) (flushed_15 m hO h hH hA c) fun i => by
    have h0 : (i (0 : Fin 2) : Nat) < 256 := (i (0 : Fin 2)).isLt
    have h1 : (i (1 : Fin 2) : Nat) < 32 := (i (1 : Fin 2)).isLt
    have hN : (cfgM m hO).N = 10 := N_0
    have ht : 9 < (cfgM m hO).N := by omega
    refine ⟨⟨9, ht⟩, (flush0_15 _ _).mpr rfl, ?_⟩
    refine (Finset.ext_iff.mp (View.set_slice_whole main_v8_1 (((cfgM m hO).win 15).rect ⟨9, ht⟩)) i).mpr ?_
    refine (Rect.mem_set_unit (s := S256x32) (i := i)).mpr ?_
    intro a
    match a with
    | ⟨0, _⟩ => show 0 * 256 ≤ (i (0 : Fin 2) : Nat) ∧ (i (0 : Fin 2) : Nat) < 0 * 256 + 256; omega
    | ⟨1, _⟩ => show 0 * 32 ≤ (i (1 : Fin 2) : Nat) ∧ (i (1 : Fin 2) : Nat) < 0 * 32 + 32; omega

include hO hH hA in
/-- The run, read: both results at their closed forms. -/
theorem results (ρ) : θ_run defs (onTc (τ := τ) (main (F := Ideal))) ⟨m, fun _ => 0, ρ⟩ (fun r => ∀ c : Dev nD,
      r.2.mem ((c.tc : Thread nD τ).loc main_v8_0) = yRes m h c
      ∧ r.2.mem ((c.tc : Thread nD τ).loc main_v8_1) = hRes m h c) :=
  (θ_run defs _ _).mono (fun _ H c => ⟨((H c).1 14).trans (final_14 m hO h hH hA c), ((H c).1 15).trans (final_15 m hO h hH hA c)⟩)
    (run_main m ρ hO hH)

end Cert.KernelIdeal.Body

end
-- ==== Proof.Gathers.lean ====
/- Lookups and products of a host program, element by element: words and rows looked up by an array of indices, and
   products of arrays of three axes. -/
module

public import Idealize.ShloMosaic.Lib.ValueIdx
public import Idealize.ShloMosaic.Lib.IdealHost
public import Idealize.ShloMosaic.Lib.MatmulPlain
public import Idealize.ShloMosaic.Lib.StackMember
public import Idealize.ShloMosaic.Lib.Pipeline.Value

@[expose] public section

set_option maxRecDepth 16384

noncomputable section

namespace Cert.Gathers

open Idealize.ShloMosaic Idealize.ShloMosaic.ValueIdx
open scoped BigOperators

variable {α : Type}

/-- The dimension numbers of a lookup of `R` words in a table of `N`. -/
abbrev wordDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- A word looked up in a table is the table's at the index, brought into range. -/
theorem words_apply {N R w : Nat} (hN : 0 < N) (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (wordDims N R wf) x idx (ix1 r) = x (ix1 ⟨min (idx (ix2 r 0)).toInt.toNat (N - 1), by omega⟩) := by
  unfold Host.gather
  congr 1
  funext a
  obtain rfl : a = 0 := Subsingleton.elim _ _
  refine Fin.ext ?_
  show (wordDims N R wf).start (ix1 r) idx 0 + (wordDims N R wf).batchCoord (ix1 r) 0 + (wordDims N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (wordDims N R wf).startIndexMap from List.mem_singleton.mpr rfl)]
  have hsi : (wordDims N R wf).siIdx (ix1 r) ⟨List.idxOf (0 : Fin 1) (wordDims N R wf).startIndexMap,
      List.idxOf_lt_length_iff.2 (List.mem_singleton.mpr rfl)⟩ = ix2 r 0 := by
    funext b; refine Fin.ext ?_
    match b with
    | ⟨0, _⟩ => rfl
    | ⟨1, _⟩ => rfl
  rw [hsi]
  rfl

/-- The dimension numbers of a lookup of `Q` times `R` rows in an array of `N` rows. -/
abbrev rowDims (N C Q R : Nat) (wf : GatherDims.WF ⟨2, ![N, C]⟩ ⟨3, ![Q, R, 1]⟩ ⟨3, ![Q, R, C]⟩ [2] [0] [] [0] [] 2 ![1, C]) :
    GatherDims ⟨2, ![N, C]⟩ ⟨3, ![Q, R, 1]⟩ ⟨3, ![Q, R, C]⟩ where
  offsetDims := [2]
  collapsedSliceDims := [0]
  operandBatchingDims := []
  startIndicesBatchingDims := []
  startIndexMap := [0]
  indexVectorDim := 2
  sliceSizes := ![1, C]
  wf := wf

/-- A row looked up in an array is the array's at the index, brought into range. -/
theorem rows_apply {N C Q R w : Nat} (hN : 0 < N)
    (wf : GatherDims.WF ⟨2, ![N, C]⟩ ⟨3, ![Q, R, 1]⟩ ⟨3, ![Q, R, C]⟩ [2] [0] [] [0] [] 2 ![1, C])
    (x : (⟨2, ![N, C]⟩ : Shape).Idx → α) (idx : IVec ⟨3, ![Q, R, 1]⟩ w) (q : Fin Q) (r : Fin R) (c : Fin C) :
    Host.gather (rowDims N C Q R wf) x idx (ix3 q r c) = x (ix2 ⟨min (idx (ix3 q r 0)).toInt.toNat (N - 1), by omega⟩ c) := by
  unfold Host.gather
  congr 1
  funext a
  refine Fin.ext ?_
  show (rowDims N C Q R wf).start (ix3 q r c) idx a + (rowDims N C Q R wf).batchCoord (ix3 q r c) a
      + (rowDims N C Q R wf).offCoord (ix3 q r c) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C Q R wf).startIndexMap from List.mem_singleton.mpr rfl)]
    have hsi : (rowDims N C Q R wf).siIdx (ix3 q r c) ⟨List.idxOf (0 : Fin 2) (rowDims N C Q R wf).startIndexMap,
        List.idxOf_lt_length_iff.2 (List.mem_singleton.mpr rfl)⟩ = ix3 q r 0 := by
      funext b; refine Fin.ext ?_
      match b with
      | ⟨0, _⟩ => rfl
      | ⟨1, _⟩ => rfl
      | ⟨2, _⟩ => rfl
    rw [hsi]
    rfl
  · unfold GatherDims.start
    rw [dif_neg (show ¬ (1 : Fin 2) ∈ (rowDims N C Q R wf).startIndexMap from fun h => absurd (List.mem_singleton.mp h) (show ¬ (1 : Fin 2) = 0 by decide))]
    simp only [Nat.zero_add]
    unfold GatherDims.offCoord
    rw [dif_pos (show (1 : Fin 2) ∈ (rowDims N C Q R wf).sKept from by
      rw [GatherDims.mem_sKept]; exact ⟨fun h => absurd (List.mem_singleton.mp h) (show ¬ (1 : Fin 2) = 0 by decide), List.not_mem_nil⟩)]
    rfl

/-- The dimension numbers of the product of an array of rows with a stack of arrays of rows, over the row entries. -/
abbrev stackDims (M K Q R : Nat) (wf : DotDims.WF ⟨2, ![M, K]⟩ ⟨3, ![Q, R, K]⟩ ⟨3, ![M, Q, R]⟩ [1] [2] [0] [0, 1] [] []) :
    DotDims ⟨2, ![M, K]⟩ ⟨3, ![Q, R, K]⟩ ⟨3, ![M, Q, R]⟩ where
  lhsContracting := [1]
  rhsContracting := [2]
  lhsNonContracting := [0]
  rhsNonContracting := [0, 1]
  lhsBatch := []
  rhsBatch := []
  wf := wf

/-- An entry of that product. -/
theorem stack_apply {M K Q R : Nat} {φ₁ φ₂ : FTy} (wf : DotDims.WF ⟨2, ![M, K]⟩ ⟨3, ![Q, R, K]⟩ ⟨3, ![M, Q, R]⟩ [1] [2] [0] [0, 1] [] [])
    (x : FVec Ideal ⟨2, ![M, K]⟩ φ₁) (y : FVec Ideal ⟨3, ![Q, R, K]⟩ φ₂) (t : Fin M) (q : Fin Q) (r : Fin R) :
    Host.dotGeneral (stackDims M K Q R wf) none x y (ix3 t q r) = ∑ d : Fin K, x (ix2 t d) * y (ix3 q r d) := by
  show FloatOps.dotGeneral _ none _ x y (ix3 t q r) = _
  rw [Ideal.dotGeneral_apply, ← Equiv.sum_comp (contrEquiv1 (stackDims M K Q R wf) K rfl rfl).symm]
  refine Finset.sum_congr rfl fun d _ => ?_
  have c2 := contrEquiv1_symm_val (stackDims M K Q R wf) K rfl rfl d
  have l2 : (stackDims M K Q R wf).lhsIdx (ix3 t q r) ((contrEquiv1 _ K rfl rfl).symm d) = ix2 t d := by
    funext ax; apply Fin.ext
    match ax with
    | ⟨0, _⟩ => rfl
    | ⟨1, _⟩ => exact c2
  have r2 : (stackDims M K Q R wf).rhsIdx (ix3 t q r) ((contrEquiv1 _ K rfl rfl).symm d) = ix3 q r d := by
    funext ax; apply Fin.ext
    match ax with
    | ⟨0, _⟩ => rfl
    | ⟨1, _⟩ => rfl
    | ⟨2, _⟩ => exact c2
  rw [l2, r2]

/-- The dimension numbers of the product of an array of `Q` by `R` places per row with a stack of rows, over the places. -/
abbrev placeDims (M Q R N : Nat) (wf : DotDims.WF ⟨3, ![M, Q, R]⟩ ⟨3, ![Q, R, N]⟩ ⟨2, ![M, N]⟩ [2, 1] [1, 0] [0] [2] [] []) :
    DotDims ⟨3, ![M, Q, R]⟩ ⟨3, ![Q, R, N]⟩ ⟨2, ![M, N]⟩ where
  lhsContracting := [2, 1]
  rhsContracting := [1, 0]
  lhsNonContracting := [0]
  rhsNonContracting := [2]
  lhsBatch := []
  rhsBatch := []
  wf := wf

/-- An entry of that product. -/
theorem places_apply {M Q R N : Nat} {φ₁ φ₂ : FTy} (wf : DotDims.WF ⟨3, ![M, Q, R]⟩ ⟨3, ![Q, R, N]⟩ ⟨2, ![M, N]⟩ [2, 1] [1, 0] [0] [2] [] [])
    (x : FVec Ideal ⟨3, ![M, Q, R]⟩ φ₁) (y : FVec Ideal ⟨3, ![Q, R, N]⟩ φ₂) (t : Fin M) (n : Fin N) :
    Host.dotGeneral (placeDims M Q R N wf) none x y (ix2 t n) = ∑ q : Fin Q, ∑ r : Fin R, x (ix3 t q r) * y (ix3 q r n) := by
  show FloatOps.dotGeneral _ none _ x y (ix2 t n) = _
  let D := placeDims M Q R N wf
  have hr : D.contr.rank = 2 := rfl
  have c0 : D.contr.size ⟨0, by rw [hr]; omega⟩ = R := rfl
  have c1 : D.contr.size ⟨1, by rw [hr]; omega⟩ = Q := rfl
  rw [Ideal.dotGeneral_apply, ← Equiv.sum_comp (contrEquiv2 D R Q hr c0 c1).symm, Fintype.sum_prod_type, Finset.sum_comm]
  refine Finset.sum_congr rfl fun q _ => Finset.sum_congr rfl fun r _ => ?_
  have h0 := contrEquiv2_symm_val0 D R Q hr c0 c1 (r, q)
  have h1 := contrEquiv2_symm_val1 D R Q hr c0 c1 (r, q)
  have el : D.lhsIdx (ix2 t n) ((contrEquiv2 D R Q hr c0 c1).symm (r, q)) = ix3 t q r := by
    funext a; apply Fin.ext
    match a with
    | ⟨0, _⟩ => rfl
    | ⟨1, _⟩ => exact h1
    | ⟨2, _⟩ => exact h0
  have er : D.rhsIdx (ix2 t n) ((contrEquiv2 D R Q hr c0 c1).symm (r, q)) = ix3 q r n := by
    funext a; apply Fin.ext
    match a with
    | ⟨0, _⟩ => exact h1
    | ⟨1, _⟩ => exact h0
    | ⟨2, _⟩ => rfl
  rw [el, er]

end Cert.Gathers

end
-- ==== Proof.RefBase.lean ====
/- The reference's base product, element by element, over the extended reals: its weights are the packed codes, read as
   signed numbers, times the scales. -/
module

public import proofs.«01_k».proof.Proof.Gen.ReferenceIdeal
public import proofs.«01_k».proof.Proof.Gen.ReferenceIdeal.Run
public import proofs.«01_k».proof.Proof.Gathers
public import proofs.«01_k».proof.Proof.Nibble

@[expose] public section

set_option maxRecDepth 16384

noncomputable section

namespace Cert.ReferenceIdeal.Value

open Cert.ReferenceIdeal Cert.ReferenceIdeal.Gen Idealize.ShloMosaic Idealize.ShloMosaic.ValueIdx
open Cert.Nibble Cert.Gathers
open scoped BigOperators

/-- A field of a word, taken by shifting and masking. -/
theorem field_bits (w : BitVec 32) (j : Fin 8) :
    IntOp.andi (IntOp.shrsi .host w (BitVec.ofNat 32 (4 * j.val))) 15#32 = (fld w j).setWidth 32 := by
  have h4 : (BitVec.ofNat 32 (4 * j.val)).toNat = 4 * j.val := by rw [BitVec.toNat_ofNat]; omega
  unfold IntOp.andi IntOp.shrsi fld
  rw [if_pos (by rw [h4]; omega), BitVec.sshiftRight', h4]
  ext i hi
  rw [BitVec.getElem_and, BitVec.getElem_sshiftRight, BitVec.getElem_setWidth, BitVec.getLsbD_extractLsb']
  by_cases h : i < 4
  · have h15 : (15#32)[i] = true := by
      have : ∀ k : Fin 4, (15#32).getLsbD k.val = true := by decide
      exact (BitVec.getLsbD_eq_getElem hi).symm.trans (this ⟨i, h⟩)
    rw [h15, dif_pos (by omega), BitVec.getLsbD_eq_getElem (by omega)]
    simp [h]
  · have h15 : (15#32)[i] = false := by
      have : ∀ k : Fin 32, 4 ≤ k.val → (15#32).getLsbD k.val = false := by decide
      exact (BitVec.getLsbD_eq_getElem hi).symm.trans (this ⟨i, hi⟩ (Nat.le_of_not_lt h))
    rw [h15]
    simp [h]

/-- The fields the words hold at one shift. -/
def fieldOf (W : IVec S2560x1280 32) (sh : BitVec 32) : IVec S2560x1280 32 :=
  andi (Host.shrsi W (broadcastInDim S2560x1280 ![] bcast_S_S2560x1280 (constantI S_ 32 sh))) (broadcastInDim S2560x1280 ![] bcast_S_S2560x1280 (constantI S_ 32 15#32))

/-- The weights of the columns of one field: the codes as signed numbers, times the scales repeated down the rows. -/
def weightsOf (W : IVec S2560x1280 32) (S : Vec Ideal S20x10240 .bf16) (sh : BitVec 32) (o : Nat) (hs : S20x10240.SlicesBy (![0, o] : Fin 2 → Nat) ![1, 8] S20x1280) :
    FVec Ideal S2560x1280 .bf16 :=
  mulf (F := Ideal) (sitofp .bf16 (subi (fieldOf W sh) (muli (broadcastInDim S2560x1280 ![] bcast_S_S2560x1280 (constantI S_ 32 16#32)) (extui 32 (cmpi .sge (fieldOf W sh) (broadcastInDim S2560x1280 ![] bcast_S_S2560x1280 (constantI S_ 32 8#32))) natLt_1_32))))
    (shapeCast _ (broadcastInDim S20x128x1280 ![0, 2] bcast_S20x1280_S20x128x1280_0_2 (Host.slice S20x1280 ![0, o] ![1, 8] S hs)) shapeCasts_S20x128x1280_S2560x1280)

/-- One field's columns of the base product. -/
def colsOf (X : Vec Ideal S256x2560 .bf16) (W : IVec S2560x1280 32) (S : Vec Ideal S20x10240 .bf16) (sh : BitVec 32) (o : Nat) (hs : S20x10240.SlicesBy (![0, o] : Fin 2 → Nat) ![1, 8] S20x1280) :
    FVec Ideal S256x1280x1 .f32 :=
  broadcastInDim S256x1280x1 ![0, 1] bcast_S256x1280_S256x1280x1_0_1 (Host.dotGeneral (F := Ideal) (φ₁ := .bf16) (φ₂ := .bf16) dot_S256x2560_S2560x1280_S256x1280_1_0_0_1_n_n none X (weightsOf W S sh o hs))

/-- A weight. -/
theorem weightsOf_apply (W : IVec S2560x1280 32) (S : Vec Ideal S20x10240 .bf16) (j : Fin 8) (hs : S20x10240.SlicesBy (![0, j.val] : Fin 2 → Nat) ![1, 8] S20x1280)
    (d : Fin 2560) (p : Fin 1280) :
    weightsOf W S (BitVec.ofNat 32 (4 * j.val)) j.val hs (ix2 d p)
      = num (fld (W (ix2 d p)) j) * S (ix2 ⟨d.val / 128, by omega⟩ ⟨8 * p.val + j.val, by omega⟩) := by
  have hc : ∀ v : BitVec 32, broadcastInDim S2560x1280 ![] bcast_S_S2560x1280 (constantI S_ 32 v) (ix2 d p) = v := fun v => rfl
  have hf : fieldOf W (BitVec.ofNat 32 (4 * j.val)) (ix2 d p) = (fld (W (ix2 d p)) j).setWidth 32 := field_bits _ j
  have hn : sitofp (F := Ideal) .bf16 (subi (fieldOf W (BitVec.ofNat 32 (4 * j.val))) (muli (broadcastInDim S2560x1280 ![] bcast_S_S2560x1280 (constantI S_ 32 16#32)) (extui 32 (cmpi .sge (fieldOf W (BitVec.ofNat 32 (4 * j.val))) (broadcastInDim S2560x1280 ![] bcast_S_S2560x1280 (constantI S_ 32 8#32))) natLt_1_32))) (ix2 d p)
      = num (fld (W (ix2 d p)) j) := by
    show (((fieldOf W (BitVec.ofNat 32 (4 * j.val)) (ix2 d p) - 16#32 * (BitVec.ofBool ((8#32).sle (fieldOf W (BitVec.ofNat 32 (4 * j.val)) (ix2 d p)))).setWidth 32).toInt : ℝ) : EReal) = _
    rw [hf, sub_sixteen]
    rfl
  have hsc : shapeCast S2560x1280 (broadcastInDim S20x128x1280 ![0, 2] bcast_S20x1280_S20x128x1280_0_2 (Host.slice S20x1280 ![0, j.val] ![1, 8] S hs)) shapeCasts_S20x128x1280_S2560x1280 (ix2 d p)
      = S (ix2 ⟨d.val / 128, by omega⟩ ⟨8 * p.val + j.val, by omega⟩) := by
    rw [shapeCast_apply _ shapeCasts_S20x128x1280_S2560x1280 (ix2 d p) (ix3 (⟨d.val / 128, by omega⟩ : Fin 20) (⟨d.val % 128, by omega⟩ : Fin 128) p) (by
        rw [Shape.rowMajor_val_two, Shape.rowMajor_val_three]
        show (d.val / 128 * 128 + d.val % 128) * 1280 + p.val = d.val * 1280 + p.val
        rw [show d.val / 128 * 128 + d.val % 128 = d.val by omega])]
    rw [broadcastInDim_apply _ _ _ _ (ix2 (⟨d.val / 128, by omega⟩ : Fin 20) p) (fun a => by match a with | ⟨0, _⟩ => rfl | ⟨1, _⟩ => rfl)]
    unfold Host.slice
    refine congrArg S (funext fun a => Fin.ext ?_)
    match a with
    | ⟨0, _⟩ => show 0 + 1 * (d.val / 128) = d.val / 128; omega
    | ⟨1, _⟩ => show j.val + 8 * p.val = 8 * p.val + j.val; omega
  exact congrArg₂ (· * ·) hn hsc

/-- A column's entry. -/
theorem colsOf_apply (X : Vec Ideal S256x2560 .bf16) (W : IVec S2560x1280 32) (S : Vec Ideal S20x10240 .bf16) (j : Fin 8) (hs : S20x10240.SlicesBy (![0, j.val] : Fin 2 → Nat) ![1, 8] S20x1280)
    (t : Fin 256) (p : Fin 1280) (u : Fin 1) :
    colsOf X W S (BitVec.ofNat 32 (4 * j.val)) j.val hs (ix3 t p u)
      = ∑ d : Fin 2560, X (ix2 t d) * (num (fld (W (ix2 d p)) j) * S (ix2 ⟨d.val / 128, by omega⟩ ⟨8 * p.val + j.val, by omega⟩)) := by
  unfold colsOf
  rw [broadcastInDim_apply _ _ _ _ (ix2 t p) (fun a => by match a with | ⟨0, _⟩ => rfl | ⟨1, _⟩ => rfl)]
  refine (StackMember.dotGeneral_plain_apply (m := 256) (k := 2560) (n := 1280) (φ₁ := .bf16) (φ₂ := .bf16) none X _ t p).trans ?_
  exact Finset.sum_congr rfl fun d _ => congrArg (X (ix2 t d) * ·) (weightsOf_apply W S j hs d p)

/-- The eight fields' columns, stacked. -/
def stacked (X : Vec Ideal S256x2560 .bf16) (W : IVec S2560x1280 32) (S : Vec Ideal S20x10240 .bf16) : FVec Ideal S256x1280x8 .f32 :=
  concatenate S256x1280x8 2 [⟨S256x1280x1, colsOf X W S 0#32 0 slicesBy_S20x10240_S20x1280_0s1_0s8⟩,
    ⟨S256x1280x1, colsOf X W S 4#32 1 slicesBy_S20x10240_S20x1280_0s1_1s8⟩, ⟨S256x1280x1, colsOf X W S 8#32 2 slicesBy_S20x10240_S20x1280_0s1_2s8⟩,
    ⟨S256x1280x1, colsOf X W S 12#32 3 slicesBy_S20x10240_S20x1280_0s1_3s8⟩, ⟨S256x1280x1, colsOf X W S 16#32 4 slicesBy_S20x10240_S20x1280_0s1_4s8⟩,
    ⟨S256x1280x1, colsOf X W S 20#32 5 slicesBy_S20x10240_S20x1280_0s1_5s8⟩, ⟨S256x1280x1, colsOf X W S 24#32 6 slicesBy_S20x10240_S20x1280_0s1_6s8⟩,
    ⟨S256x1280x1, colsOf X W S 28#32 7 slicesBy_S20x10240_S20x1280_0s1_7s8⟩]
    concatenates_S256x1280x1_S256x1280x1_S256x1280x1_S256x1280x1_S256x1280x1_S256x1280x1_S256x1280x1_S256x1280x1_S256x1280x8_d2

/-- The reference's stack is this one. -/
theorem stacked_eq (L : Valuation τ sig (Elt Ideal)) :
    res_main_v137 (F := Ideal) L = stacked (res_main_v0 (F := Ideal) L) (L (Proc.devRef .tc main_arg1)) (L (Proc.devRef .tc main_arg2)) := rfl

/-- A stacked entry. -/
theorem stacked_apply (X : Vec Ideal S256x2560 .bf16) (W : IVec S2560x1280 32) (S : Vec Ideal S20x10240 .bf16) (t : Fin 256) (p : Fin 1280) (j : Fin 8) :
    stacked X W S (ix3 t p j)
      = ∑ d : Fin 2560, X (ix2 t d) * (num (fld (W (ix2 d p)) j) * S (ix2 ⟨d.val / 128, by omega⟩ ⟨8 * p.val + j.val, by omega⟩)) := by
  have hi : ∀ b : Fin 3, b ≠ 2 → ((ix3 t p (0 : Fin 1) : S256x1280x1.Idx) b).val = ((ix3 t p j : S256x1280x8.Idx) b).val :=
    fun b hb => by match b with | ⟨0, _⟩ => rfl | ⟨1, _⟩ => rfl | ⟨2, _⟩ => exact absurd rfl hb
  have key : ∀ (k : Nat) (hk : k < 8) (x : FVec Ideal S256x1280x1 .f32) (xs : List ((s : Shape) × (s.Idx → EReal))) (h : Shape.Concatenates (xs.map (·.1)) S256x1280x8 2)
      (hl : k < xs.length) (hx : xs[k] = ⟨S256x1280x1, x⟩)
      (hp : (((xs.take k).map (·.1)).map fun s => if h : s.rank = S256x1280x8.rank then s.size ((2 : Fin S256x1280x8.rank).cast h.symm) else 0).sum = k) (hj : j.val = k),
      concatenate S256x1280x8 2 xs h (ix3 t p j) = x (ix3 t p 0) :=
    fun k hk x xs h hl hx hp hj => concatenate_apply_piece (t := S256x1280x8) 2 xs h (ix3 t p j) k hl S256x1280x1 x hx rfl k hp (ix3 t p 0) hi
      (by show k + 0 = j.val; omega)
  unfold stacked
  fin_cases j
  · exact (key 0 (by omega) _ _ _ (by simp) rfl (by simp) rfl).trans (colsOf_apply X W S 0 _ t p 0)
  · exact (key 1 (by omega) _ _ _ (by simp) rfl (by simp) rfl).trans (colsOf_apply X W S 1 _ t p 0)
  · exact (key 2 (by omega) _ _ _ (by simp) rfl (by simp) rfl).trans (colsOf_apply X W S 2 _ t p 0)
  · exact (key 3 (by omega) _ _ _ (by simp) rfl (by simp) rfl).trans (colsOf_apply X W S 3 _ t p 0)
  · exact (key 4 (by omega) _ _ _ (by simp) rfl (by simp) rfl).trans (colsOf_apply X W S 4 _ t p 0)
  · exact (key 5 (by omega) _ _ _ (by simp) rfl (by simp) rfl).trans (colsOf_apply X W S 5 _ t p 0)
  · exact (key 6 (by omega) _ _ _ (by simp) rfl (by simp) rfl).trans (colsOf_apply X W S 6 _ t p 0)
  · exact (key 7 (by omega) _ _ _ (by simp) rfl (by simp) rfl).trans (colsOf_apply X W S 7 _ t p 0)

/-- An entry of the base product. -/
theorem base_apply (X : Vec Ideal S256x2560 .bf16) (W : IVec S2560x1280 32) (S : Vec Ideal S20x10240 .bf16) (t : Fin 256) (n : Fin 10240) :
    shapeCast S256x10240 (stacked X W S) shapeCasts_S256x1280x8_S256x10240 (ix2 t n)
      = ∑ d : Fin 2560, X (ix2 t d) * (num (fld (W (ix2 d ⟨n.val / 8, by omega⟩)) ⟨n.val % 8, by omega⟩) * S (ix2 ⟨d.val / 128, by omega⟩ n)) := by
  rw [shapeCast_apply _ shapeCasts_S256x1280x8_S256x10240 (ix2 t n) (ix3 t (⟨n.val / 8, by omega⟩ : Fin 1280) (⟨n.val % 8, by omega⟩ : Fin 8)) (by
    rw [Shape.rowMajor_val_two, Shape.rowMajor_val_three]
    show (t.val * 1280 + n.val / 8) * 8 + n.val % 8 = t.val * 10240 + n.val
    omega), stacked_apply]
  refine Finset.sum_congr rfl fun d _ => ?_
  rw [show (⟨8 * (n.val / 8) + n.val % 8, by omega⟩ : Fin 10240) = n from Fin.ext (by show 8 * (n.val / 8) + n.val % 8 = n.val; omega)]

end Cert.ReferenceIdeal.Value

end
-- ==== Proof.Slots.lean ====
/- Sums over slots: 240 slots are five groups of 48, and a sum over one group whose terms vanish outside a window of 32
   is the sum over the window. -/
module

public import Mathlib.Data.EReal.Operations
public import Mathlib.Algebra.BigOperators.Fin
public import Mathlib.Logic.Equiv.Fin.Basic

@[expose] public section

namespace Cert.Slots

open scoped BigOperators

/-- Slots are five groups of 48. -/
theorem sum_slots (f : Fin 240 → EReal) : ∑ c, f c = ∑ s : Fin 5, ∑ r : Fin 48, f ⟨48 * s.val + r.val, by omega⟩ := by
  rw [← Equiv.sum_comp (finProdFinEquiv (m := 5) (n := 48)) f, Fintype.sum_prod_type]
  refine Finset.sum_congr rfl fun s _ => Finset.sum_congr rfl fun r _ => congrArg f (Fin.ext ?_)
  show r.val + 48 * s.val = 48 * s.val + r.val
  omega

/-- Terms that vanish outside a window of 32 add up to the window's. -/
theorem sum_window (off : Nat) (h : off < 16) (f : Fin 48 → EReal)
    (hz : ∀ r : Fin 48, ¬ (off ≤ r.val ∧ r.val < off + 32) → f r = 0) : ∑ r, f r = ∑ k : Fin 32, f ⟨off + k.val, by omega⟩ := by
  refine (Fintype.sum_of_injective (fun k : Fin 32 => (⟨off + k.val, by omega⟩ : Fin 48)) ?_ _ f ?_ fun _ => rfl).symm
  · intro a b e
    have e' : off + a.val = off + b.val := congrArg Fin.val e
    exact Fin.ext (by omega)
  · intro r hr
    refine hz r fun hw => hr ⟨⟨r.val - off, by omega⟩, Fin.ext ?_⟩
    show off + (r.val - off) = r.val
    omega

end Cert.Slots
-- ==== Proof.IdealSlots.lean ====
/- The hidden values of the kernel, slot by slot and place by place, over the extended reals. -/
module

public import proofs.«01_k».proof.Proof.IdealAdapter
public import proofs.«01_k».proof.Proof.Slots
public import Idealize.ShloMosaic.Lib.ValueIdx
public import Idealize.ShloMosaic.Lib.MatmulPlain
public import Idealize.ShloMosaic.Lib.IdealHost
public import Idealize.ShloMosaic.Lib.Pipeline.Value

@[expose] public section

set_option maxRecDepth 16384

noncomputable section

namespace Cert.KernelIdeal.Body

open Idealize.ShloMosaic Idealize.ShloMosaic.ValueIdx
open Cert.KernelIdeal.Gen Cert.Slots

/-! ## Words -/

theorem ofBool_one (p : Bool) : (BitVec.ofBool p = 1#1) ↔ p = true := by cases p <;> decide

theorem sge_one (a b : BitVec 32) : IntOp.cmpi .sge a b = 1#1 ↔ b.toInt ≤ a.toInt := by
  simp [IntOp.cmpi, ofBool_one, BitVec.sle]

theorem slt_one (a b : BitVec 32) : IntOp.cmpi .slt a b = 1#1 ↔ a.toInt < b.toInt := by
  simp [IntOp.cmpi, ofBool_one, BitVec.slt]

theorem eq_one (a b : BitVec 32) : IntOp.cmpi .eq a b = 1#1 ↔ a = b := by
  simp [IntOp.cmpi, ofBool_one]

theorem and_one (a b : BitVec 1) : IntOp.andi a b = 1#1 ↔ a = 1#1 ∧ b = 1#1 := by
  revert a b; decide

theorem small_toInt (n : Nat) (h : n < 2147483648) : (BitVec.ofNat 32 n).toInt = n := by
  rw [BitVec.toInt_ofNat', Int.bmod_eq_of_le] <;> omega

/-- The remainder by 16 of a small word. -/
theorem low4_eq (v : BitVec 32) (h : v.toNat < 368) : low4 v = BitVec.ofNat 32 (v.toNat % 16) := by
  have key : ∀ n : Fin 368, low4 (BitVec.ofNat 32 n.val) = BitVec.ofNat 32 (n.val % 16) := by decide +kernel
  have e := key ⟨v.toNat, h⟩
  simpa using e

/-- The slot of the first row of an adapter. -/
theorem slotWord_eq (st : Fin 5 → BitVec 32) (h : ∀ s, (st s).toNat < 368) (s : Fin 5) :
    slotWord st s = BitVec.ofNat 32 (48 * s.val + (st s).toNat % 16) := by
  show BitVec.ofNat 32 (48 * s.val) + low4 (st s) = _
  rw [low4_eq _ (h s), ← BitVec.ofNat_add]

/-- Row `t` is one of segment `s`. -/
def InSeg (lo hi : Fin 5 → BitVec 32) (t : Fin 256) (s : Fin 5) : Prop := (lo s).toInt ≤ t.val ∧ (t.val : Int) < (hi s).toInt

instance (lo hi : Fin 5 → BitVec 32) (t : Fin 256) (s : Fin 5) : Decidable (InSeg lo hi t s) := by
  unfold InSeg; infer_instance

/-- Where segment `s` writes: on its rows, at the slots of its adapter's rank. -/
theorem segMask_one (st lo hi rk : Fin 5 → BitVec 32) (h : ∀ s, (st s).toNat < 368) (hr : ∀ s, (rk s).toInt ≤ 32) (s : Fin 5) (t : Fin 256) (c : Fin 240) :
    segMask st lo hi rk s (ix2 t c) = 1#1
      ↔ InSeg lo hi t s ∧ 48 * s.val + (st s).toNat % 16 ≤ c.val ∧ (c.val : Int) < ((48 * s.val + (st s).toNat % 16 : Nat) : Int) + (rk s).toInt := by
  have hs : (slotWord st s).toInt = ((48 * s.val + (st s).toNat % 16 : Nat) : Int) := by
    rw [slotWord_eq st h, small_toInt _ (by omega)]
  have ha : (slotWord st s + rk s).toInt = ((48 * s.val + (st s).toNat % 16 : Nat) : Int) + (rk s).toInt := by
    have h1 := hr s
    have h2 : -2147483648 ≤ (rk s).toInt := BitVec.le_toInt (rk s)
    rw [BitVec.toInt_add, hs, Int.bmod_eq_of_le] <;> omega
  have i0 : iota .tc S256x240 32 [0] iota_S256x240_d0_w32 (ix2 t c) = BitVec.ofNat 32 t.val := iota_single_apply ..
  have i1 : iota .tc S256x240 32 [1] iota_S256x240_d1_w32 (ix2 t c) = BitVec.ofNat 32 c.val := iota_single_apply ..
  show IntOp.andi (IntOp.andi (IntOp.andi (IntOp.cmpi .sge (iota .tc S256x240 32 [0] iota_S256x240_d0_w32 (ix2 t c)) (lo s))
    (IntOp.cmpi .slt (iota .tc S256x240 32 [0] iota_S256x240_d0_w32 (ix2 t c)) (hi s)))
    (IntOp.cmpi .sge (iota .tc S256x240 32 [1] iota_S256x240_d1_w32 (ix2 t c)) (slotWord st s)))
    (IntOp.cmpi .slt (iota .tc S256x240 32 [1] iota_S256x240_d1_w32 (ix2 t c)) (slotWord st s + rk s)) = 1#1 ↔ _
  rw [i0, i1, and_one, and_one, and_one, sge_one, slt_one, sge_one, slt_one, hs, ha, small_toInt _ (by omega), small_toInt _ (by omega)]
  unfold InSeg
  constructor
  · rintro ⟨⟨⟨a, b⟩, c⟩, d⟩; exact ⟨⟨a, b⟩, by omega, d⟩
  · rintro ⟨⟨a, b⟩, c, d⟩; exact ⟨⟨⟨a, b⟩, by omega⟩, d⟩

/-- Choosing over a list of segments of which at most one is on at a place. -/
theorem fold_one {α : Type} (p : Fin 5 → Prop) [DecidablePred p] (f : Fin 5 → α) (z : α) (s : Fin 5) (h : ∀ s', p s' → s' = s) :
    ([0, 1, 2, 3, 4] : List (Fin 5)).foldl (fun acc s => if p s then f s else acc) z = if p s then f s else z := by
  have go : ∀ (l : List (Fin 5)) (z : α), s ∉ l → l.foldl (fun acc s => if p s then f s else acc) z = z := by
    intro l
    induction l with
    | nil => intro z _; rfl
    | cons a l ih =>
      intro z hm
      rw [List.foldl_cons, if_neg (fun ha => hm (by rw [h a ha]; exact List.mem_cons_self)), ih _ (fun hx => hm (List.mem_cons_of_mem _ hx))]
  have go2 : ∀ (l : List (Fin 5)) (z : α), l.Nodup → s ∈ l → l.foldl (fun acc s => if p s then f s else acc) z = if p s then f s else z := by
    intro l
    induction l with
    | nil => intro z _ hm; exact absurd hm List.not_mem_nil
    | cons a l ih =>
      intro z hn hm
      rw [List.foldl_cons]
      rcases List.mem_cons.mp hm with rfl | hm'
      · exact go _ _ (List.nodup_cons.mp hn).1
      · have hne : a ≠ s := fun e => (List.nodup_cons.mp hn).1 (e ▸ hm')
        rw [if_neg (fun ha => hne (h a ha)), ih _ (List.nodup_cons.mp hn).2 hm']
  exact go2 _ z (by decide) (by fin_cases s <;> decide)

/-- An entry of a chain of choices is a chain of choices of entries. -/
theorem fold_select {S : Shape} {α : Type} (l : List (Fin 5)) (c : Fin 5 → IVec S 1) (f : Fin 5 → S.Idx → α) (z : S.Idx → α) (i : S.Idx) :
    (l.foldl (fun acc s => select (c s) (f s) acc) z) i = l.foldl (fun acc s => if c s i = 1#1 then f s i else acc) (z i) := by
  induction l generalizing z with
  | nil => rfl
  | cons a l ih => rw [List.foldl_cons, List.foldl_cons, ih]; rfl

/-! ## Products -/

/-- A token against a row of a slab. -/
theorem slabDot_apply (X : Vec Ideal S256x2560 .bf16) (A : Fin 5 → Vec Ideal S48x2560 .bf16) (t : Fin 256) (s : Fin 5) (r : Fin 48) :
    slabDot (F := Ideal) X A (ix2 t ⟨48 * s.val + r.val, by omega⟩) = ∑ d : Fin 2560, X (ix2 t d) * A s (ix2 r d) := by
  unfold slabDot
  show FloatOps.matmul (F := Ideal) (φ₁ := .bf16) (φ₂ := .bf16) (DotDims.transposedRhs 256 2560 240) none _ _ _ (ix2 t _) = _
  rw [Ideal.matmul_transposedRhs_apply, constant_apply, Ideal.ofBits_zero_f32, zero_add, shapeCast_self]
  refine Finset.sum_congr rfl fun d _ => congrArg (X (ix2 t d) * ·) ?_
  have hc : ∀ b : Fin 2, b ≠ 0 → ((ix2 r d : S48x2560.Idx) b).val = ((ix2 (⟨48 * s.val + r.val, by omega⟩ : Fin 240) d : S240x2560.Idx) b).val :=
    fun b hb => by match b with | ⟨0, _⟩ => exact absurd rfl hb | ⟨1, _⟩ => rfl
  fin_cases s
  · exact concatenate_apply_piece (t := S240x2560) 0 _ _ _ 0 (by simp) S48x2560 (A 0) rfl rfl 0 (by simp) (ix2 r d) hc rfl
  · exact concatenate_apply_piece (t := S240x2560) 0 _ _ _ 1 (by simp) S48x2560 (A 1) rfl rfl 48 (by simp) (ix2 r d) hc rfl
  · exact concatenate_apply_piece (t := S240x2560) 0 _ _ _ 2 (by simp) S48x2560 (A 2) rfl rfl 96 (by simp) (ix2 r d) hc rfl
  · exact concatenate_apply_piece (t := S240x2560) 0 _ _ _ 3 (by simp) S48x2560 (A 3) rfl rfl 144 (by simp) (ix2 r d) hc rfl
  · exact concatenate_apply_piece (t := S240x2560) 0 _ _ _ 4 (by simp) S48x2560 (A 4) rfl rfl 192 (by simp) (ix2 r d) hc rfl

/-- A hidden value by slot. -/
theorem hkOf_apply (X : Vec Ideal S256x2560 .bf16) (A : Fin 5 → Vec Ideal S48x2560 .bf16) (st lo hi rk : Fin 5 → BitVec 32) (sc : Fin 5 → EReal)
    (h : ∀ s, (st s).toNat < 368) (hr : ∀ s, (rk s).toInt ≤ 32) (t : Fin 256) (s : Fin 5) (r : Fin 48) :
    hkOf (F := Ideal) X A st lo hi rk sc (ix2 t ⟨48 * s.val + r.val, by omega⟩)
      = if InSeg lo hi t s ∧ (st s).toNat % 16 ≤ r.val ∧ (r.val : Int) < ((st s).toNat % 16 : Nat) + (rk s).toInt
          then (∑ d : Fin 2560, X (ix2 t d) * A s (ix2 r d)) * sc s else 0 := by
  have e := fold_select ([0, 1, 2, 3, 4] : List (Fin 5)) (segMask st lo hi rk) (fun s => mulf (F := Ideal) (slabDot X A) (broadcast S256x240 (sc s)))
    (broadcast S256x240 (Scalar.ofBits (F := Ideal) .f32 0x00000000#32)) (ix2 t ⟨48 * s.val + r.val, by omega⟩)
  refine e.trans ?_
  rw [fold_one (fun s' => segMask st lo hi rk s' (ix2 t ⟨48 * s.val + r.val, by omega⟩) = 1#1) _ _ s ?_]
  · refine if_congr ?_ ?_ ?_
    · rw [segMask_one st lo hi rk h hr]
      constructor
      · rintro ⟨a, b, c⟩
        refine ⟨a, ?_, ?_⟩
        · have : 48 * s.val + (st s).toNat % 16 ≤ 48 * s.val + r.val := b
          omega
        · have : ((48 * s.val + r.val : Nat) : Int) < ((48 * s.val + (st s).toNat % 16 : Nat) : Int) + (rk s).toInt := c
          omega
      · rintro ⟨a, b, c⟩
        refine ⟨a, ?_, ?_⟩
        · show 48 * s.val + (st s).toNat % 16 ≤ 48 * s.val + r.val
          omega
        · show ((48 * s.val + r.val : Nat) : Int) < ((48 * s.val + (st s).toNat % 16 : Nat) : Int) + (rk s).toInt
          omega
    · exact congrArg (· * sc s) (slabDot_apply X A t s r)
    · exact Ideal.ofBits_zero_f32
  · intro s' hs'
    obtain ⟨_, b, c⟩ := (segMask_one st lo hi rk h hr s' t _).mp hs'
    have b' : 48 * s'.val + (st s').toNat % 16 ≤ 48 * s.val + r.val := b
    have c' : ((48 * s.val + r.val : Nat) : Int) < ((48 * s'.val + (st s').toNat % 16 : Nat) : Int) + (rk s').toInt := c
    have := hr s'
    exact Fin.ext (by omega)

/-- The matrix taking slots to places. -/
theorem slotSel_apply (st : Fin 5 → BitVec 32) (h : ∀ s, (st s).toNat < 368) (s : Fin 5) (r : Fin 48) (k : Fin 32) :
    slotSel (F := Ideal) st (ix2 ⟨48 * s.val + r.val, by omega⟩ k) = if r.val = (st s).toNat % 16 + k.val then 1 else 0 := by
  have e := fold_select ([0, 1, 2, 3, 4] : List (Fin 5)) (fun s => cmpi .eq (iota .tc S240x32 32 [0] iota_S240x32_d0_w32)
        (addi (iota .tc S240x32 32 [1] iota_S240x32_d1_w32) (broadcast S240x32 (slotWord st s))))
    (fun _ => broadcast S240x32 (Scalar.ofBits (F := Ideal) .f32 0x3F800000#32))
    (broadcast S240x32 (Scalar.ofBits (F := Ideal) .f32 0x00000000#32)) (ix2 ⟨48 * s.val + r.val, by omega⟩ k)
  refine e.trans ?_
  have hm : ∀ s' : Fin 5, cmpi .eq (iota .tc S240x32 32 [0] iota_S240x32_d0_w32)
        (addi (iota .tc S240x32 32 [1] iota_S240x32_d1_w32) (broadcast S240x32 (slotWord st s'))) (ix2 ⟨48 * s.val + r.val, by omega⟩ k) = 1#1
      ↔ 48 * s.val + r.val = k.val + (48 * s'.val + (st s').toNat % 16) := by
    intro s'
    have i0 : iota .tc S240x32 32 [0] iota_S240x32_d0_w32 (ix2 ⟨48 * s.val + r.val, by omega⟩ k) = BitVec.ofNat 32 (48 * s.val + r.val) :=
      iota_single_apply ..
    have i1 : iota .tc S240x32 32 [1] iota_S240x32_d1_w32 (ix2 ⟨48 * s.val + r.val, by omega⟩ k) = BitVec.ofNat 32 k.val := iota_single_apply ..
    show IntOp.cmpi .eq (iota .tc S240x32 32 [0] iota_S240x32_d0_w32 (ix2 ⟨48 * s.val + r.val, by omega⟩ k))
      (iota .tc S240x32 32 [1] iota_S240x32_d1_w32 (ix2 ⟨48 * s.val + r.val, by omega⟩ k) + slotWord st s') = 1#1 ↔ _
    rw [i0, i1, eq_one, slotWord_eq st h, ← BitVec.ofNat_add]
    constructor
    · intro e
      have := congrArg BitVec.toNat e
      rw [BitVec.toNat_ofNat, BitVec.toNat_ofNat, Nat.mod_eq_of_lt (by omega), Nat.mod_eq_of_lt (by omega)] at this
      exact this
    · intro e; rw [e]
  rw [fold_one (fun s' => cmpi .eq (iota .tc S240x32 32 [0] iota_S240x32_d0_w32)
        (addi (iota .tc S240x32 32 [1] iota_S240x32_d1_w32) (broadcast S240x32 (slotWord st s'))) (ix2 ⟨48 * s.val + r.val, by omega⟩ k) = 1#1) _ _ s ?_]
  · refine if_congr ?_ Ideal.ofBits_one_f32 Ideal.ofBits_zero_f32
    rw [hm]
    omega
  · intro s' hs'
    have := (hm s').mp hs'
    exact Fin.ext (by omega)

/-- The hidden value of place `k` of segment `s`'s adapter at row `t`: the token against the adapter's row, scaled, on the
    segment's rows and below the rank. -/
def place (X : Vec Ideal S256x2560 .bf16) (A : Fin 5 → Vec Ideal S48x2560 .bf16) (st lo hi rk : Fin 5 → BitVec 32) (sc : Fin 5 → EReal)
    (t : Fin 256) (s : Fin 5) (k : Fin 32) : EReal :=
  if InSeg lo hi t s ∧ (k.val : Int) < (rk s).toInt
    then (∑ d : Fin 2560, X (ix2 t d) * A s (ix2 ⟨(st s).toNat % 16 + k.val, by omega⟩ d)) * sc s else 0

/-- The slot of a place holds the place's value. -/
theorem hkOf_place (X : Vec Ideal S256x2560 .bf16) (A : Fin 5 → Vec Ideal S48x2560 .bf16) (st lo hi rk : Fin 5 → BitVec 32) (sc : Fin 5 → EReal)
    (h : ∀ s, (st s).toNat < 368) (hr : ∀ s, (rk s).toInt ≤ 32) (t : Fin 256) (s : Fin 5) (k : Fin 32) :
    hkOf (F := Ideal) X A st lo hi rk sc (ix2 t ⟨48 * s.val + ((st s).toNat % 16 + k.val), by omega⟩) = place X A st lo hi rk sc t s k := by
  refine (hkOf_apply X A st lo hi rk sc h hr t s ⟨(st s).toNat % 16 + k.val, by omega⟩).trans ?_
  unfold place
  refine if_congr ?_ rfl rfl
  constructor
  · rintro ⟨a, b, c⟩
    have : (((st s).toNat % 16 + k.val : Nat) : Int) < ((st s).toNat % 16 : Nat) + (rk s).toInt := c
    exact ⟨a, by omega⟩
  · rintro ⟨a, b⟩
    refine ⟨a, ?_, ?_⟩
    · show (st s).toNat % 16 ≤ (st s).toNat % 16 + k.val
      omega
    · show (((st s).toNat % 16 + k.val : Nat) : Int) < ((st s).toNat % 16 : Nat) + (rk s).toInt
      omega

/-- A sum over slots is a sum over places. -/
theorem sum_hkOf (X : Vec Ideal S256x2560 .bf16) (A : Fin 5 → Vec Ideal S48x2560 .bf16) (st lo hi rk : Fin 5 → BitVec 32) (sc : Fin 5 → EReal)
    (h : ∀ s, (st s).toNat < 368) (hr : ∀ s, (rk s).toInt ≤ 32) (t : Fin 256) (b : Fin 240 → EReal) :
    ∑ c : Fin 240, hkOf (F := Ideal) X A st lo hi rk sc (ix2 t c) * b c
      = ∑ s : Fin 5, ∑ k : Fin 32, place X A st lo hi rk sc t s k * b ⟨48 * s.val + ((st s).toNat % 16 + k.val), by omega⟩ := by
  rw [sum_slots]
  refine Finset.sum_congr rfl fun s _ => ?_
  rw [sum_window ((st s).toNat % 16) (by omega)]
  · exact Finset.sum_congr rfl fun k _ => congrArg (· * b ⟨48 * s.val + ((st s).toNat % 16 + k.val), by omega⟩) (hkOf_place X A st lo hi rk sc h hr t s k)
  · intro r hw
    rw [hkOf_apply X A st lo hi rk sc h hr, if_neg, zero_mul]
    rintro ⟨_, b1, c1⟩
    have := hr s
    exact hw ⟨b1, by omega⟩

/-- A hidden value by place. -/
theorem hOf_apply (X : Vec Ideal S256x2560 .bf16) (A : Fin 5 → Vec Ideal S48x2560 .bf16) (st lo hi rk : Fin 5 → BitVec 32) (sc : Fin 5 → EReal)
    (h : ∀ s, (st s).toNat < 368) (hr : ∀ s, (rk s).toInt ≤ 32) (t : Fin 256) (k : Fin 32) :
    hOf (F := Ideal) X A st lo hi rk sc (ix2 t k) = ∑ s : Fin 5, place X A st lo hi rk sc t s k := by
  have key : ∀ (hk : Vec Ideal S256x240 .bf16) (sel : Vec Ideal S240x32 .bf16),
      matmul (F := Ideal) (φ₁ := .bf16) (φ₂ := .bf16) dot_S256x240_S240x32_S256x32_1_0_0_1_n_n none hk sel (constant S256x32 .f32 0x00000000#32) (ix2 t k)
        = ∑ c : Fin 240, hk (ix2 t c) * sel (ix2 c k) := by
    intro hk sel
    show FloatOps.matmul (F := Ideal) (φ₁ := .bf16) (φ₂ := .bf16) (DotDims.plain 256 240 32) none hk sel _ (ix2 t k) = _
    rw [Ideal.matmul_plain_apply, constant_apply, Ideal.ofBits_zero_f32, zero_add]
  refine (key (hkOf X A st lo hi rk sc) (slotSel (F := Ideal) st)).trans ?_
  rw [sum_hkOf X A st lo hi rk sc h hr]
  refine Finset.sum_congr rfl fun s _ => ?_
  have e : ∀ k' : Fin 32, slotSel (F := Ideal) st (ix2 ⟨48 * s.val + ((st s).toNat % 16 + k'.val), by omega⟩ k) = if k' = k then 1 else 0 := by
    intro k'
    refine (slotSel_apply st h s ⟨(st s).toNat % 16 + k'.val, by omega⟩ k).trans (if_congr ?_ rfl rfl)
    show (st s).toNat % 16 + k'.val = (st s).toNat % 16 + k.val ↔ _
    rw [Fin.ext_iff]
    omega
  rw [Finset.sum_eq_single k]
  · rw [e, if_pos rfl, mul_one]
  · intro k' _ hk; rw [e, if_neg hk, mul_zero]
  · intro hk; exact absurd (Finset.mem_univ k) hk

end Cert.KernelIdeal.Body

end
-- ==== Proof.RefLora.lean ====
/- The reference's adapters, element by element, over the extended reals: which places of an adapter are live at a row,
   the hidden value of a live place, and the two sums of hidden values. -/
module

public import proofs.«01_k».proof.Proof.RefBase
public import proofs.«01_k».proof.Proof.IdealSlots

@[expose] public section

set_option maxRecDepth 16384

noncomputable section

namespace Cert.ReferenceIdeal.Value

open Cert.ReferenceIdeal Cert.ReferenceIdeal.Gen Idealize.ShloMosaic Idealize.ShloMosaic.ValueIdx
open Cert.Gathers Cert.Nibble
open Cert.KernelIdeal.Body (InSeg and_one sge_one slt_one small_toInt)
open scoped BigOperators

/-! ## Lookups -/

/-- The indices of the segments' adapters, negative ones counted from the end. -/
def pickR (ad : IVec S5 32) : IVec S5x1 32 :=
  broadcastInDim S5x1 ![0] bcast_S5_S5x1_0 (select (cmpi .slt ad (broadcastInDim S5 ![] bcast_S_S5 (constantI S_ 32 0#32))) (addi ad (broadcastInDim S5 ![] bcast_S_S5 (constantI S_ 32 9#32))) ad)

/-- The entry each segment's adapter has in a table of nine. -/
def lookupR {A : Type} (tab : S9.Idx → A) (ad : IVec S5 32) : S5.Idx → A := Host.gather gather_S9_S5x1_S5_n_0_n_n_0_1_1 tab (pickR ad)

theorem slt_zero (v : BitVec 32) (h : v.toNat < 2147483648) : IntOp.cmpi .slt v 0#32 ≠ 1#1 := by
  rw [Ne, slt_one, BitVec.toInt_eq_toNat_of_lt (by omega)]
  show ¬ ((v.toNat : Int) < 0)
  omega

/-- An entry looked up. -/
theorem lookupR_apply {A : Type} (tab : S9.Idx → A) (ad : IVec S5 32) (q : Fin 5) (h : (ad (ix1 q)).toNat < 9) :
    lookupR tab ad (ix1 q) = tab (ix1 ⟨(ad (ix1 q)).toNat, h⟩) := by
  have e : pickR ad (ix2 q 0) = ad (ix1 q) := by
    unfold pickR
    rw [broadcastInDim_apply _ _ _ _ (ix1 q) (fun a => by match a with | ⟨0, _⟩ => rfl)]
    exact if_neg (slt_zero _ (by omega))
  refine (words_apply (N := 9) (R := 5) (by omega) gather_S9_S5x1_S5_n_0_n_n_0_1_1_wf tab (pickR ad) q).trans ?_
  refine congrArg (fun i => tab (ix1 i)) (Fin.ext ?_)
  show min (pickR ad (ix2 q 0)).toInt.toNat (9 - 1) = (ad (ix1 q)).toNat
  rw [e, BitVec.toInt_eq_toNat_of_lt (by omega)]
  omega

/-- The pool row of each place of each segment's adapter. -/
def rowsR (st : IVec S5 32) : IVec S5x32 32 :=
  addi (broadcastInDim S5x32 ![0, 1] bcast_S5x1_S5x32_0_1 (broadcastInDim S5x1 ![0] bcast_S5_S5x1_0 st)) (broadcastInDim S5x32 ![0, 1] bcast_S1x32_S5x32_0_1 (broadcastInDim S1x32 ![1] bcast_S32_S1x32_1 (iotaInDim S32 32 0)))

theorem rowsR_apply (st : IVec S5 32) (q : Fin 5) (k : Fin 32) : rowsR st (ix2 q k) = st (ix1 q) + BitVec.ofNat 32 k.val := by
  have e1 : broadcastInDim S5x32 ![0, 1] bcast_S5x1_S5x32_0_1 (broadcastInDim S5x1 ![0] bcast_S5_S5x1_0 st) (ix2 q k) = st (ix1 q) :=
    (broadcastInDim_apply _ _ _ _ (ix2 q (0 : Fin 1)) (fun a => by match a with | ⟨0, _⟩ => rfl | ⟨1, _⟩ => rfl)).trans
      (broadcastInDim_apply _ _ _ _ (ix1 q) (fun a => by match a with | ⟨0, _⟩ => rfl))
  have e2 : broadcastInDim S5x32 ![0, 1] bcast_S1x32_S5x32_0_1 (broadcastInDim S1x32 ![1] bcast_S32_S1x32_1 (iotaInDim S32 32 0)) (ix2 q k) = BitVec.ofNat 32 k.val :=
    (broadcastInDim_apply _ _ _ _ (ix2 (0 : Fin 1) k) (fun a => by match a with | ⟨0, _⟩ => rfl | ⟨1, _⟩ => rfl)).trans
      (broadcastInDim_apply _ _ _ _ (ix1 k) (fun a => by match a with | ⟨0, _⟩ => rfl))
  exact congrArg₂ (· + ·) e1 e2

/-- The same as indices into a pool of 400 rows, negative ones counted from the end. -/
def wrapR (rows : IVec S5x32 32) : IVec S5x32x1 32 :=
  broadcastInDim S5x32x1 ![0, 1] bcast_S5x32_S5x32x1_0_1 (select (cmpi .slt rows (broadcastInDim S5x32 ![] bcast_S_S5x32 (constantI S_ 32 0#32))) (addi rows (broadcastInDim S5x32 ![] bcast_S_S5x32 (constantI S_ 32 400#32))) rows)

theorem wrapR_nat (st : IVec S5 32) (q : Fin 5) (k : Fin 32) (h : (st (ix1 q)).toNat < 368) :
    min (wrapR (rowsR st) (ix3 q k 0)).toInt.toNat (400 - 1) = (st (ix1 q)).toNat + k.val := by
  have hn : (rowsR st (ix2 q k)).toNat = (st (ix1 q)).toNat + k.val := by
    rw [rowsR_apply, BitVec.toNat_add, BitVec.toNat_ofNat]
    omega
  have e : wrapR (rowsR st) (ix3 q k 0) = rowsR st (ix2 q k) := by
    unfold wrapR
    rw [broadcastInDim_apply _ _ _ _ (ix2 q k) (fun a => by match a with | ⟨0, _⟩ => rfl | ⟨1, _⟩ => rfl)]
    exact if_neg (slt_zero _ (by omega))
  rw [e, BitVec.toInt_eq_toNat_of_lt (by omega), hn]
  omega

/-! ## Live places -/

/-- The bounds of the segments, spread over rows and segments. -/
def boundR (b : IVec S5 32) : IVec S256x5 32 := broadcastInDim S256x5 ![0, 1] bcast_S1x5_S256x5_0_1 (broadcastInDim S1x5 ![1] bcast_S5_S1x5_1 b)

/-- The row numbers, spread the same way. -/
def rowR : IVec S256x5 32 := broadcastInDim S256x5 ![0, 1] bcast_S256x1_S256x5_0_1 (broadcastInDim S256x1 ![0] bcast_S256_S256x1_0 (iotaInDim S256 32 0))

theorem boundR_apply (b : IVec S5 32) (t : Fin 256) (q : Fin 5) : boundR b (ix2 t q) = b (ix1 q) :=
  (broadcastInDim_apply _ _ _ _ (ix2 (0 : Fin 1) q) (fun a => by match a with | ⟨0, _⟩ => rfl | ⟨1, _⟩ => rfl)).trans
    (broadcastInDim_apply _ _ _ _ (ix1 q) (fun a => by match a with | ⟨0, _⟩ => rfl))

theorem rowR_apply (t : Fin 256) (q : Fin 5) : rowR (ix2 t q) = BitVec.ofNat 32 t.val :=
  (broadcastInDim_apply _ _ _ _ (ix2 t (0 : Fin 1)) (fun a => by match a with | ⟨0, _⟩ => rfl | ⟨1, _⟩ => rfl)).trans
    (broadcastInDim_apply _ _ _ _ (ix1 t) (fun a => by match a with | ⟨0, _⟩ => rfl))

/-- Which places are live: those of the rows' own segment, below its adapter's rank. -/
def liveR (lo hi rk : IVec S5 32) : IVec S256x5x32 1 :=
  andi (broadcastInDim S256x5x32 ![0, 1, 2] bcast_S256x5x1_S256x5x32_0_1_2 (broadcastInDim S256x5x1 ![0, 1] bcast_S256x5_S256x5x1_0_1 (andi (cmpi .sge rowR (boundR lo)) (cmpi .slt rowR (boundR hi)))))
    (broadcastInDim S256x5x32 ![0, 1, 2] bcast_S1x5x32_S256x5x32_0_1_2 (broadcastInDim S1x5x32 ![1, 2] bcast_S5x32_S1x5x32_1_2 (cmpi .slt (broadcastInDim S5x32 ![0, 1] bcast_S1x32_S5x32_0_1 (broadcastInDim S1x32 ![1] bcast_S32_S1x32_1 (iotaInDim S32 32 0))) (broadcastInDim S5x32 ![0, 1] bcast_S5x1_S5x32_0_1 (broadcastInDim S5x1 ![0] bcast_S5_S5x1_0 rk)))))

theorem liveR_one (lo hi rk : IVec S5 32) (t : Fin 256) (q : Fin 5) (k : Fin 32) :
    liveR lo hi rk (ix3 t q k) = 1#1
      ↔ InSeg (fun s => lo (ix1 s)) (fun s => hi (ix1 s)) t q ∧ (k.val : Int) < (rk (ix1 q)).toInt := by
  have e1 : broadcastInDim S256x5x32 ![0, 1, 2] bcast_S256x5x1_S256x5x32_0_1_2 (broadcastInDim S256x5x1 ![0, 1] bcast_S256x5_S256x5x1_0_1 (andi (cmpi .sge rowR (boundR lo)) (cmpi .slt rowR (boundR hi)))) (ix3 t q k)
      = IntOp.andi (IntOp.cmpi .sge (rowR (ix2 t q)) (boundR lo (ix2 t q))) (IntOp.cmpi .slt (rowR (ix2 t q)) (boundR hi (ix2 t q))) :=
    (broadcastInDim_apply _ _ _ _ (ix3 t q (0 : Fin 1)) (fun a => by match a with | ⟨0, _⟩ => rfl | ⟨1, _⟩ => rfl | ⟨2, _⟩ => rfl)).trans
      (broadcastInDim_apply _ _ _ _ (ix2 t q) (fun a => by match a with | ⟨0, _⟩ => rfl | ⟨1, _⟩ => rfl))
  have ek : broadcastInDim S5x32 ![0, 1] bcast_S1x32_S5x32_0_1 (broadcastInDim S1x32 ![1] bcast_S32_S1x32_1 (iotaInDim S32 32 0)) (ix2 q k) = BitVec.ofNat 32 k.val :=
    (broadcastInDim_apply _ _ _ _ (ix2 (0 : Fin 1) k) (fun a => by match a with | ⟨0, _⟩ => rfl | ⟨1, _⟩ => rfl)).trans
      (broadcastInDim_apply _ _ _ _ (ix1 k) (fun a => by match a with | ⟨0, _⟩ => rfl))
  have er : broadcastInDim S5x32 ![0, 1] bcast_S5x1_S5x32_0_1 (broadcastInDim S5x1 ![0] bcast_S5_S5x1_0 rk) (ix2 q k) = rk (ix1 q) :=
    (broadcastInDim_apply _ _ _ _ (ix2 q (0 : Fin 1)) (fun a => by match a with | ⟨0, _⟩ => rfl | ⟨1, _⟩ => rfl)).trans
      (broadcastInDim_apply _ _ _ _ (ix1 q) (fun a => by match a with | ⟨0, _⟩ => rfl))
  have e2 : broadcastInDim S256x5x32 ![0, 1, 2] bcast_S1x5x32_S256x5x32_0_1_2 (broadcastInDim S1x5x32 ![1, 2] bcast_S5x32_S1x5x32_1_2 (cmpi .slt (broadcastInDim S5x32 ![0, 1] bcast_S1x32_S5x32_0_1 (broadcastInDim S1x32 ![1] bcast_S32_S1x32_1 (iotaInDim S32 32 0))) (broadcastInDim S5x32 ![0, 1] bcast_S5x1_S5x32_0_1 (broadcastInDim S5x1 ![0] bcast_S5_S5x1_0 rk)))) (ix3 t q k)
      = IntOp.cmpi .slt (BitVec.ofNat 32 k.val) (rk (ix1 q)) :=
    ((broadcastInDim_apply _ _ _ _ (ix3 (0 : Fin 1) q k) (fun a => by match a with | ⟨0, _⟩ => rfl | ⟨1, _⟩ => rfl | ⟨2, _⟩ => rfl)).trans
      (broadcastInDim_apply _ _ _ _ (ix2 q k) (fun a => by match a with | ⟨0, _⟩ => rfl | ⟨1, _⟩ => rfl))).trans
      (congrArg₂ (IntOp.cmpi .slt) ek er)
  refine (iff_of_eq (congrArg (· = 1#1) (congrArg₂ IntOp.andi e1 e2))).trans ?_
  rw [rowR_apply, boundR_apply, boundR_apply, and_one, and_one, sge_one, slt_one, slt_one, small_toInt _ (by omega), small_toInt _ (by omega)]
  rfl

/-! ## Hidden values -/

/-- The hidden values of all places of all segments' adapters, zero where not live. -/
def hiddenR (X : Vec Ideal S256x2560 .bf16) (PA : Vec Ideal S400x2560 .bf16) (st lo hi rk : IVec S5 32) (sc : Vec Ideal S5 .f32) : FVec Ideal S256x5x32 .bf16 :=
  select (liveR lo hi rk)
    (truncf (F := Ideal) .bf16 (mulf (Host.dotGeneral (F := Ideal) (φ₁ := .bf16) (φ₂ := .bf16) dot_S256x2560_S5x32x2560_S256x5x32_1_2_0_01_n_n none X (Host.gather gather_S400x2560_S5x32x1_S5x32x2560_2_0_n_n_0_2_12560 PA (wrapR (rowsR st))))
      (broadcastInDim S256x5x32 ![0, 1, 2] bcast_S1x5x1_S256x5x32_0_1_2 (broadcastInDim S1x5x1 ![1, 2] bcast_S5x1_S1x5x1_1_2 (broadcastInDim S5x1 ![0] bcast_S5_S5x1_0 sc)))) bitsLt_bf16_f32)
    (broadcastInDim S256x5x32 ![] bcast_S_S256x5x32 (constant S_ .bf16 0x0000#16))

/-- The reference's hidden values are these. -/
theorem hiddenR_eq (L : Valuation τ sig (Elt Ideal)) :
    res_main_v210 (F := Ideal) L = hiddenR (res_main_v0 (F := Ideal) L) (L (Proc.devRef .tc main_arg3)) (lookupR (L (Proc.devRef .tc main_arg5)) (L (Proc.devRef .tc main_arg9)))
      (extractStridedSlice S5 ![0] (L (Proc.devRef .tc main_arg8)) slices_S6_S5_0) (extractStridedSlice S5 ![1] (L (Proc.devRef .tc main_arg8)) slices_S6_S5_1)
      (lookupR (L (Proc.devRef .tc main_arg6)) (L (Proc.devRef .tc main_arg9))) (lookupR (L (Proc.devRef .tc main_arg7)) (L (Proc.devRef .tc main_arg9))) := rfl

/-- A hidden value. -/
theorem hiddenR_apply (X : Vec Ideal S256x2560 .bf16) (PA : Vec Ideal S400x2560 .bf16) (st lo hi rk : IVec S5 32) (sc : Vec Ideal S5 .f32)
    (h : ∀ s : Fin 5, (st (ix1 s)).toNat < 368) (t : Fin 256) (q : Fin 5) (k : Fin 32) :
    hiddenR X PA st lo hi rk sc (ix3 t q k)
      = if InSeg (fun s => lo (ix1 s)) (fun s => hi (ix1 s)) t q ∧ (k.val : Int) < (rk (ix1 q)).toInt
          then (∑ d : Fin 2560, X (ix2 t d) * PA (ix2 ⟨(st (ix1 q)).toNat + k.val, by have := h q; omega⟩ d)) * sc (ix1 q) else 0 := by
  have e1 : Host.dotGeneral (F := Ideal) (φ₁ := .bf16) (φ₂ := .bf16) dot_S256x2560_S5x32x2560_S256x5x32_1_2_0_01_n_n none X (Host.gather gather_S400x2560_S5x32x1_S5x32x2560_2_0_n_n_0_2_12560 PA (wrapR (rowsR st))) (ix3 t q k)
      = ∑ d : Fin 2560, X (ix2 t d) * PA (ix2 ⟨(st (ix1 q)).toNat + k.val, by have := h q; omega⟩ d) := by
    refine (stack_apply (M := 256) (K := 2560) (Q := 5) (R := 32) (φ₁ := .bf16) (φ₂ := .bf16) dot_S256x2560_S5x32x2560_S256x5x32_1_2_0_01_n_n_wf X _ t q k).trans ?_
    refine Finset.sum_congr rfl fun d _ => congrArg (X (ix2 t d) * ·) ?_
    refine (rows_apply (N := 400) (C := 2560) (Q := 5) (R := 32) (by omega) gather_S400x2560_S5x32x1_S5x32x2560_2_0_n_n_0_2_12560_wf PA (wrapR (rowsR st)) q k d).trans ?_
    exact congrArg (fun i => PA (ix2 i d)) (Fin.ext (wrapR_nat st q k (h q)))
  have e2 : broadcastInDim S256x5x32 ![0, 1, 2] bcast_S1x5x1_S256x5x32_0_1_2 (broadcastInDim S1x5x1 ![1, 2] bcast_S5x1_S1x5x1_1_2 (broadcastInDim S5x1 ![0] bcast_S5_S5x1_0 sc)) (ix3 t q k) = sc (ix1 q) :=
    ((broadcastInDim_apply _ _ _ _ (ix3 (0 : Fin 1) q (0 : Fin 1)) (fun a => by match a with | ⟨0, _⟩ => rfl | ⟨1, _⟩ => rfl | ⟨2, _⟩ => rfl)).trans
      (broadcastInDim_apply _ _ _ _ (ix2 q (0 : Fin 1)) (fun a => by match a with | ⟨0, _⟩ => rfl | ⟨1, _⟩ => rfl))).trans
      (broadcastInDim_apply _ _ _ _ (ix1 q) (fun a => by match a with | ⟨0, _⟩ => rfl))
  show (if liveR lo hi rk (ix3 t q k) = 1#1 then
      Host.dotGeneral (F := Ideal) (φ₁ := .bf16) (φ₂ := .bf16) dot_S256x2560_S5x32x2560_S256x5x32_1_2_0_01_n_n none X (Host.gather gather_S400x2560_S5x32x1_S5x32x2560_2_0_n_n_0_2_12560 PA (wrapR (rowsR st))) (ix3 t q k)
        * broadcastInDim S256x5x32 ![0, 1, 2] bcast_S1x5x1_S256x5x32_0_1_2 (broadcastInDim S1x5x1 ![1, 2] bcast_S5x1_S1x5x1_1_2 (broadcastInDim S5x1 ![0] bcast_S5_S5x1_0 sc)) (ix3 t q k)
    else Ideal.ofBits .bf16 0x0000#16) = _
  rw [e1, e2]
  exact if_congr (liveR_one lo hi rk t q k) rfl Ideal.ofBits_zero_bf16

/-! ## The two results -/

/-- The second result: the hidden values of a place summed over the segments. -/
theorem hsum_apply (H : FVec Ideal S256x5x32 .bf16) (t : Fin 256) (k : Fin 32) :
    truncf (F := Ideal) .bf16 (Host.reduceAdd (F := Ideal) (extf .f32 H bitsLt_bf16_f32) (constant S_ .f32 0x00000000#32) reducesTo_S256x5x32_S256x32_d1 h_S_) bitsLt_bf16_f32 (ix2 t k)
      = ∑ q : Fin 5, H (ix3 t q k) := by
  have hr : S256x5x32.Reduces [1] S256x32 := by decide
  show Host.reduceAdd (F := Ideal) (φ := .f32) H (constant S_ .f32 0x00000000#32) reducesTo_S256x5x32_S256x32_d1 h_S_ (ix2 t k) = _
  rw [hostReduceAdd_apply, Ideal.hostReduceAdd_single _ hr, constant_apply, Ideal.ofBits_zero_f32, zero_add]
  refine Finset.sum_congr rfl fun q _ => congrArg H ?_
  funext a
  apply Fin.ext
  match a with
  | ⟨0, _⟩ => rfl
  | ⟨1, _⟩ => rfl
  | ⟨2, _⟩ => rfl

/-- The adapters' part of the first result: the hidden values against the adapters' rows of the second pool. -/
theorem delta_apply (H : FVec Ideal S256x5x32 .bf16) (PB : Vec Ideal S400x10240 .bf16) (st : IVec S5 32)
    (h : ∀ s : Fin 5, (st (ix1 s)).toNat < 368) (t : Fin 256) (n : Fin 10240) :
    Host.dotGeneral (F := Ideal) (φ₁ := .bf16) (φ₂ := .bf16) dot_S256x5x32_S5x32x10240_S256x10240_21_10_0_2_n_n none H (Host.gather gather_S400x10240_S5x32x1_S5x32x10240_2_0_n_n_0_2_110240 PB (wrapR (rowsR st))) (ix2 t n)
      = ∑ q : Fin 5, ∑ k : Fin 32, H (ix3 t q k) * PB (ix2 ⟨(st (ix1 q)).toNat + k.val, by have := h q; omega⟩ n) := by
  refine (places_apply (M := 256) (Q := 5) (R := 32) (N := 10240) (φ₁ := .bf16) (φ₂ := .bf16) dot_S256x5x32_S5x32x10240_S256x10240_21_10_0_2_n_n_wf H _ t n).trans ?_
  refine Finset.sum_congr rfl fun q _ => Finset.sum_congr rfl fun k _ => congrArg (H (ix3 t q k) * ·) ?_
  refine (rows_apply (N := 400) (C := 10240) (Q := 5) (R := 32) (by omega) gather_S400x10240_S5x32x1_S5x32x10240_2_0_n_n_0_2_110240_wf PB (wrapR (rowsR st)) q k n).trans ?_
  exact congrArg (fun i => PB (ix2 i n)) (Fin.ext (wrapR_nat st q k (h q)))

/-- The tokens as 256 rows. -/
abbrev X0 (L : Valuation τ sig (Elt Ideal)) : Vec Ideal S256x2560 .bf16 := shapeCast S256x2560 (L (Proc.devRef .tc main_arg0)) shapeCasts_S2x128x2560_S256x2560
/-- The segments' start words. -/
abbrev st0 (L : Valuation τ sig (Elt Ideal)) : IVec S5 32 := lookupR (L (Proc.devRef .tc main_arg5)) (L (Proc.devRef .tc main_arg9))
/-- The segments' first rows. -/
abbrev lo0 (L : Valuation τ sig (Elt Ideal)) : IVec S5 32 := extractStridedSlice S5 ![0] (L (Proc.devRef .tc main_arg8)) slices_S6_S5_0
/-- The rows after the segments' last. -/
abbrev hi0 (L : Valuation τ sig (Elt Ideal)) : IVec S5 32 := extractStridedSlice S5 ![1] (L (Proc.devRef .tc main_arg8)) slices_S6_S5_1
/-- The segments' ranks. -/
abbrev rk0 (L : Valuation τ sig (Elt Ideal)) : IVec S5 32 := lookupR (L (Proc.devRef .tc main_arg6)) (L (Proc.devRef .tc main_arg9))
/-- The segments' scales. -/
abbrev sc0 (L : Valuation τ sig (Elt Ideal)) : Vec Ideal S5 .f32 := lookupR (L (Proc.devRef .tc main_arg7)) (L (Proc.devRef .tc main_arg9))
/-- The hidden values at a launch. -/
abbrev hid0 (L : Valuation τ sig (Elt Ideal)) : FVec Ideal S256x5x32 .bf16 :=
  hiddenR (X0 L) (L (Proc.devRef .tc main_arg3)) (st0 L) (lo0 L) (hi0 L) (rk0 L) (sc0 L)

/-- The first result, as the run leaves it. -/
def yRef (L : Valuation τ sig (Elt Ideal)) : FVec Ideal S256x10240 .bf16 :=
  truncf (F := Ideal) .bf16 (addf (F := Ideal) (φ := .f32)
    (shapeCast S256x10240 (stacked (X0 L) (L (Proc.devRef .tc main_arg1)) (L (Proc.devRef .tc main_arg2))) shapeCasts_S256x1280x8_S256x10240)
    (Host.dotGeneral (F := Ideal) (φ₁ := .bf16) (φ₂ := .bf16) dot_S256x5x32_S5x32x10240_S256x10240_21_10_0_2_n_n none (hid0 L)
      (Host.gather gather_S400x10240_S5x32x1_S5x32x10240_2_0_n_n_0_2_110240 (L (Proc.devRef .tc main_arg4) : FVec Ideal S400x10240 .bf16) (wrapR (rowsR (st0 L)))))) bitsLt_bf16_f32

/-- The second result, as the run leaves it. -/
def hRef (L : Valuation τ sig (Elt Ideal)) : FVec Ideal S256x32 .bf16 :=
  truncf (F := Ideal) .bf16 (Host.reduceAdd (extf .f32 (res_main_v210 L) bitsLt_bf16_f32) (constant S_ .f32 0x00000000#32) reducesTo_S256x5x32_S256x32_d1 h_S_) bitsLt_bf16_f32

/-- An entry of the second result. -/
theorem hRef_apply (L : Valuation τ sig (Elt Ideal)) (t : Fin 256) (k : Fin 32) : hRef L (ix2 t k) = ∑ q : Fin 5, hid0 L (ix3 t q k) := by
  unfold hRef
  rw [hiddenR_eq]
  exact hsum_apply _ t k

/-- An entry of the first result. -/
theorem yRef_apply (L : Valuation τ sig (Elt Ideal)) (h : ∀ s : Fin 5, (st0 L (ix1 s)).toNat < 368) (t : Fin 256) (n : Fin 10240) :
    yRef L (ix2 t n)
      = (∑ d : Fin 2560, X0 L (ix2 t d) * (num (fld (L (Proc.devRef .tc main_arg1) (ix2 d (⟨n.val / 8, by omega⟩ : Fin 1280))) ⟨n.val % 8, by omega⟩)
            * L (Proc.devRef .tc main_arg2) (ix2 (⟨d.val / 128, by omega⟩ : Fin 20) n)))
        + ∑ q : Fin 5, ∑ k : Fin 32, hid0 L (ix3 t q k) * L (Proc.devRef .tc main_arg4) (ix2 (⟨(st0 L (ix1 q)).toNat + k.val, by have := h q; omega⟩ : Fin 400) n) := by
  have e1 := base_apply (X0 L) (L (Proc.devRef .tc main_arg1)) (L (Proc.devRef .tc main_arg2)) t n
  have e2 := delta_apply (hid0 L) (L (Proc.devRef .tc main_arg4)) (st0 L) h t n
  exact congrArg₂ (fun a b : EReal => a + b) e1 e2

end Cert.ReferenceIdeal.Value

end
-- ==== Proof.Agree.lean ====
/- The kernel's results and the reference's are the same functions of the arguments. -/
module

public import proofs.«01_k».proof.Proof.IdealChain
public import proofs.«01_k».proof.Proof.RefLora

@[expose] public section

set_option maxRecDepth 16384

noncomputable section

namespace Cert.Agree

open Idealize.ShloMosaic Idealize.ShloMosaic.ValueIdx Idealize.ShloMosaic.TcCoe
open Cert.KernelIdeal.Gen Cert.KernelIdeal.Body Cert.ReferenceIdeal.Value Cert.Nibble
open scoped BigOperators

/-! ## As functions of the arguments -/

section
variable (X : Vec Ideal ⟨2, ![256, 2560]⟩ .bf16) (PA : Vec Ideal ⟨2, ![400, 2560]⟩ .bf16) (PB : Vec Ideal ⟨2, ![400, 10240]⟩ .bf16)
  (A : Fin 5 → Vec Ideal ⟨2, ![48, 2560]⟩ .bf16) (st lo hi rk : IVec ⟨1, ![5]⟩ 32) (sc : Vec Ideal ⟨1, ![5]⟩ .f32)
  (h : ∀ s : Fin 5, (st (ix1 s)).toNat < 368)

include h in
theorem row_lt (s : Fin 5) (r : Fin 48) : (st (ix1 s)).toNat / 16 * 16 + r.val < 400 := by have := h s; omega

variable (hA : ∀ (s : Fin 5) (r : Fin 48) (d : Fin 2560), A s (ix2 r d) = PA (ix2 ⟨(st (ix1 s)).toNat / 16 * 16 + r.val, row_lt st h s r⟩ d))

include hA in
/-- The kernel's value of a place is the reference's. -/
theorem place_eq (t : Fin 256) (s : Fin 5) (k : Fin 32) :
    place X A (fun s => st (ix1 s)) (fun s => lo (ix1 s)) (fun s => hi (ix1 s)) (fun s => rk (ix1 s)) (fun s => sc (ix1 s)) t s k
      = hiddenR X PA st lo hi rk sc (ix3 t s k) := by
  rw [hiddenR_apply X PA st lo hi rk sc h]
  unfold place
  refine if_congr Iff.rfl (congrArg (· * sc (ix1 s)) (Finset.sum_congr rfl fun d _ => congrArg (X (ix2 t d) * ·) ?_)) rfl
  rw [hA]
  refine congrArg (fun i => PA (ix2 i d)) (Fin.ext ?_)
  show (st (ix1 s)).toNat / 16 * 16 + ((st (ix1 s)).toNat % 16 + k.val) = (st (ix1 s)).toNat + k.val
  omega

variable (hr : ∀ s : Fin 5, (rk (ix1 s)).toInt ≤ 32)

include hA hr in
/-- The hidden values summed over the segments. -/
theorem h_eq (t : Fin 256) (k : Fin 32) :
    hOf (F := Ideal) X A (fun s => st (ix1 s)) (fun s => lo (ix1 s)) (fun s => hi (ix1 s)) (fun s => rk (ix1 s)) (fun s => sc (ix1 s)) (ix2 t k)
      = ∑ q : Fin 5, hiddenR X PA st lo hi rk sc (ix3 t q k) := by
  rw [hOf_apply X A _ _ _ _ _ h hr]
  exact Finset.sum_congr rfl fun q _ => place_eq X PA A st lo hi rk sc h hA t q k

include hA hr in
/-- The hidden values against the rows of the second pool. -/
theorem delta_eq (b : Fin 240 → EReal) (n : Fin 10240)
    (hb : ∀ (s : Fin 5) (r : Fin 48), b ⟨48 * s.val + r.val, by omega⟩ = PB (ix2 ⟨(st (ix1 s)).toNat / 16 * 16 + r.val, row_lt st h s r⟩ n)) (t : Fin 256) :
    ∑ c : Fin 240, hkOf (F := Ideal) X A (fun s => st (ix1 s)) (fun s => lo (ix1 s)) (fun s => hi (ix1 s)) (fun s => rk (ix1 s)) (fun s => sc (ix1 s)) (ix2 t c) * b c
      = ∑ q : Fin 5, ∑ k : Fin 32, hiddenR X PA st lo hi rk sc (ix3 t q k) * PB (ix2 ⟨(st (ix1 q)).toNat + k.val, by have := h q; omega⟩ n) := by
  rw [sum_hkOf X A _ _ _ _ _ h hr]
  refine Finset.sum_congr rfl fun q _ => Finset.sum_congr rfl fun k _ => ?_
  rw [place_eq X PA A st lo hi rk sc h hA t q k]
  refine congrArg (hiddenR X PA st lo hi rk sc (ix3 t q k) * ·) ((hb q ⟨(st (ix1 q)).toNat % 16 + k.val, by omega⟩).trans ?_)
  refine congrArg (fun i => PB (ix2 i n)) (Fin.ext ?_)
  show (st (ix1 q)).toNat / 16 * 16 + ((st (ix1 q)).toNat % 16 + k.val) = (st (ix1 q)).toNat + k.val
  omega

end

/-! ## At a launch -/

section
variable (m : (ℓ : Loc Cert.KernelIdeal.nD Cert.KernelIdeal.τ Cert.KernelIdeal.sig) → Buf (Elt Ideal) ℓ)
  (L : Valuation Cert.ReferenceIdeal.τ Cert.ReferenceIdeal.sig (Elt Ideal))

/-- The reference's arguments are the kernel's. -/
structure Same : Prop where
  a0 : L (Proc.devRef .tc Cert.ReferenceIdeal.main_arg0) = m (((0 : Dev Cert.KernelIdeal.nD) : Thread Cert.KernelIdeal.nD Cert.KernelIdeal.τ).loc Cert.KernelIdeal.main_arg0)
  a1 : L (Proc.devRef .tc Cert.ReferenceIdeal.main_arg1) = m (((0 : Dev Cert.KernelIdeal.nD) : Thread Cert.KernelIdeal.nD Cert.KernelIdeal.τ).loc Cert.KernelIdeal.main_arg1)
  a2 : L (Proc.devRef .tc Cert.ReferenceIdeal.main_arg2) = m (((0 : Dev Cert.KernelIdeal.nD) : Thread Cert.KernelIdeal.nD Cert.KernelIdeal.τ).loc Cert.KernelIdeal.main_arg2)
  a3 : L (Proc.devRef .tc Cert.ReferenceIdeal.main_arg3) = m (((0 : Dev Cert.KernelIdeal.nD) : Thread Cert.KernelIdeal.nD Cert.KernelIdeal.τ).loc Cert.KernelIdeal.main_arg3)
  a4 : L (Proc.devRef .tc Cert.ReferenceIdeal.main_arg4) = m (((0 : Dev Cert.KernelIdeal.nD) : Thread Cert.KernelIdeal.nD Cert.KernelIdeal.τ).loc Cert.KernelIdeal.main_arg4)
  a5 : L (Proc.devRef .tc Cert.ReferenceIdeal.main_arg5) = m (((0 : Dev Cert.KernelIdeal.nD) : Thread Cert.KernelIdeal.nD Cert.KernelIdeal.τ).loc Cert.KernelIdeal.main_arg5)
  a6 : L (Proc.devRef .tc Cert.ReferenceIdeal.main_arg6) = m (((0 : Dev Cert.KernelIdeal.nD) : Thread Cert.KernelIdeal.nD Cert.KernelIdeal.τ).loc Cert.KernelIdeal.main_arg6)
  a7 : L (Proc.devRef .tc Cert.ReferenceIdeal.main_arg7) = m (((0 : Dev Cert.KernelIdeal.nD) : Thread Cert.KernelIdeal.nD Cert.KernelIdeal.τ).loc Cert.KernelIdeal.main_arg7)
  a8 : L (Proc.devRef .tc Cert.ReferenceIdeal.main_arg8) = m (((0 : Dev Cert.KernelIdeal.nD) : Thread Cert.KernelIdeal.nD Cert.KernelIdeal.τ).loc Cert.KernelIdeal.main_arg8)
  a9 : L (Proc.devRef .tc Cert.ReferenceIdeal.main_arg9) = m (((0 : Dev Cert.KernelIdeal.nD) : Thread Cert.KernelIdeal.nD Cert.KernelIdeal.τ).loc Cert.KernelIdeal.main_arg9)

variable {m L} (S : Same m L) (h : StartsFit m) (hA : AdaptersFit m)

include S in
theorem tokens_eq : V m 0 Cert.KernelIdeal.main_v7 = X0 L := by
  rw [V_main_v7]; unfold X0; rw [S.a0]

include S in
theorem start_eq (s : Fin 5) : word5 (tbl m 0) s = st0 L (ix1 s) := by
  have e : (tbl m 0 : Cert.KernelIdeal.S5.Idx → BitVec 32) = lookup _ _ := V_main_v6 m 0
  refine (congrFun e (ix1 s)).trans ?_
  unfold st0; rw [S.a5, S.a9]; rfl

include S in
theorem adapter_eq (s : Fin 5) : word5 (tbl m 3) s = L (Proc.devRef .tc Cert.ReferenceIdeal.main_arg9) (ix1 s) := by
  have e : (tbl m 3 : Cert.KernelIdeal.S5.Idx → BitVec 32) = _ := V_main_arg9 m 0
  refine (congrFun e (ix1 s)).trans ?_
  rw [S.a9]

include S hA in
/-- Looking up by a segment's adapter is the same on both sides. -/
theorem look_eq {B : Type} (tab : Cert.KernelIdeal.S9.Idx → B) (s : Fin 5) :
    look tab (tbl m 3) s = lookupR tab (L (Proc.devRef .tc Cert.ReferenceIdeal.main_arg9)) (ix1 s) := by
  have hlt : (L (Proc.devRef .tc Cert.ReferenceIdeal.main_arg9) (ix1 s) : BitVec 32).toNat < 9 := by
    rw [← adapter_eq S s]; exact hA (ix1 s)
  refine Eq.trans ?_ (lookupR_apply tab _ s hlt).symm
  refine congrArg (fun i => tab (ix1 i)) (Fin.ext ?_)
  show (word5 (tbl m 3) s).toNat % 9 = _
  rw [adapter_eq S s]
  exact Nat.mod_eq_of_lt hlt

include S in
theorem lo_eq (s : Fin 5) : lo6 (tbl m 2) s = lo0 L (ix1 s) := by
  have e : (tbl m 2 : Cert.KernelIdeal.S6.Idx → BitVec 32) = _ := V_main_arg8 m 0
  refine (congrFun e _).trans ?_
  unfold lo0; rw [S.a8]
  exact (extractStridedSlice_apply _ _ _ _ _ (fun a => by match a with | ⟨0, _⟩ => exact (Nat.zero_add _).symm)).symm

include S in
theorem hi_eq (s : Fin 5) : hi6 (tbl m 2) s = hi0 L (ix1 s) := by
  have e : (tbl m 2 : Cert.KernelIdeal.S6.Idx → BitVec 32) = _ := V_main_arg8 m 0
  refine (congrFun e _).trans ?_
  unfold hi0; rw [S.a8]
  exact (extractStridedSlice_apply _ _ _ _ _ (fun a => by match a with | ⟨0, _⟩ => exact Nat.add_comm _ _)).symm

include S hA in
theorem rank_eq (s : Fin 5) : look (tbl m 1 : Cert.KernelIdeal.S9.Idx → BitVec 32) (tbl m 3) s = rk0 L (ix1 s) := by
  have e : (tbl m 1 : Cert.KernelIdeal.S9.Idx → BitVec 32) = _ := V_main_arg6 m 0
  refine (look_eq S hA (tbl m 1 : Cert.KernelIdeal.S9.Idx → BitVec 32) s).trans ?_
  unfold rk0; rw [S.a6]
  exact congrArg (fun tab : Cert.KernelIdeal.S9.Idx → BitVec 32 => lookupR tab (L (Proc.devRef .tc Cert.ReferenceIdeal.main_arg9)) (ix1 s)) e

include S hA in
theorem scale_eq (s : Fin 5) : look (V m 0 Cert.KernelIdeal.main_arg7 : Cert.KernelIdeal.S9.Idx → EReal) (tbl m 3) s = sc0 L (ix1 s) := by
  rw [look_eq S hA, V_main_arg7]; unfold sc0; rw [S.a7]

include S h in
theorem starts_lt (s : Fin 5) : (st0 L (ix1 s)).toNat < 368 := by
  rw [← start_eq S s]; exact h (ix1 s)

include S in
theorem row_eq (s : Fin 5) : slabRow m s = (st0 L (ix1 s)).toNat / 16 * 16 := by
  rw [← start_eq S s]; rfl

include S h in
theorem slabA_eq (s : Fin 5) (r : Fin 48) (d : Fin 2560) :
    slabA m h 0 s (ix2 r d) = L (Proc.devRef .tc Cert.ReferenceIdeal.main_arg3) (ix2 ⟨(st0 L (ix1 s)).toNat / 16 * 16 + r.val, row_lt _ (starts_lt S h) s r⟩ d) := by
  unfold slabA
  rw [V_main_arg3, ← S.a3]
  refine congrArg (fun i : Fin 400 => L (Proc.devRef .tc Cert.ReferenceIdeal.main_arg3) (ix2 i d)) (Fin.ext ?_)
  show slabRow m s + r.val = _
  rw [row_eq S]

/-- Equal arguments give equal values. -/
theorem six {α β γ δ : Type} (f : α → β → β → β → β → γ → δ) {a a' : α} {b b' c c' d d' e e' : β} {g g' : γ}
    (ea : a = a') (eb : b = b') (ec : c = c') (ed : d = d') (ee : e = e') (eg : g = g') : f a b c d e g = f a' b' c' d' e' g' := by
  subst ea eb ec ed ee eg; rfl

include S hA in
/-- The kernel's hidden values from the reference's arguments. -/
theorem hkRes_eq : hkRes m h 0 = hkOf (F := Ideal) (X0 L) (slabA m h 0) (fun s => st0 L (ix1 s)) (fun s => lo0 L (ix1 s)) (fun s => hi0 L (ix1 s))
    (fun s => rk0 L (ix1 s)) (fun s => sc0 L (ix1 s)) :=
  six (fun X st lo hi rk sc => hkOf (F := Ideal) X (slabA m h 0) st lo hi rk sc) (tokens_eq S) (funext (start_eq S)) (funext (lo_eq S))
    (funext (hi_eq S)) (funext (rank_eq S hA)) (funext (scale_eq S hA))

include S hA in
/-- The kernel's second result from the reference's arguments. -/
theorem hRes_eq : hRes m h 0 = hOf (F := Ideal) (X0 L) (slabA m h 0) (fun s => st0 L (ix1 s)) (fun s => lo0 L (ix1 s)) (fun s => hi0 L (ix1 s))
    (fun s => rk0 L (ix1 s)) (fun s => sc0 L (ix1 s)) :=
  six (fun X st lo hi rk sc => hOf (F := Ideal) X (slabA m h 0) st lo hi rk sc) (tokens_eq S) (funext (start_eq S)) (funext (lo_eq S))
    (funext (hi_eq S)) (funext (rank_eq S hA)) (funext (scale_eq S hA))

variable (hr : ∀ s : Fin 5, (rk0 L (ix1 s)).toInt ≤ 32)

include S hA hr in
/-- The second results are equal. -/
theorem h_agree : hRes m h 0 = hRef L := by
  funext y
  obtain ⟨t, k, rfl⟩ : ∃ (t : Fin 256) (k : Fin 32), y = ix2 t k := ⟨y 0, y 1, eq_ix2 y⟩
  refine (congrFun (hRes_eq S h hA) _).trans (Eq.trans ?_ (hRef_apply L t k).symm)
  exact h_eq (X0 L) _ (slabA m h 0) (st0 L) (lo0 L) (hi0 L) (rk0 L) (sc0 L) (starts_lt S h) (slabA_eq S h) hr t k

include S in
theorem arg1_eq : V m 0 Cert.KernelIdeal.main_arg1 = L (Proc.devRef .tc Cert.ReferenceIdeal.main_arg1) := (V_main_arg1 m 0).trans S.a1.symm
include S in
theorem arg2_eq : V m 0 Cert.KernelIdeal.main_arg2 = L (Proc.devRef .tc Cert.ReferenceIdeal.main_arg2) := (V_main_arg2 m 0).trans S.a2.symm
include S in
theorem arg4_eq : V m 0 Cert.KernelIdeal.main_arg4 = L (Proc.devRef .tc Cert.ReferenceIdeal.main_arg4) := (V_main_arg4 m 0).trans S.a4.symm

include S hA hr in
/-- The first results are equal. -/
theorem y_agree : yRes m h 0 = yRef L := by
  funext y
  obtain ⟨t, n, rfl⟩ : ∃ (t : Fin 256) (n : Fin 10240), y = ix2 t n := ⟨y 0, y 1, eq_ix2 y⟩
  refine Eq.trans ?_ (yRef_apply L (starts_lt S h) t n).symm
  refine congrArg₂ (fun a b : EReal => a + b) (Finset.sum_congr rfl fun d _ => ?_) ?_
  · refine congrArg₂ (fun a b : EReal => a * b) (congrFun (tokens_eq S) (ix2 t d)) (congrArg₂ (fun a b : EReal => a * b) ?_ ?_)
    · exact congrArg (fun w : BitVec 32 => num (fld w ⟨n.val % 8, by omega⟩)) (congrFun (arg1_eq S) (ix2 d (⟨n.val / 8, by omega⟩ : Fin 1280)))
    · exact congrFun (arg2_eq S) (ix2 (⟨d.val / 128, by omega⟩ : Fin 20) n)
  · have e := hkRes_eq S h hA
    refine (Finset.sum_congr rfl fun c _ => congrArg (fun v : EReal => v * _) (congrFun e (ix2 t c))).trans ?_
    refine delta_eq (X0 L) _ _ (slabA m h 0) (st0 L) (lo0 L) (hi0 L) (rk0 L) (sc0 L) (starts_lt S h) (slabA_eq S h) hr _ n ?_ t
    intro s r
    refine (congrFun (arg4_eq S) _).trans ?_
    refine congrArg (fun i : Fin 400 => L (Proc.devRef .tc Cert.ReferenceIdeal.main_arg4) (ix2 i n)) (Fin.ext ?_)
    have e1 : (⟨(48 * s.val + r.val) / 48, by omega⟩ : Fin 5) = s := Fin.ext (by show (48 * s.val + r.val) / 48 = s.val; omega)
    have e2 : (48 * s.val + r.val) % 48 = r.val := by omega
    exact congrArg₂ (· + ·) ((congrArg (slabRow m) e1).trans (row_eq S s)) e2

end

end Cert.Agree

end
-- ==== Proof.Algebraic.lean ====
/- The value claim: from equal arguments the kernel and the reference leave equal results. -/
module

public import proofs.«01_k».proof.Defs
public import proofs.«01_k».proof.Proof.Agree
public import proofs.«01_k».proof.Proof.IdealFrame
public import proofs.«01_k».proof.Proof.IdealEntry
public import proofs.«01_k».proof.Proof.Gen.Pre_ranks_fit

@[expose] public section

noncomputable section

namespace Cert.Agree

open Idealize.ShloMosaic Idealize.ShloMosaic.ValueIdx Idealize.ShloMosaic.TcCoe Idealize.SL.Sem
open Cert.KernelIdeal.Gen Cert.KernelIdeal.Body Cert.ReferenceIdeal.Value

/-- The precondition bounds every segment's rank by the 32 places of a slot. -/
theorem ranks_le (m : (ℓ : Loc Cert.KernelIdeal.nD Cert.KernelIdeal.τ Cert.KernelIdeal.sig) → Buf (Elt Ideal) ℓ)
    (L : Valuation Cert.ReferenceIdeal.τ Cert.ReferenceIdeal.sig (Elt Ideal)) (S : Same m L)
    (h : Cert.Pre_KernelIdeal_ranks_fit m) (s : Fin 5) : (rk0 L (ix1 s)).toInt ≤ 32 := by
  obtain ⟨-, -, -, -, e⟩ := h 0
  have e1 : IntOp.cmpi .sle (rk0 L (ix1 s)) 32#32 = 1#1 := by
    unfold rk0; rw [S.a6, S.a9]; exact congrFun e (ix1 s)
  have e2 : BitVec.ofBool ((rk0 L (ix1 s)).sle 32#32) = 1#1 := e1
  exact of_decide_eq_true ((ofBool_one _).1 e2)

/-- The kernel's two results are the reference's, and both leave their arguments as they were. -/
theorem algebraic : Cert.algebraic_KernelIdeal_ReferenceIdeal_pre_ranks_fit := by
  intro m g m' g' hp hm
  have hS := (fit_of_pre' m hp).1
  have hA := (fit_of_pre' m hp).2
  have hO := ok_of_fit m hS
  have hH := hyps_of_fit m hA hO
  obtain ⟨a0, a1, a2, a3, a4, a5, a6, a7, a8, a9⟩ := hm 0
  have S : Same m (Idealize.ShloMosaic.StableHlo.launchContents m' 0) := ⟨a0, a1, a2, a3, a4, a5, a6, a7, a8, a9⟩
  have hr := ranks_le m _ S hp
  refine ⟨fun c => yRes m hS c, fun c => hRes m hS c, ?_, ?_⟩
  · have e1 := results m hO hS hH hA g
    have e2 := unchanged m g hO hH
    refine (θ_run _ _ _).mono (fun r H c => ?_) (θ_run_and e1 e2)
    exact ⟨(H.1 c).1, (H.1 c).2, H.2 c⟩
  · refine (θ_run _ _ _).mono (fun r H c => ?_) (Cert.ReferenceIdeal.Value.run (F := Ideal) m' g')
    obtain rfl : c = 0 := Subsingleton.elim _ _
    exact ⟨(H 0).1.trans (y_agree S hS hA hr).symm, (H 0).2.1.trans (h_agree S hS hA hr).symm, (H 0).2.2⟩

end Cert.Agree

end
-- ==== Proof.lean ====
/- The claims, assembled: the three programs' frames from the launch of the pipeline and the reference's run, and the
equality of the kernel's results with the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Pre_slabs_in_pool
public import proofs.«01_k».proof.Proof.Gen.Pre_ranks_fit
public import proofs.«01_k».proof.Proof.IdealFrame
public import proofs.«01_k».proof.Proof.IdealEntry
public import proofs.«01_k».proof.Proof.BitsFrame
public import proofs.«01_k».proof.Proof.BitsEntry
public import proofs.«01_k».proof.Proof.Algebraic

@[expose] public section

noncomputable section

namespace Cert.Proof

open Idealize.ShloMosaic Idealize.SL.Sem

/-- The reference is host operations alone: its run reads back, and it declares no semaphore. -/
theorem frame_r : Cert.quiescent_ReferenceIdeal := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

/-- The same under the precondition of the value claim. -/
theorem frame_r' : Cert.quiescent_ReferenceIdeal_pre_ranks_fit := fun m ρ _ => frame_r m ρ trivial

/-- Everything claimed. -/
theorem claim : Cert.Claim := ⟨Cert.Kernel.Gen.facts, Cert.KernelIdeal.Gen.facts, Cert.ReferenceIdeal.Gen.facts, Cert.Pre_slabs_in_pool.Gen.facts, Cert.Pre_ranks_fit.Gen.facts,
  fun m ρ h => Cert.Kernel.Body.frame m ρ (Cert.Kernel.Body.ok_of_fit m (Cert.Kernel.Body.fit_of_pre m h).1) (Cert.Kernel.Body.hyps_of_fit m (Cert.Kernel.Body.fit_of_pre m h).2 _),
  fun m ρ h => Cert.KernelIdeal.Body.frame m ρ (Cert.KernelIdeal.Body.ok_of_fit m (Cert.KernelIdeal.Body.fit_of_pre m h).1) (Cert.KernelIdeal.Body.hyps_of_fit m (Cert.KernelIdeal.Body.fit_of_pre m h).2 _),
  fun m ρ h => Cert.KernelIdeal.Body.frame m ρ (Cert.KernelIdeal.Body.ok_of_fit m (Cert.KernelIdeal.Body.fit_of_pre' m h).1) (Cert.KernelIdeal.Body.hyps_of_fit m (Cert.KernelIdeal.Body.fit_of_pre' m h).2 _),
  frame_r, frame_r', trivial, Cert.Agree.algebraic⟩

end Cert.Proof

end
